-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 4096]⟩ ⟨2, ![4096, 4096]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 64]⟩ ⟨2, ![4096, 2048]⟩ 1 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 64]⟩ ⟨2, ![4096, 2048]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x4096 : Shape := ⟨2, ![128, 4096]⟩
abbrev S4096x64 : Shape := ⟨2, ![4096, 64]⟩
abbrev S32 : Shape := ⟨1, ![32]⟩
abbrev S4x128x4096 : Shape := ⟨3, ![4, 128, 4096]⟩
abbrev S4x2 : Shape := ⟨2, ![4, 2]⟩
abbrev S_ : Shape := ⟨0, ![]⟩
abbrev S1x8x128 : Shape := ⟨3, ![1, 8, 128]⟩
abbrev S32x8x128 : Shape := ⟨3, ![32, 8, 128]⟩
abbrev S1 : Shape := ⟨1, ![1]⟩
abbrev S1x1 : Shape := ⟨2, ![1, 1]⟩
abbrev S1x64x4096 : Shape := ⟨3, ![1, 64, 4096]⟩
abbrev S64x4096 : Shape := ⟨2, ![64, 4096]⟩
abbrev S64x64 : Shape := ⟨2, ![64, 64]⟩
abbrev S1x64x64 : Shape := ⟨3, ![1, 64, 64]⟩
abbrev S1x1x1 : Shape := ⟨3, ![1, 1, 1]⟩
abbrev S8x128 : Shape := ⟨2, ![8, 128]⟩
abbrev S1x32x8x128 : Shape := ⟨4, ![1, 32, 8, 128]⟩
abbrev S1x1x1x1 : Shape := ⟨4, ![1, 1, 1, 1]⟩

abbrev nBuf : Space → Nat
  | .hbm => 5
  | .vmem => 7
  | .smem => 2
  | _ => 0

abbrev bufTy : (tb : Table) → Fin (tcTables nBuf tb) → BufTy
  | .hbm, ⟨0, _⟩ => ⟨S128x4096, .f32⟩
  | .hbm, ⟨1, _⟩ => ⟨S4096x64, .f32⟩
  | .hbm, ⟨2, _⟩ => ⟨S32, .i32⟩
  | .hbm, ⟨3, _⟩ => ⟨S32, .i32⟩
  | .hbm, ⟨4, _⟩ => ⟨S4096x64, .f32⟩
  | .local _ .vmem, ⟨0, _⟩ => ⟨S128x4096, .f32⟩
  | .local _ .vmem, ⟨1, _⟩ => ⟨S4096x64, .f32⟩
  | .local _ .vmem, ⟨2, _⟩ => ⟨S4096x64, .f32⟩
  | .local _ .vmem, ⟨3, _⟩ => ⟨S4x128x4096, .f32⟩
  | .local _ .vmem, ⟨4, _⟩ => ⟨S4x128x4096, .f32⟩
  | .local _ .vmem, ⟨5, _⟩ => ⟨S1x8x128, .f32⟩
  | .local _ .vmem, ⟨6, _⟩ => ⟨S32x8x128, .f32⟩
  | .local _ .smem, ⟨0, _⟩ => ⟨S32, .i32⟩
  | .local _ .smem, ⟨1, _⟩ => ⟨S32, .i32⟩
  | _, _ => ⟨S128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 101 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | _ => false

abbrev sig : RefSig :=
  (ofTc nBuf bufTy 5 101 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch10 : Ref sig .tc := ⟨.vmem, 5, rfl⟩
abbrev cc0_scratch11 : Ref sig .tc := ⟨.vmem, 6, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 4

abbrev nD : Nat := 32
abbrev τ : Topo := Topo.v7x

variable {F : FTy → Type} [FloatOps F]

abbrev grid0 : Pipeline.Grid := .none

def k0_off1 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v3 : Index := Scalar.indexCast v2
  ![v3.toNat]
def k0_off2 (v4 : BitVec 32) : Fin 1 → Nat :=
  let c1_i32_0 : BitVec 32 := 1#32
  let v5 : BitVec 32 := Scalar.addi v4 c1_i32_0
  let c32_i32_1 : BitVec 32 := 32#32
  let v6 : BitVec 32 := Scalar.remsi v5 c32_i32_1
  let v7 : Index := Scalar.indexCast v6
  ![v7.toNat]

def k0_off3 (v4 : BitVec 32) : Fin 1 → Nat :=
  let c1_i32_2 : BitVec 32 := 1#32
  let v9 : BitVec 32 := Scalar.subi v4 c1_i32_2
  let c32_i32_3 : BitVec 32 := 32#32
  let v10 : BitVec 32 := Scalar.addi v9 c32_i32_3
  let c32_i32_4 : BitVec 32 := 32#32
  let v11 : BitVec 32 := Scalar.remsi v10 c32_i32_4
  let v12 : Index := Scalar.indexCast v11
  ![v12.toNat]
def k0_dev1 (v8 : BitVec 32) : Nat :=
  let c0_i32 : BitVec 32 := 0#32
  let c1_i32_6 : BitVec 32 := 1#32
  let v15 : BitVec 32 := Scalar.muli v8 c1_i32_6
  let v16 : BitVec 32 := Scalar.addi c0_i32 v15
  v16.toNat

def k0_dev2 (v13 : BitVec 32) : Nat :=
  let c0_i32_9 : BitVec 32 := 0#32
  let c1_i32_8 : BitVec 32 := 1#32
  let v17 : BitVec 32 := Scalar.muli v13 c1_i32_8
  let v18 : BitVec 32 := Scalar.addi c0_i32_9 v17
  v18.toNat

def k0_dev3 (v8 : BitVec 32) : Nat :=
  let c0_i32_16 : BitVec 32 := 0#32
  let c1_i32_15 : BitVec 32 := 1#32
  let v19 : BitVec 32 := Scalar.muli v8 c1_i32_15
  let v20 : BitVec 32 := Scalar.addi c0_i32_16 v19
  v20.toNat
def k0_dev4 (v8 : BitVec 32) : Nat :=
  let c0_i32_27 : BitVec 32 := 0#32
  let c1_i32_26 : BitVec 32 := 1#32
  let v28 : BitVec 32 := Scalar.muli v8 c1_i32_26
  let v29 : BitVec 32 := Scalar.addi c0_i32_27 v28
  v29.toNat
def k0_dev5 (v13 : BitVec 32) : Nat :=
  let c0_i32_37 : BitVec 32 := 0#32
  let c1_i32_36 : BitVec 32 := 1#32
  let v37 : BitVec 32 := Scalar.muli v13 c1_i32_36
  let v38 : BitVec 32 := Scalar.addi c0_i32_37 v37
  v38.toNat
def k0_dev6 (v13 : BitVec 32) : Nat :=
  let c0_i32_48 : BitVec 32 := 0#32
  let c1_i32_47 : BitVec 32 := 1#32
  let v46 : BitVec 32 := Scalar.muli v13 c1_i32_47
  let v47 : BitVec 32 := Scalar.addi c0_i32_48 v46
  v47.toNat
def k0_off4 (d0 : Dev nD) (c0_i32_56 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v60 : BitVec 32 := Scalar.muli v2 c128_i32
  let v61 : BitVec 32 := Scalar.addi v60 c0_i32_56
  let v62 : Index := Scalar.indexCast v61
  let c0_57 : Index := 0#32
  ![v62.toNat, 0]
def k0_dev7 (v8 : BitVec 32) : Nat :=
  let c0_i32_86 : BitVec 32 := 0#32
  let c1_i32_85 : BitVec 32 := 1#32
  let v92 : BitVec 32 := Scalar.muli v8 c1_i32_85
  let v93 : BitVec 32 := Scalar.addi c0_i32_86 v92
  v93.toNat
def k0_dev8 (v8 : BitVec 32) : Nat :=
  let c0_i32_109 : BitVec 32 := 0#32
  let c1_i32_108 : BitVec 32 := 1#32
  let v109 : BitVec 32 := Scalar.muli v8 c1_i32_108
  let v110 : BitVec 32 := Scalar.addi c0_i32_109 v109
  v110.toNat
def k0_dev9 (v13 : BitVec 32) : Nat :=
  let c0_i32_132 : BitVec 32 := 0#32
  let c1_i32_131 : BitVec 32 := 1#32
  let v126 : BitVec 32 := Scalar.muli v13 c1_i32_131
  let v127 : BitVec 32 := Scalar.addi c0_i32_132 v126
  v127.toNat
def k0_dev10 (v13 : BitVec 32) : Nat :=
  let c0_i32_155 : BitVec 32 := 0#32
  let c1_i32_154 : BitVec 32 := 1#32
  let v143 : BitVec 32 := Scalar.muli v13 c1_i32_154
  let v144 : BitVec 32 := Scalar.addi c0_i32_155 v143
  v144.toNat
def k0_off5 (v4 : BitVec 32) : Fin 1 → Nat :=
  let c_m1_i32 : BitVec 32 := 4294967295#32
  let v153 : BitVec 32 := Scalar.addi v4 c_m1_i32
  let c64_i32_160 : BitVec 32 := 64#32
  let v154 : BitVec 32 := Scalar.addi v153 c64_i32_160
  let c32_i32_161 : BitVec 32 := 32#32
  let v155 : BitVec 32 := Scalar.remsi v154 c32_i32_161
  let v156 : Index := Scalar.indexCast v155
  ![v156.toNat]
def k0_off6 (v157 : BitVec 32) (c0_i32_168 : BitVec 32) : Fin 2 → Nat :=
  let c128_i32_167 : BitVec 32 := 128#32
  let v163 : BitVec 32 := Scalar.muli v157 c128_i32_167
  let v164 : BitVec 32 := Scalar.addi v163 c0_i32_168
  let v165 : Index := Scalar.indexCast v164
  let c0_169 : Index := 0#32
  ![v165.toNat, 0]

def k0_chk4 (v157 : BitVec 32) : Prop :=
  (∀ (r : Fin 2), ∀ a, (k0_off6 v157 (BitVec.ofNat 32 (64 * r.val))) a + S64x64.size a ≤ S4096x64.size a)
theorem k0_off6_inb : ∀ (v157 : BitVec 32) (k0_hw4 : k0_chk4 v157), ∀ (r : Fin 2), ∀ a, (k0_off6 v157 (BitVec.ofNat 32 (64 * r.val))) a + S64x64.size a ≤ S4096x64.size a := fun v157 k0_hw4 r => k0_hw4 r

def k0_off7 (v4 : BitVec 32) : Fin 1 → Nat :=
  let c1_i32_181 : BitVec 32 := 1#32
  let v188 : BitVec 32 := Scalar.addi v4 c1_i32_181
  let c64_i32_182 : BitVec 32 := 64#32
  let v189 : BitVec 32 := Scalar.addi v188 c64_i32_182
  let c32_i32_183 : BitVec 32 := 32#32
  let v190 : BitVec 32 := Scalar.remsi v189 c32_i32_183
  let v191 : Index := Scalar.indexCast v190
  ![v191.toNat]
def k0_off8 (v192 : BitVec 32) (c0_i32_191 : BitVec 32) : Fin 2 → Nat :=
  let c128_i32_190 : BitVec 32 := 128#32
  let v198 : BitVec 32 := Scalar.muli v192 c128_i32_190
  let v199 : BitVec 32 := Scalar.addi v198 c0_i32_191
  let v200 : Index := Scalar.indexCast v199
  let c0_192 : Index := 0#32
  ![v200.toNat, 0]

def k0_chk5 (v192 : BitVec 32) : Prop :=
  (∀ (r : Fin 2), ∀ a, (k0_off8 v192 (BitVec.ofNat 32 (64 * r.val))) a + S64x64.size a ≤ S4096x64.size a)
theorem k0_off8_inb : ∀ (v192 : BitVec 32) (k0_hw5 : k0_chk5 v192), ∀ (r : Fin 2), ∀ a, (k0_off8 v192 (BitVec.ofNat 32 (64 * r.val))) a + S64x64.size a ≤ S4096x64.size a := fun v192 k0_hw5 r => k0_hw5 r

def k0_dev11 (v8 : BitVec 32) : Nat :=
  let c0_i32_222 : BitVec 32 := 0#32
  let c1_i32_221 : BitVec 32 := 1#32
  let v231 : BitVec 32 := Scalar.muli v8 c1_i32_221
  let v232 : BitVec 32 := Scalar.addi c0_i32_222 v231
  v232.toNat
def k0_dev12 (v8 : BitVec 32) : Nat :=
  let c0_i32_246 : BitVec 32 := 0#32
  let c1_i32_245 : BitVec 32 := 1#32
  let v249 : BitVec 32 := Scalar.muli v8 c1_i32_245
  let v250 : BitVec 32 := Scalar.addi c0_i32_246 v249
  v250.toNat
def k0_dev13 (v13 : BitVec 32) : Nat :=
  let c0_i32_270 : BitVec 32 := 0#32
  let c1_i32_269 : BitVec 32 := 1#32
  let v267 : BitVec 32 := Scalar.muli v13 c1_i32_269
  let v268 : BitVec 32 := Scalar.addi c0_i32_270 v267
  v268.toNat
def k0_dev14 (v13 : BitVec 32) : Nat :=
  let c0_i32_294 : BitVec 32 := 0#32
  let c1_i32_293 : BitVec 32 := 1#32
  let v285 : BitVec 32 := Scalar.muli v13 c1_i32_293
  let v286 : BitVec 32 := Scalar.addi c0_i32_294 v285
  v286.toNat
def k0_off9 (v4 : BitVec 32) : Fin 1 → Nat :=
  let c_m2_i32 : BitVec 32 := 4294967294#32
  let v295 : BitVec 32 := Scalar.addi v4 c_m2_i32
  let c64_i32_299 : BitVec 32 := 64#32
  let v296 : BitVec 32 := Scalar.addi v295 c64_i32_299
  let c32_i32_300 : BitVec 32 := 32#32
  let v297 : BitVec 32 := Scalar.remsi v296 c32_i32_300
  let v298 : Index := Scalar.indexCast v297
  ![v298.toNat]
def k0_off10 (v299 : BitVec 32) (c0_i32_307 : BitVec 32) : Fin 2 → Nat :=
  let c128_i32_306 : BitVec 32 := 128#32
  let v305 : BitVec 32 := Scalar.muli v299 c128_i32_306
  let v306 : BitVec 32 := Scalar.addi v305 c0_i32_307
  let v307 : Index := Scalar.indexCast v306
  let c0_308 : Index := 0#32
  ![v307.toNat, 0]

def k0_chk6 (v299 : BitVec 32) : Prop :=
  (∀ (r : Fin 2), ∀ a, (k0_off10 v299 (BitVec.ofNat 32 (64 * r.val))) a + S64x64.size a ≤ S4096x64.size a)
theorem k0_off10_inb : ∀ (v299 : BitVec 32) (k0_hw6 : k0_chk6 v299), ∀ (r : Fin 2), ∀ a, (k0_off10 v299 (BitVec.ofNat 32 (64 * r.val))) a + S64x64.size a ≤ S4096x64.size a := fun v299 k0_hw6 r => k0_hw6 r

def k0_off11 (v4 : BitVec 32) : Fin 1 → Nat :=
  let c2_i32_320 : BitVec 32 := 2#32
  let v330 : BitVec 32 := Scalar.addi v4 c2_i32_320
  let c64_i32_321 : BitVec 32 := 64#32
  let v331 : BitVec 32 := Scalar.addi v330 c64_i32_321
  let c32_i32_322 : BitVec 32 := 32#32
  let v332 : BitVec 32 := Scalar.remsi v331 c32_i32_322
  let v333 : Index := Scalar.indexCast v332
  ![v333.toNat]
def k0_off12 (v334 : BitVec 32) (c0_i32_330 : BitVec 32) : Fin 2 → Nat :=
  let c128_i32_329 : BitVec 32 := 128#32
  let v340 : BitVec 32 := Scalar.muli v334 c128_i32_329
  let v341 : BitVec 32 := Scalar.addi v340 c0_i32_330
  let v342 : Index := Scalar.indexCast v341
  let c0_331 : Index := 0#32
  ![v342.toNat, 0]

def k0_chk7 (v334 : BitVec 32) : Prop :=
  (∀ (r : Fin 2), ∀ a, (k0_off12 v334 (BitVec.ofNat 32 (64 * r.val))) a + S64x64.size a ≤ S4096x64.size a)
theorem k0_off12_inb : ∀ (v334 : BitVec 32) (k0_hw7 : k0_chk7 v334), ∀ (r : Fin 2), ∀ a, (k0_off12 v334 (BitVec.ofNat 32 (64 * r.val))) a + S64x64.size a ≤ S4096x64.size a := fun v334 k0_hw7 r => k0_hw7 r

def k0_dev15 (v13 : BitVec 32) : Nat :=
  let c0_i32_355 : BitVec 32 := 0#32
  let c1_i32_354 : BitVec 32 := 1#32
  let v370 : BitVec 32 := Scalar.muli v13 c1_i32_354
  let v371 : BitVec 32 := Scalar.addi c0_i32_355 v370
  v371.toNat
def k0_dev16 (v13 : BitVec 32) : Nat :=
  let c0_i32_368 : BitVec 32 := 0#32
  let c1_i32_367 : BitVec 32 := 1#32
  let v377 : BitVec 32 := Scalar.muli v13 c1_i32_367
  let v378 : BitVec 32 := Scalar.addi c0_i32_368 v377
  v378.toNat
def k0_dev17 (v8 : BitVec 32) : Nat :=
  let c0_i32_381 : BitVec 32 := 0#32
  let c1_i32_380 : BitVec 32 := 1#32
  let v384 : BitVec 32 := Scalar.muli v8 c1_i32_380
  let v385 : BitVec 32 := Scalar.addi c0_i32_381 v384
  v385.toNat
def k0_dev18 (v8 : BitVec 32) : Nat :=
  let c0_i32_394 : BitVec 32 := 0#32
  let c1_i32_393 : BitVec 32 := 1#32
  let v391 : BitVec 32 := Scalar.muli v8 c1_i32_393
  let v392 : BitVec 32 := Scalar.addi c0_i32_394 v391
  v392.toNat
def k0_dev19 (v8 : BitVec 32) : Nat :=
  let c0_i32_416 : BitVec 32 := 0#32
  let c1_i32_415 : BitVec 32 := 1#32
  let v401 : BitVec 32 := Scalar.muli v8 c1_i32_415
  let v402 : BitVec 32 := Scalar.addi c0_i32_416 v401
  v402.toNat
def k0_dev20 (v8 : BitVec 32) : Nat :=
  let c0_i32_442 : BitVec 32 := 0#32
  let c1_i32_441 : BitVec 32 := 1#32
  let v419 : BitVec 32 := Scalar.muli v8 c1_i32_441
  let v420 : BitVec 32 := Scalar.addi c0_i32_442 v419
  v420.toNat
def k0_dev21 (v13 : BitVec 32) : Nat :=
  let c0_i32_468 : BitVec 32 := 0#32
  let c1_i32_467 : BitVec 32 := 1#32
  let v437 : BitVec 32 := Scalar.muli v13 c1_i32_467
  let v438 : BitVec 32 := Scalar.addi c0_i32_468 v437
  v438.toNat
def k0_dev22 (v13 : BitVec 32) : Nat :=
  let c0_i32_494 : BitVec 32 := 0#32
  let c1_i32_493 : BitVec 32 := 1#32
  let v455 : BitVec 32 := Scalar.muli v13 c1_i32_493
  let v456 : BitVec 32 := Scalar.addi c0_i32_494 v455
  v456.toNat
def k0_off13 (v4 : BitVec 32) : Fin 1 → Nat :=
  let c_m3_i32 : BitVec 32 := 4294967293#32
  let v465 : BitVec 32 := Scalar.addi v4 c_m3_i32
  let c64_i32_499 : BitVec 32 := 64#32
  let v466 : BitVec 32 := Scalar.addi v465 c64_i32_499
  let c32_i32_500 : BitVec 32 := 32#32
  let v467 : BitVec 32 := Scalar.remsi v466 c32_i32_500
  let v468 : Index := Scalar.indexCast v467
  ![v468.toNat]
def k0_off14 (v469 : BitVec 32) (c0_i32_507 : BitVec 32) : Fin 2 → Nat :=
  let c128_i32_506 : BitVec 32 := 128#32
  let v475 : BitVec 32 := Scalar.muli v469 c128_i32_506
  let v476 : BitVec 32 := Scalar.addi v475 c0_i32_507
  let v477 : Index := Scalar.indexCast v476
  let c0_508 : Index := 0#32
  ![v477.toNat, 0]

def k0_chk8 (v469 : BitVec 32) : Prop :=
  (∀ (r : Fin 2), ∀ a, (k0_off14 v469 (BitVec.ofNat 32 (64 * r.val))) a + S64x64.size a ≤ S4096x64.size a)
theorem k0_off14_inb : ∀ (v469 : BitVec 32) (k0_hw8 : k0_chk8 v469), ∀ (r : Fin 2), ∀ a, (k0_off14 v469 (BitVec.ofNat 32 (64 * r.val))) a + S64x64.size a ≤ S4096x64.size a := fun v469 k0_hw8 r => k0_hw8 r

def k0_off15 (v4 : BitVec 32) : Fin 1 → Nat :=
  let c3_i32_520 : BitVec 32 := 3#32
  let v500 : BitVec 32 := Scalar.addi v4 c3_i32_520
  let c64_i32_521 : BitVec 32 := 64#32
  let v501 : BitVec 32 := Scalar.addi v500 c64_i32_521
  let c32_i32_522 : BitVec 32 := 32#32
  let v502 : BitVec 32 := Scalar.remsi v501 c32_i32_522
  let v503 : Index := Scalar.indexCast v502
  ![v503.toNat]
def k0_off16 (v504 : BitVec 32) (c0_i32_530 : BitVec 32) : Fin 2 → Nat :=
  let c128_i32_529 : BitVec 32 := 128#32
  let v510 : BitVec 32 := Scalar.muli v504 c128_i32_529
  let v511 : BitVec 32 := Scalar.addi v510 c0_i32_530
  let v512 : Index := Scalar.indexCast v511
  let c0_531 : Index := 0#32
  ![v512.toNat, 0]

def k0_chk9 (v504 : BitVec 32) : Prop :=
  (∀ (r : Fin 2), ∀ a, (k0_off16 v504 (BitVec.ofNat 32 (64 * r.val))) a + S64x64.size a ≤ S4096x64.size a)
theorem k0_off16_inb : ∀ (v504 : BitVec 32) (k0_hw9 : k0_chk9 v504), ∀ (r : Fin 2), ∀ a, (k0_off16 v504 (BitVec.ofNat 32 (64 * r.val))) a + S64x64.size a ≤ S4096x64.size a := fun v504 k0_hw9 r => k0_hw9 r

def k0_dev23 (v13 : BitVec 32) : Nat :=
  let c0_i32_556 : BitVec 32 := 0#32
  let c1_i32_555 : BitVec 32 := 1#32
  let v541 : BitVec 32 := Scalar.muli v13 c1_i32_555
  let v542 : BitVec 32 := Scalar.addi c0_i32_556 v541
  v542.toNat
def k0_dev24 (v13 : BitVec 32) : Nat :=
  let c0_i32_570 : BitVec 32 := 0#32
  let c1_i32_569 : BitVec 32 := 1#32
  let v549 : BitVec 32 := Scalar.muli v13 c1_i32_569
  let v550 : BitVec 32 := Scalar.addi c0_i32_570 v549
  v550.toNat
def k0_dev25 (v8 : BitVec 32) : Nat :=
  let c0_i32_584 : BitVec 32 := 0#32
  let c1_i32_583 : BitVec 32 := 1#32
  let v557 : BitVec 32 := Scalar.muli v8 c1_i32_583
  let v558 : BitVec 32 := Scalar.addi c0_i32_584 v557
  v558.toNat
def k0_dev26 (v8 : BitVec 32) : Nat :=
  let c0_i32_598 : BitVec 32 := 0#32
  let c1_i32_597 : BitVec 32 := 1#32
  let v565 : BitVec 32 := Scalar.muli v8 c1_i32_597
  let v566 : BitVec 32 := Scalar.addi c0_i32_598 v565
  v566.toNat
def k0_dev27 (v8 : BitVec 32) : Nat :=
  let c0_i32_620 : BitVec 32 := 0#32
  let c1_i32_619 : BitVec 32 := 1#32
  let v575 : BitVec 32 := Scalar.muli v8 c1_i32_619
  let v576 : BitVec 32 := Scalar.addi c0_i32_620 v575
  v576.toNat
def k0_dev28 (v8 : BitVec 32) : Nat :=
  let c0_i32_646 : BitVec 32 := 0#32
  let c1_i32_645 : BitVec 32 := 1#32
  let v593 : BitVec 32 := Scalar.muli v8 c1_i32_645
  let v594 : BitVec 32 := Scalar.addi c0_i32_646 v593
  v594.toNat
def k0_dev29 (v13 : BitVec 32) : Nat :=
  let c0_i32_672 : BitVec 32 := 0#32
  let c1_i32_671 : BitVec 32 := 1#32
  let v611 : BitVec 32 := Scalar.muli v13 c1_i32_671
  let v612 : BitVec 32 := Scalar.addi c0_i32_672 v611
  v612.toNat
def k0_dev30 (v13 : BitVec 32) : Nat :=
  let c0_i32_698 : BitVec 32 := 0#32
  let c1_i32_697 : BitVec 32 := 1#32
  let v629 : BitVec 32 := Scalar.muli v13 c1_i32_697
  let v630 : BitVec 32 := Scalar.addi c0_i32_698 v629
  v630.toNat
def k0_off17 (v4 : BitVec 32) : Fin 1 → Nat :=
  let c_m4_i32 : BitVec 32 := 4294967292#32
  let v639 : BitVec 32 := Scalar.addi v4 c_m4_i32
  let c64_i32_703 : BitVec 32 := 64#32
  let v640 : BitVec 32 := Scalar.addi v639 c64_i32_703
  let c32_i32_704 : BitVec 32 := 32#32
  let v641 : BitVec 32 := Scalar.remsi v640 c32_i32_704
  let v642 : Index := Scalar.indexCast v641
  ![v642.toNat]
def k0_off18 (v643 : BitVec 32) (c0_i32_712 : BitVec 32) : Fin 2 → Nat :=
  let c128_i32_711 : BitVec 32 := 128#32
  let v649 : BitVec 32 := Scalar.muli v643 c128_i32_711
  let v650 : BitVec 32 := Scalar.addi v649 c0_i32_712
  let v651 : Index := Scalar.indexCast v650
  let c0_713 : Index := 0#32
  ![v651.toNat, 0]

def k0_chk10 (v643 : BitVec 32) : Prop :=
  (∀ (r : Fin 2), ∀ a, (k0_off18 v643 (BitVec.ofNat 32 (64 * r.val))) a + S64x64.size a ≤ S4096x64.size a)
theorem k0_off18_inb : ∀ (v643 : BitVec 32) (k0_hw10 : k0_chk10 v643), ∀ (r : Fin 2), ∀ a, (k0_off18 v643 (BitVec.ofNat 32 (64 * r.val))) a + S64x64.size a ≤ S4096x64.size a := fun v643 k0_hw10 r => k0_hw10 r

def k0_off19 (v4 : BitVec 32) : Fin 1 → Nat :=
  let c4_i32 : BitVec 32 := 4#32
  let v674 : BitVec 32 := Scalar.addi v4 c4_i32
  let c64_i32_725 : BitVec 32 := 64#32
  let v675 : BitVec 32 := Scalar.addi v674 c64_i32_725
  let c32_i32_726 : BitVec 32 := 32#32
  let v676 : BitVec 32 := Scalar.remsi v675 c32_i32_726
  let v677 : Index := Scalar.indexCast v676
  ![v677.toNat]
def k0_off20 (v678 : BitVec 32) (c0_i32_734 : BitVec 32) : Fin 2 → Nat :=
  let c128_i32_733 : BitVec 32 := 128#32
  let v684 : BitVec 32 := Scalar.muli v678 c128_i32_733
  let v685 : BitVec 32 := Scalar.addi v684 c0_i32_734
  let v686 : Index := Scalar.indexCast v685
  let c0_735 : Index := 0#32
  ![v686.toNat, 0]

def k0_chk11 (v678 : BitVec 32) : Prop :=
  (∀ (r : Fin 2), ∀ a, (k0_off20 v678 (BitVec.ofNat 32 (64 * r.val))) a + S64x64.size a ≤ S4096x64.size a)
theorem k0_off20_inb : ∀ (v678 : BitVec 32) (k0_hw11 : k0_chk11 v678), ∀ (r : Fin 2), ∀ a, (k0_off20 v678 (BitVec.ofNat 32 (64 * r.val))) a + S64x64.size a ≤ S4096x64.size a := fun v678 k0_hw11 r => k0_hw11 r

def k0_dev31 (v13 : BitVec 32) : Nat :=
  let c0_i32_760 : BitVec 32 := 0#32
  let c1_i32_759 : BitVec 32 := 1#32
  let v715 : BitVec 32 := Scalar.muli v13 c1_i32_759
  let v716 : BitVec 32 := Scalar.addi c0_i32_760 v715
  v716.toNat
def k0_dev32 (v13 : BitVec 32) : Nat :=
  let c0_i32_774 : BitVec 32 := 0#32
  let c1_i32_773 : BitVec 32 := 1#32
  let v723 : BitVec 32 := Scalar.muli v13 c1_i32_773
  let v724 : BitVec 32 := Scalar.addi c0_i32_774 v723
  v724.toNat
def k0_dev33 (v8 : BitVec 32) : Nat :=
  let c0_i32_788 : BitVec 32 := 0#32
  let c1_i32_787 : BitVec 32 := 1#32
  let v731 : BitVec 32 := Scalar.muli v8 c1_i32_787
  let v732 : BitVec 32 := Scalar.addi c0_i32_788 v731
  v732.toNat
def k0_dev34 (v8 : BitVec 32) : Nat :=
  let c0_i32_802 : BitVec 32 := 0#32
  let c1_i32_801 : BitVec 32 := 1#32
  let v739 : BitVec 32 := Scalar.muli v8 c1_i32_801
  let v740 : BitVec 32 := Scalar.addi c0_i32_802 v739
  v740.toNat
def k0_dev35 (v8 : BitVec 32) : Nat :=
  let c0_i32_824 : BitVec 32 := 0#32
  let c1_i32_823 : BitVec 32 := 1#32
  let v749 : BitVec 32 := Scalar.muli v8 c1_i32_823
  let v750 : BitVec 32 := Scalar.addi c0_i32_824 v749
  v750.toNat
def k0_dev36 (v8 : BitVec 32) : Nat :=
  let c0_i32_850 : BitVec 32 := 0#32
  let c1_i32_849 : BitVec 32 := 1#32
  let v767 : BitVec 32 := Scalar.muli v8 c1_i32_849
  let v768 : BitVec 32 := Scalar.addi c0_i32_850 v767
  v768.toNat
def k0_dev37 (v13 : BitVec 32) : Nat :=
  let c0_i32_876 : BitVec 32 := 0#32
  let c1_i32_875 : BitVec 32 := 1#32
  let v785 : BitVec 32 := Scalar.muli v13 c1_i32_875
  let v786 : BitVec 32 := Scalar.addi c0_i32_876 v785
  v786.toNat
def k0_dev38 (v13 : BitVec 32) : Nat :=
  let c0_i32_902 : BitVec 32 := 0#32
  let c1_i32_901 : BitVec 32 := 1#32
  let v803 : BitVec 32 := Scalar.muli v13 c1_i32_901
  let v804 : BitVec 32 := Scalar.addi c0_i32_902 v803
  v804.toNat
def k0_off21 (v4 : BitVec 32) : Fin 1 → Nat :=
  let c_m5_i32 : BitVec 32 := 4294967291#32
  let v813 : BitVec 32 := Scalar.addi v4 c_m5_i32
  let c64_i32_907 : BitVec 32 := 64#32
  let v814 : BitVec 32 := Scalar.addi v813 c64_i32_907
  let c32_i32_908 : BitVec 32 := 32#32
  let v815 : BitVec 32 := Scalar.remsi v814 c32_i32_908
  let v816 : Index := Scalar.indexCast v815
  ![v816.toNat]
def k0_off22 (v817 : BitVec 32) (c0_i32_916 : BitVec 32) : Fin 2 → Nat :=
  let c128_i32_915 : BitVec 32 := 128#32
  let v823 : BitVec 32 := Scalar.muli v817 c128_i32_915
  let v824 : BitVec 32 := Scalar.addi v823 c0_i32_916
  let v825 : Index := Scalar.indexCast v824
  let c0_917 : Index := 0#32
  ![v825.toNat, 0]

def k0_chk12 (v817 : BitVec 32) : Prop :=
  (∀ (r : Fin 2), ∀ a, (k0_off22 v817 (BitVec.ofNat 32 (64 * r.val))) a + S64x64.size a ≤ S4096x64.size a)
theorem k0_off22_inb : ∀ (v817 : BitVec 32) (k0_hw12 : k0_chk12 v817), ∀ (r : Fin 2), ∀ a, (k0_off22 v817 (BitVec.ofNat 32 (64 * r.val))) a + S64x64.size a ≤ S4096x64.size a := fun v817 k0_hw12 r => k0_hw12 r

def k0_off23 (v4 : BitVec 32) : Fin 1 → Nat :=
  let c5_i32 : BitVec 32 := 5#32
  let v848 : BitVec 32 := Scalar.addi v4 c5_i32
  let c64_i32_929 : BitVec 32 := 64#32
  let v849 : BitVec 32 := Scalar.addi v848 c64_i32_929
  let c32_i32_930 : BitVec 32 := 32#32
  let v850 : BitVec 32 := Scalar.remsi v849 c32_i32_930
  let v851 : Index := Scalar.indexCast v850
  ![v851.toNat]
def k0_off24 (v852 : BitVec 32) (c0_i32_938 : BitVec 32) : Fin 2 → Nat :=
  let c128_i32_937 : BitVec 32 := 128#32
  let v858 : BitVec 32 := Scalar.muli v852 c128_i32_937
  let v859 : BitVec 32 := Scalar.addi v858 c0_i32_938
  let v860 : Index := Scalar.indexCast v859
  let c0_939 : Index := 0#32
  ![v860.toNat, 0]

def k0_chk13 (v852 : BitVec 32) : Prop :=
  (∀ (r : Fin 2), ∀ a, (k0_off24 v852 (BitVec.ofNat 32 (64 * r.val))) a + S64x64.size a ≤ S4096x64.size a)
theorem k0_off24_inb : ∀ (v852 : BitVec 32) (k0_hw13 : k0_chk13 v852), ∀ (r : Fin 2), ∀ a, (k0_off24 v852 (BitVec.ofNat 32 (64 * r.val))) a + S64x64.size a ≤ S4096x64.size a := fun v852 k0_hw13 r => k0_hw13 r

def k0_dev39 (v13 : BitVec 32) : Nat :=
  let c0_i32_964 : BitVec 32 := 0#32
  let c1_i32_963 : BitVec 32 := 1#32
  let v889 : BitVec 32 := Scalar.muli v13 c1_i32_963
  let v890 : BitVec 32 := Scalar.addi c0_i32_964 v889
  v890.toNat
def k0_dev40 (v13 : BitVec 32) : Nat :=
  let c0_i32_978 : BitVec 32 := 0#32
  let c1_i32_977 : BitVec 32 := 1#32
  let v897 : BitVec 32 := Scalar.muli v13 c1_i32_977
  let v898 : BitVec 32 := Scalar.addi c0_i32_978 v897
  v898.toNat
def k0_dev41 (v8 : BitVec 32) : Nat :=
  let c0_i32_992 : BitVec 32 := 0#32
  let c1_i32_991 : BitVec 32 := 1#32
  let v905 : BitVec 32 := Scalar.muli v8 c1_i32_991
  let v906 : BitVec 32 := Scalar.addi c0_i32_992 v905
  v906.toNat
def k0_dev42 (v8 : BitVec 32) : Nat :=
  let c0_i32_1006 : BitVec 32 := 0#32
  let c1_i32_1005 : BitVec 32 := 1#32
  let v913 : BitVec 32 := Scalar.muli v8 c1_i32_1005
  let v914 : BitVec 32 := Scalar.addi c0_i32_1006 v913
  v914.toNat
def k0_dev43 (v8 : BitVec 32) : Nat :=
  let c0_i32_1028 : BitVec 32 := 0#32
  let c1_i32_1027 : BitVec 32 := 1#32
  let v923 : BitVec 32 := Scalar.muli v8 c1_i32_1027
  let v924 : BitVec 32 := Scalar.addi c0_i32_1028 v923
  v924.toNat
def k0_dev44 (v8 : BitVec 32) : Nat :=
  let c0_i32_1054 : BitVec 32 := 0#32
  let c1_i32_1053 : BitVec 32 := 1#32
  let v941 : BitVec 32 := Scalar.muli v8 c1_i32_1053
  let v942 : BitVec 32 := Scalar.addi c0_i32_1054 v941
  v942.toNat
def k0_dev45 (v13 : BitVec 32) : Nat :=
  let c0_i32_1080 : BitVec 32 := 0#32
  let c1_i32_1079 : BitVec 32 := 1#32
  let v959 : BitVec 32 := Scalar.muli v13 c1_i32_1079
  let v960 : BitVec 32 := Scalar.addi c0_i32_1080 v959
  v960.toNat
def k0_dev46 (v13 : BitVec 32) : Nat :=
  let c0_i32_1106 : BitVec 32 := 0#32
  let c1_i32_1105 : BitVec 32 := 1#32
  let v977 : BitVec 32 := Scalar.muli v13 c1_i32_1105
  let v978 : BitVec 32 := Scalar.addi c0_i32_1106 v977
  v978.toNat
def k0_off25 (v4 : BitVec 32) : Fin 1 → Nat :=
  let c_m6_i32 : BitVec 32 := 4294967290#32
  let v987 : BitVec 32 := Scalar.addi v4 c_m6_i32
  let c64_i32_1111 : BitVec 32 := 64#32
  let v988 : BitVec 32 := Scalar.addi v987 c64_i32_1111
  let c32_i32_1112 : BitVec 32 := 32#32
  let v989 : BitVec 32 := Scalar.remsi v988 c32_i32_1112
  let v990 : Index := Scalar.indexCast v989
  ![v990.toNat]
def k0_off26 (v991 : BitVec 32) (c0_i32_1120 : BitVec 32) : Fin 2 → Nat :=
  let c128_i32_1119 : BitVec 32 := 128#32
  let v997 : BitVec 32 := Scalar.muli v991 c128_i32_1119
  let v998 : BitVec 32 := Scalar.addi v997 c0_i32_1120
  let v999 : Index := Scalar.indexCast v998
  let c0_1121 : Index := 0#32
  ![v999.toNat, 0]

def k0_chk14 (v991 : BitVec 32) : Prop :=
  (∀ (r : Fin 2), ∀ a, (k0_off26 v991 (BitVec.ofNat 32 (64 * r.val))) a + S64x64.size a ≤ S4096x64.size a)
theorem k0_off26_inb : ∀ (v991 : BitVec 32) (k0_hw14 : k0_chk14 v991), ∀ (r : Fin 2), ∀ a, (k0_off26 v991 (BitVec.ofNat 32 (64 * r.val))) a + S64x64.size a ≤ S4096x64.size a := fun v991 k0_hw14 r => k0_hw14 r

def k0_off27 (v4 : BitVec 32) : Fin 1 → Nat :=
  let c6_i32 : BitVec 32 := 6#32
  let v1022 : BitVec 32 := Scalar.addi v4 c6_i32
  let c64_i32_1133 : BitVec 32 := 64#32
  let v1023 : BitVec 32 := Scalar.addi v1022 c64_i32_1133
  let c32_i32_1134 : BitVec 32 := 32#32
  let v1024 : BitVec 32 := Scalar.remsi v1023 c32_i32_1134
  let v1025 : Index := Scalar.indexCast v1024
  ![v1025.toNat]
def k0_off28 (v1026 : BitVec 32) (c0_i32_1142 : BitVec 32) : Fin 2 → Nat :=
  let c128_i32_1141 : BitVec 32 := 128#32
  let v1032 : BitVec 32 := Scalar.muli v1026 c128_i32_1141
  let v1033 : BitVec 32 := Scalar.addi v1032 c0_i32_1142
  let v1034 : Index := Scalar.indexCast v1033
  let c0_1143 : Index := 0#32
  ![v1034.toNat, 0]

def k0_chk15 (v1026 : BitVec 32) : Prop :=
  (∀ (r : Fin 2), ∀ a, (k0_off28 v1026 (BitVec.ofNat 32 (64 * r.val))) a + S64x64.size a ≤ S4096x64.size a)
theorem k0_off28_inb : ∀ (v1026 : BitVec 32) (k0_hw15 : k0_chk15 v1026), ∀ (r : Fin 2), ∀ a, (k0_off28 v1026 (BitVec.ofNat 32 (64 * r.val))) a + S64x64.size a ≤ S4096x64.size a := fun v1026 k0_hw15 r => k0_hw15 r

def k0_dev47 (v13 : BitVec 32) : Nat :=
  let c0_i32_1168 : BitVec 32 := 0#32
  let c1_i32_1167 : BitVec 32 := 1#32
  let v1063 : BitVec 32 := Scalar.muli v13 c1_i32_1167
  let v1064 : BitVec 32 := Scalar.addi c0_i32_1168 v1063
  v1064.toNat
def k0_dev48 (v13 : BitVec 32) : Nat :=
  let c0_i32_1182 : BitVec 32 := 0#32
  let c1_i32_1181 : BitVec 32 := 1#32
  let v1071 : BitVec 32 := Scalar.muli v13 c1_i32_1181
  let v1072 : BitVec 32 := Scalar.addi c0_i32_1182 v1071
  v1072.toNat
def k0_dev49 (v8 : BitVec 32) : Nat :=
  let c0_i32_1196 : BitVec 32 := 0#32
  let c1_i32_1195 : BitVec 32 := 1#32
  let v1079 : BitVec 32 := Scalar.muli v8 c1_i32_1195
  let v1080 : BitVec 32 := Scalar.addi c0_i32_1196 v1079
  v1080.toNat
def k0_dev50 (v8 : BitVec 32) : Nat :=
  let c0_i32_1210 : BitVec 32 := 0#32
  let c1_i32_1209 : BitVec 32 := 1#32
  let v1087 : BitVec 32 := Scalar.muli v8 c1_i32_1209
  let v1088 : BitVec 32 := Scalar.addi c0_i32_1210 v1087
  v1088.toNat
def k0_dev51 (v8 : BitVec 32) : Nat :=
  let c0_i32_1232 : BitVec 32 := 0#32
  let c1_i32_1231 : BitVec 32 := 1#32
  let v1097 : BitVec 32 := Scalar.muli v8 c1_i32_1231
  let v1098 : BitVec 32 := Scalar.addi c0_i32_1232 v1097
  v1098.toNat
def k0_dev52 (v8 : BitVec 32) : Nat :=
  let c0_i32_1258 : BitVec 32 := 0#32
  let c1_i32_1257 : BitVec 32 := 1#32
  let v1115 : BitVec 32 := Scalar.muli v8 c1_i32_1257
  let v1116 : BitVec 32 := Scalar.addi c0_i32_1258 v1115
  v1116.toNat
def k0_dev53 (v13 : BitVec 32) : Nat :=
  let c0_i32_1284 : BitVec 32 := 0#32
  let c1_i32_1283 : BitVec 32 := 1#32
  let v1133 : BitVec 32 := Scalar.muli v13 c1_i32_1283
  let v1134 : BitVec 32 := Scalar.addi c0_i32_1284 v1133
  v1134.toNat
def k0_dev54 (v13 : BitVec 32) : Nat :=
  let c0_i32_1310 : BitVec 32 := 0#32
  let c1_i32_1309 : BitVec 32 := 1#32
  let v1151 : BitVec 32 := Scalar.muli v13 c1_i32_1309
  let v1152 : BitVec 32 := Scalar.addi c0_i32_1310 v1151
  v1152.toNat
def k0_off29 (v4 : BitVec 32) : Fin 1 → Nat :=
  let c_m7_i32 : BitVec 32 := 4294967289#32
  let v1161 : BitVec 32 := Scalar.addi v4 c_m7_i32
  let c64_i32_1315 : BitVec 32 := 64#32
  let v1162 : BitVec 32 := Scalar.addi v1161 c64_i32_1315
  let c32_i32_1316 : BitVec 32 := 32#32
  let v1163 : BitVec 32 := Scalar.remsi v1162 c32_i32_1316
  let v1164 : Index := Scalar.indexCast v1163
  ![v1164.toNat]
def k0_off30 (v1165 : BitVec 32) (c0_i32_1324 : BitVec 32) : Fin 2 → Nat :=
  let c128_i32_1323 : BitVec 32 := 128#32
  let v1171 : BitVec 32 := Scalar.muli v1165 c128_i32_1323
  let v1172 : BitVec 32 := Scalar.addi v1171 c0_i32_1324
  let v1173 : Index := Scalar.indexCast v1172
  let c0_1325 : Index := 0#32
  ![v1173.toNat, 0]

def k0_chk16 (v1165 : BitVec 32) : Prop :=
  (∀ (r : Fin 2), ∀ a, (k0_off30 v1165 (BitVec.ofNat 32 (64 * r.val))) a + S64x64.size a ≤ S4096x64.size a)
theorem k0_off30_inb : ∀ (v1165 : BitVec 32) (k0_hw16 : k0_chk16 v1165), ∀ (r : Fin 2), ∀ a, (k0_off30 v1165 (BitVec.ofNat 32 (64 * r.val))) a + S64x64.size a ≤ S4096x64.size a := fun v1165 k0_hw16 r => k0_hw16 r

def k0_off31 (v4 : BitVec 32) : Fin 1 → Nat :=
  let c7_i32 : BitVec 32 := 7#32
  let v1196 : BitVec 32 := Scalar.addi v4 c7_i32
  let c64_i32_1337 : BitVec 32 := 64#32
  let v1197 : BitVec 32 := Scalar.addi v1196 c64_i32_1337
  let c32_i32_1338 : BitVec 32 := 32#32
  let v1198 : BitVec 32 := Scalar.remsi v1197 c32_i32_1338
  let v1199 : Index := Scalar.indexCast v1198
  ![v1199.toNat]
def k0_off32 (v1200 : BitVec 32) (c0_i32_1346 : BitVec 32) : Fin 2 → Nat :=
  let c128_i32_1345 : BitVec 32 := 128#32
  let v1206 : BitVec 32 := Scalar.muli v1200 c128_i32_1345
  let v1207 : BitVec 32 := Scalar.addi v1206 c0_i32_1346
  let v1208 : Index := Scalar.indexCast v1207
  let c0_1347 : Index := 0#32
  ![v1208.toNat, 0]

def k0_chk17 (v1200 : BitVec 32) : Prop :=
  (∀ (r : Fin 2), ∀ a, (k0_off32 v1200 (BitVec.ofNat 32 (64 * r.val))) a + S64x64.size a ≤ S4096x64.size a)
theorem k0_off32_inb : ∀ (v1200 : BitVec 32) (k0_hw17 : k0_chk17 v1200), ∀ (r : Fin 2), ∀ a, (k0_off32 v1200 (BitVec.ofNat 32 (64 * r.val))) a + S64x64.size a ≤ S4096x64.size a := fun v1200 k0_hw17 r => k0_hw17 r

def k0_dev55 (v13 : BitVec 32) : Nat :=
  let c0_i32_1372 : BitVec 32 := 0#32
  let c1_i32_1371 : BitVec 32 := 1#32
  let v1237 : BitVec 32 := Scalar.muli v13 c1_i32_1371
  let v1238 : BitVec 32 := Scalar.addi c0_i32_1372 v1237
  v1238.toNat
def k0_dev56 (v13 : BitVec 32) : Nat :=
  let c0_i32_1386 : BitVec 32 := 0#32
  let c1_i32_1385 : BitVec 32 := 1#32
  let v1245 : BitVec 32 := Scalar.muli v13 c1_i32_1385
  let v1246 : BitVec 32 := Scalar.addi c0_i32_1386 v1245
  v1246.toNat
def k0_dev57 (v8 : BitVec 32) : Nat :=
  let c0_i32_1400 : BitVec 32 := 0#32
  let c1_i32_1399 : BitVec 32 := 1#32
  let v1253 : BitVec 32 := Scalar.muli v8 c1_i32_1399
  let v1254 : BitVec 32 := Scalar.addi c0_i32_1400 v1253
  v1254.toNat
def k0_dev58 (v8 : BitVec 32) : Nat :=
  let c0_i32_1414 : BitVec 32 := 0#32
  let c1_i32_1413 : BitVec 32 := 1#32
  let v1261 : BitVec 32 := Scalar.muli v8 c1_i32_1413
  let v1262 : BitVec 32 := Scalar.addi c0_i32_1414 v1261
  v1262.toNat
def k0_dev59 (v8 : BitVec 32) : Nat :=
  let c0_i32_1436 : BitVec 32 := 0#32
  let c1_i32_1435 : BitVec 32 := 1#32
  let v1271 : BitVec 32 := Scalar.muli v8 c1_i32_1435
  let v1272 : BitVec 32 := Scalar.addi c0_i32_1436 v1271
  v1272.toNat
def k0_dev60 (v8 : BitVec 32) : Nat :=
  let c0_i32_1462 : BitVec 32 := 0#32
  let c1_i32_1461 : BitVec 32 := 1#32
  let v1289 : BitVec 32 := Scalar.muli v8 c1_i32_1461
  let v1290 : BitVec 32 := Scalar.addi c0_i32_1462 v1289
  v1290.toNat
def k0_dev61 (v13 : BitVec 32) : Nat :=
  let c0_i32_1488 : BitVec 32 := 0#32
  let c1_i32_1487 : BitVec 32 := 1#32
  let v1307 : BitVec 32 := Scalar.muli v13 c1_i32_1487
  let v1308 : BitVec 32 := Scalar.addi c0_i32_1488 v1307
  v1308.toNat
def k0_dev62 (v13 : BitVec 32) : Nat :=
  let c0_i32_1514 : BitVec 32 := 0#32
  let c1_i32_1513 : BitVec 32 := 1#32
  let v1325 : BitVec 32 := Scalar.muli v13 c1_i32_1513
  let v1326 : BitVec 32 := Scalar.addi c0_i32_1514 v1325
  v1326.toNat
def k0_off33 (v4 : BitVec 32) : Fin 1 → Nat :=
  let c_m8_i32 : BitVec 32 := 4294967288#32
  let v1335 : BitVec 32 := Scalar.addi v4 c_m8_i32
  let c64_i32_1519 : BitVec 32 := 64#32
  let v1336 : BitVec 32 := Scalar.addi v1335 c64_i32_1519
  let c32_i32_1520 : BitVec 32 := 32#32
  let v1337 : BitVec 32 := Scalar.remsi v1336 c32_i32_1520
  let v1338 : Index := Scalar.indexCast v1337
  ![v1338.toNat]
def k0_off34 (v1339 : BitVec 32) (c0_i32_1528 : BitVec 32) : Fin 2 → Nat :=
  let c128_i32_1527 : BitVec 32 := 128#32
  let v1345 : BitVec 32 := Scalar.muli v1339 c128_i32_1527
  let v1346 : BitVec 32 := Scalar.addi v1345 c0_i32_1528
  let v1347 : Index := Scalar.indexCast v1346
  let c0_1529 : Index := 0#32
  ![v1347.toNat, 0]

def k0_chk18 (v1339 : BitVec 32) : Prop :=
  (∀ (r : Fin 2), ∀ a, (k0_off34 v1339 (BitVec.ofNat 32 (64 * r.val))) a + S64x64.size a ≤ S4096x64.size a)
theorem k0_off34_inb : ∀ (v1339 : BitVec 32) (k0_hw18 : k0_chk18 v1339), ∀ (r : Fin 2), ∀ a, (k0_off34 v1339 (BitVec.ofNat 32 (64 * r.val))) a + S64x64.size a ≤ S4096x64.size a := fun v1339 k0_hw18 r => k0_hw18 r

def k0_off35 (v4 : BitVec 32) : Fin 1 → Nat :=
  let c8_i32 : BitVec 32 := 8#32
  let v1370 : BitVec 32 := Scalar.addi v4 c8_i32
  let c64_i32_1541 : BitVec 32 := 64#32
  let v1371 : BitVec 32 := Scalar.addi v1370 c64_i32_1541
  let c32_i32_1542 : BitVec 32 := 32#32
  let v1372 : BitVec 32 := Scalar.remsi v1371 c32_i32_1542
  let v1373 : Index := Scalar.indexCast v1372
  ![v1373.toNat]
def k0_off36 (v1374 : BitVec 32) (c0_i32_1550 : BitVec 32) : Fin 2 → Nat :=
  let c128_i32_1549 : BitVec 32 := 128#32
  let v1380 : BitVec 32 := Scalar.muli v1374 c128_i32_1549
  let v1381 : BitVec 32 := Scalar.addi v1380 c0_i32_1550
  let v1382 : Index := Scalar.indexCast v1381
  let c0_1551 : Index := 0#32
  ![v1382.toNat, 0]

def k0_chk19 (v1374 : BitVec 32) : Prop :=
  (∀ (r : Fin 2), ∀ a, (k0_off36 v1374 (BitVec.ofNat 32 (64 * r.val))) a + S64x64.size a ≤ S4096x64.size a)
theorem k0_off36_inb : ∀ (v1374 : BitVec 32) (k0_hw19 : k0_chk19 v1374), ∀ (r : Fin 2), ∀ a, (k0_off36 v1374 (BitVec.ofNat 32 (64 * r.val))) a + S64x64.size a ≤ S4096x64.size a := fun v1374 k0_hw19 r => k0_hw19 r

def k0_dev63 (v13 : BitVec 32) : Nat :=
  let c0_i32_1576 : BitVec 32 := 0#32
  let c1_i32_1575 : BitVec 32 := 1#32
  let v1411 : BitVec 32 := Scalar.muli v13 c1_i32_1575
  let v1412 : BitVec 32 := Scalar.addi c0_i32_1576 v1411
  v1412.toNat
def k0_dev64 (v13 : BitVec 32) : Nat :=
  let c0_i32_1590 : BitVec 32 := 0#32
  let c1_i32_1589 : BitVec 32 := 1#32
  let v1419 : BitVec 32 := Scalar.muli v13 c1_i32_1589
  let v1420 : BitVec 32 := Scalar.addi c0_i32_1590 v1419
  v1420.toNat
def k0_dev65 (v8 : BitVec 32) : Nat :=
  let c0_i32_1604 : BitVec 32 := 0#32
  let c1_i32_1603 : BitVec 32 := 1#32
  let v1427 : BitVec 32 := Scalar.muli v8 c1_i32_1603
  let v1428 : BitVec 32 := Scalar.addi c0_i32_1604 v1427
  v1428.toNat
def k0_dev66 (v8 : BitVec 32) : Nat :=
  let c0_i32_1618 : BitVec 32 := 0#32
  let c1_i32_1617 : BitVec 32 := 1#32
  let v1435 : BitVec 32 := Scalar.muli v8 c1_i32_1617
  let v1436 : BitVec 32 := Scalar.addi c0_i32_1618 v1435
  v1436.toNat
def k0_dev67 (v8 : BitVec 32) : Nat :=
  let c0_i32_1640 : BitVec 32 := 0#32
  let c1_i32_1639 : BitVec 32 := 1#32
  let v1445 : BitVec 32 := Scalar.muli v8 c1_i32_1639
  let v1446 : BitVec 32 := Scalar.addi c0_i32_1640 v1445
  v1446.toNat
def k0_dev68 (v8 : BitVec 32) : Nat :=
  let c0_i32_1666 : BitVec 32 := 0#32
  let c1_i32_1665 : BitVec 32 := 1#32
  let v1463 : BitVec 32 := Scalar.muli v8 c1_i32_1665
  let v1464 : BitVec 32 := Scalar.addi c0_i32_1666 v1463
  v1464.toNat
def k0_dev69 (v13 : BitVec 32) : Nat :=
  let c0_i32_1692 : BitVec 32 := 0#32
  let c1_i32_1691 : BitVec 32 := 1#32
  let v1481 : BitVec 32 := Scalar.muli v13 c1_i32_1691
  let v1482 : BitVec 32 := Scalar.addi c0_i32_1692 v1481
  v1482.toNat
def k0_dev70 (v13 : BitVec 32) : Nat :=
  let c0_i32_1718 : BitVec 32 := 0#32
  let c1_i32_1717 : BitVec 32 := 1#32
  let v1499 : BitVec 32 := Scalar.muli v13 c1_i32_1717
  let v1500 : BitVec 32 := Scalar.addi c0_i32_1718 v1499
  v1500.toNat
def k0_off37 (v4 : BitVec 32) : Fin 1 → Nat :=
  let c_m9_i32 : BitVec 32 := 4294967287#32
  let v1509 : BitVec 32 := Scalar.addi v4 c_m9_i32
  let c64_i32_1723 : BitVec 32 := 64#32
  let v1510 : BitVec 32 := Scalar.addi v1509 c64_i32_1723
  let c32_i32_1724 : BitVec 32 := 32#32
  let v1511 : BitVec 32 := Scalar.remsi v1510 c32_i32_1724
  let v1512 : Index := Scalar.indexCast v1511
  ![v1512.toNat]
def k0_off38 (v1513 : BitVec 32) (c0_i32_1732 : BitVec 32) : Fin 2 → Nat :=
  let c128_i32_1731 : BitVec 32 := 128#32
  let v1519 : BitVec 32 := Scalar.muli v1513 c128_i32_1731
  let v1520 : BitVec 32 := Scalar.addi v1519 c0_i32_1732
  let v1521 : Index := Scalar.indexCast v1520
  let c0_1733 : Index := 0#32
  ![v1521.toNat, 0]

def k0_chk20 (v1513 : BitVec 32) : Prop :=
  (∀ (r : Fin 2), ∀ a, (k0_off38 v1513 (BitVec.ofNat 32 (64 * r.val))) a + S64x64.size a ≤ S4096x64.size a)
theorem k0_off38_inb : ∀ (v1513 : BitVec 32) (k0_hw20 : k0_chk20 v1513), ∀ (r : Fin 2), ∀ a, (k0_off38 v1513 (BitVec.ofNat 32 (64 * r.val))) a + S64x64.size a ≤ S4096x64.size a := fun v1513 k0_hw20 r => k0_hw20 r

def k0_off39 (v4 : BitVec 32) : Fin 1 → Nat :=
  let c9_i32 : BitVec 32 := 9#32
  let v1544 : BitVec 32 := Scalar.addi v4 c9_i32
  let c64_i32_1745 : BitVec 32 := 64#32
  let v1545 : BitVec 32 := Scalar.addi v1544 c64_i32_1745
  let c32_i32_1746 : BitVec 32 := 32#32
  let v1546 : BitVec 32 := Scalar.remsi v1545 c32_i32_1746
  let v1547 : Index := Scalar.indexCast v1546
  ![v1547.toNat]
def k0_off40 (v1548 : BitVec 32) (c0_i32_1754 : BitVec 32) : Fin 2 → Nat :=
  let c128_i32_1753 : BitVec 32 := 128#32
  let v1554 : BitVec 32 := Scalar.muli v1548 c128_i32_1753
  let v1555 : BitVec 32 := Scalar.addi v1554 c0_i32_1754
  let v1556 : Index := Scalar.indexCast v1555
  let c0_1755 : Index := 0#32
  ![v1556.toNat, 0]

def k0_chk21 (v1548 : BitVec 32) : Prop :=
  (∀ (r : Fin 2), ∀ a, (k0_off40 v1548 (BitVec.ofNat 32 (64 * r.val))) a + S64x64.size a ≤ S4096x64.size a)
theorem k0_off40_inb : ∀ (v1548 : BitVec 32) (k0_hw21 : k0_chk21 v1548), ∀ (r : Fin 2), ∀ a, (k0_off40 v1548 (BitVec.ofNat 32 (64 * r.val))) a + S64x64.size a ≤ S4096x64.size a := fun v1548 k0_hw21 r => k0_hw21 r

def k0_dev71 (v13 : BitVec 32) : Nat :=
  let c0_i32_1780 : BitVec 32 := 0#32
  let c1_i32_1779 : BitVec 32 := 1#32
  let v1585 : BitVec 32 := Scalar.muli v13 c1_i32_1779
  let v1586 : BitVec 32 := Scalar.addi c0_i32_1780 v1585
  v1586.toNat
def k0_dev72 (v13 : BitVec 32) : Nat :=
  let c0_i32_1794 : BitVec 32 := 0#32
  let c1_i32_1793 : BitVec 32 := 1#32
  let v1593 : BitVec 32 := Scalar.muli v13 c1_i32_1793
  let v1594 : BitVec 32 := Scalar.addi c0_i32_1794 v1593
  v1594.toNat
def k0_dev73 (v8 : BitVec 32) : Nat :=
  let c0_i32_1808 : BitVec 32 := 0#32
  let c1_i32_1807 : BitVec 32 := 1#32
  let v1601 : BitVec 32 := Scalar.muli v8 c1_i32_1807
  let v1602 : BitVec 32 := Scalar.addi c0_i32_1808 v1601
  v1602.toNat
def k0_dev74 (v8 : BitVec 32) : Nat :=
  let c0_i32_1822 : BitVec 32 := 0#32
  let c1_i32_1821 : BitVec 32 := 1#32
  let v1609 : BitVec 32 := Scalar.muli v8 c1_i32_1821
  let v1610 : BitVec 32 := Scalar.addi c0_i32_1822 v1609
  v1610.toNat
def k0_dev75 (v8 : BitVec 32) : Nat :=
  let c0_i32_1844 : BitVec 32 := 0#32
  let c1_i32_1843 : BitVec 32 := 1#32
  let v1619 : BitVec 32 := Scalar.muli v8 c1_i32_1843
  let v1620 : BitVec 32 := Scalar.addi c0_i32_1844 v1619
  v1620.toNat
def k0_dev76 (v8 : BitVec 32) : Nat :=
  let c0_i32_1870 : BitVec 32 := 0#32
  let c1_i32_1869 : BitVec 32 := 1#32
  let v1637 : BitVec 32 := Scalar.muli v8 c1_i32_1869
  let v1638 : BitVec 32 := Scalar.addi c0_i32_1870 v1637
  v1638.toNat
def k0_dev77 (v13 : BitVec 32) : Nat :=
  let c0_i32_1896 : BitVec 32 := 0#32
  let c1_i32_1895 : BitVec 32 := 1#32
  let v1655 : BitVec 32 := Scalar.muli v13 c1_i32_1895
  let v1656 : BitVec 32 := Scalar.addi c0_i32_1896 v1655
  v1656.toNat
def k0_dev78 (v13 : BitVec 32) : Nat :=
  let c0_i32_1922 : BitVec 32 := 0#32
  let c1_i32_1921 : BitVec 32 := 1#32
  let v1673 : BitVec 32 := Scalar.muli v13 c1_i32_1921
  let v1674 : BitVec 32 := Scalar.addi c0_i32_1922 v1673
  v1674.toNat
def k0_off41 (v4 : BitVec 32) : Fin 1 → Nat :=
  let c_m10_i32 : BitVec 32 := 4294967286#32
  let v1683 : BitVec 32 := Scalar.addi v4 c_m10_i32
  let c64_i32_1927 : BitVec 32 := 64#32
  let v1684 : BitVec 32 := Scalar.addi v1683 c64_i32_1927
  let c32_i32_1928 : BitVec 32 := 32#32
  let v1685 : BitVec 32 := Scalar.remsi v1684 c32_i32_1928
  let v1686 : Index := Scalar.indexCast v1685
  ![v1686.toNat]
def k0_off42 (v1687 : BitVec 32) (c0_i32_1936 : BitVec 32) : Fin 2 → Nat :=
  let c128_i32_1935 : BitVec 32 := 128#32
  let v1693 : BitVec 32 := Scalar.muli v1687 c128_i32_1935
  let v1694 : BitVec 32 := Scalar.addi v1693 c0_i32_1936
  let v1695 : Index := Scalar.indexCast v1694
  let c0_1937 : Index := 0#32
  ![v1695.toNat, 0]

def k0_chk22 (v1687 : BitVec 32) : Prop :=
  (∀ (r : Fin 2), ∀ a, (k0_off42 v1687 (BitVec.ofNat 32 (64 * r.val))) a + S64x64.size a ≤ S4096x64.size a)
theorem k0_off42_inb : ∀ (v1687 : BitVec 32) (k0_hw22 : k0_chk22 v1687), ∀ (r : Fin 2), ∀ a, (k0_off42 v1687 (BitVec.ofNat 32 (64 * r.val))) a + S64x64.size a ≤ S4096x64.size a := fun v1687 k0_hw22 r => k0_hw22 r

def k0_off43 (v4 : BitVec 32) : Fin 1 → Nat :=
  let c10_i32 : BitVec 32 := 10#32
  let v1718 : BitVec 32 := Scalar.addi v4 c10_i32
  let c64_i32_1949 : BitVec 32 := 64#32
  let v1719 : BitVec 32 := Scalar.addi v1718 c64_i32_1949
  let c32_i32_1950 : BitVec 32 := 32#32
  let v1720 : BitVec 32 := Scalar.remsi v1719 c32_i32_1950
  let v1721 : Index := Scalar.indexCast v1720
  ![v1721.toNat]
def k0_off44 (v1722 : BitVec 32) (c0_i32_1958 : BitVec 32) : Fin 2 → Nat :=
  let c128_i32_1957 : BitVec 32 := 128#32
  let v1728 : BitVec 32 := Scalar.muli v1722 c128_i32_1957
  let v1729 : BitVec 32 := Scalar.addi v1728 c0_i32_1958
  let v1730 : Index := Scalar.indexCast v1729
  let c0_1959 : Index := 0#32
  ![v1730.toNat, 0]

def k0_chk23 (v1722 : BitVec 32) : Prop :=
  (∀ (r : Fin 2), ∀ a, (k0_off44 v1722 (BitVec.ofNat 32 (64 * r.val))) a + S64x64.size a ≤ S4096x64.size a)
theorem k0_off44_inb : ∀ (v1722 : BitVec 32) (k0_hw23 : k0_chk23 v1722), ∀ (r : Fin 2), ∀ a, (k0_off44 v1722 (BitVec.ofNat 32 (64 * r.val))) a + S64x64.size a ≤ S4096x64.size a := fun v1722 k0_hw23 r => k0_hw23 r

def k0_dev79 (v13 : BitVec 32) : Nat :=
  let c0_i32_1984 : BitVec 32 := 0#32
  let c1_i32_1983 : BitVec 32 := 1#32
  let v1759 : BitVec 32 := Scalar.muli v13 c1_i32_1983
  let v1760 : BitVec 32 := Scalar.addi c0_i32_1984 v1759
  v1760.toNat
def k0_dev80 (v13 : BitVec 32) : Nat :=
  let c0_i32_1998 : BitVec 32 := 0#32
  let c1_i32_1997 : BitVec 32 := 1#32
  let v1767 : BitVec 32 := Scalar.muli v13 c1_i32_1997
  let v1768 : BitVec 32 := Scalar.addi c0_i32_1998 v1767
  v1768.toNat
def k0_dev81 (v8 : BitVec 32) : Nat :=
  let c0_i32_2012 : BitVec 32 := 0#32
  let c1_i32_2011 : BitVec 32 := 1#32
  let v1775 : BitVec 32 := Scalar.muli v8 c1_i32_2011
  let v1776 : BitVec 32 := Scalar.addi c0_i32_2012 v1775
  v1776.toNat
def k0_dev82 (v8 : BitVec 32) : Nat :=
  let c0_i32_2026 : BitVec 32 := 0#32
  let c1_i32_2025 : BitVec 32 := 1#32
  let v1783 : BitVec 32 := Scalar.muli v8 c1_i32_2025
  let v1784 : BitVec 32 := Scalar.addi c0_i32_2026 v1783
  v1784.toNat
def k0_dev83 (v8 : BitVec 32) : Nat :=
  let c0_i32_2048 : BitVec 32 := 0#32
  let c1_i32_2047 : BitVec 32 := 1#32
  let v1793 : BitVec 32 := Scalar.muli v8 c1_i32_2047
  let v1794 : BitVec 32 := Scalar.addi c0_i32_2048 v1793
  v1794.toNat
def k0_dev84 (v8 : BitVec 32) : Nat :=
  let c0_i32_2074 : BitVec 32 := 0#32
  let c1_i32_2073 : BitVec 32 := 1#32
  let v1811 : BitVec 32 := Scalar.muli v8 c1_i32_2073
  let v1812 : BitVec 32 := Scalar.addi c0_i32_2074 v1811
  v1812.toNat
def k0_dev85 (v13 : BitVec 32) : Nat :=
  let c0_i32_2100 : BitVec 32 := 0#32
  let c1_i32_2099 : BitVec 32 := 1#32
  let v1829 : BitVec 32 := Scalar.muli v13 c1_i32_2099
  let v1830 : BitVec 32 := Scalar.addi c0_i32_2100 v1829
  v1830.toNat
def k0_dev86 (v13 : BitVec 32) : Nat :=
  let c0_i32_2126 : BitVec 32 := 0#32
  let c1_i32_2125 : BitVec 32 := 1#32
  let v1847 : BitVec 32 := Scalar.muli v13 c1_i32_2125
  let v1848 : BitVec 32 := Scalar.addi c0_i32_2126 v1847
  v1848.toNat
def k0_off45 (v4 : BitVec 32) : Fin 1 → Nat :=
  let c_m11_i32 : BitVec 32 := 4294967285#32
  let v1857 : BitVec 32 := Scalar.addi v4 c_m11_i32
  let c64_i32_2131 : BitVec 32 := 64#32
  let v1858 : BitVec 32 := Scalar.addi v1857 c64_i32_2131
  let c32_i32_2132 : BitVec 32 := 32#32
  let v1859 : BitVec 32 := Scalar.remsi v1858 c32_i32_2132
  let v1860 : Index := Scalar.indexCast v1859
  ![v1860.toNat]
def k0_off46 (v1861 : BitVec 32) (c0_i32_2140 : BitVec 32) : Fin 2 → Nat :=
  let c128_i32_2139 : BitVec 32 := 128#32
  let v1867 : BitVec 32 := Scalar.muli v1861 c128_i32_2139
  let v1868 : BitVec 32 := Scalar.addi v1867 c0_i32_2140
  let v1869 : Index := Scalar.indexCast v1868
  let c0_2141 : Index := 0#32
  ![v1869.toNat, 0]

def k0_chk24 (v1861 : BitVec 32) : Prop :=
  (∀ (r : Fin 2), ∀ a, (k0_off46 v1861 (BitVec.ofNat 32 (64 * r.val))) a + S64x64.size a ≤ S4096x64.size a)
theorem k0_off46_inb : ∀ (v1861 : BitVec 32) (k0_hw24 : k0_chk24 v1861), ∀ (r : Fin 2), ∀ a, (k0_off46 v1861 (BitVec.ofNat 32 (64 * r.val))) a + S64x64.size a ≤ S4096x64.size a := fun v1861 k0_hw24 r => k0_hw24 r

def k0_off47 (v4 : BitVec 32) : Fin 1 → Nat :=
  let c11_i32 : BitVec 32 := 11#32
  let v1892 : BitVec 32 := Scalar.addi v4 c11_i32
  let c64_i32_2153 : BitVec 32 := 64#32
  let v1893 : BitVec 32 := Scalar.addi v1892 c64_i32_2153
  let c32_i32_2154 : BitVec 32 := 32#32
  let v1894 : BitVec 32 := Scalar.remsi v1893 c32_i32_2154
  let v1895 : Index := Scalar.indexCast v1894
  ![v1895.toNat]
def k0_off48 (v1896 : BitVec 32) (c0_i32_2162 : BitVec 32) : Fin 2 → Nat :=
  let c128_i32_2161 : BitVec 32 := 128#32
  let v1902 : BitVec 32 := Scalar.muli v1896 c128_i32_2161
  let v1903 : BitVec 32 := Scalar.addi v1902 c0_i32_2162
  let v1904 : Index := Scalar.indexCast v1903
  let c0_2163 : Index := 0#32
  ![v1904.toNat, 0]

def k0_chk25 (v1896 : BitVec 32) : Prop :=
  (∀ (r : Fin 2), ∀ a, (k0_off48 v1896 (BitVec.ofNat 32 (64 * r.val))) a + S64x64.size a ≤ S4096x64.size a)
theorem k0_off48_inb : ∀ (v1896 : BitVec 32) (k0_hw25 : k0_chk25 v1896), ∀ (r : Fin 2), ∀ a, (k0_off48 v1896 (BitVec.ofNat 32 (64 * r.val))) a + S64x64.size a ≤ S4096x64.size a := fun v1896 k0_hw25 r => k0_hw25 r

def k0_dev87 (v13 : BitVec 32) : Nat :=
  let c0_i32_2188 : BitVec 32 := 0#32
  let c1_i32_2187 : BitVec 32 := 1#32
  let v1933 : BitVec 32 := Scalar.muli v13 c1_i32_2187
  let v1934 : BitVec 32 := Scalar.addi c0_i32_2188 v1933
  v1934.toNat
def k0_dev88 (v13 : BitVec 32) : Nat :=
  let c0_i32_2202 : BitVec 32 := 0#32
  let c1_i32_2201 : BitVec 32 := 1#32
  let v1941 : BitVec 32 := Scalar.muli v13 c1_i32_2201
  let v1942 : BitVec 32 := Scalar.addi c0_i32_2202 v1941
  v1942.toNat
def k0_dev89 (v8 : BitVec 32) : Nat :=
  let c0_i32_2216 : BitVec 32 := 0#32
  let c1_i32_2215 : BitVec 32 := 1#32
  let v1949 : BitVec 32 := Scalar.muli v8 c1_i32_2215
  let v1950 : BitVec 32 := Scalar.addi c0_i32_2216 v1949
  v1950.toNat
def k0_dev90 (v8 : BitVec 32) : Nat :=
  let c0_i32_2230 : BitVec 32 := 0#32
  let c1_i32_2229 : BitVec 32 := 1#32
  let v1957 : BitVec 32 := Scalar.muli v8 c1_i32_2229
  let v1958 : BitVec 32 := Scalar.addi c0_i32_2230 v1957
  v1958.toNat
def k0_dev91 (v8 : BitVec 32) : Nat :=
  let c0_i32_2252 : BitVec 32 := 0#32
  let c1_i32_2251 : BitVec 32 := 1#32
  let v1967 : BitVec 32 := Scalar.muli v8 c1_i32_2251
  let v1968 : BitVec 32 := Scalar.addi c0_i32_2252 v1967
  v1968.toNat
def k0_dev92 (v8 : BitVec 32) : Nat :=
  let c0_i32_2278 : BitVec 32 := 0#32
  let c1_i32_2277 : BitVec 32 := 1#32
  let v1985 : BitVec 32 := Scalar.muli v8 c1_i32_2277
  let v1986 : BitVec 32 := Scalar.addi c0_i32_2278 v1985
  v1986.toNat
def k0_dev93 (v13 : BitVec 32) : Nat :=
  let c0_i32_2304 : BitVec 32 := 0#32
  let c1_i32_2303 : BitVec 32 := 1#32
  let v2003 : BitVec 32 := Scalar.muli v13 c1_i32_2303
  let v2004 : BitVec 32 := Scalar.addi c0_i32_2304 v2003
  v2004.toNat
def k0_dev94 (v13 : BitVec 32) : Nat :=
  let c0_i32_2330 : BitVec 32 := 0#32
  let c1_i32_2329 : BitVec 32 := 1#32
  let v2021 : BitVec 32 := Scalar.muli v13 c1_i32_2329
  let v2022 : BitVec 32 := Scalar.addi c0_i32_2330 v2021
  v2022.toNat
def k0_off49 (v4 : BitVec 32) : Fin 1 → Nat :=
  let c_m12_i32 : BitVec 32 := 4294967284#32
  let v2031 : BitVec 32 := Scalar.addi v4 c_m12_i32
  let c64_i32_2335 : BitVec 32 := 64#32
  let v2032 : BitVec 32 := Scalar.addi v2031 c64_i32_2335
  let c32_i32_2336 : BitVec 32 := 32#32
  let v2033 : BitVec 32 := Scalar.remsi v2032 c32_i32_2336
  let v2034 : Index := Scalar.indexCast v2033
  ![v2034.toNat]
def k0_off50 (v2035 : BitVec 32) (c0_i32_2344 : BitVec 32) : Fin 2 → Nat :=
  let c128_i32_2343 : BitVec 32 := 128#32
  let v2041 : BitVec 32 := Scalar.muli v2035 c128_i32_2343
  let v2042 : BitVec 32 := Scalar.addi v2041 c0_i32_2344
  let v2043 : Index := Scalar.indexCast v2042
  let c0_2345 : Index := 0#32
  ![v2043.toNat, 0]

def k0_chk26 (v2035 : BitVec 32) : Prop :=
  (∀ (r : Fin 2), ∀ a, (k0_off50 v2035 (BitVec.ofNat 32 (64 * r.val))) a + S64x64.size a ≤ S4096x64.size a)
theorem k0_off50_inb : ∀ (v2035 : BitVec 32) (k0_hw26 : k0_chk26 v2035), ∀ (r : Fin 2), ∀ a, (k0_off50 v2035 (BitVec.ofNat 32 (64 * r.val))) a + S64x64.size a ≤ S4096x64.size a := fun v2035 k0_hw26 r => k0_hw26 r

def k0_off51 (v4 : BitVec 32) : Fin 1 → Nat :=
  let c12_i32 : BitVec 32 := 12#32
  let v2066 : BitVec 32 := Scalar.addi v4 c12_i32
  let c64_i32_2357 : BitVec 32 := 64#32
  let v2067 : BitVec 32 := Scalar.addi v2066 c64_i32_2357
  let c32_i32_2358 : BitVec 32 := 32#32
  let v2068 : BitVec 32 := Scalar.remsi v2067 c32_i32_2358
  let v2069 : Index := Scalar.indexCast v2068
  ![v2069.toNat]
def k0_off52 (v2070 : BitVec 32) (c0_i32_2366 : BitVec 32) : Fin 2 → Nat :=
  let c128_i32_2365 : BitVec 32 := 128#32
  let v2076 : BitVec 32 := Scalar.muli v2070 c128_i32_2365
  let v2077 : BitVec 32 := Scalar.addi v2076 c0_i32_2366
  let v2078 : Index := Scalar.indexCast v2077
  let c0_2367 : Index := 0#32
  ![v2078.toNat, 0]

def k0_chk27 (v2070 : BitVec 32) : Prop :=
  (∀ (r : Fin 2), ∀ a, (k0_off52 v2070 (BitVec.ofNat 32 (64 * r.val))) a + S64x64.size a ≤ S4096x64.size a)
theorem k0_off52_inb : ∀ (v2070 : BitVec 32) (k0_hw27 : k0_chk27 v2070), ∀ (r : Fin 2), ∀ a, (k0_off52 v2070 (BitVec.ofNat 32 (64 * r.val))) a + S64x64.size a ≤ S4096x64.size a := fun v2070 k0_hw27 r => k0_hw27 r

def k0_dev95 (v13 : BitVec 32) : Nat :=
  let c0_i32_2392 : BitVec 32 := 0#32
  let c1_i32_2391 : BitVec 32 := 1#32
  let v2107 : BitVec 32 := Scalar.muli v13 c1_i32_2391
  let v2108 : BitVec 32 := Scalar.addi c0_i32_2392 v2107
  v2108.toNat
def k0_dev96 (v13 : BitVec 32) : Nat :=
  let c0_i32_2406 : BitVec 32 := 0#32
  let c1_i32_2405 : BitVec 32 := 1#32
  let v2115 : BitVec 32 := Scalar.muli v13 c1_i32_2405
  let v2116 : BitVec 32 := Scalar.addi c0_i32_2406 v2115
  v2116.toNat
def k0_dev97 (v8 : BitVec 32) : Nat :=
  let c0_i32_2420 : BitVec 32 := 0#32
  let c1_i32_2419 : BitVec 32 := 1#32
  let v2123 : BitVec 32 := Scalar.muli v8 c1_i32_2419
  let v2124 : BitVec 32 := Scalar.addi c0_i32_2420 v2123
  v2124.toNat
def k0_dev98 (v8 : BitVec 32) : Nat :=
  let c0_i32_2434 : BitVec 32 := 0#32
  let c1_i32_2433 : BitVec 32 := 1#32
  let v2131 : BitVec 32 := Scalar.muli v8 c1_i32_2433
  let v2132 : BitVec 32 := Scalar.addi c0_i32_2434 v2131
  v2132.toNat
def k0_dev99 (v8 : BitVec 32) : Nat :=
  let c0_i32_2456 : BitVec 32 := 0#32
  let c1_i32_2455 : BitVec 32 := 1#32
  let v2141 : BitVec 32 := Scalar.muli v8 c1_i32_2455
  let v2142 : BitVec 32 := Scalar.addi c0_i32_2456 v2141
  v2142.toNat
def k0_dev100 (v8 : BitVec 32) : Nat :=
  let c0_i32_2482 : BitVec 32 := 0#32
  let c1_i32_2481 : BitVec 32 := 1#32
  let v2159 : BitVec 32 := Scalar.muli v8 c1_i32_2481
  let v2160 : BitVec 32 := Scalar.addi c0_i32_2482 v2159
  v2160.toNat
def k0_dev101 (v13 : BitVec 32) : Nat :=
  let c0_i32_2508 : BitVec 32 := 0#32
  let c1_i32_2507 : BitVec 32 := 1#32
  let v2177 : BitVec 32 := Scalar.muli v13 c1_i32_2507
  let v2178 : BitVec 32 := Scalar.addi c0_i32_2508 v2177
  v2178.toNat
def k0_dev102 (v13 : BitVec 32) : Nat :=
  let c0_i32_2534 : BitVec 32 := 0#32
  let c1_i32_2533 : BitVec 32 := 1#32
  let v2195 : BitVec 32 := Scalar.muli v13 c1_i32_2533
  let v2196 : BitVec 32 := Scalar.addi c0_i32_2534 v2195
  v2196.toNat
def k0_off53 (v4 : BitVec 32) : Fin 1 → Nat :=
  let c_m13_i32 : BitVec 32 := 4294967283#32
  let v2205 : BitVec 32 := Scalar.addi v4 c_m13_i32
  let c64_i32_2539 : BitVec 32 := 64#32
  let v2206 : BitVec 32 := Scalar.addi v2205 c64_i32_2539
  let c32_i32_2540 : BitVec 32 := 32#32
  let v2207 : BitVec 32 := Scalar.remsi v2206 c32_i32_2540
  let v2208 : Index := Scalar.indexCast v2207
  ![v2208.toNat]
def k0_off54 (v2209 : BitVec 32) (c0_i32_2548 : BitVec 32) : Fin 2 → Nat :=
  let c128_i32_2547 : BitVec 32 := 128#32
  let v2215 : BitVec 32 := Scalar.muli v2209 c128_i32_2547
  let v2216 : BitVec 32 := Scalar.addi v2215 c0_i32_2548
  let v2217 : Index := Scalar.indexCast v2216
  let c0_2549 : Index := 0#32
  ![v2217.toNat, 0]

def k0_chk28 (v2209 : BitVec 32) : Prop :=
  (∀ (r : Fin 2), ∀ a, (k0_off54 v2209 (BitVec.ofNat 32 (64 * r.val))) a + S64x64.size a ≤ S4096x64.size a)
theorem k0_off54_inb : ∀ (v2209 : BitVec 32) (k0_hw28 : k0_chk28 v2209), ∀ (r : Fin 2), ∀ a, (k0_off54 v2209 (BitVec.ofNat 32 (64 * r.val))) a + S64x64.size a ≤ S4096x64.size a := fun v2209 k0_hw28 r => k0_hw28 r

def k0_off55 (v4 : BitVec 32) : Fin 1 → Nat :=
  let c13_i32 : BitVec 32 := 13#32
  let v2240 : BitVec 32 := Scalar.addi v4 c13_i32
  let c64_i32_2561 : BitVec 32 := 64#32
  let v2241 : BitVec 32 := Scalar.addi v2240 c64_i32_2561
  let c32_i32_2562 : BitVec 32 := 32#32
  let v2242 : BitVec 32 := Scalar.remsi v2241 c32_i32_2562
  let v2243 : Index := Scalar.indexCast v2242
  ![v2243.toNat]
def k0_off56 (v2244 : BitVec 32) (c0_i32_2570 : BitVec 32) : Fin 2 → Nat :=
  let c128_i32_2569 : BitVec 32 := 128#32
  let v2250 : BitVec 32 := Scalar.muli v2244 c128_i32_2569
  let v2251 : BitVec 32 := Scalar.addi v2250 c0_i32_2570
  let v2252 : Index := Scalar.indexCast v2251
  let c0_2571 : Index := 0#32
  ![v2252.toNat, 0]

def k0_chk29 (v2244 : BitVec 32) : Prop :=
  (∀ (r : Fin 2), ∀ a, (k0_off56 v2244 (BitVec.ofNat 32 (64 * r.val))) a + S64x64.size a ≤ S4096x64.size a)
theorem k0_off56_inb : ∀ (v2244 : BitVec 32) (k0_hw29 : k0_chk29 v2244), ∀ (r : Fin 2), ∀ a, (k0_off56 v2244 (BitVec.ofNat 32 (64 * r.val))) a + S64x64.size a ≤ S4096x64.size a := fun v2244 k0_hw29 r => k0_hw29 r

def k0_dev103 (v13 : BitVec 32) : Nat :=
  let c0_i32_2596 : BitVec 32 := 0#32
  let c1_i32_2595 : BitVec 32 := 1#32
  let v2281 : BitVec 32 := Scalar.muli v13 c1_i32_2595
  let v2282 : BitVec 32 := Scalar.addi c0_i32_2596 v2281
  v2282.toNat
def k0_dev104 (v13 : BitVec 32) : Nat :=
  let c0_i32_2610 : BitVec 32 := 0#32
  let c1_i32_2609 : BitVec 32 := 1#32
  let v2289 : BitVec 32 := Scalar.muli v13 c1_i32_2609
  let v2290 : BitVec 32 := Scalar.addi c0_i32_2610 v2289
  v2290.toNat
def k0_dev105 (v8 : BitVec 32) : Nat :=
  let c0_i32_2624 : BitVec 32 := 0#32
  let c1_i32_2623 : BitVec 32 := 1#32
  let v2297 : BitVec 32 := Scalar.muli v8 c1_i32_2623
  let v2298 : BitVec 32 := Scalar.addi c0_i32_2624 v2297
  v2298.toNat
def k0_dev106 (v8 : BitVec 32) : Nat :=
  let c0_i32_2638 : BitVec 32 := 0#32
  let c1_i32_2637 : BitVec 32 := 1#32
  let v2305 : BitVec 32 := Scalar.muli v8 c1_i32_2637
  let v2306 : BitVec 32 := Scalar.addi c0_i32_2638 v2305
  v2306.toNat
def k0_dev107 (v8 : BitVec 32) : Nat :=
  let c0_i32_2660 : BitVec 32 := 0#32
  let c1_i32_2659 : BitVec 32 := 1#32
  let v2315 : BitVec 32 := Scalar.muli v8 c1_i32_2659
  let v2316 : BitVec 32 := Scalar.addi c0_i32_2660 v2315
  v2316.toNat
def k0_dev108 (v8 : BitVec 32) : Nat :=
  let c0_i32_2686 : BitVec 32 := 0#32
  let c1_i32_2685 : BitVec 32 := 1#32
  let v2333 : BitVec 32 := Scalar.muli v8 c1_i32_2685
  let v2334 : BitVec 32 := Scalar.addi c0_i32_2686 v2333
  v2334.toNat
def k0_dev109 (v13 : BitVec 32) : Nat :=
  let c0_i32_2712 : BitVec 32 := 0#32
  let c1_i32_2711 : BitVec 32 := 1#32
  let v2351 : BitVec 32 := Scalar.muli v13 c1_i32_2711
  let v2352 : BitVec 32 := Scalar.addi c0_i32_2712 v2351
  v2352.toNat
def k0_dev110 (v13 : BitVec 32) : Nat :=
  let c0_i32_2738 : BitVec 32 := 0#32
  let c1_i32_2737 : BitVec 32 := 1#32
  let v2369 : BitVec 32 := Scalar.muli v13 c1_i32_2737
  let v2370 : BitVec 32 := Scalar.addi c0_i32_2738 v2369
  v2370.toNat
def k0_off57 (v4 : BitVec 32) : Fin 1 → Nat :=
  let c_m14_i32 : BitVec 32 := 4294967282#32
  let v2379 : BitVec 32 := Scalar.addi v4 c_m14_i32
  let c64_i32_2743 : BitVec 32 := 64#32
  let v2380 : BitVec 32 := Scalar.addi v2379 c64_i32_2743
  let c32_i32_2744 : BitVec 32 := 32#32
  let v2381 : BitVec 32 := Scalar.remsi v2380 c32_i32_2744
  let v2382 : Index := Scalar.indexCast v2381
  ![v2382.toNat]
def k0_off58 (v2383 : BitVec 32) (c0_i32_2752 : BitVec 32) : Fin 2 → Nat :=
  let c128_i32_2751 : BitVec 32 := 128#32
  let v2389 : BitVec 32 := Scalar.muli v2383 c128_i32_2751
  let v2390 : BitVec 32 := Scalar.addi v2389 c0_i32_2752
  let v2391 : Index := Scalar.indexCast v2390
  let c0_2753 : Index := 0#32
  ![v2391.toNat, 0]

def k0_chk30 (v2383 : BitVec 32) : Prop :=
  (∀ (r : Fin 2), ∀ a, (k0_off58 v2383 (BitVec.ofNat 32 (64 * r.val))) a + S64x64.size a ≤ S4096x64.size a)
theorem k0_off58_inb : ∀ (v2383 : BitVec 32) (k0_hw30 : k0_chk30 v2383), ∀ (r : Fin 2), ∀ a, (k0_off58 v2383 (BitVec.ofNat 32 (64 * r.val))) a + S64x64.size a ≤ S4096x64.size a := fun v2383 k0_hw30 r => k0_hw30 r

def k0_off59 (v4 : BitVec 32) : Fin 1 → Nat :=
  let c14_i32 : BitVec 32 := 14#32
  let v2414 : BitVec 32 := Scalar.addi v4 c14_i32
  let c64_i32_2765 : BitVec 32 := 64#32
  let v2415 : BitVec 32 := Scalar.addi v2414 c64_i32_2765
  let c32_i32_2766 : BitVec 32 := 32#32
  let v2416 : BitVec 32 := Scalar.remsi v2415 c32_i32_2766
  let v2417 : Index := Scalar.indexCast v2416
  ![v2417.toNat]
def k0_off60 (v2418 : BitVec 32) (c0_i32_2774 : BitVec 32) : Fin 2 → Nat :=
  let c128_i32_2773 : BitVec 32 := 128#32
  let v2424 : BitVec 32 := Scalar.muli v2418 c128_i32_2773
  let v2425 : BitVec 32 := Scalar.addi v2424 c0_i32_2774
  let v2426 : Index := Scalar.indexCast v2425
  let c0_2775 : Index := 0#32
  ![v2426.toNat, 0]

def k0_chk31 (v2418 : BitVec 32) : Prop :=
  (∀ (r : Fin 2), ∀ a, (k0_off60 v2418 (BitVec.ofNat 32 (64 * r.val))) a + S64x64.size a ≤ S4096x64.size a)
theorem k0_off60_inb : ∀ (v2418 : BitVec 32) (k0_hw31 : k0_chk31 v2418), ∀ (r : Fin 2), ∀ a, (k0_off60 v2418 (BitVec.ofNat 32 (64 * r.val))) a + S64x64.size a ≤ S4096x64.size a := fun v2418 k0_hw31 r => k0_hw31 r

def k0_dev111 (v13 : BitVec 32) : Nat :=
  let c0_i32_2800 : BitVec 32 := 0#32
  let c1_i32_2799 : BitVec 32 := 1#32
  let v2455 : BitVec 32 := Scalar.muli v13 c1_i32_2799
  let v2456 : BitVec 32 := Scalar.addi c0_i32_2800 v2455
  v2456.toNat
def k0_dev112 (v13 : BitVec 32) : Nat :=
  let c0_i32_2814 : BitVec 32 := 0#32
  let c1_i32_2813 : BitVec 32 := 1#32
  let v2463 : BitVec 32 := Scalar.muli v13 c1_i32_2813
  let v2464 : BitVec 32 := Scalar.addi c0_i32_2814 v2463
  v2464.toNat

def k0_chk3_0 (v13 : BitVec 32) : Prop :=
  ((k0_dev2 v13) < nD) ∧
  ((k0_dev5 v13) < nD) ∧
  ((k0_dev6 v13) < nD) ∧
  ((k0_dev9 v13) < nD) ∧
  ((k0_dev10 v13) < nD) ∧
  ((k0_dev13 v13) < nD) ∧
  ((k0_dev14 v13) < nD) ∧
  ((k0_dev15 v13) < nD) ∧
  ((k0_dev16 v13) < nD) ∧
  ((k0_dev21 v13) < nD) ∧
  ((k0_dev22 v13) < nD) ∧
  ((k0_dev23 v13) < nD) ∧
  ((k0_dev24 v13) < nD) ∧
  ((k0_dev29 v13) < nD) ∧
  ((k0_dev30 v13) < nD) ∧
  ((k0_dev31 v13) < nD) ∧
  ((k0_dev32 v13) < nD) ∧
  ((k0_dev37 v13) < nD) ∧
  ((k0_dev38 v13) < nD) ∧
  ((k0_dev39 v13) < nD) ∧
  ((k0_dev40 v13) < nD) ∧
  ((k0_dev45 v13) < nD) ∧
  ((k0_dev46 v13) < nD) ∧
  ((k0_dev47 v13) < nD) ∧
  ((k0_dev48 v13) < nD) ∧
  ((k0_dev53 v13) < nD) ∧
  ((k0_dev54 v13) < nD) ∧
  ((k0_dev55 v13) < nD) ∧
  ((k0_dev56 v13) < nD) ∧
  ((k0_dev61 v13) < nD) ∧
  ((k0_dev62 v13) < nD) ∧
  ((k0_dev63 v13) < nD)
def k0_chk3_1 (v13 : BitVec 32) : Prop :=
  ((k0_dev64 v13) < nD) ∧
  ((k0_dev69 v13) < nD) ∧
  ((k0_dev70 v13) < nD) ∧
  ((k0_dev71 v13) < nD) ∧
  ((k0_dev72 v13) < nD) ∧
  ((k0_dev77 v13) < nD) ∧
  ((k0_dev78 v13) < nD) ∧
  ((k0_dev79 v13) < nD) ∧
  ((k0_dev80 v13) < nD) ∧
  ((k0_dev85 v13) < nD) ∧
  ((k0_dev86 v13) < nD) ∧
  ((k0_dev87 v13) < nD) ∧
  ((k0_dev88 v13) < nD) ∧
  ((k0_dev93 v13) < nD) ∧
  ((k0_dev94 v13) < nD) ∧
  ((k0_dev95 v13) < nD) ∧
  ((k0_dev96 v13) < nD) ∧
  ((k0_dev101 v13) < nD) ∧
  ((k0_dev102 v13) < nD) ∧
  ((k0_dev103 v13) < nD) ∧
  ((k0_dev104 v13) < nD) ∧
  ((k0_dev109 v13) < nD) ∧
  ((k0_dev110 v13) < nD) ∧
  ((k0_dev111 v13) < nD) ∧
  ((k0_dev112 v13) < nD)
def k0_chk3 (v13 : BitVec 32) : Prop :=
  k0_chk3_0 v13 ∧
  k0_chk3_1 v13
theorem k0_dev2_lt : ∀ (v13 : BitVec 32) (k0_hw3 : k0_chk3 v13), (k0_dev2 v13) < nD := fun v13 k0_hw3 => k0_hw3.1.1
theorem k0_dev5_lt : ∀ (v13 : BitVec 32) (k0_hw3 : k0_chk3 v13), (k0_dev5 v13) < nD := fun v13 k0_hw3 => k0_hw3.1.2.1
theorem k0_dev6_lt : ∀ (v13 : BitVec 32) (k0_hw3 : k0_chk3 v13), (k0_dev6 v13) < nD := fun v13 k0_hw3 => k0_hw3.1.2.2.1
theorem k0_dev9_lt : ∀ (v13 : BitVec 32) (k0_hw3 : k0_chk3 v13), (k0_dev9 v13) < nD := fun v13 k0_hw3 => k0_hw3.1.2.2.2.1
theorem k0_dev10_lt : ∀ (v13 : BitVec 32) (k0_hw3 : k0_chk3 v13), (k0_dev10 v13) < nD := fun v13 k0_hw3 => k0_hw3.1.2.2.2.2.1
theorem k0_dev13_lt : ∀ (v13 : BitVec 32) (k0_hw3 : k0_chk3 v13), (k0_dev13 v13) < nD := fun v13 k0_hw3 => k0_hw3.1.2.2.2.2.2.1
theorem k0_dev14_lt : ∀ (v13 : BitVec 32) (k0_hw3 : k0_chk3 v13), (k0_dev14 v13) < nD := fun v13 k0_hw3 => k0_hw3.1.2.2.2.2.2.2.1
theorem k0_dev15_lt : ∀ (v13 : BitVec 32) (k0_hw3 : k0_chk3 v13), (k0_dev15 v13) < nD := fun v13 k0_hw3 => k0_hw3.1.2.2.2.2.2.2.2.1
theorem k0_dev16_lt : ∀ (v13 : BitVec 32) (k0_hw3 : k0_chk3 v13), (k0_dev16 v13) < nD := fun v13 k0_hw3 => k0_hw3.1.2.2.2.2.2.2.2.2.1
theorem k0_dev21_lt : ∀ (v13 : BitVec 32) (k0_hw3 : k0_chk3 v13), (k0_dev21 v13) < nD := fun v13 k0_hw3 => k0_hw3.1.2.2.2.2.2.2.2.2.2.1
theorem k0_dev22_lt : ∀ (v13 : BitVec 32) (k0_hw3 : k0_chk3 v13), (k0_dev22 v13) < nD := fun v13 k0_hw3 => k0_hw3.1.2.2.2.2.2.2.2.2.2.2.1
theorem k0_dev23_lt : ∀ (v13 : BitVec 32) (k0_hw3 : k0_chk3 v13), (k0_dev23 v13) < nD := fun v13 k0_hw3 => k0_hw3.1.2.2.2.2.2.2.2.2.2.2.2.1
theorem k0_dev24_lt : ∀ (v13 : BitVec 32) (k0_hw3 : k0_chk3 v13), (k0_dev24 v13) < nD := fun v13 k0_hw3 => k0_hw3.1.2.2.2.2.2.2.2.2.2.2.2.2.1
theorem k0_dev29_lt : ∀ (v13 : BitVec 32) (k0_hw3 : k0_chk3 v13), (k0_dev29 v13) < nD := fun v13 k0_hw3 => k0_hw3.1.2.2.2.2.2.2.2.2.2.2.2.2.2.1
theorem k0_dev30_lt : ∀ (v13 : BitVec 32) (k0_hw3 : k0_chk3 v13), (k0_dev30 v13) < nD := fun v13 k0_hw3 => k0_hw3.1.2.2.2.2.2.2.2.2.2.2.2.2.2.2.1
theorem k0_dev31_lt : ∀ (v13 : BitVec 32) (k0_hw3 : k0_chk3 v13), (k0_dev31 v13) < nD := fun v13 k0_hw3 => k0_hw3.1.2.2.2.2.2.2.2.2.2.2.2.2.2.2.2.1
theorem k0_dev32_lt : ∀ (v13 : BitVec 32) (k0_hw3 : k0_chk3 v13), (k0_dev32 v13) < nD := fun v13 k0_hw3 => k0_hw3.1.2.2.2.2.2.2.2.2.2.2.2.2.2.2.2.2.1
theorem k0_dev37_lt : ∀ (v13 : BitVec 32) (k0_hw3 : k0_chk3 v13), (k0_dev37 v13) < nD := fun v13 k0_hw3 => k0_hw3.1.2.2.2.2.2.2.2.2.2.2.2.2.2.2.2.2.2.1
theorem k0_dev38_lt : ∀ (v13 : BitVec 32) (k0_hw3 : k0_chk3 v13), (k0_dev38 v13) < nD := fun v13 k0_hw3 => k0_hw3.1.2.2.2.2.2.2.2.2.2.2.2.2.2.2.2.2.2.2.1
theorem k0_dev39_lt : ∀ (v13 : BitVec 32) (k0_hw3 : k0_chk3 v13), (k0_dev39 v13) < nD := fun v13 k0_hw3 => k0_hw3.1.2.2.2.2.2.2.2.2.2.2.2.2.2.2.2.2.2.2.2.1
theorem k0_dev40_lt : ∀ (v13 : BitVec 32) (k0_hw3 : k0_chk3 v13), (k0_dev40 v13) < nD := fun v13 k0_hw3 => k0_hw3.1.2.2.2.2.2.2.2.2.2.2.2.2.2.2.2.2.2.2.2.2.1
theorem k0_dev45_lt : ∀ (v13 : BitVec 32) (k0_hw3 : k0_chk3 v13), (k0_dev45 v13) < nD := fun v13 k0_hw3 => k0_hw3.1.2.2.2.2.2.2.2.2.2.2.2.2.2.2.2.2.2.2.2.2.2.1
theorem k0_dev46_lt : ∀ (v13 : BitVec 32) (k0_hw3 : k0_chk3 v13), (k0_dev46 v13) < nD := fun v13 k0_hw3 => k0_hw3.1.2.2.2.2.2.2.2.2.2.2.2.2.2.2.2.2.2.2.2.2.2.2.1
theorem k0_dev47_lt : ∀ (v13 : BitVec 32) (k0_hw3 : k0_chk3 v13), (k0_dev47 v13) < nD := fun v13 k0_hw3 => k0_hw3.1.2.2.2.2.2.2.2.2.2.2.2.2.2.2.2.2.2.2.2.2.2.2.2.1
theorem k0_dev48_lt : ∀ (v13 : BitVec 32) (k0_hw3 : k0_chk3 v13), (k0_dev48 v13) < nD := fun v13 k0_hw3 => k0_hw3.1.2.2.2.2.2.2.2.2.2.2.2.2.2.2.2.2.2.2.2.2.2.2.2.2.1
theorem k0_dev53_lt : ∀ (v13 : BitVec 32) (k0_hw3 : k0_chk3 v13), (k0_dev53 v13) < nD := fun v13 k0_hw3 => k0_hw3.1.2.2.2.2.2.2.2.2.2.2.2.2.2.2.2.2.2.2.2.2.2.2.2.2.2.1
theorem k0_dev54_lt : ∀ (v13 : BitVec 32) (k0_hw3 : k0_chk3 v13), (k0_dev54 v13) < nD := fun v13 k0_hw3 => k0_hw3.1.2.2.2.2.2.2.2.2.2.2.2.2.2.2.2.2.2.2.2.2.2.2.2.2.2.2.1
theorem k0_dev55_lt : ∀ (v13 : BitVec 32) (k0_hw3 : k0_chk3 v13), (k0_dev55 v13) < nD := fun v13 k0_hw3 => k0_hw3.1.2.2.2.2.2.2.2.2.2.2.2.2.2.2.2.2.2.2.2.2.2.2.2.2.2.2.2.1
theorem k0_dev56_lt : ∀ (v13 : BitVec 32) (k0_hw3 : k0_chk3 v13), (k0_dev56 v13) < nD := fun v13 k0_hw3 => k0_hw3.1.2.2.2.2.2.2.2.2.2.2.2.2.2.2.2.2.2.2.2.2.2.2.2.2.2.2.2.2.1
theorem k0_dev61_lt : ∀ (v13 : BitVec 32) (k0_hw3 : k0_chk3 v13), (k0_dev61 v13) < nD := fun v13 k0_hw3 => k0_hw3.1.2.2.2.2.2.2.2.2.2.2.2.2.2.2.2.2.2.2.2.2.2.2.2.2.2.2.2.2.2.1
theorem k0_dev62_lt : ∀ (v13 : BitVec 32) (k0_hw3 : k0_chk3 v13), (k0_dev62 v13) < nD := fun v13 k0_hw3 => k0_hw3.1.2.2.2.2.2.2.2.2.2.2.2.2.2.2.2.2.2.2.2.2.2.2.2.2.2.2.2.2.2.2.1
theorem k0_dev63_lt : ∀ (v13 : BitVec 32) (k0_hw3 : k0_chk3 v13), (k0_dev63 v13) < nD := fun v13 k0_hw3 => k0_hw3.1.2.2.2.2.2.2.2.2.2.2.2.2.2.2.2.2.2.2.2.2.2.2.2.2.2.2.2.2.2.2.2
theorem k0_dev64_lt : ∀ (v13 : BitVec 32) (k0_hw3 : k0_chk3 v13), (k0_dev64 v13) < nD := fun v13 k0_hw3 => k0_hw3.2.1
theorem k0_dev69_lt : ∀ (v13 : BitVec 32) (k0_hw3 : k0_chk3 v13), (k0_dev69 v13) < nD := fun v13 k0_hw3 => k0_hw3.2.2.1
theorem k0_dev70_lt : ∀ (v13 : BitVec 32) (k0_hw3 : k0_chk3 v13), (k0_dev70 v13) < nD := fun v13 k0_hw3 => k0_hw3.2.2.2.1
theorem k0_dev71_lt : ∀ (v13 : BitVec 32) (k0_hw3 : k0_chk3 v13), (k0_dev71 v13) < nD := fun v13 k0_hw3 => k0_hw3.2.2.2.2.1
theorem k0_dev72_lt : ∀ (v13 : BitVec 32) (k0_hw3 : k0_chk3 v13), (k0_dev72 v13) < nD := fun v13 k0_hw3 => k0_hw3.2.2.2.2.2.1
theorem k0_dev77_lt : ∀ (v13 : BitVec 32) (k0_hw3 : k0_chk3 v13), (k0_dev77 v13) < nD := fun v13 k0_hw3 => k0_hw3.2.2.2.2.2.2.1
theorem k0_dev78_lt : ∀ (v13 : BitVec 32) (k0_hw3 : k0_chk3 v13), (k0_dev78 v13) < nD := fun v13 k0_hw3 => k0_hw3.2.2.2.2.2.2.2.1
theorem k0_dev79_lt : ∀ (v13 : BitVec 32) (k0_hw3 : k0_chk3 v13), (k0_dev79 v13) < nD := fun v13 k0_hw3 => k0_hw3.2.2.2.2.2.2.2.2.1
theorem k0_dev80_lt : ∀ (v13 : BitVec 32) (k0_hw3 : k0_chk3 v13), (k0_dev80 v13) < nD := fun v13 k0_hw3 => k0_hw3.2.2.2.2.2.2.2.2.2.1
theorem k0_dev85_lt : ∀ (v13 : BitVec 32) (k0_hw3 : k0_chk3 v13), (k0_dev85 v13) < nD := fun v13 k0_hw3 => k0_hw3.2.2.2.2.2.2.2.2.2.2.1
theorem k0_dev86_lt : ∀ (v13 : BitVec 32) (k0_hw3 : k0_chk3 v13), (k0_dev86 v13) < nD := fun v13 k0_hw3 => k0_hw3.2.2.2.2.2.2.2.2.2.2.2.1
theorem k0_dev87_lt : ∀ (v13 : BitVec 32) (k0_hw3 : k0_chk3 v13), (k0_dev87 v13) < nD := fun v13 k0_hw3 => k0_hw3.2.2.2.2.2.2.2.2.2.2.2.2.1
theorem k0_dev88_lt : ∀ (v13 : BitVec 32) (k0_hw3 : k0_chk3 v13), (k0_dev88 v13) < nD := fun v13 k0_hw3 => k0_hw3.2.2.2.2.2.2.2.2.2.2.2.2.2.1
theorem k0_dev93_lt : ∀ (v13 : BitVec 32) (k0_hw3 : k0_chk3 v13), (k0_dev93 v13) < nD := fun v13 k0_hw3 => k0_hw3.2.2.2.2.2.2.2.2.2.2.2.2.2.2.1
theorem k0_dev94_lt : ∀ (v13 : BitVec 32) (k0_hw3 : k0_chk3 v13), (k0_dev94 v13) < nD := fun v13 k0_hw3 => k0_hw3.2.2.2.2.2.2.2.2.2.2.2.2.2.2.2.1
theorem k0_dev95_lt : ∀ (v13 : BitVec 32) (k0_hw3 : k0_chk3 v13), (k0_dev95 v13) < nD := fun v13 k0_hw3 => k0_hw3.2.2.2.2.2.2.2.2.2.2.2.2.2.2.2.2.1
theorem k0_dev96_lt : ∀ (v13 : BitVec 32) (k0_hw3 : k0_chk3 v13), (k0_dev96 v13) < nD := fun v13 k0_hw3 => k0_hw3.2.2.2.2.2.2.2.2.2.2.2.2.2.2.2.2.2.1
theorem k0_dev101_lt : ∀ (v13 : BitVec 32) (k0_hw3 : k0_chk3 v13), (k0_dev101 v13) < nD := fun v13 k0_hw3 => k0_hw3.2.2.2.2.2.2.2.2.2.2.2.2.2.2.2.2.2.2.1
theorem k0_dev102_lt : ∀ (v13 : BitVec 32) (k0_hw3 : k0_chk3 v13), (k0_dev102 v13) < nD := fun v13 k0_hw3 => k0_hw3.2.2.2.2.2.2.2.2.2.2.2.2.2.2.2.2.2.2.2.1
theorem k0_dev103_lt : ∀ (v13 : BitVec 32) (k0_hw3 : k0_chk3 v13), (k0_dev103 v13) < nD := fun v13 k0_hw3 => k0_hw3.2.2.2.2.2.2.2.2.2.2.2.2.2.2.2.2.2.2.2.2.1
theorem k0_dev104_lt : ∀ (v13 : BitVec 32) (k0_hw3 : k0_chk3 v13), (k0_dev104 v13) < nD := fun v13 k0_hw3 => k0_hw3.2.2.2.2.2.2.2.2.2.2.2.2.2.2.2.2.2.2.2.2.2.1
theorem k0_dev109_lt : ∀ (v13 : BitVec 32) (k0_hw3 : k0_chk3 v13), (k0_dev109 v13) < nD := fun v13 k0_hw3 => k0_hw3.2.2.2.2.2.2.2.2.2.2.2.2.2.2.2.2.2.2.2.2.2.2.1
theorem k0_dev110_lt : ∀ (v13 : BitVec 32) (k0_hw3 : k0_chk3 v13), (k0_dev110 v13) < nD := fun v13 k0_hw3 => k0_hw3.2.2.2.2.2.2.2.2.2.2.2.2.2.2.2.2.2.2.2.2.2.2.2.1
theorem k0_dev111_lt : ∀ (v13 : BitVec 32) (k0_hw3 : k0_chk3 v13), (k0_dev111 v13) < nD := fun v13 k0_hw3 => k0_hw3.2.2.2.2.2.2.2.2.2.2.2.2.2.2.2.2.2.2.2.2.2.2.2.2.1
theorem k0_dev112_lt : ∀ (v13 : BitVec 32) (k0_hw3 : k0_chk3 v13), (k0_dev112 v13) < nD := fun v13 k0_hw3 => k0_hw3.2.2.2.2.2.2.2.2.2.2.2.2.2.2.2.2.2.2.2.2.2.2.2.2.2

def k0_dev113 (v8 : BitVec 32) : Nat :=
  let c0_i32_2858 : BitVec 32 := 0#32
  let c1_i32_2857 : BitVec 32 := 1#32
  let v2485 : BitVec 32 := Scalar.muli v8 c1_i32_2857
  let v2486 : BitVec 32 := Scalar.addi c0_i32_2858 v2485
  v2486.toNat
def k0_dev114 (v8 : BitVec 32) : Nat :=
  let c0_i32_2884 : BitVec 32 := 0#32
  let c1_i32_2883 : BitVec 32 := 1#32
  let v2503 : BitVec 32 := Scalar.muli v8 c1_i32_2883
  let v2504 : BitVec 32 := Scalar.addi c0_i32_2884 v2503
  v2504.toNat

def k0_chk2_0 (v8 : BitVec 32) : Prop :=
  ((k0_dev1 v8) < nD) ∧
  ((k0_dev3 v8) < nD) ∧
  ((k0_dev4 v8) < nD) ∧
  ((k0_dev7 v8) < nD) ∧
  ((k0_dev8 v8) < nD) ∧
  ((k0_dev11 v8) < nD) ∧
  ((k0_dev12 v8) < nD) ∧
  ((k0_dev17 v8) < nD) ∧
  ((k0_dev18 v8) < nD) ∧
  ((k0_dev19 v8) < nD) ∧
  ((k0_dev20 v8) < nD) ∧
  ((k0_dev25 v8) < nD) ∧
  ((k0_dev26 v8) < nD) ∧
  ((k0_dev27 v8) < nD) ∧
  ((k0_dev28 v8) < nD) ∧
  ((k0_dev33 v8) < nD) ∧
  ((k0_dev34 v8) < nD) ∧
  ((k0_dev35 v8) < nD) ∧
  ((k0_dev36 v8) < nD) ∧
  ((k0_dev41 v8) < nD) ∧
  ((k0_dev42 v8) < nD) ∧
  ((k0_dev43 v8) < nD) ∧
  ((k0_dev44 v8) < nD) ∧
  ((k0_dev49 v8) < nD) ∧
  ((k0_dev50 v8) < nD) ∧
  ((k0_dev51 v8) < nD) ∧
  ((k0_dev52 v8) < nD) ∧
  ((k0_dev57 v8) < nD) ∧
  ((k0_dev58 v8) < nD) ∧
  ((k0_dev59 v8) < nD) ∧
  ((k0_dev60 v8) < nD) ∧
  ((k0_dev65 v8) < nD)
def k0_chk2_1 (v8 : BitVec 32) : Prop :=
  ((k0_dev66 v8) < nD) ∧
  ((k0_dev67 v8) < nD) ∧
  ((k0_dev68 v8) < nD) ∧
  ((k0_dev73 v8) < nD) ∧
  ((k0_dev74 v8) < nD) ∧
  ((k0_dev75 v8) < nD) ∧
  ((k0_dev76 v8) < nD) ∧
  ((k0_dev81 v8) < nD) ∧
  ((k0_dev82 v8) < nD) ∧
  ((k0_dev83 v8) < nD) ∧
  ((k0_dev84 v8) < nD) ∧
  ((k0_dev89 v8) < nD) ∧
  ((k0_dev90 v8) < nD) ∧
  ((k0_dev91 v8) < nD) ∧
  ((k0_dev92 v8) < nD) ∧
  ((k0_dev97 v8) < nD) ∧
  ((k0_dev98 v8) < nD) ∧
  ((k0_dev99 v8) < nD) ∧
  ((k0_dev100 v8) < nD) ∧
  ((k0_dev105 v8) < nD) ∧
  ((k0_dev106 v8) < nD) ∧
  ((k0_dev107 v8) < nD) ∧
  ((k0_dev108 v8) < nD) ∧
  ((k0_dev113 v8) < nD) ∧
  ((k0_dev114 v8) < nD)
def k0_chk2 (v8 : BitVec 32) : Prop :=
  k0_chk2_0 v8 ∧
  k0_chk2_1 v8
theorem k0_dev1_lt : ∀ (v8 : BitVec 32) (k0_hw2 : k0_chk2 v8), (k0_dev1 v8) < nD := fun v8 k0_hw2 => k0_hw2.1.1
theorem k0_dev3_lt : ∀ (v8 : BitVec 32) (k0_hw2 : k0_chk2 v8), (k0_dev3 v8) < nD := fun v8 k0_hw2 => k0_hw2.1.2.1
theorem k0_dev4_lt : ∀ (v8 : BitVec 32) (k0_hw2 : k0_chk2 v8), (k0_dev4 v8) < nD := fun v8 k0_hw2 => k0_hw2.1.2.2.1
theorem k0_dev7_lt : ∀ (v8 : BitVec 32) (k0_hw2 : k0_chk2 v8), (k0_dev7 v8) < nD := fun v8 k0_hw2 => k0_hw2.1.2.2.2.1
theorem k0_dev8_lt : ∀ (v8 : BitVec 32) (k0_hw2 : k0_chk2 v8), (k0_dev8 v8) < nD := fun v8 k0_hw2 => k0_hw2.1.2.2.2.2.1
theorem k0_dev11_lt : ∀ (v8 : BitVec 32) (k0_hw2 : k0_chk2 v8), (k0_dev11 v8) < nD := fun v8 k0_hw2 => k0_hw2.1.2.2.2.2.2.1
theorem k0_dev12_lt : ∀ (v8 : BitVec 32) (k0_hw2 : k0_chk2 v8), (k0_dev12 v8) < nD := fun v8 k0_hw2 => k0_hw2.1.2.2.2.2.2.2.1
theorem k0_dev17_lt : ∀ (v8 : BitVec 32) (k0_hw2 : k0_chk2 v8), (k0_dev17 v8) < nD := fun v8 k0_hw2 => k0_hw2.1.2.2.2.2.2.2.2.1
theorem k0_dev18_lt : ∀ (v8 : BitVec 32) (k0_hw2 : k0_chk2 v8), (k0_dev18 v8) < nD := fun v8 k0_hw2 => k0_hw2.1.2.2.2.2.2.2.2.2.1
theorem k0_dev19_lt : ∀ (v8 : BitVec 32) (k0_hw2 : k0_chk2 v8), (k0_dev19 v8) < nD := fun v8 k0_hw2 => k0_hw2.1.2.2.2.2.2.2.2.2.2.1
theorem k0_dev20_lt : ∀ (v8 : BitVec 32) (k0_hw2 : k0_chk2 v8), (k0_dev20 v8) < nD := fun v8 k0_hw2 => k0_hw2.1.2.2.2.2.2.2.2.2.2.2.1
theorem k0_dev25_lt : ∀ (v8 : BitVec 32) (k0_hw2 : k0_chk2 v8), (k0_dev25 v8) < nD := fun v8 k0_hw2 => k0_hw2.1.2.2.2.2.2.2.2.2.2.2.2.1
theorem k0_dev26_lt : ∀ (v8 : BitVec 32) (k0_hw2 : k0_chk2 v8), (k0_dev26 v8) < nD := fun v8 k0_hw2 => k0_hw2.1.2.2.2.2.2.2.2.2.2.2.2.2.1
theorem k0_dev27_lt : ∀ (v8 : BitVec 32) (k0_hw2 : k0_chk2 v8), (k0_dev27 v8) < nD := fun v8 k0_hw2 => k0_hw2.1.2.2.2.2.2.2.2.2.2.2.2.2.2.1
theorem k0_dev28_lt : ∀ (v8 : BitVec 32) (k0_hw2 : k0_chk2 v8), (k0_dev28 v8) < nD := fun v8 k0_hw2 => k0_hw2.1.2.2.2.2.2.2.2.2.2.2.2.2.2.2.1
theorem k0_dev33_lt : ∀ (v8 : BitVec 32) (k0_hw2 : k0_chk2 v8), (k0_dev33 v8) < nD := fun v8 k0_hw2 => k0_hw2.1.2.2.2.2.2.2.2.2.2.2.2.2.2.2.2.1
theorem k0_dev34_lt : ∀ (v8 : BitVec 32) (k0_hw2 : k0_chk2 v8), (k0_dev34 v8) < nD := fun v8 k0_hw2 => k0_hw2.1.2.2.2.2.2.2.2.2.2.2.2.2.2.2.2.2.1
theorem k0_dev35_lt : ∀ (v8 : BitVec 32) (k0_hw2 : k0_chk2 v8), (k0_dev35 v8) < nD := fun v8 k0_hw2 => k0_hw2.1.2.2.2.2.2.2.2.2.2.2.2.2.2.2.2.2.2.1
theorem k0_dev36_lt : ∀ (v8 : BitVec 32) (k0_hw2 : k0_chk2 v8), (k0_dev36 v8) < nD := fun v8 k0_hw2 => k0_hw2.1.2.2.2.2.2.2.2.2.2.2.2.2.2.2.2.2.2.2.1
theorem k0_dev41_lt : ∀ (v8 : BitVec 32) (k0_hw2 : k0_chk2 v8), (k0_dev41 v8) < nD := fun v8 k0_hw2 => k0_hw2.1.2.2.2.2.2.2.2.2.2.2.2.2.2.2.2.2.2.2.2.1
theorem k0_dev42_lt : ∀ (v8 : BitVec 32) (k0_hw2 : k0_chk2 v8), (k0_dev42 v8) < nD := fun v8 k0_hw2 => k0_hw2.1.2.2.2.2.2.2.2.2.2.2.2.2.2.2.2.2.2.2.2.2.1
theorem k0_dev43_lt : ∀ (v8 : BitVec 32) (k0_hw2 : k0_chk2 v8), (k0_dev43 v8) < nD := fun v8 k0_hw2 => k0_hw2.1.2.2.2.2.2.2.2.2.2.2.2.2.2.2.2.2.2.2.2.2.2.1
theorem k0_dev44_lt : ∀ (v8 : BitVec 32) (k0_hw2 : k0_chk2 v8), (k0_dev44 v8) < nD := fun v8 k0_hw2 => k0_hw2.1.2.2.2.2.2.2.2.2.2.2.2.2.2.2.2.2.2.2.2.2.2.2.1
theorem k0_dev49_lt : ∀ (v8 : BitVec 32) (k0_hw2 : k0_chk2 v8), (k0_dev49 v8) < nD := fun v8 k0_hw2 => k0_hw2.1.2.2.2.2.2.2.2.2.2.2.2.2.2.2.2.2.2.2.2.2.2.2.2.1
theorem k0_dev50_lt : ∀ (v8 : BitVec 32) (k0_hw2 : k0_chk2 v8), (k0_dev50 v8) < nD := fun v8 k0_hw2 => k0_hw2.1.2.2.2.2.2.2.2.2.2.2.2.2.2.2.2.2.2.2.2.2.2.2.2.2.1
theorem k0_dev51_lt : ∀ (v8 : BitVec 32) (k0_hw2 : k0_chk2 v8), (k0_dev51 v8) < nD := fun v8 k0_hw2 => k0_hw2.1.2.2.2.2.2.2.2.2.2.2.2.2.2.2.2.2.2.2.2.2.2.2.2.2.2.1
theorem k0_dev52_lt : ∀ (v8 : BitVec 32) (k0_hw2 : k0_chk2 v8), (k0_dev52 v8) < nD := fun v8 k0_hw2 => k0_hw2.1.2.2.2.2.2.2.2.2.2.2.2.2.2.2.2.2.2.2.2.2.2.2.2.2.2.2.1
theorem k0_dev57_lt : ∀ (v8 : BitVec 32) (k0_hw2 : k0_chk2 v8), (k0_dev57 v8) < nD := fun v8 k0_hw2 => k0_hw2.1.2.2.2.2.2.2.2.2.2.2.2.2.2.2.2.2.2.2.2.2.2.2.2.2.2.2.2.1
theorem k0_dev58_lt : ∀ (v8 : BitVec 32) (k0_hw2 : k0_chk2 v8), (k0_dev58 v8) < nD := fun v8 k0_hw2 => k0_hw2.1.2.2.2.2.2.2.2.2.2.2.2.2.2.2.2.2.2.2.2.2.2.2.2.2.2.2.2.2.1
theorem k0_dev59_lt : ∀ (v8 : BitVec 32) (k0_hw2 : k0_chk2 v8), (k0_dev59 v8) < nD := fun v8 k0_hw2 => k0_hw2.1.2.2.2.2.2.2.2.2.2.2.2.2.2.2.2.2.2.2.2.2.2.2.2.2.2.2.2.2.2.1
theorem k0_dev60_lt : ∀ (v8 : BitVec 32) (k0_hw2 : k0_chk2 v8), (k0_dev60 v8) < nD := fun v8 k0_hw2 => k0_hw2.1.2.2.2.2.2.2.2.2.2.2.2.2.2.2.2.2.2.2.2.2.2.2.2.2.2.2.2.2.2.2.1
theorem k0_dev65_lt : ∀ (v8 : BitVec 32) (k0_hw2 : k0_chk2 v8), (k0_dev65 v8) < nD := fun v8 k0_hw2 => k0_hw2.1.2.2.2.2.2.2.2.2.2.2.2.2.2.2.2.2.2.2.2.2.2.2.2.2.2.2.2.2.2.2.2
theorem k0_dev66_lt : ∀ (v8 : BitVec 32) (k0_hw2 : k0_chk2 v8), (k0_dev66 v8) < nD := fun v8 k0_hw2 => k0_hw2.2.1
theorem k0_dev67_lt : ∀ (v8 : BitVec 32) (k0_hw2 : k0_chk2 v8), (k0_dev67 v8) < nD := fun v8 k0_hw2 => k0_hw2.2.2.1
theorem k0_dev68_lt : ∀ (v8 : BitVec 32) (k0_hw2 : k0_chk2 v8), (k0_dev68 v8) < nD := fun v8 k0_hw2 => k0_hw2.2.2.2.1
theorem k0_dev73_lt : ∀ (v8 : BitVec 32) (k0_hw2 : k0_chk2 v8), (k0_dev73 v8) < nD := fun v8 k0_hw2 => k0_hw2.2.2.2.2.1
theorem k0_dev74_lt : ∀ (v8 : BitVec 32) (k0_hw2 : k0_chk2 v8), (k0_dev74 v8) < nD := fun v8 k0_hw2 => k0_hw2.2.2.2.2.2.1
theorem k0_dev75_lt : ∀ (v8 : BitVec 32) (k0_hw2 : k0_chk2 v8), (k0_dev75 v8) < nD := fun v8 k0_hw2 => k0_hw2.2.2.2.2.2.2.1
theorem k0_dev76_lt : ∀ (v8 : BitVec 32) (k0_hw2 : k0_chk2 v8), (k0_dev76 v8) < nD := fun v8 k0_hw2 => k0_hw2.2.2.2.2.2.2.2.1
theorem k0_dev81_lt : ∀ (v8 : BitVec 32) (k0_hw2 : k0_chk2 v8), (k0_dev81 v8) < nD := fun v8 k0_hw2 => k0_hw2.2.2.2.2.2.2.2.2.1
theorem k0_dev82_lt : ∀ (v8 : BitVec 32) (k0_hw2 : k0_chk2 v8), (k0_dev82 v8) < nD := fun v8 k0_hw2 => k0_hw2.2.2.2.2.2.2.2.2.2.1
theorem k0_dev83_lt : ∀ (v8 : BitVec 32) (k0_hw2 : k0_chk2 v8), (k0_dev83 v8) < nD := fun v8 k0_hw2 => k0_hw2.2.2.2.2.2.2.2.2.2.2.1
theorem k0_dev84_lt : ∀ (v8 : BitVec 32) (k0_hw2 : k0_chk2 v8), (k0_dev84 v8) < nD := fun v8 k0_hw2 => k0_hw2.2.2.2.2.2.2.2.2.2.2.2.1
theorem k0_dev89_lt : ∀ (v8 : BitVec 32) (k0_hw2 : k0_chk2 v8), (k0_dev89 v8) < nD := fun v8 k0_hw2 => k0_hw2.2.2.2.2.2.2.2.2.2.2.2.2.1
theorem k0_dev90_lt : ∀ (v8 : BitVec 32) (k0_hw2 : k0_chk2 v8), (k0_dev90 v8) < nD := fun v8 k0_hw2 => k0_hw2.2.2.2.2.2.2.2.2.2.2.2.2.2.1
theorem k0_dev91_lt : ∀ (v8 : BitVec 32) (k0_hw2 : k0_chk2 v8), (k0_dev91 v8) < nD := fun v8 k0_hw2 => k0_hw2.2.2.2.2.2.2.2.2.2.2.2.2.2.2.1
theorem k0_dev92_lt : ∀ (v8 : BitVec 32) (k0_hw2 : k0_chk2 v8), (k0_dev92 v8) < nD := fun v8 k0_hw2 => k0_hw2.2.2.2.2.2.2.2.2.2.2.2.2.2.2.2.1
theorem k0_dev97_lt : ∀ (v8 : BitVec 32) (k0_hw2 : k0_chk2 v8), (k0_dev97 v8) < nD := fun v8 k0_hw2 => k0_hw2.2.2.2.2.2.2.2.2.2.2.2.2.2.2.2.2.1
theorem k0_dev98_lt : ∀ (v8 : BitVec 32) (k0_hw2 : k0_chk2 v8), (k0_dev98 v8) < nD := fun v8 k0_hw2 => k0_hw2.2.2.2.2.2.2.2.2.2.2.2.2.2.2.2.2.2.1
theorem k0_dev99_lt : ∀ (v8 : BitVec 32) (k0_hw2 : k0_chk2 v8), (k0_dev99 v8) < nD := fun v8 k0_hw2 => k0_hw2.2.2.2.2.2.2.2.2.2.2.2.2.2.2.2.2.2.2.1
theorem k0_dev100_lt : ∀ (v8 : BitVec 32) (k0_hw2 : k0_chk2 v8), (k0_dev100 v8) < nD := fun v8 k0_hw2 => k0_hw2.2.2.2.2.2.2.2.2.2.2.2.2.2.2.2.2.2.2.2.1
theorem k0_dev105_lt : ∀ (v8 : BitVec 32) (k0_hw2 : k0_chk2 v8), (k0_dev105 v8) < nD := fun v8 k0_hw2 => k0_hw2.2.2.2.2.2.2.2.2.2.2.2.2.2.2.2.2.2.2.2.2.1
theorem k0_dev106_lt : ∀ (v8 : BitVec 32) (k0_hw2 : k0_chk2 v8), (k0_dev106 v8) < nD := fun v8 k0_hw2 => k0_hw2.2.2.2.2.2.2.2.2.2.2.2.2.2.2.2.2.2.2.2.2.2.1
theorem k0_dev107_lt : ∀ (v8 : BitVec 32) (k0_hw2 : k0_chk2 v8), (k0_dev107 v8) < nD := fun v8 k0_hw2 => k0_hw2.2.2.2.2.2.2.2.2.2.2.2.2.2.2.2.2.2.2.2.2.2.2.1
theorem k0_dev108_lt : ∀ (v8 : BitVec 32) (k0_hw2 : k0_chk2 v8), (k0_dev108 v8) < nD := fun v8 k0_hw2 => k0_hw2.2.2.2.2.2.2.2.2.2.2.2.2.2.2.2.2.2.2.2.2.2.2.2.1
theorem k0_dev113_lt : ∀ (v8 : BitVec 32) (k0_hw2 : k0_chk2 v8), (k0_dev113 v8) < nD := fun v8 k0_hw2 => k0_hw2.2.2.2.2.2.2.2.2.2.2.2.2.2.2.2.2.2.2.2.2.2.2.2.2.1
theorem k0_dev114_lt : ∀ (v8 : BitVec 32) (k0_hw2 : k0_chk2 v8), (k0_dev114 v8) < nD := fun v8 k0_hw2 => k0_hw2.2.2.2.2.2.2.2.2.2.2.2.2.2.2.2.2.2.2.2.2.2.2.2.2.2

def k0_off61 (v4 : BitVec 32) : Fin 1 → Nat :=
  let c_m15_i32 : BitVec 32 := 4294967281#32
  let v2529 : BitVec 32 := Scalar.addi v4 c_m15_i32
  let c64_i32_2913 : BitVec 32 := 64#32
  let v2530 : BitVec 32 := Scalar.addi v2529 c64_i32_2913
  let c32_i32_2914 : BitVec 32 := 32#32
  let v2531 : BitVec 32 := Scalar.remsi v2530 c32_i32_2914
  let v2532 : Index := Scalar.indexCast v2531
  ![v2532.toNat]
def k0_off62 (v2533 : BitVec 32) (c0_i32_2922 : BitVec 32) : Fin 2 → Nat :=
  let c128_i32_2921 : BitVec 32 := 128#32
  let v2539 : BitVec 32 := Scalar.muli v2533 c128_i32_2921
  let v2540 : BitVec 32 := Scalar.addi v2539 c0_i32_2922
  let v2541 : Index := Scalar.indexCast v2540
  let c0_2923 : Index := 0#32
  ![v2541.toNat, 0]

def k0_chk32 (v2533 : BitVec 32) : Prop :=
  (∀ (r : Fin 2), ∀ a, (k0_off62 v2533 (BitVec.ofNat 32 (64 * r.val))) a + S64x64.size a ≤ S4096x64.size a)
theorem k0_off62_inb : ∀ (v2533 : BitVec 32) (k0_hw32 : k0_chk32 v2533), ∀ (r : Fin 2), ∀ a, (k0_off62 v2533 (BitVec.ofNat 32 (64 * r.val))) a + S64x64.size a ≤ S4096x64.size a := fun v2533 k0_hw32 r => k0_hw32 r

def k0_off63 (v4 : BitVec 32) : Fin 1 → Nat :=
  let c15_i32 : BitVec 32 := 15#32
  let v2564 : BitVec 32 := Scalar.addi v4 c15_i32
  let c64_i32_2935 : BitVec 32 := 64#32
  let v2565 : BitVec 32 := Scalar.addi v2564 c64_i32_2935
  let c32_i32_2936 : BitVec 32 := 32#32
  let v2566 : BitVec 32 := Scalar.remsi v2565 c32_i32_2936
  let v2567 : Index := Scalar.indexCast v2566
  ![v2567.toNat]
def k0_off64 (v2568 : BitVec 32) (c0_i32_2944 : BitVec 32) : Fin 2 → Nat :=
  let c128_i32_2943 : BitVec 32 := 128#32
  let v2574 : BitVec 32 := Scalar.muli v2568 c128_i32_2943
  let v2575 : BitVec 32 := Scalar.addi v2574 c0_i32_2944
  let v2576 : Index := Scalar.indexCast v2575
  let c0_2945 : Index := 0#32
  ![v2576.toNat, 0]

def k0_chk33 (v2568 : BitVec 32) : Prop :=
  (∀ (r : Fin 2), ∀ a, (k0_off64 v2568 (BitVec.ofNat 32 (64 * r.val))) a + S64x64.size a ≤ S4096x64.size a)
theorem k0_off64_inb : ∀ (v2568 : BitVec 32) (k0_hw33 : k0_chk33 v2568), ∀ (r : Fin 2), ∀ a, (k0_off64 v2568 (BitVec.ofNat 32 (64 * r.val))) a + S64x64.size a ≤ S4096x64.size a := fun v2568 k0_hw33 r => k0_hw33 r

def k0_off65 (v4 : BitVec 32) : Fin 1 → Nat :=
  let c_m16_i32 : BitVec 32 := 4294967280#32
  let v2639 : BitVec 32 := Scalar.addi v4 c_m16_i32
  let c64_i32_3025 : BitVec 32 := 64#32
  let v2640 : BitVec 32 := Scalar.addi v2639 c64_i32_3025
  let c32_i32_3026 : BitVec 32 := 32#32
  let v2641 : BitVec 32 := Scalar.remsi v2640 c32_i32_3026
  let v2642 : Index := Scalar.indexCast v2641
  ![v2642.toNat]

def k0_chk1_0 (v4 : BitVec 32) : Prop :=
  (∀ a, (k0_off2 v4) a + S1.size a ≤ S32.size a) ∧
  (∀ a, (k0_off3 v4) a + S1.size a ≤ S32.size a) ∧
  (∀ a, (k0_off5 v4) a + S1.size a ≤ S32.size a) ∧
  (∀ a, (k0_off7 v4) a + S1.size a ≤ S32.size a) ∧
  (∀ a, (k0_off9 v4) a + S1.size a ≤ S32.size a) ∧
  (∀ a, (k0_off11 v4) a + S1.size a ≤ S32.size a) ∧
  (∀ a, (k0_off13 v4) a + S1.size a ≤ S32.size a) ∧
  (∀ a, (k0_off15 v4) a + S1.size a ≤ S32.size a) ∧
  (∀ a, (k0_off17 v4) a + S1.size a ≤ S32.size a) ∧
  (∀ a, (k0_off19 v4) a + S1.size a ≤ S32.size a) ∧
  (∀ a, (k0_off21 v4) a + S1.size a ≤ S32.size a) ∧
  (∀ a, (k0_off23 v4) a + S1.size a ≤ S32.size a) ∧
  (∀ a, (k0_off25 v4) a + S1.size a ≤ S32.size a) ∧
  (∀ a, (k0_off27 v4) a + S1.size a ≤ S32.size a) ∧
  (∀ a, (k0_off29 v4) a + S1.size a ≤ S32.size a) ∧
  (∀ a, (k0_off31 v4) a + S1.size a ≤ S32.size a) ∧
  (∀ a, (k0_off33 v4) a + S1.size a ≤ S32.size a) ∧
  (∀ a, (k0_off35 v4) a + S1.size a ≤ S32.size a) ∧
  (∀ a, (k0_off37 v4) a + S1.size a ≤ S32.size a) ∧
  (∀ a, (k0_off39 v4) a + S1.size a ≤ S32.size a) ∧
  (∀ a, (k0_off41 v4) a + S1.size a ≤ S32.size a) ∧
  (∀ a, (k0_off43 v4) a + S1.size a ≤ S32.size a) ∧
  (∀ a, (k0_off45 v4) a + S1.size a ≤ S32.size a) ∧
  (∀ a, (k0_off47 v4) a + S1.size a ≤ S32.size a) ∧
  (∀ a, (k0_off49 v4) a + S1.size a ≤ S32.size a) ∧
  (∀ a, (k0_off51 v4) a + S1.size a ≤ S32.size a) ∧
  (∀ a, (k0_off53 v4) a + S1.size a ≤ S32.size a) ∧
  (∀ a, (k0_off55 v4) a + S1.size a ≤ S32.size a) ∧
  (∀ a, (k0_off57 v4) a + S1.size a ≤ S32.size a) ∧
  (∀ a, (k0_off59 v4) a + S1.size a ≤ S32.size a) ∧
  (∀ a, (k0_off61 v4) a + S1.size a ≤ S32.size a) ∧
  (∀ a, (k0_off63 v4) a + S1.size a ≤ S32.size a)
def k0_chk1_1 (v4 : BitVec 32) : Prop :=
  (∀ a, (k0_off65 v4) a + S1.size a ≤ S32.size a)
def k0_chk1 (v4 : BitVec 32) : Prop :=
  k0_chk1_0 v4 ∧
  k0_chk1_1 v4
theorem k0_off2_inb : ∀ (v4 : BitVec 32) (k0_hw1 : k0_chk1 v4), ∀ a, (k0_off2 v4) a + S1.size a ≤ S32.size a := fun v4 k0_hw1 => k0_hw1.1.1
theorem k0_off3_inb : ∀ (v4 : BitVec 32) (k0_hw1 : k0_chk1 v4), ∀ a, (k0_off3 v4) a + S1.size a ≤ S32.size a := fun v4 k0_hw1 => k0_hw1.1.2.1
theorem k0_off5_inb : ∀ (v4 : BitVec 32) (k0_hw1 : k0_chk1 v4), ∀ a, (k0_off5 v4) a + S1.size a ≤ S32.size a := fun v4 k0_hw1 => k0_hw1.1.2.2.1
theorem k0_off7_inb : ∀ (v4 : BitVec 32) (k0_hw1 : k0_chk1 v4), ∀ a, (k0_off7 v4) a + S1.size a ≤ S32.size a := fun v4 k0_hw1 => k0_hw1.1.2.2.2.1
theorem k0_off9_inb : ∀ (v4 : BitVec 32) (k0_hw1 : k0_chk1 v4), ∀ a, (k0_off9 v4) a + S1.size a ≤ S32.size a := fun v4 k0_hw1 => k0_hw1.1.2.2.2.2.1
theorem k0_off11_inb : ∀ (v4 : BitVec 32) (k0_hw1 : k0_chk1 v4), ∀ a, (k0_off11 v4) a + S1.size a ≤ S32.size a := fun v4 k0_hw1 => k0_hw1.1.2.2.2.2.2.1
theorem k0_off13_inb : ∀ (v4 : BitVec 32) (k0_hw1 : k0_chk1 v4), ∀ a, (k0_off13 v4) a + S1.size a ≤ S32.size a := fun v4 k0_hw1 => k0_hw1.1.2.2.2.2.2.2.1
theorem k0_off15_inb : ∀ (v4 : BitVec 32) (k0_hw1 : k0_chk1 v4), ∀ a, (k0_off15 v4) a + S1.size a ≤ S32.size a := fun v4 k0_hw1 => k0_hw1.1.2.2.2.2.2.2.2.1
theorem k0_off17_inb : ∀ (v4 : BitVec 32) (k0_hw1 : k0_chk1 v4), ∀ a, (k0_off17 v4) a + S1.size a ≤ S32.size a := fun v4 k0_hw1 => k0_hw1.1.2.2.2.2.2.2.2.2.1
theorem k0_off19_inb : ∀ (v4 : BitVec 32) (k0_hw1 : k0_chk1 v4), ∀ a, (k0_off19 v4) a + S1.size a ≤ S32.size a := fun v4 k0_hw1 => k0_hw1.1.2.2.2.2.2.2.2.2.2.1
theorem k0_off21_inb : ∀ (v4 : BitVec 32) (k0_hw1 : k0_chk1 v4), ∀ a, (k0_off21 v4) a + S1.size a ≤ S32.size a := fun v4 k0_hw1 => k0_hw1.1.2.2.2.2.2.2.2.2.2.2.1
theorem k0_off23_inb : ∀ (v4 : BitVec 32) (k0_hw1 : k0_chk1 v4), ∀ a, (k0_off23 v4) a + S1.size a ≤ S32.size a := fun v4 k0_hw1 => k0_hw1.1.2.2.2.2.2.2.2.2.2.2.2.1
theorem k0_off25_inb : ∀ (v4 : BitVec 32) (k0_hw1 : k0_chk1 v4), ∀ a, (k0_off25 v4) a + S1.size a ≤ S32.size a := fun v4 k0_hw1 => k0_hw1.1.2.2.2.2.2.2.2.2.2.2.2.2.1
theorem k0_off27_inb : ∀ (v4 : BitVec 32) (k0_hw1 : k0_chk1 v4), ∀ a, (k0_off27 v4) a + S1.size a ≤ S32.size a := fun v4 k0_hw1 => k0_hw1.1.2.2.2.2.2.2.2.2.2.2.2.2.2.1
theorem k0_off29_inb : ∀ (v4 : BitVec 32) (k0_hw1 : k0_chk1 v4), ∀ a, (k0_off29 v4) a + S1.size a ≤ S32.size a := fun v4 k0_hw1 => k0_hw1.1.2.2.2.2.2.2.2.2.2.2.2.2.2.2.1
theorem k0_off31_inb : ∀ (v4 : BitVec 32) (k0_hw1 : k0_chk1 v4), ∀ a, (k0_off31 v4) a + S1.size a ≤ S32.size a := fun v4 k0_hw1 => k0_hw1.1.2.2.2.2.2.2.2.2.2.2.2.2.2.2.2.1
theorem k0_off33_inb : ∀ (v4 : BitVec 32) (k0_hw1 : k0_chk1 v4), ∀ a, (k0_off33 v4) a + S1.size a ≤ S32.size a := fun v4 k0_hw1 => k0_hw1.1.2.2.2.2.2.2.2.2.2.2.2.2.2.2.2.2.1
theorem k0_off35_inb : ∀ (v4 : BitVec 32) (k0_hw1 : k0_chk1 v4), ∀ a, (k0_off35 v4) a + S1.size a ≤ S32.size a := fun v4 k0_hw1 => k0_hw1.1.2.2.2.2.2.2.2.2.2.2.2.2.2.2.2.2.2.1
theorem k0_off37_inb : ∀ (v4 : BitVec 32) (k0_hw1 : k0_chk1 v4), ∀ a, (k0_off37 v4) a + S1.size a ≤ S32.size a := fun v4 k0_hw1 => k0_hw1.1.2.2.2.2.2.2.2.2.2.2.2.2.2.2.2.2.2.2.1
theorem k0_off39_inb : ∀ (v4 : BitVec 32) (k0_hw1 : k0_chk1 v4), ∀ a, (k0_off39 v4) a + S1.size a ≤ S32.size a := fun v4 k0_hw1 => k0_hw1.1.2.2.2.2.2.2.2.2.2.2.2.2.2.2.2.2.2.2.2.1
theorem k0_off41_inb : ∀ (v4 : BitVec 32) (k0_hw1 : k0_chk1 v4), ∀ a, (k0_off41 v4) a + S1.size a ≤ S32.size a := fun v4 k0_hw1 => k0_hw1.1.2.2.2.2.2.2.2.2.2.2.2.2.2.2.2.2.2.2.2.2.1
theorem k0_off43_inb : ∀ (v4 : BitVec 32) (k0_hw1 : k0_chk1 v4), ∀ a, (k0_off43 v4) a + S1.size a ≤ S32.size a := fun v4 k0_hw1 => k0_hw1.1.2.2.2.2.2.2.2.2.2.2.2.2.2.2.2.2.2.2.2.2.2.1
theorem k0_off45_inb : ∀ (v4 : BitVec 32) (k0_hw1 : k0_chk1 v4), ∀ a, (k0_off45 v4) a + S1.size a ≤ S32.size a := fun v4 k0_hw1 => k0_hw1.1.2.2.2.2.2.2.2.2.2.2.2.2.2.2.2.2.2.2.2.2.2.2.1
theorem k0_off47_inb : ∀ (v4 : BitVec 32) (k0_hw1 : k0_chk1 v4), ∀ a, (k0_off47 v4) a + S1.size a ≤ S32.size a := fun v4 k0_hw1 => k0_hw1.1.2.2.2.2.2.2.2.2.2.2.2.2.2.2.2.2.2.2.2.2.2.2.2.1
theorem k0_off49_inb : ∀ (v4 : BitVec 32) (k0_hw1 : k0_chk1 v4), ∀ a, (k0_off49 v4) a + S1.size a ≤ S32.size a := fun v4 k0_hw1 => k0_hw1.1.2.2.2.2.2.2.2.2.2.2.2.2.2.2.2.2.2.2.2.2.2.2.2.2.1
theorem k0_off51_inb : ∀ (v4 : BitVec 32) (k0_hw1 : k0_chk1 v4), ∀ a, (k0_off51 v4) a + S1.size a ≤ S32.size a := fun v4 k0_hw1 => k0_hw1.1.2.2.2.2.2.2.2.2.2.2.2.2.2.2.2.2.2.2.2.2.2.2.2.2.2.1
theorem k0_off53_inb : ∀ (v4 : BitVec 32) (k0_hw1 : k0_chk1 v4), ∀ a, (k0_off53 v4) a + S1.size a ≤ S32.size a := fun v4 k0_hw1 => k0_hw1.1.2.2.2.2.2.2.2.2.2.2.2.2.2.2.2.2.2.2.2.2.2.2.2.2.2.2.1
theorem k0_off55_inb : ∀ (v4 : BitVec 32) (k0_hw1 : k0_chk1 v4), ∀ a, (k0_off55 v4) a + S1.size a ≤ S32.size a := fun v4 k0_hw1 => k0_hw1.1.2.2.2.2.2.2.2.2.2.2.2.2.2.2.2.2.2.2.2.2.2.2.2.2.2.2.2.1
theorem k0_off57_inb : ∀ (v4 : BitVec 32) (k0_hw1 : k0_chk1 v4), ∀ a, (k0_off57 v4) a + S1.size a ≤ S32.size a := fun v4 k0_hw1 => k0_hw1.1.2.2.2.2.2.2.2.2.2.2.2.2.2.2.2.2.2.2.2.2.2.2.2.2.2.2.2.2.1
theorem k0_off59_inb : ∀ (v4 : BitVec 32) (k0_hw1 : k0_chk1 v4), ∀ a, (k0_off59 v4) a + S1.size a ≤ S32.size a := fun v4 k0_hw1 => k0_hw1.1.2.2.2.2.2.2.2.2.2.2.2.2.2.2.2.2.2.2.2.2.2.2.2.2.2.2.2.2.2.1
theorem k0_off61_inb : ∀ (v4 : BitVec 32) (k0_hw1 : k0_chk1 v4), ∀ a, (k0_off61 v4) a + S1.size a ≤ S32.size a := fun v4 k0_hw1 => k0_hw1.1.2.2.2.2.2.2.2.2.2.2.2.2.2.2.2.2.2.2.2.2.2.2.2.2.2.2.2.2.2.2.1
theorem k0_off63_inb : ∀ (v4 : BitVec 32) (k0_hw1 : k0_chk1 v4), ∀ a, (k0_off63 v4) a + S1.size a ≤ S32.size a := fun v4 k0_hw1 => k0_hw1.1.2.2.2.2.2.2.2.2.2.2.2.2.2.2.2.2.2.2.2.2.2.2.2.2.2.2.2.2.2.2.2
theorem k0_off65_inb : ∀ (v4 : BitVec 32) (k0_hw1 : k0_chk1 v4), ∀ a, (k0_off65 v4) a + S1.size a ≤ S32.size a := fun v4 k0_hw1 => k0_hw1.2

def k0_off66 (v2643 : BitVec 32) (c0_i32_3034 : BitVec 32) : Fin 2 → Nat :=
  let c128_i32_3033 : BitVec 32 := 128#32
  let v2649 : BitVec 32 := Scalar.muli v2643 c128_i32_3033
  let v2650 : BitVec 32 := Scalar.addi v2649 c0_i32_3034
  let v2651 : Index := Scalar.indexCast v2650
  let c0_3035 : Index := 0#32
  ![v2651.toNat, 0]

def k0_chk34 (v2643 : BitVec 32) : Prop :=
  (∀ (r : Fin 2), ∀ a, (k0_off66 v2643 (BitVec.ofNat 32 (64 * r.val))) a + S64x64.size a ≤ S4096x64.size a)
theorem k0_off66_inb : ∀ (v2643 : BitVec 32) (k0_hw34 : k0_chk34 v2643), ∀ (r : Fin 2), ∀ a, (k0_off66 v2643 (BitVec.ofNat 32 (64 * r.val))) a + S64x64.size a ≤ S4096x64.size a := fun v2643 k0_hw34 r => k0_hw34 r

def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_3116 : BitVec 32 := 0#32
  let v2714 : BitVec 1 := Scalar.cmpi .ne v2 c0_i32_3116
  let v2715 : BitVec 32 := Scalar.extui v2714
  let c0_i32_3117 : BitVec 32 := 0#32
  let v2716 : BitVec 1 := Scalar.cmpi .ne v2715 c0_i32_3117
  v2716

def k0_off67 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off68 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_3249 : BitVec 32 := 0#32
  let c0_i32_3250 : BitVec 32 := 0#32
  ![v2.toNat, 0, 0]
def k0_dev115 : Nat :=
  let c0_i32_3248 : BitVec 32 := 0#32
  let c0_i32_3246 : BitVec 32 := 0#32
  let c1_i32_3247 : BitVec 32 := 1#32
  let v2930 : BitVec 32 := Scalar.muli c0_i32_3246 c1_i32_3247
  let v2931 : BitVec 32 := Scalar.addi c0_i32_3248 v2930
  v2931.toNat
def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3118 : BitVec 32 := 1#32
  let v2717 : BitVec 1 := Scalar.cmpi .ne v2 c1_i32_3118
  let v2718 : BitVec 32 := Scalar.extui v2717
  let c0_i32_3119 : BitVec 32 := 0#32
  let v2719 : BitVec 1 := Scalar.cmpi .ne v2718 c0_i32_3119
  v2719

def k0_off69 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off70 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_3249 : BitVec 32 := 0#32
  let c0_i32_3250 : BitVec 32 := 0#32
  ![v2.toNat, 0, 0]
def k0_dev116 : Nat :=
  let c0_i32_3248 : BitVec 32 := 0#32
  let c1_i32_3246 : BitVec 32 := 1#32
  let c1_i32_3247 : BitVec 32 := 1#32
  let v2930 : BitVec 32 := Scalar.muli c1_i32_3246 c1_i32_3247
  let v2931 : BitVec 32 := Scalar.addi c0_i32_3248 v2930
  v2931.toNat
def k0_cond3 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_3120 : BitVec 32 := 2#32
  let v2720 : BitVec 1 := Scalar.cmpi .ne v2 c2_i32_3120
  let v2721 : BitVec 32 := Scalar.extui v2720
  let c0_i32_3121 : BitVec 32 := 0#32
  let v2722 : BitVec 1 := Scalar.cmpi .ne v2721 c0_i32_3121
  v2722

def k0_off71 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off72 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_3249 : BitVec 32 := 0#32
  let c0_i32_3250 : BitVec 32 := 0#32
  ![v2.toNat, 0, 0]
def k0_dev117 : Nat :=
  let c0_i32_3248 : BitVec 32 := 0#32
  let c2_i32_3246 : BitVec 32 := 2#32
  let c1_i32_3247 : BitVec 32 := 1#32
  let v2930 : BitVec 32 := Scalar.muli c2_i32_3246 c1_i32_3247
  let v2931 : BitVec 32 := Scalar.addi c0_i32_3248 v2930
  v2931.toNat
def k0_cond4 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_3122 : BitVec 32 := 3#32
  let v2723 : BitVec 1 := Scalar.cmpi .ne v2 c3_i32_3122
  let v2724 : BitVec 32 := Scalar.extui v2723
  let c0_i32_3123 : BitVec 32 := 0#32
  let v2725 : BitVec 1 := Scalar.cmpi .ne v2724 c0_i32_3123
  v2725

def k0_off73 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off74 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_3249 : BitVec 32 := 0#32
  let c0_i32_3250 : BitVec 32 := 0#32
  ![v2.toNat, 0, 0]
def k0_dev118 : Nat :=
  let c0_i32_3248 : BitVec 32 := 0#32
  let c3_i32_3246 : BitVec 32 := 3#32
  let c1_i32_3247 : BitVec 32 := 1#32
  let v2930 : BitVec 32 := Scalar.muli c3_i32_3246 c1_i32_3247
  let v2931 : BitVec 32 := Scalar.addi c0_i32_3248 v2930
  v2931.toNat
def k0_cond5 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_3124 : BitVec 32 := 4#32
  let v2726 : BitVec 1 := Scalar.cmpi .ne v2 c4_i32_3124
  let v2727 : BitVec 32 := Scalar.extui v2726
  let c0_i32_3125 : BitVec 32 := 0#32
  let v2728 : BitVec 1 := Scalar.cmpi .ne v2727 c0_i32_3125
  v2728

def k0_off75 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off76 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_3249 : BitVec 32 := 0#32
  let c0_i32_3250 : BitVec 32 := 0#32
  ![v2.toNat, 0, 0]
def k0_dev119 : Nat :=
  let c0_i32_3248 : BitVec 32 := 0#32
  let c4_i32_3246 : BitVec 32 := 4#32
  let c1_i32_3247 : BitVec 32 := 1#32
  let v2930 : BitVec 32 := Scalar.muli c4_i32_3246 c1_i32_3247
  let v2931 : BitVec 32 := Scalar.addi c0_i32_3248 v2930
  v2931.toNat
def k0_cond6 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_3126 : BitVec 32 := 5#32
  let v2729 : BitVec 1 := Scalar.cmpi .ne v2 c5_i32_3126
  let v2730 : BitVec 32 := Scalar.extui v2729
  let c0_i32_3127 : BitVec 32 := 0#32
  let v2731 : BitVec 1 := Scalar.cmpi .ne v2730 c0_i32_3127
  v2731

def k0_off77 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off78 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_3249 : BitVec 32 := 0#32
  let c0_i32_3250 : BitVec 32 := 0#32
  ![v2.toNat, 0, 0]
def k0_dev120 : Nat :=
  let c0_i32_3248 : BitVec 32 := 0#32
  let c5_i32_3246 : BitVec 32 := 5#32
  let c1_i32_3247 : BitVec 32 := 1#32
  let v2930 : BitVec 32 := Scalar.muli c5_i32_3246 c1_i32_3247
  let v2931 : BitVec 32 := Scalar.addi c0_i32_3248 v2930
  v2931.toNat
def k0_cond7 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_3128 : BitVec 32 := 6#32
  let v2732 : BitVec 1 := Scalar.cmpi .ne v2 c6_i32_3128
  let v2733 : BitVec 32 := Scalar.extui v2732
  let c0_i32_3129 : BitVec 32 := 0#32
  let v2734 : BitVec 1 := Scalar.cmpi .ne v2733 c0_i32_3129
  v2734

def k0_off79 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off80 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_3249 : BitVec 32 := 0#32
  let c0_i32_3250 : BitVec 32 := 0#32
  ![v2.toNat, 0, 0]
def k0_dev121 : Nat :=
  let c0_i32_3248 : BitVec 32 := 0#32
  let c6_i32_3246 : BitVec 32 := 6#32
  let c1_i32_3247 : BitVec 32 := 1#32
  let v2930 : BitVec 32 := Scalar.muli c6_i32_3246 c1_i32_3247
  let v2931 : BitVec 32 := Scalar.addi c0_i32_3248 v2930
  v2931.toNat
def k0_cond8 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_3130 : BitVec 32 := 7#32
  let v2735 : BitVec 1 := Scalar.cmpi .ne v2 c7_i32_3130
  let v2736 : BitVec 32 := Scalar.extui v2735
  let c0_i32_3131 : BitVec 32 := 0#32
  let v2737 : BitVec 1 := Scalar.cmpi .ne v2736 c0_i32_3131
  v2737

def k0_off81 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off82 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_3249 : BitVec 32 := 0#32
  let c0_i32_3250 : BitVec 32 := 0#32
  ![v2.toNat, 0, 0]
def k0_dev122 : Nat :=
  let c0_i32_3248 : BitVec 32 := 0#32
  let c7_i32_3246 : BitVec 32 := 7#32
  let c1_i32_3247 : BitVec 32 := 1#32
  let v2930 : BitVec 32 := Scalar.muli c7_i32_3246 c1_i32_3247
  let v2931 : BitVec 32 := Scalar.addi c0_i32_3248 v2930
  v2931.toNat
def k0_cond9 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_3132 : BitVec 32 := 8#32
  let v2738 : BitVec 1 := Scalar.cmpi .ne v2 c8_i32_3132
  let v2739 : BitVec 32 := Scalar.extui v2738
  let c0_i32_3133 : BitVec 32 := 0#32
  let v2740 : BitVec 1 := Scalar.cmpi .ne v2739 c0_i32_3133
  v2740

def k0_off83 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off84 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_3249 : BitVec 32 := 0#32
  let c0_i32_3250 : BitVec 32 := 0#32
  ![v2.toNat, 0, 0]
def k0_dev123 : Nat :=
  let c0_i32_3248 : BitVec 32 := 0#32
  let c8_i32_3246 : BitVec 32 := 8#32
  let c1_i32_3247 : BitVec 32 := 1#32
  let v2930 : BitVec 32 := Scalar.muli c8_i32_3246 c1_i32_3247
  let v2931 : BitVec 32 := Scalar.addi c0_i32_3248 v2930
  v2931.toNat
def k0_cond10 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_3134 : BitVec 32 := 9#32
  let v2741 : BitVec 1 := Scalar.cmpi .ne v2 c9_i32_3134
  let v2742 : BitVec 32 := Scalar.extui v2741
  let c0_i32_3135 : BitVec 32 := 0#32
  let v2743 : BitVec 1 := Scalar.cmpi .ne v2742 c0_i32_3135
  v2743

def k0_off85 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off86 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_3249 : BitVec 32 := 0#32
  let c0_i32_3250 : BitVec 32 := 0#32
  ![v2.toNat, 0, 0]
def k0_dev124 : Nat :=
  let c0_i32_3248 : BitVec 32 := 0#32
  let c9_i32_3246 : BitVec 32 := 9#32
  let c1_i32_3247 : BitVec 32 := 1#32
  let v2930 : BitVec 32 := Scalar.muli c9_i32_3246 c1_i32_3247
  let v2931 : BitVec 32 := Scalar.addi c0_i32_3248 v2930
  v2931.toNat
def k0_cond11 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_3136 : BitVec 32 := 10#32
  let v2744 : BitVec 1 := Scalar.cmpi .ne v2 c10_i32_3136
  let v2745 : BitVec 32 := Scalar.extui v2744
  let c0_i32_3137 : BitVec 32 := 0#32
  let v2746 : BitVec 1 := Scalar.cmpi .ne v2745 c0_i32_3137
  v2746

def k0_off87 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off88 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_3249 : BitVec 32 := 0#32
  let c0_i32_3250 : BitVec 32 := 0#32
  ![v2.toNat, 0, 0]
def k0_dev125 : Nat :=
  let c0_i32_3248 : BitVec 32 := 0#32
  let c10_i32_3246 : BitVec 32 := 10#32
  let c1_i32_3247 : BitVec 32 := 1#32
  let v2930 : BitVec 32 := Scalar.muli c10_i32_3246 c1_i32_3247
  let v2931 : BitVec 32 := Scalar.addi c0_i32_3248 v2930
  v2931.toNat
def k0_cond12 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_3138 : BitVec 32 := 11#32
  let v2747 : BitVec 1 := Scalar.cmpi .ne v2 c11_i32_3138
  let v2748 : BitVec 32 := Scalar.extui v2747
  let c0_i32_3139 : BitVec 32 := 0#32
  let v2749 : BitVec 1 := Scalar.cmpi .ne v2748 c0_i32_3139
  v2749

def k0_off89 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off90 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_3249 : BitVec 32 := 0#32
  let c0_i32_3250 : BitVec 32 := 0#32
  ![v2.toNat, 0, 0]
def k0_dev126 : Nat :=
  let c0_i32_3248 : BitVec 32 := 0#32
  let c11_i32_3246 : BitVec 32 := 11#32
  let c1_i32_3247 : BitVec 32 := 1#32
  let v2930 : BitVec 32 := Scalar.muli c11_i32_3246 c1_i32_3247
  let v2931 : BitVec 32 := Scalar.addi c0_i32_3248 v2930
  v2931.toNat
def k0_cond13 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_3140 : BitVec 32 := 12#32
  let v2750 : BitVec 1 := Scalar.cmpi .ne v2 c12_i32_3140
  let v2751 : BitVec 32 := Scalar.extui v2750
  let c0_i32_3141 : BitVec 32 := 0#32
  let v2752 : BitVec 1 := Scalar.cmpi .ne v2751 c0_i32_3141
  v2752

def k0_off91 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off92 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_3249 : BitVec 32 := 0#32
  let c0_i32_3250 : BitVec 32 := 0#32
  ![v2.toNat, 0, 0]
def k0_dev127 : Nat :=
  let c0_i32_3248 : BitVec 32 := 0#32
  let c12_i32_3246 : BitVec 32 := 12#32
  let c1_i32_3247 : BitVec 32 := 1#32
  let v2930 : BitVec 32 := Scalar.muli c12_i32_3246 c1_i32_3247
  let v2931 : BitVec 32 := Scalar.addi c0_i32_3248 v2930
  v2931.toNat
def k0_cond14 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_3142 : BitVec 32 := 13#32
  let v2753 : BitVec 1 := Scalar.cmpi .ne v2 c13_i32_3142
  let v2754 : BitVec 32 := Scalar.extui v2753
  let c0_i32_3143 : BitVec 32 := 0#32
  let v2755 : BitVec 1 := Scalar.cmpi .ne v2754 c0_i32_3143
  v2755

def k0_off93 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off94 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_3249 : BitVec 32 := 0#32
  let c0_i32_3250 : BitVec 32 := 0#32
  ![v2.toNat, 0, 0]
def k0_dev128 : Nat :=
  let c0_i32_3248 : BitVec 32 := 0#32
  let c13_i32_3246 : BitVec 32 := 13#32
  let c1_i32_3247 : BitVec 32 := 1#32
  let v2930 : BitVec 32 := Scalar.muli c13_i32_3246 c1_i32_3247
  let v2931 : BitVec 32 := Scalar.addi c0_i32_3248 v2930
  v2931.toNat
def k0_cond15 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_3144 : BitVec 32 := 14#32
  let v2756 : BitVec 1 := Scalar.cmpi .ne v2 c14_i32_3144
  let v2757 : BitVec 32 := Scalar.extui v2756
  let c0_i32_3145 : BitVec 32 := 0#32
  let v2758 : BitVec 1 := Scalar.cmpi .ne v2757 c0_i32_3145
  v2758

def k0_off95 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off96 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_3249 : BitVec 32 := 0#32
  let c0_i32_3250 : BitVec 32 := 0#32
  ![v2.toNat, 0, 0]
def k0_dev129 : Nat :=
  let c0_i32_3248 : BitVec 32 := 0#32
  let c14_i32_3246 : BitVec 32 := 14#32
  let c1_i32_3247 : BitVec 32 := 1#32
  let v2930 : BitVec 32 := Scalar.muli c14_i32_3246 c1_i32_3247
  let v2931 : BitVec 32 := Scalar.addi c0_i32_3248 v2930
  v2931.toNat
def k0_cond16 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_3146 : BitVec 32 := 15#32
  let v2759 : BitVec 1 := Scalar.cmpi .ne v2 c15_i32_3146
  let v2760 : BitVec 32 := Scalar.extui v2759
  let c0_i32_3147 : BitVec 32 := 0#32
  let v2761 : BitVec 1 := Scalar.cmpi .ne v2760 c0_i32_3147
  v2761

def k0_off97 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off98 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_3249 : BitVec 32 := 0#32
  let c0_i32_3250 : BitVec 32 := 0#32
  ![v2.toNat, 0, 0]
def k0_dev130 : Nat :=
  let c0_i32_3248 : BitVec 32 := 0#32
  let c15_i32_3246 : BitVec 32 := 15#32
  let c1_i32_3247 : BitVec 32 := 1#32
  let v2930 : BitVec 32 := Scalar.muli c15_i32_3246 c1_i32_3247
  let v2931 : BitVec 32 := Scalar.addi c0_i32_3248 v2930
  v2931.toNat
def k0_cond17 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v2762 : BitVec 1 := Scalar.cmpi .ne v2 c16_i32
  let v2763 : BitVec 32 := Scalar.extui v2762
  let c0_i32_3148 : BitVec 32 := 0#32
  let v2764 : BitVec 1 := Scalar.cmpi .ne v2763 c0_i32_3148
  v2764

def k0_off99 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off100 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_3249 : BitVec 32 := 0#32
  let c0_i32_3250 : BitVec 32 := 0#32
  ![v2.toNat, 0, 0]
def k0_dev131 : Nat :=
  let c0_i32_3248 : BitVec 32 := 0#32
  let c16_i32_3246 : BitVec 32 := 16#32
  let c1_i32_3247 : BitVec 32 := 1#32
  let v2930 : BitVec 32 := Scalar.muli c16_i32_3246 c1_i32_3247
  let v2931 : BitVec 32 := Scalar.addi c0_i32_3248 v2930
  v2931.toNat
def k0_cond18 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v2765 : BitVec 1 := Scalar.cmpi .ne v2 c17_i32
  let v2766 : BitVec 32 := Scalar.extui v2765
  let c0_i32_3149 : BitVec 32 := 0#32
  let v2767 : BitVec 1 := Scalar.cmpi .ne v2766 c0_i32_3149
  v2767

def k0_off101 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off102 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_3249 : BitVec 32 := 0#32
  let c0_i32_3250 : BitVec 32 := 0#32
  ![v2.toNat, 0, 0]
def k0_dev132 : Nat :=
  let c0_i32_3248 : BitVec 32 := 0#32
  let c17_i32_3246 : BitVec 32 := 17#32
  let c1_i32_3247 : BitVec 32 := 1#32
  let v2930 : BitVec 32 := Scalar.muli c17_i32_3246 c1_i32_3247
  let v2931 : BitVec 32 := Scalar.addi c0_i32_3248 v2930
  v2931.toNat
def k0_cond19 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v2768 : BitVec 1 := Scalar.cmpi .ne v2 c18_i32
  let v2769 : BitVec 32 := Scalar.extui v2768
  let c0_i32_3150 : BitVec 32 := 0#32
  let v2770 : BitVec 1 := Scalar.cmpi .ne v2769 c0_i32_3150
  v2770

def k0_off103 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off104 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_3249 : BitVec 32 := 0#32
  let c0_i32_3250 : BitVec 32 := 0#32
  ![v2.toNat, 0, 0]
def k0_dev133 : Nat :=
  let c0_i32_3248 : BitVec 32 := 0#32
  let c18_i32_3246 : BitVec 32 := 18#32
  let c1_i32_3247 : BitVec 32 := 1#32
  let v2930 : BitVec 32 := Scalar.muli c18_i32_3246 c1_i32_3247
  let v2931 : BitVec 32 := Scalar.addi c0_i32_3248 v2930
  v2931.toNat
def k0_cond20 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v2771 : BitVec 1 := Scalar.cmpi .ne v2 c19_i32
  let v2772 : BitVec 32 := Scalar.extui v2771
  let c0_i32_3151 : BitVec 32 := 0#32
  let v2773 : BitVec 1 := Scalar.cmpi .ne v2772 c0_i32_3151
  v2773

def k0_off105 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off106 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_3249 : BitVec 32 := 0#32
  let c0_i32_3250 : BitVec 32 := 0#32
  ![v2.toNat, 0, 0]
def k0_dev134 : Nat :=
  let c0_i32_3248 : BitVec 32 := 0#32
  let c19_i32_3246 : BitVec 32 := 19#32
  let c1_i32_3247 : BitVec 32 := 1#32
  let v2930 : BitVec 32 := Scalar.muli c19_i32_3246 c1_i32_3247
  let v2931 : BitVec 32 := Scalar.addi c0_i32_3248 v2930
  v2931.toNat
def k0_cond21 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v2774 : BitVec 1 := Scalar.cmpi .ne v2 c20_i32
  let v2775 : BitVec 32 := Scalar.extui v2774
  let c0_i32_3152 : BitVec 32 := 0#32
  let v2776 : BitVec 1 := Scalar.cmpi .ne v2775 c0_i32_3152
  v2776

def k0_off107 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off108 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_3249 : BitVec 32 := 0#32
  let c0_i32_3250 : BitVec 32 := 0#32
  ![v2.toNat, 0, 0]
def k0_dev135 : Nat :=
  let c0_i32_3248 : BitVec 32 := 0#32
  let c20_i32_3246 : BitVec 32 := 20#32
  let c1_i32_3247 : BitVec 32 := 1#32
  let v2930 : BitVec 32 := Scalar.muli c20_i32_3246 c1_i32_3247
  let v2931 : BitVec 32 := Scalar.addi c0_i32_3248 v2930
  v2931.toNat
def k0_cond22 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v2777 : BitVec 1 := Scalar.cmpi .ne v2 c21_i32
  let v2778 : BitVec 32 := Scalar.extui v2777
  let c0_i32_3153 : BitVec 32 := 0#32
  let v2779 : BitVec 1 := Scalar.cmpi .ne v2778 c0_i32_3153
  v2779

def k0_off109 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off110 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_3249 : BitVec 32 := 0#32
  let c0_i32_3250 : BitVec 32 := 0#32
  ![v2.toNat, 0, 0]
def k0_dev136 : Nat :=
  let c0_i32_3248 : BitVec 32 := 0#32
  let c21_i32_3246 : BitVec 32 := 21#32
  let c1_i32_3247 : BitVec 32 := 1#32
  let v2930 : BitVec 32 := Scalar.muli c21_i32_3246 c1_i32_3247
  let v2931 : BitVec 32 := Scalar.addi c0_i32_3248 v2930
  v2931.toNat
def k0_cond23 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v2780 : BitVec 1 := Scalar.cmpi .ne v2 c22_i32
  let v2781 : BitVec 32 := Scalar.extui v2780
  let c0_i32_3154 : BitVec 32 := 0#32
  let v2782 : BitVec 1 := Scalar.cmpi .ne v2781 c0_i32_3154
  v2782

def k0_off111 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off112 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_3249 : BitVec 32 := 0#32
  let c0_i32_3250 : BitVec 32 := 0#32
  ![v2.toNat, 0, 0]
def k0_dev137 : Nat :=
  let c0_i32_3248 : BitVec 32 := 0#32
  let c22_i32_3246 : BitVec 32 := 22#32
  let c1_i32_3247 : BitVec 32 := 1#32
  let v2930 : BitVec 32 := Scalar.muli c22_i32_3246 c1_i32_3247
  let v2931 : BitVec 32 := Scalar.addi c0_i32_3248 v2930
  v2931.toNat
def k0_cond24 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v2783 : BitVec 1 := Scalar.cmpi .ne v2 c23_i32
  let v2784 : BitVec 32 := Scalar.extui v2783
  let c0_i32_3155 : BitVec 32 := 0#32
  let v2785 : BitVec 1 := Scalar.cmpi .ne v2784 c0_i32_3155
  v2785

def k0_off113 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off114 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_3249 : BitVec 32 := 0#32
  let c0_i32_3250 : BitVec 32 := 0#32
  ![v2.toNat, 0, 0]
def k0_dev138 : Nat :=
  let c0_i32_3248 : BitVec 32 := 0#32
  let c23_i32_3246 : BitVec 32 := 23#32
  let c1_i32_3247 : BitVec 32 := 1#32
  let v2930 : BitVec 32 := Scalar.muli c23_i32_3246 c1_i32_3247
  let v2931 : BitVec 32 := Scalar.addi c0_i32_3248 v2930
  v2931.toNat
def k0_cond25 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v2786 : BitVec 1 := Scalar.cmpi .ne v2 c24_i32
  let v2787 : BitVec 32 := Scalar.extui v2786
  let c0_i32_3156 : BitVec 32 := 0#32
  let v2788 : BitVec 1 := Scalar.cmpi .ne v2787 c0_i32_3156
  v2788

def k0_off115 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off116 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_3249 : BitVec 32 := 0#32
  let c0_i32_3250 : BitVec 32 := 0#32
  ![v2.toNat, 0, 0]
def k0_dev139 : Nat :=
  let c0_i32_3248 : BitVec 32 := 0#32
  let c24_i32_3246 : BitVec 32 := 24#32
  let c1_i32_3247 : BitVec 32 := 1#32
  let v2930 : BitVec 32 := Scalar.muli c24_i32_3246 c1_i32_3247
  let v2931 : BitVec 32 := Scalar.addi c0_i32_3248 v2930
  v2931.toNat
def k0_cond26 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v2789 : BitVec 1 := Scalar.cmpi .ne v2 c25_i32
  let v2790 : BitVec 32 := Scalar.extui v2789
  let c0_i32_3157 : BitVec 32 := 0#32
  let v2791 : BitVec 1 := Scalar.cmpi .ne v2790 c0_i32_3157
  v2791

def k0_off117 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off118 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_3249 : BitVec 32 := 0#32
  let c0_i32_3250 : BitVec 32 := 0#32
  ![v2.toNat, 0, 0]
def k0_dev140 : Nat :=
  let c0_i32_3248 : BitVec 32 := 0#32
  let c25_i32_3246 : BitVec 32 := 25#32
  let c1_i32_3247 : BitVec 32 := 1#32
  let v2930 : BitVec 32 := Scalar.muli c25_i32_3246 c1_i32_3247
  let v2931 : BitVec 32 := Scalar.addi c0_i32_3248 v2930
  v2931.toNat
def k0_cond27 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v2792 : BitVec 1 := Scalar.cmpi .ne v2 c26_i32
  let v2793 : BitVec 32 := Scalar.extui v2792
  let c0_i32_3158 : BitVec 32 := 0#32
  let v2794 : BitVec 1 := Scalar.cmpi .ne v2793 c0_i32_3158
  v2794

def k0_off119 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off120 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_3249 : BitVec 32 := 0#32
  let c0_i32_3250 : BitVec 32 := 0#32
  ![v2.toNat, 0, 0]
def k0_dev141 : Nat :=
  let c0_i32_3248 : BitVec 32 := 0#32
  let c26_i32_3246 : BitVec 32 := 26#32
  let c1_i32_3247 : BitVec 32 := 1#32
  let v2930 : BitVec 32 := Scalar.muli c26_i32_3246 c1_i32_3247
  let v2931 : BitVec 32 := Scalar.addi c0_i32_3248 v2930
  v2931.toNat
def k0_cond28 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v2795 : BitVec 1 := Scalar.cmpi .ne v2 c27_i32
  let v2796 : BitVec 32 := Scalar.extui v2795
  let c0_i32_3159 : BitVec 32 := 0#32
  let v2797 : BitVec 1 := Scalar.cmpi .ne v2796 c0_i32_3159
  v2797

def k0_off121 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off122 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_3249 : BitVec 32 := 0#32
  let c0_i32_3250 : BitVec 32 := 0#32
  ![v2.toNat, 0, 0]
def k0_dev142 : Nat :=
  let c0_i32_3248 : BitVec 32 := 0#32
  let c27_i32_3246 : BitVec 32 := 27#32
  let c1_i32_3247 : BitVec 32 := 1#32
  let v2930 : BitVec 32 := Scalar.muli c27_i32_3246 c1_i32_3247
  let v2931 : BitVec 32 := Scalar.addi c0_i32_3248 v2930
  v2931.toNat
def k0_cond29 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v2798 : BitVec 1 := Scalar.cmpi .ne v2 c28_i32
  let v2799 : BitVec 32 := Scalar.extui v2798
  let c0_i32_3160 : BitVec 32 := 0#32
  let v2800 : BitVec 1 := Scalar.cmpi .ne v2799 c0_i32_3160
  v2800

def k0_off123 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off124 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_3249 : BitVec 32 := 0#32
  let c0_i32_3250 : BitVec 32 := 0#32
  ![v2.toNat, 0, 0]
def k0_dev143 : Nat :=
  let c0_i32_3248 : BitVec 32 := 0#32
  let c28_i32_3246 : BitVec 32 := 28#32
  let c1_i32_3247 : BitVec 32 := 1#32
  let v2930 : BitVec 32 := Scalar.muli c28_i32_3246 c1_i32_3247
  let v2931 : BitVec 32 := Scalar.addi c0_i32_3248 v2930
  v2931.toNat
def k0_cond30 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v2801 : BitVec 1 := Scalar.cmpi .ne v2 c29_i32
  let v2802 : BitVec 32 := Scalar.extui v2801
  let c0_i32_3161 : BitVec 32 := 0#32
  let v2803 : BitVec 1 := Scalar.cmpi .ne v2802 c0_i32_3161
  v2803

def k0_off125 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off126 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_3249 : BitVec 32 := 0#32
  let c0_i32_3250 : BitVec 32 := 0#32
  ![v2.toNat, 0, 0]
def k0_dev144 : Nat :=
  let c0_i32_3248 : BitVec 32 := 0#32
  let c29_i32_3246 : BitVec 32 := 29#32
  let c1_i32_3247 : BitVec 32 := 1#32
  let v2930 : BitVec 32 := Scalar.muli c29_i32_3246 c1_i32_3247
  let v2931 : BitVec 32 := Scalar.addi c0_i32_3248 v2930
  v2931.toNat
def k0_cond31 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v2804 : BitVec 1 := Scalar.cmpi .ne v2 c30_i32
  let v2805 : BitVec 32 := Scalar.extui v2804
  let c0_i32_3162 : BitVec 32 := 0#32
  let v2806 : BitVec 1 := Scalar.cmpi .ne v2805 c0_i32_3162
  v2806

def k0_off127 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off128 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_3249 : BitVec 32 := 0#32
  let c0_i32_3250 : BitVec 32 := 0#32
  ![v2.toNat, 0, 0]
def k0_dev145 : Nat :=
  let c0_i32_3248 : BitVec 32 := 0#32
  let c30_i32_3246 : BitVec 32 := 30#32
  let c1_i32_3247 : BitVec 32 := 1#32
  let v2930 : BitVec 32 := Scalar.muli c30_i32_3246 c1_i32_3247
  let v2931 : BitVec 32 := Scalar.addi c0_i32_3248 v2930
  v2931.toNat
def k0_cond32 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v2807 : BitVec 1 := Scalar.cmpi .ne v2 c31_i32
  let v2808 : BitVec 32 := Scalar.extui v2807
  let c0_i32_3163 : BitVec 32 := 0#32
  let v2809 : BitVec 1 := Scalar.cmpi .ne v2808 c0_i32_3163
  v2809

def k0_off129 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off130 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_3249 : BitVec 32 := 0#32
  let c0_i32_3250 : BitVec 32 := 0#32
  ![v2.toNat, 0, 0]
def k0_dev146 : Nat :=
  let c0_i32_3248 : BitVec 32 := 0#32
  let c31_i32_3246 : BitVec 32 := 31#32
  let c1_i32_3247 : BitVec 32 := 1#32
  let v2930 : BitVec 32 := Scalar.muli c31_i32_3246 c1_i32_3247
  let v2931 : BitVec 32 := Scalar.addi c0_i32_3248 v2930
  v2931.toNat
def k0_off131 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2811 : Index := Scalar.indexCast v2
  let c0_3167 : Index := 0#32
  let c0_3168 : Index := 0#32
  ![v2811.toNat, 0, 0]
abbrev stage0_0 : Fin 1 → Memref sig .tc .vmem S128x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S32 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S32 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1x4096x2048 : Shape := ⟨3, ![1, 4096, 2048]⟩
abbrev S1 : Shape := ⟨1, ![1]⟩
abbrev S1x1x1 : Shape := ⟨3, ![1, 1, 1]⟩

abbrev nBuf : Space → Nat
  | .hbm => 4
  | .vmem => 2
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S4096x2048, .f32⟩
  | .local _ .vmem, ⟨0, _⟩ => ⟨S4096x2048, .f32⟩
  | .local _ .vmem, ⟨1, _⟩ => ⟨S4096x2048, .f32⟩
  | _, _ => ⟨S4096x4096, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S4096x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Prog.lean ====
module

public import proofs.«01_k».proof.Proof.Gen.KernelIdeal.Skeleton

@[expose] public section

noncomputable section

namespace Cert.KernelIdeal.Tidy

open Idealize.ShloMosaic Idealize.ShloMosaic.TcCoe Idealize.SL.Sem
open Cert.KernelIdeal.Gen

variable {F : FTy → Type} [FloatOps F]

/-- A program of one core of the kernel that answers nothing. -/
abbrev PR (F : FTy → Type) [FloatOps F] (α : Type) : Type 1 := Prog (TpuEff nD τ sig (Elt F) Λ₀ .tc) α

/-- The buffers and semaphores one core of the kernel names: its blocks, the two
    rings' landing buffers and semaphores, and those of the exchange of maxima. -/
structure Env where
  x : Memref sig .tc .vmem S128x4096 .f32
  w : Memref sig .tc .vmem S4096x64 .f32
  r2m : Memref sig .tc .smem S32 .i32
  m2r : Memref sig .tc .smem S32 .i32
  out : Memref sig .tc .vmem S4096x64 .f32
  comm : Bool → Memref sig .tc .vmem S4x128x4096 .f32
  ss : Bool → DmaSems sig S4x2
  rs : Bool → DmaSems sig S4x2
  cr : Bool → Fin 2 → Sems sig S_
  ms : Memref sig .tc .vmem S1x8x128 .f32
  mb : Memref sig .tc .vmem S32x8x128 .f32
  mss : DmaSems sig S32
  mrs : DmaSems sig S32

/-- Half `t` of slot `k` lies within a landing buffer. -/
theorem slot_inb (k : Fin 4) (t : Fin 2) :
    ∀ a, (![k.val, 64 * t.val, 0] : Fin 3 → ℕ) a + S1x64x4096.size a ≤ S4x128x4096.size a := by
  revert k t; decide

/-- Half `t` lies within a block of `x`. -/
theorem xhalf_inb (t : Fin 2) : ∀ a, (![64 * t.val, 0] : Fin 2 → ℕ) a + S64x4096.size a ≤ S128x4096.size a := by
  revert t; decide

/-- The semaphore of slot `k`, half `t` lies within its array. -/
theorem sem_inb (k : Fin 4) (t : Fin 2) : ∀ a, (![k.val, t.val] : Fin 2 → ℕ) a + S1x1.size a ≤ S4x2.size a := by
  revert k t; decide

/-- Half `t` of slot `k` of a landing buffer. -/
def slotV (m : Memref sig .tc .vmem S4x128x4096 .f32) (k : Fin 4) (t : Fin 2) : Memref sig .tc .vmem S64x4096 .f32 :=
  (m.slice (Rect.unit (s := S4x128x4096) ![k.val, 64 * t.val, 0] S1x64x4096.size (slot_inb k t)) (fun _ => rfl)).squeeze
    S64x4096 squeezes_S1x64x4096_S64x4096

/-- Half `t` of the device's own block of `x`. -/
def xV (m : Memref sig .tc .vmem S128x4096 .f32) (t : Fin 2) : Memref sig .tc .vmem S64x4096 .f32 :=
  m.slice (Rect.unit (s := S128x4096) ![64 * t.val, 0] S64x4096.size (xhalf_inb t)) (fun _ => rfl)

/-- The semaphore of slot `k`, half `t`. -/
def semV (s : DmaSems sig S4x2) (k : Fin 4) (t : Fin 2) : DmaSems sig S_ :=
  (s.slice (Rect.unit (s := S4x2) ![k.val, t.val] S1x1.size (sem_inb k t))).squeeze S_ squeezes_S1x1_S_

/-- The slot copy `j` reads from, or the one copy `j - 1` lands in. -/
def slotIx (j : ℕ) : Fin 4 := ⟨j % 4, Nat.mod_lt _ (by decide)⟩

/-- What copy `j` of half `t` reads: the device's own block first, then the slot the copy
    before it landed in. -/
def srcV (E : Env) (d : Bool) (j : ℕ) (t : Fin 2) : Memref sig .tc .vmem S64x4096 .f32 :=
  match j with
  | 0 => xV E.x t
  | j + 1 => slotV (E.comm d) (slotIx (j + 1)) t

/-- Where copy `j` of half `t` lands. -/
def dstV (E : Env) (d : Bool) (j : ℕ) (t : Fin 2) : Memref sig .tc .vmem S64x4096 .f32 :=
  slotV (E.comm d) (slotIx (j + 1)) t

theorem slotV_wordExact (m : Memref sig .tc .vmem S4x128x4096 .f32) (k : Fin 4) (t : Fin 2) : (slotV m k t).view.WordExact :=
  (View.wordExact_bits rfl).reshape _ _

theorem xV_wordExact (m : Memref sig .tc .vmem S128x4096 .f32) (t : Fin 2) : (xV m t).view.WordExact := View.wordExact_bits rfl

theorem srcV_wordExact (E : Env) (d : Bool) (j : ℕ) (t : Fin 2) : (srcV E d j t).view.WordExact := by
  cases j
  · exact xV_wordExact _ _
  · exact slotV_wordExact _ _ _

theorem dstV_wordExact (E : Env) (d : Bool) (j : ℕ) (t : Fin 2) : (dstV E d j t).view.WordExact := slotV_wordExact _ _ _

/-- Start copy `j` of half `t` to the neighbour. -/
def send (E : Env) (d : Bool) (nb : Dev nD) (j : ℕ) (t : Fin 2) {α : Type} (k : PR F α) : PR F α :=
  .op (.enqueueDma (srcV E d j t) (.remote (Dev.tc nb) (dstV E d j t) (.dma (semV (E.ss d) (slotIx j) t).sem))
    (.dma (semV (E.rs d) (slotIx (j + 1)) t).sem) (srcV_wordExact E d j t) (dstV_wordExact E d j t)
    ⟨⟨rfl, Or.inl rfl⟩, trivial⟩) fun _ => k

/-- Wait for copy `j` of half `t` to land here. -/
def waitRecv (E : Env) (d : Bool) (j : ℕ) (t : Fin 2) {α : Type} (k : PR F α) : PR F α :=
  .op (.waitDma2 (semV (E.rs d) (slotIx (j + 1)) t).sem (srcV E d j t) (dstV E d j t) (srcV_wordExact E d j t) (dstV_wordExact E d j t))
    fun _ => k

/-- Wait for copy `j` of half `t` to have left. -/
def waitSend (E : Env) (d : Bool) (j : ℕ) (t : Fin 2) {α : Type} (k : PR F α) : PR F α :=
  .op (.waitDma2 (semV (E.ss d) (slotIx j) t).sem (dstV E d j t) (srcV E d j t) (dstV_wordExact E d j t) (srcV_wordExact E d j t))
    fun _ => k

/-- Give one credit of half `t` to the neighbour. -/
def giveCredit (E : Env) (d : Bool) (nb : Dev nD) (t : Fin 2) {α : Type} (k : PR F α) : PR F α :=
  .op (.semSignal (Dev.tc nb) (E.cr d t).sem (1#32).toInt) fun _ => k

/-- Wait for one credit of half `t`. -/
def waitCredit (E : Env) (d : Bool) (t : Fin 2) {α : Type} (k : PR F α) : PR F α :=
  .op (.semWait (E.cr d t).sem (1#32).toInt) fun _ => k

/-- The product of half a block of `x` with the device's columns of `w`. -/
def mm (x : FVec F S64x4096 .f32) (w : Vec F S4096x64 .f32) : FVec F S64x64 .f32 :=
  matmul dot_S64x4096_S4096x64_S64x64_1_0_0_1_n_n none x (shapeCast S4096x64 w shapeCasts_S4096x64_S4096x64)
    (constant S64x64 .f32 0x00000000#32)

/-- The largest magnitude so far, with those of `v`. -/
def amax (a : F .f32) (v : FVec F S64x64 .f32) : F .f32 :=
  Scalar.maximumf a (extractAt ![0, 0, 0] (shapeCast S1x1x1
    (multiReduction .maximumf [1, 2] S1 (shapeCast S1x64x64 (absf v) shapeCasts_S64x64_S1x64x64) 0xFF800000#32
      reduces_S1x64x64_S1 (.inl rfl) rfl) shapeCasts_S1_S1x1x1) inpos_S1x1x1_p0_0_0)

/-- Multiply half a block by the columns of `w`, store the product's rows and go on with the
    largest magnitude. -/
def gemmTail (E : Env) (x : FVec F S64x4096 .f32) (off : Fin 2 → ℕ) (h : ∀ a, off a + S64x64.size a ≤ S4096x64.size a)
    (a : F .f32) {α : Type} (k : F .f32 → PR F α) : PR F α :=
  .op (.load E.w (Rect.unit (s := S4096x64) ![0, 0] S4096x64.size inb_S4096x64_S4096x64_0_0).toLoadRect (View.loadsAt_vmem h_S4096x64)) fun w =>
  .op (.load E.out (Rect.unit (s := S4096x64) off S64x64.size h).toLoadRect (View.loadsAt_vmem h_S64x64)) fun _ =>
  .op (.store E.out (Rect.unit (s := S4096x64) off S64x64.size h) (mm x w) Finset.univ (View.stores_vmem_bits_univ h_S64x64 rfl) (.inl rfl)) fun _ =>
  k (amax a (mm x w))

/-- The product of half `t` of the device's own block. -/
def gemmOwn (E : Env) (t : Fin 2) (off : Fin 2 → ℕ) (h : ∀ a, off a + S64x64.size a ≤ S4096x64.size a)
    (a : F .f32) {α : Type} (k : F .f32 → PR F α) : PR F α :=
  .op (.load E.x (Rect.unit (s := S128x4096) ![64 * t.val, 0] S64x4096.size (xhalf_inb t)).toLoadRect (View.loadsAt_vmem h_S64x4096)) fun x =>
  gemmTail E (shapeCast S64x4096 x shapeCasts_S64x4096_S64x4096) off h a k

/-- The product of half `t` of the block standing in slot `i`. -/
def gemmSlot (E : Env) (d : Bool) (i : Fin 4) (t : Fin 2) (off : Fin 2 → ℕ) (h : ∀ a, off a + S64x64.size a ≤ S4096x64.size a)
    (a : F .f32) {α : Type} (k : F .f32 → PR F α) : PR F α :=
  .op (.load (E.comm d) (Rect.unit (s := S4x128x4096) ![i.val, 64 * t.val, 0] S1x64x4096.size (slot_inb i t)).toLoadRect
    (View.loadsAt_vmem h_S1x64x4096)) fun x =>
  gemmTail E (shapeCast S64x4096 x shapeCasts_S1x64x4096_S64x4096) off h a k

/-- Read one word of the table of mesh positions. -/
def readTab (m : Memref sig .tc .smem S32 .i32) (off : Fin 1 → ℕ) (h : ∀ a, off a + S1.size a ≤ S32.size a)
    {α : Type} (k : Elt F .i32 → PR F α) : PR F α :=
  .op (.load m (Rect.unit (s := S32) off S1.size h).toLoadRect (View.loadsAt_rect (View.loads_smem_one rfl numel1_S1)))
    fun f => k (f (Shape.Idx.first (numel1_S1.symm ▸ Nat.one_pos)))

/-- Go on once the proposition is shown. -/
def check (P : Prop) (D : Decidable P) {α : Type} (k : P → PR F α) : PR F α :=
  .op (.assume P D) fun h => k h.down

/-- Do the piece when the condition holds, and go on. -/
def when (b : Bool) {α : Type} (f : PR F α → PR F α) (k : PR F α) : PR F α := match b with
  | true => f k
  | false => k

/-- The place in the table of the mesh position `n` further along the ring than position `v`. -/
def tabOff (v n : BitVec 32) : Fin 1 → ℕ :=
  ![(Scalar.indexCast (Scalar.remsi (Scalar.addi (Scalar.addi v n) 64#32) 32#32)).toNat]

/-- How far round the ring the block of copy `s - 1` has come: back against the ring for the
    forward copies, along it for the backward ones. -/
def back : Bool → ℕ → BitVec 32
  | true, s => BitVec.ofNat 32 (4294967296 - s)
  | false, s => BitVec.ofNat 32 s

/-- How many copies each ring makes. -/
def copies : Bool → ℕ
  | true => 16
  | false => 15

/-- How many credits each ring gives. -/
def credits : Bool → ℕ
  | true => 13
  | false => 12

/-- The forward places read lie within the table. -/
theorem fwd_inb (v : BitVec 32) (h : k0_chk1 v) : ∀ s : ℕ, 0 < s → s < 17 → ∀ a, tabOff v (back true s) a + S1.size a ≤ S32.size a
  | 1, _, _ => k0_off5_inb v h
  | 2, _, _ => k0_off9_inb v h
  | 3, _, _ => k0_off13_inb v h
  | 4, _, _ => k0_off17_inb v h
  | 5, _, _ => k0_off21_inb v h
  | 6, _, _ => k0_off25_inb v h
  | 7, _, _ => k0_off29_inb v h
  | 8, _, _ => k0_off33_inb v h
  | 9, _, _ => k0_off37_inb v h
  | 10, _, _ => k0_off41_inb v h
  | 11, _, _ => k0_off45_inb v h
  | 12, _, _ => k0_off49_inb v h
  | 13, _, _ => k0_off53_inb v h
  | 14, _, _ => k0_off57_inb v h
  | 15, _, _ => k0_off61_inb v h
  | 16, _, _ => k0_off65_inb v h
  | 0, h, _ => absurd h (by decide)
  | n + 17, _, h => absurd h (by omega)

/-- The backward places read lie within the table. -/
theorem bwd_inb (v : BitVec 32) (h : k0_chk1 v) : ∀ s : ℕ, 0 < s → s < 16 → ∀ a, tabOff v (back false s) a + S1.size a ≤ S32.size a
  | 1, _, _ => k0_off7_inb v h
  | 2, _, _ => k0_off11_inb v h
  | 3, _, _ => k0_off15_inb v h
  | 4, _, _ => k0_off19_inb v h
  | 5, _, _ => k0_off23_inb v h
  | 6, _, _ => k0_off27_inb v h
  | 7, _, _ => k0_off31_inb v h
  | 8, _, _ => k0_off35_inb v h
  | 9, _, _ => k0_off39_inb v h
  | 10, _, _ => k0_off43_inb v h
  | 11, _, _ => k0_off47_inb v h
  | 12, _, _ => k0_off51_inb v h
  | 13, _, _ => k0_off55_inb v h
  | 14, _, _ => k0_off59_inb v h
  | 15, _, _ => k0_off63_inb v h
  | 0, h, _ => absurd h (by decide)
  | n + 16, _, h => absurd h (by omega)

/-- The places read lie within the table, either way round. -/
theorem tab_inb (v : BitVec 32) (h : k0_chk1 v) : ∀ (d : Bool) (s : ℕ), 0 < s → s < copies d + 1 →
    ∀ a, tabOff v (back d s) a + S1.size a ≤ S32.size a
  | true => fwd_inb v h
  | false => bwd_inb v h

/-- What the words read at the start fix: the device, its ring position and its neighbours. -/
structure Here where
  d0 : Dev nD
  v4 : BitVec 32
  h1 : k0_chk1 v4
  nb : Bool → Dev nD

/-- One half of a ring's step `s`: take in copy `s - 1`, and send it on as copy `s`. -/
def half (E : Env) (H : Here) (d : Bool) (s : ℕ) (t : Fin 2) {α : Type} (k : PR F α) : PR F α :=
  waitRecv E d (s - 1) t <| when (Nat.blt s (copies d))
    (fun k => when (Nat.ble 3 s) (waitCredit E d t) (send E d (H.nb d) s t k)) k

/-- The products of the block copy `s - 1` brought. -/
def gemms (E : Env) (H : Here) (d : Bool) (s : ℕ) (h : 0 < s) (h' : s < copies d + 1) (a : F .f32) {α : Type} (k : F .f32 → PR F α) : PR F α :=
  readTab E.r2m (tabOff H.v4 (back d s)) (tab_inb H.v4 H.h1 d s h h') fun o =>
  check (k0_chk4 o) (k0_chk4.dec o) fun ho =>
  gemmSlot E d (slotIx s) 0 (k0_off6 o 0#32) (k0_off6_inb o ho 0) a fun a =>
  gemmSlot E d (slotIx s) 1 (k0_off6 o 64#32) (k0_off6_inb o ho 1) a k

/-- One half of the clearing of copy `j`: its slot is free again, and the neighbour behind is told. -/
def clearHalf (E : Env) (H : Here) (d : Bool) (j : ℕ) (t : Fin 2) {α : Type} (k : PR F α) : PR F α :=
  waitSend E d j t <| when (Nat.blt j (credits d)) (giveCredit E d (H.nb !d) t) k

/-- A step of both rings: `s` of the sixteen, the last of which the backward ring sits out. -/
def step (E : Env) (H : Here) (s : ℕ) (h : 0 < s) (h' : s < 16) (a : F .f32) {α : Type} (k : F .f32 → PR F α) : PR F α :=
  half E H true s 0 <| half E H true s 1 <| half E H false s 0 <| half E H false s 1 <|
  gemms E H true s h (Nat.lt_succ_of_lt h') a fun a => gemms E H false s h h' a fun a =>
  when (Nat.ble 2 s) (fun k => clearHalf E H true (s - 2) 0 <| clearHalf E H true (s - 2) 1 <|
    clearHalf E H false (s - 2) 0 <| clearHalf E H false (s - 2) 1 k) (k a)

/-- The rest of the rings after step `n` steps from the end. -/
def steps (E : Env) (H : Here) : (n : ℕ) → n < 16 → F .f32 → {α : Type} → (F .f32 → PR F α) → PR F α
  | 0, _, a, _, k => k a
  | n + 1, h, a, _, k => step E H (15 - n) (by omega) (by omega) a fun a => steps E H n (Nat.lt_of_succ_lt h) a k

/-- The last step, the forward ring alone, and the last copies cleared. -/
def lastStep (E : Env) (H : Here) (a : F .f32) {α : Type} (k : F .f32 → PR F α) : PR F α :=
  half E H true 16 0 <| half E H true 16 1 <| gemms E H true 16 (by decide) (by decide) a fun a =>
  clearHalf E H true 14 0 <| clearHalf E H true 14 1 <| clearHalf E H false 14 0 <| clearHalf E H false 14 1 <|
  clearHalf E H true 15 0 <| k a

/-- Everything up to the exchange of maxima, from the entry barrier on. -/
def rings (E : Env) (H : Here) {α : Type} (k : F .f32 → PR F α) : PR F α :=
  .op (.semSignal (Dev.tc (H.nb true)) (sig.barrier 0 rfl) (1#32).toInt) fun _ =>
  .op (.semSignal (Dev.tc (H.nb false)) (sig.barrier 0 rfl) (1#32).toInt) fun _ =>
  .op (.semWait (sig.barrier 0 rfl) (2#32).toInt) fun _ =>
  send E true (H.nb true) 0 0 <| send E true (H.nb true) 0 1 <|
  send E false (H.nb false) 0 0 <| send E false (H.nb false) 0 1 <|
  gemmOwn E 0 (k0_off4 H.d0 0#32) (k0_off4_inb H.d0 0) (Scalar.ofBits .f32 0x00000000#32) fun a =>
  gemmOwn E 1 (k0_off4 H.d0 64#32) (k0_off4_inb H.d0 1) a fun a =>
  steps E H 15 (by decide) a fun a => lastStep E H a k

/-- The words read at the start, then `k` with what they fix. -/
def opening (E : Env) {α : Type} (k : Here → PR F α) : PR F α :=
  .op .deviceId fun d0 =>
  readTab E.m2r (k0_off1 d0) (k0_off1_inb d0) fun v4 => check (k0_chk1 v4) (k0_chk1.dec v4) fun h1 =>
  readTab E.r2m (k0_off2 v4) (k0_off2_inb v4 h1) fun v8 => check (k0_chk2 v8) (k0_chk2.dec v8) fun h2 =>
  readTab E.r2m (k0_off3 v4) (k0_off3_inb v4 h1) fun v13 => check (k0_chk3 v13) (k0_chk3.dec v13) fun h3 =>
  k ⟨d0, v4, h1, fun | true => ⟨k0_dev1 v8, k0_dev1_lt v8 h2⟩ | false => ⟨k0_dev2 v13, k0_dev2_lt v13 h3⟩⟩

end Cert.KernelIdeal.Tidy
-- ==== Proof.Sched.lean ====
module

public import proofs.«01_k».proof.Proof.Prog
public import proofs.«01_k».proof.Proof.Gen.KernelIdeal.Launch
public import Idealize.ShloMosaic.Lib.Rounds
public import Idealize.ShloMosaic.Lib.Release
public import Idealize.ShloMosaic.Lib.ShareLeaves
public import Idealize.ShloMosaic.Lib.DeliveryRep
public import Idealize.ShloMosaic.Lib.Tactic
public import Idealize.ShloMosaic.Lib.Pipeline.RegionTalk
public import Idealize.ShloMosaic.Lib.StableHlo

@[expose] public section

noncomputable section

namespace Cert.KernelIdeal.Tidy

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

/-! ## The buffers, the ghost algebra -/

/-- The buffers and semaphores of the one run of the body. -/
abbrev E₀ : Env :=
  ⟨Memref.whole cc0_stg0_0, Memref.whole cc0_stg1_0, Memref.whole cc0_stg2_0, Memref.whole cc0_stg3_0, Memref.whole cc0_stg4_0,
    fun | true => Memref.whole cc0_scratch0 | false => Memref.whole cc0_scratch1,
    fun | true => cc0_scratch2 | false => cc0_scratch4, fun | true => cc0_scratch3 | false => cc0_scratch5,
    fun | true => ![cc0_scratch6, cc0_scratch7] | false => ![cc0_scratch8, cc0_scratch9],
    Memref.whole cc0_scratch10, Memref.whole cc0_scratch11, cc0_scratch12, cc0_scratch13⟩

/-- A landing place that is handed from the device that owns it to the one that writes it: one per copy
    of the rings (by the copy's sender) and one per pair of devices for the maxima (sender, owner). -/
def Key : Type := (Dev nD × Bool × Fin 2 × Fin 16) ⊕ (Dev nD × Dev nD)

instance decKey : DecidableEq Key := inferInstanceAs (DecidableEq ((Dev nD × Bool × Fin 2 × Fin 16) ⊕ (Dev nD × Dev nD)))
instance finKey : Fintype Key := inferInstanceAs (Fintype ((Dev nD × Bool × Fin 2 × Fin 16) ⊕ (Dev nD × Dev nD)))

/-- The ghost state: the pipeline's rounds, the protocol's rounds, the landing places. -/
abbrev UU : Type := UR sig nD τ × (URounds (GSem nD τ sig) ℕ × Release.USlots Key)

abbrev EP : Emb (UR sig nD τ) (MT nD τ sig ℕ (Elt F) ℕ UU ℕ) := embL
abbrev ER : Emb (URounds (GSem nD τ sig) ℕ) (MT nD τ sig ℕ (Elt F) ℕ UU ℕ) := (Emb.inl : Emb (URounds (GSem nD τ sig) ℕ) (URounds (GSem nD τ sig) ℕ × Release.USlots Key)).trans embR
abbrev ES : Emb (Release.USlots Key) (MT nD τ sig ℕ (Elt F) ℕ UU ℕ) := (Emb.inr : Emb (Release.USlots Key) (URounds (GSem nD τ sig) ℕ × Release.USlots Key)).trans embR

/-! ## The cells -/

/-- Slot `p` of the landing buffer of the maxima lies within it. -/
theorem mb_inb (p : Fin 32) : ∀ a, (![p.val, 0, 0] : Fin 3 → ℕ) a + S1x8x128.size a ≤ S32x8x128.size a := by revert p; decide
theorem ms_inb (p : Fin 32) : ∀ a, (![p.val] : Fin 1 → ℕ) a + S1.size a ≤ S32.size a := by revert p; decide

/-- Where device `p`'s maximum lands. -/
def mbV (p : Fin 32) : Memref sig .tc .vmem S8x128 .f32 :=
  (E₀.mb.slice (Rect.unit (s := S32x8x128) ![p.val, 0, 0] S1x8x128.size (mb_inb p)) (fun _ => rfl)).squeeze S8x128 squeezes_S1x8x128_S8x128

/-- The device's own maximum, as it is sent. -/
def msV : Memref sig .tc .vmem S8x128 .f32 :=
  (E₀.ms.slice (Rect.unit (s := S1x8x128) ![0, 0, 0] S1x8x128.size inb_S1x8x128_S1x8x128_0_0_0) (fun _ => rfl)).squeeze S8x128 squeezes_S1x8x128_S8x128

/-- Semaphore `p` of an array of thirty-two. -/
def semM (s : DmaSems sig S32) (p : Fin 32) : DmaSems sig S_ :=
  (s.slice (Rect.unit (s := S32) ![p.val] S1.size (ms_inb p))).squeeze S_ squeezes_S1_S_

/-- The protocol's cells of one device: the entry barrier, the ends of the rings' copies, the credits, the
    ends of the maxima's copies. -/
inductive Kind where
  | bar
  | S (d : Bool) (t : Fin 2) (a : Fin 4)
  | R (d : Bool) (t : Fin 2) (a : Fin 4)
  | C (d : Bool) (t : Fin 2)
  | aS (p : Fin 32)
  | aR (p : Fin 32)
  deriving DecidableEq

/-- The semaphore of a cell. -/
abbrev kindSem : Kind → SemLoc sig
  | .bar => .reg (sig.barrier 0 rfl)
  | .S d t a => .dma (semV (E₀.ss d) a t).sem
  | .R d t a => .dma (semV (E₀.rs d) a t).sem
  | .C d t => .reg (E₀.cr d t).sem
  | .aS p => .dma (semM E₀.mss p).sem
  | .aR p => .dma (semM E₀.mrs p).sem

/-- The cell a semaphore's number belongs to. -/
def semKind : SemLoc sig → Kind
  | .reg s => if s.val = 4 then .bar else .C (Nat.blt s.val 2) (Fin.ofNat 2 s.val)
  | .dma s =>
    let i := s.val - 5
    if i < 32 then
      let a := Fin.ofNat 4 (i / 2)
      let t := Fin.ofNat 2 i
      if i / 8 % 2 = 0 then .S (Nat.blt i 16) t a else .R (Nat.blt i 16) t a
    else if i < 64 then .aS (Fin.ofNat 32 i) else .aR (Fin.ofNat 32 i)

theorem semKind_S : ∀ d t a, semKind (kindSem (.S d t a)) = .S d t a := by decide +kernel
theorem semKind_R : ∀ d t a, semKind (kindSem (.R d t a)) = .R d t a := by decide +kernel
theorem semKind_C : ∀ d t, semKind (kindSem (.C d t)) = .C d t := by decide +kernel
theorem semKind_aS : ∀ p, semKind (kindSem (.aS p)) = .aS p := by decide +kernel
theorem semKind_aR : ∀ p, semKind (kindSem (.aR p)) = .aR p := by decide +kernel
theorem semKind_bar : semKind (kindSem .bar) = .bar := by decide +kernel

theorem semKind_sem : ∀ k, semKind (kindSem k) = k
  | .bar => semKind_bar
  | .S d t a => semKind_S d t a
  | .R d t a => semKind_R d t a
  | .C d t => semKind_C d t
  | .aS p => semKind_aS p
  | .aR p => semKind_aR p

theorem kindSem_inj : Function.Injective kindSem := Function.LeftInverse.injective semKind_sem

open Classical in
/-- Which of the protocol's cells a semaphore is. -/
def kindOf (sm : SemLoc sig) : Option Kind := if h : ∃ k, kindSem k = sm then some h.choose else none

theorem kindOf_sem (k : Kind) : kindOf (kindSem k) = some k := by
  have h : ∃ k', kindSem k' = kindSem k := ⟨k, rfl⟩
  unfold kindOf
  rw [dif_pos h]
  exact congrArg some (kindSem_inj h.choose_spec)

abbrev cell (c : Dev nD) (k : Kind) : GSem nD τ sig := ((c : Thread nD τ), kindSem k)

theorem cell_inj {c c' : Dev nD} {k k' : Kind} (h : cell c k = cell c' k') : c = c' ∧ k = k' :=
  ⟨congrArg (fun g : GSem nD τ sig => g.1.1) h, kindSem_inj (congrArg Prod.snd h)⟩

/-! ## The ring -/

/-- The mesh positions in ring order, and the ring positions of the devices. -/
def ringAt : List ℕ := [0, 3, 4, 7, 15, 12, 11, 8, 16, 19, 20, 23, 31, 28, 27, 24, 25, 26, 29, 30, 22, 21, 18, 17, 9, 10, 13, 14, 6, 5, 2, 1]
def posOf : List ℕ := [0, 31, 30, 1, 2, 29, 28, 3, 7, 24, 25, 6, 5, 26, 27, 4, 8, 23, 22, 9, 10, 21, 20, 11, 15, 16, 17, 14, 13, 18, 19, 12]

/-- The device at a ring position. -/
def devAt (r : ℕ) : Dev nD := ⟨ringAt.getD (r % 32) 0 % 32, Nat.mod_lt _ (by decide)⟩
/-- A device's ring position. -/
def ringPos (c : Dev nD) : ℕ := posOf.getD c.val 0

/-- The next device along the ring, and the one before. -/
def nx (d : Bool) (c : Dev nD) : Dev nD := devAt (ringPos c + if d then 1 else 31)

theorem nx_nx (d : Bool) (c : Dev nD) : nx d (nx (!d) c) = c := by revert d c; decide +kernel
theorem nx_nx' (d : Bool) (c : Dev nD) : nx (!d) (nx d c) = c := by revert d c; decide +kernel

/-- One step along the ring, as a bijection. -/
def turn (d : Bool) : Dev nD ≃ Dev nD := ⟨nx d, nx (!d), nx_nx' d, nx_nx d⟩

/-- Whose block copy `n - 1` of ring `d` brings to `c`. -/
def org (d : Bool) : ℕ → Dev nD → Dev nD
  | 0, c => c
  | n + 1, c => org d n (nx (!d) c)

theorem org_nx (d : Bool) (n : ℕ) (c : Dev nD) : org d (n + 1) (nx d c) = org d n c := by
  show org d n (nx (!d) (nx d c)) = _; rw [nx_nx']

/-! ## Contents -/

variable (xs : (c : Dev nD) → Buf (Elt F) ((E₀.x).view.loc (c : Thread nD τ))) (AM : Dev nD → S8x128.Idx → Elt F .f32)

/-- Half `t` of device `o`'s block. -/
def xh (o : Dev nD) (t : Fin 2) : S64x4096.Idx → Elt F .f32 := (xV E₀.x t).view.read (Elt F) (xs o)

/-- A memref's elements on device `c`, read as `X`. -/
abbrev holds (c : Dev nD) {sp : Space} {s : Shape} {e : EltTy} (v : Memref sig .tc sp s e) (q : PosShare TreeShare) (X : s.Idx → Elt F e) : sProp (MT nD τ sig ℕ (Elt F) ℕ UU ℕ) :=
  v.view.loc (c : Thread nD τ) ↦[v.view.set]{q} v.view.rep X

/-- A memref's elements on device `c`, whatever they hold. -/
abbrev anyOf (c : Dev nD) {sp : Space} {s : Shape} {e : EltTy} (v : Memref sig .tc sp s e) : sProp (MT nD τ sig ℕ (Elt F) ℕ UU ℕ) :=
  Release.slot (v.view.loc (c : Thread nD τ)) v.view.set

/-- The share of its source copy `j` borrows: the first copies of the two rings and the two halves read one
    block. -/
def srcShare (d : Bool) (t : Fin 2) : ℕ → PosShare TreeShare
  | 0 => match d, t with
    | true, 0 => fullShare.right.left.left
    | true, 1 => fullShare.right.left.right
    | false, 0 => fullShare.right.right.left
    | false, 1 => fullShare.right.right.right
  | _ + 1 => PosShare.right fullShare

/-- The share of the device's own maximum the copy to `p` borrows. -/
def amShare (p : Fin 32) : PosShare TreeShare := ShareLeaves.leaf 5 (PosShare.right fullShare) p

/-! ## The landing places -/

/-- The place copy `j` of half `t` lands in, of sender `c`. -/
abbrev lane (c : Dev nD) (d : Bool) (t : Fin 2) (j : ℕ) : Key := Sum.inl (c, d, t, Fin.ofNat 16 j)
/-- The place sender `p`'s maximum lands in at `o`. -/
abbrev spot (p o : Dev nD) : Key := Sum.inr (p, o)

/-- The cells at the two ends of copy `j` and of the copies of the maxima, the credits and the barrier. -/
abbrev Scell (c : Dev nD) (d : Bool) (t : Fin 2) (j : ℕ) : GSem nD τ sig := cell c (.S d t (slotIx j))
abbrev Rcell (c : Dev nD) (d : Bool) (t : Fin 2) (j : ℕ) : GSem nD τ sig := cell c (.R d t (slotIx (j + 1)))
abbrev Ccell (c : Dev nD) (d : Bool) (t : Fin 2) : GSem nD τ sig := cell c (.C d t)

/-- What a landing place holds while nobody owns it: its elements, and that its round has come. -/
def place : Key → sProp (MT nD τ sig ℕ (Elt F) ℕ UU ℕ)
  | .inl (c, d, t, j) => iprop(anyOf (nx d c) (dstV E₀ d j.val t) ∗ reached ER (Rcell (nx d c) d t j.val) (j.val / 4))
  | .inr (p, o) => iprop(anyOf o (mbV p) ∗ reached ER (cell o (.aR p)) 0)

abbrev freed (k : Key) : sProp (MT nD τ sig ℕ (Elt F) ℕ UU ℕ) := Release.released ES k 1

/-- All the places for maxima at `o` are given away. -/
def allSpots (o : Dev nD) : sProp (MT nD τ sig ℕ (Elt F) ℕ UU ℕ) := bigSep Finset.univ fun p : Dev nD => freed (spot p o)

instance allSpots_persistent (o : Dev nD) : BI.Persistent (allSpots (F := F) o) := by unfold allSpots; infer_instance

/-! ## The schedule -/

/-- The units of a copy of half a block, and of a copy of a maximum. -/
@[irreducible] def nHalf : ℕ := (dstV E₀ true 0 0).view.dmaCredit
@[irreducible] def nMax : ℕ := (mbV 0).view.dmaCredit

/-- The copy that a round of a semaphore is. -/
def jS (a : Fin 4) (r : ℕ) : ℕ := 4 * r + a.val
def jR (a : Fin 4) (r : ℕ) : ℕ := 4 * r + (a.val + 3) % 4

/-- What the barrier's signal from the neighbour brings `c`. -/
def barPay (e : Bool) (c : Dev nD) : sProp (MT nD τ sig ℕ (Elt F) ℕ UU ℕ) :=
  bigSep Finset.univ fun t : Fin 2 => iprop(reached ER (Ccell (nx (!e) c) e t) 0 ∗ bigSep (Finset.range 3) fun k => freed (lane c (!e) t k))

/-- What a landed copy brings. -/
def recvPay (c : Dev nD) (d : Bool) (t : Fin 2) (j : ℕ) : sProp (MT nD τ sig ℕ (Elt F) ℕ UU ℕ) :=
  iprop(holds c (dstV E₀ d j t) fullShare (xh xs (org d (j + 1) c) t) ∗ allSpots (org d (j + 1) c))

/-- What a departed copy gives back. -/
def sendPay (c : Dev nD) (d : Bool) (t : Fin 2) (j : ℕ) : sProp (MT nD τ sig ℕ (Elt F) ℕ UU ℕ) := holds c (srcV E₀ d j t) (srcShare d t j) (xh xs (org d j c) t)

/-- What a credit brings. -/
def credPay (c : Dev nD) (d : Bool) (t : Fin 2) (k : ℕ) : sProp (MT nD τ sig ℕ (Elt F) ℕ UU ℕ) := bigSep (Finset.range (k + 1)) fun i => freed (lane c d t (i + 3))

def dutiesK (c : Dev nD) (r : ℕ) : Kind → Finset ℕ
  | .bar => if r = 0 then {0, 1} else ∅
  | .S d t a => if jS a r < copies d then {0} else ∅
  | .R d t a => if jR a r < copies d then {0} else ∅
  | .C d t => if r = 0 then Finset.range (credits d) else ∅
  | .aS p => if r = 0 ∧ p ≠ c then {0} else ∅
  | .aR p => if r = 0 ∧ p ≠ c then {0} else ∅

def amountK : Kind → ℕ
  | .S .. => nHalf
  | .R .. => nHalf
  | .aS .. => nMax
  | .aR .. => nMax
  | _ => 1

def payloadK (c : Dev nD) (r : ℕ) (k : ℕ) : Kind → sProp (MT nD τ sig ℕ (Elt F) ℕ UU ℕ)
  | .bar => barPay (k == 0) c
  | .S d t a => sendPay xs c d t (jS a r)
  | .R d t a => recvPay xs c d t (jR a r)
  | .C d t => credPay c d t k
  | .aS p => holds c msV (amShare p) (AM c)
  | .aR p => holds c (mbV p) fullShare (AM p)

theorem nHalf_pos : 0 < nHalf := by unfold nHalf; exact View.dmaCredit_pos _ (by decide)
theorem nMax_pos : 0 < nMax := by unfold nMax; exact View.dmaCredit_pos _ (by decide)

theorem amountK_pos : ∀ k, 0 < amountK k
  | .bar => Nat.one_pos
  | .S .. => nHalf_pos
  | .R .. => nHalf_pos
  | .C .. => Nat.one_pos
  | .aS _ => nMax_pos
  | .aR _ => nMax_pos

theorem elim_pos : ∀ o : Option Kind, 0 < o.elim 1 amountK
  | none => Nat.one_pos
  | some k => amountK_pos k

/-- The rounds of every cell. -/
def Rd : Rounds.Schedule (GSem nD τ sig) ℕ (MT nD τ sig ℕ (Elt F) ℕ UU ℕ) where
  duties g r := (kindOf g.2).elim ∅ (dutiesK g.1.1 r)
  amount g _ _ := (kindOf g.2).elim 1 amountK
  payload g r k := (kindOf g.2).elim iprop(emp) (payloadK xs AM g.1.1 r k)
  amount_pos g _ _ _ := elim_pos _

instance freed_storable (k : Key) : BI.Storable (upEmb : UEmb _ (MT nD τ sig ℕ (Elt F) ℕ UU ℕ)) (freed (F := F) k) := by unfold freed; infer_instance
instance place_storable (k : Key) : BI.Storable (upEmb : UEmb _ (MT nD τ sig ℕ (Elt F) ℕ UU ℕ)) (place (F := F) k) := by
  rcases k with ⟨c, d, t, j⟩ | ⟨p, o⟩ <;> unfold place <;> infer_instance

instance Rd_payload_storable (g : GSem nD τ sig) (r : ℕ) (k : ℕ) : BI.Storable (upEmb : UEmb _ (MT nD τ sig ℕ (Elt F) ℕ UU ℕ)) ((Rd xs AM).payload g r k) := by
  show BI.Storable upEmb ((kindOf g.2).elim iprop(emp) (payloadK xs AM g.1.1 r k))
  cases kindOf g.2 with
  | none => exact (inferInstance : BI.Storable upEmb (iprop(emp) : sProp (MT nD τ sig ℕ (Elt F) ℕ UU ℕ)))
  | some kk =>
    cases kk <;> simp only [Option.elim, payloadK, barPay, recvPay, sendPay, credPay, allSpots] <;> infer_instance

theorem duties_cell (c : Dev nD) (k : Kind) (r : ℕ) : (Rd xs AM).duties (cell c k) r = dutiesK c r k := by
  show (kindOf (kindSem k)).elim ∅ (dutiesK c r) = _; rw [kindOf_sem]; rfl
theorem amount_cell (c : Dev nD) (k : Kind) (r i : ℕ) : (Rd xs AM).amount (cell c k) r i = amountK k := by
  show (kindOf (kindSem k)).elim 1 amountK = _; rw [kindOf_sem]; rfl
theorem payload_cell (c : Dev nD) (k : Kind) (r i : ℕ) : (Rd xs AM).payload (cell c k) r i = payloadK xs AM c r i k := by
  show (kindOf (kindSem k)).elim iprop(emp) (payloadK xs AM c r i) = _; rw [kindOf_sem]; rfl

theorem jS_at (j : ℕ) : jS (slotIx j) (j / 4) = j := by unfold jS slotIx; dsimp only; omega
theorem jR_at (j : ℕ) : jR (slotIx (j + 1)) (j / 4) = j := by unfold jR slotIx; dsimp only; omega

section at_copy
variable (c : Dev nD) (d : Bool) (t : Fin 2) (j : ℕ)

theorem duties_S (h : j < copies d) : (Rd xs AM).duties (Scell c d t j) (j / 4) = {0} := by
  rw [duties_cell]; unfold dutiesK; dsimp only; rw [jS_at, if_pos h]
theorem duties_R (h : j < copies d) : (Rd xs AM).duties (Rcell c d t j) (j / 4) = {0} := by
  rw [duties_cell]; unfold dutiesK; dsimp only; rw [jR_at, if_pos h]
theorem payload_S : (Rd xs AM).payload (Scell c d t j) (j / 4) 0 = sendPay xs c d t j := by
  rw [payload_cell]; unfold payloadK; dsimp only; rw [jS_at]
theorem payload_R : (Rd xs AM).payload (Rcell c d t j) (j / 4) 0 = recvPay xs c d t j := by
  rw [payload_cell]; unfold payloadK; dsimp only; rw [jR_at]
theorem expect_S (h : j < copies d) : (Rd xs AM).expect (Scell c d t j) (j / 4) = nHalf := by
  unfold Schedule.expect Schedule.amountOf; rw [duties_S xs AM c d t j h, Finset.sum_singleton, amount_cell]; rfl
theorem expect_R (h : j < copies d) : (Rd xs AM).expect (Rcell c d t j) (j / 4) = nHalf := by
  unfold Schedule.expect Schedule.amountOf; rw [duties_R xs AM c d t j h, Finset.sum_singleton, amount_cell]; rfl
theorem rest_S (h : j < copies d) : bigSep ((Rd xs AM).duties (Scell c d t j) (j / 4) \ ∅) (fun u => (Rd xs AM).payload (Scell c d t j) (j / 4) u)
    = sendPay xs c d t j := by rw [Finset.sdiff_empty, duties_S xs AM c d t j h, bigSep_singleton, payload_S]
theorem rest_R (h : j < copies d) : bigSep ((Rd xs AM).duties (Rcell c d t j) (j / 4) \ ∅) (fun u => (Rd xs AM).payload (Rcell c d t j) (j / 4) u)
    = recvPay xs c d t j := by rw [Finset.sdiff_empty, duties_R xs AM c d t j h, bigSep_singleton, payload_R]
theorem duties_C : (Rd xs AM).duties (Ccell c d t) 0 = Finset.range (credits d) := by rw [duties_cell]; unfold dutiesK; dsimp only; rw [if_pos rfl]
theorem payload_C (r k : ℕ) : (Rd xs AM).payload (Ccell c d t) r k = credPay c d t k := by rw [payload_cell]; rfl
theorem expect_C : (Rd xs AM).expect (Ccell c d t) 0 = credits d := by
  unfold Schedule.expect Schedule.amountOf
  rw [duties_C, Finset.sum_congr rfl fun i _ => amount_cell xs AM c (.C d t) 0 i]
  simp [amountK]

end at_copy

section at_max
variable (c : Dev nD) (p : Fin 32)

theorem duties_aS (h : p ≠ c) : (Rd xs AM).duties (cell c (.aS p)) 0 = {0} := by rw [duties_cell]; unfold dutiesK; dsimp only; rw [if_pos ⟨rfl, h⟩]
theorem duties_aR (h : p ≠ c) : (Rd xs AM).duties (cell c (.aR p)) 0 = {0} := by rw [duties_cell]; unfold dutiesK; dsimp only; rw [if_pos ⟨rfl, h⟩]
theorem payload_aS : (Rd xs AM).payload (cell c (.aS p)) 0 0 = holds c msV (amShare p) (AM c) := by rw [payload_cell]; rfl
theorem payload_aR : (Rd xs AM).payload (cell c (.aR p)) 0 0 = holds c (mbV p) fullShare (AM p) := by rw [payload_cell]; rfl
theorem expect_aS (h : p ≠ c) : (Rd xs AM).expect (cell c (.aS p)) 0 = nMax := by
  unfold Schedule.expect Schedule.amountOf; rw [duties_aS xs AM c p h, Finset.sum_singleton, amount_cell]; rfl
theorem expect_aR (h : p ≠ c) : (Rd xs AM).expect (cell c (.aR p)) 0 = nMax := by
  unfold Schedule.expect Schedule.amountOf; rw [duties_aR xs AM c p h, Finset.sum_singleton, amount_cell]; rfl
theorem rest_aS (h : p ≠ c) : bigSep ((Rd xs AM).duties (cell c (.aS p)) 0 \ ∅) (fun u => (Rd xs AM).payload (cell c (.aS p)) 0 u)
    = holds c msV (amShare p) (AM c) := by rw [Finset.sdiff_empty, duties_aS xs AM c p h, bigSep_singleton, payload_aS]
theorem rest_aR (h : p ≠ c) : bigSep ((Rd xs AM).duties (cell c (.aR p)) 0 \ ∅) (fun u => (Rd xs AM).payload (cell c (.aR p)) 0 u)
    = holds c (mbV p) fullShare (AM p) := by rw [Finset.sdiff_empty, duties_aR xs AM c p h, bigSep_singleton, payload_aR]
theorem duties_bar : (Rd xs AM).duties (cell c .bar) 0 = {0, 1} := by rw [duties_cell]; unfold dutiesK; dsimp only; rw [if_pos rfl]
theorem payload_bar (e : Bool) : (Rd xs AM).payload (cell c .bar) 0 (if e then 0 else 1) = barPay e c := by
  rw [payload_cell]; cases e <;> rfl
theorem expect_bar : (Rd xs AM).expect (cell c .bar) 0 = 2 := by
  unfold Schedule.expect Schedule.amountOf
  rw [duties_bar, Finset.sum_pair (by decide), amount_cell, amount_cell]; rfl
theorem rest_bar : bigSep ((Rd xs AM).duties (cell c .bar) 0 \ ∅) (fun u => (Rd xs AM).payload (cell c .bar) 0 u)
    = iprop(barPay true c ∗ barPay false c) := by
  rw [Finset.sdiff_empty, duties_bar, bigSep_insert (by decide), bigSep_singleton]
  have h1 := payload_bar xs AM c true
  have h2 := payload_bar xs AM c false
  simp only [if_true, if_false, Bool.false_eq_true] at h1 h2
  rw [h1, h2]; rfl

end at_max

/-! ## What is owed, and the levels -/

/-- A debt of one device: a signal of the barrier, a copy, a credit, a copy of the maximum. -/
inductive Debt where
  | bar (e : Bool)
  | copy (d : Bool) (t : Fin 2) (j : ℕ)
  | cred (d : Bool) (t : Fin 2) (j : ℕ)
  | am (o : Dev nD)

/-- The cell a debt of `c` is paid to, the index it is booked at and its units. -/
abbrev debtCell (c : Dev nD) : Debt → GSem nD τ sig
  | .bar e => cell (nx e c) .bar
  | .copy d t j => Rcell (nx d c) d t j
  | .cred d t _ => Ccell (nx (!d) c) d t
  | .am o => cell o (.aR c)
abbrev debtIx : Debt → ℕ
  | .bar _ => 0
  | .copy _ _ j => j
  | .cred _ _ j => j
  | .am _ => 0
abbrev debtN : Debt → ℕ
  | .bar _ => 1
  | .copy .. => nHalf
  | .cred .. => 1
  | .am _ => nMax
abbrev debtLvl : Debt → ℕ
  | .bar _ => 1
  | .copy _ _ j => 2 * j + 4
  | .cred _ _ j => 2 * j + 7
  | .am _ => 1000

/-- What a list of debts comes to. -/
def owing (c : Dev nD) : List Debt → CellTallies nD τ sig ℕ
  | [] => 0
  | l :: ls => owing c ls + tallyAt (debtCell c l) (debtIx l) (debtN l)

/-- The device owes the list, whatever its waits were. -/
def Owe (c : Dev nD) (ls : List Debt) : sProp (MT nD τ sig ℕ (Elt F) ℕ UU ℕ) := iprop(∃ W, owes (c : Thread nD τ) (owing c ls) W)

def L (g : GSem nD τ sig) : Finset ℕ := if g.1.2 = .tc then Finset.range 40 else ∅
def lvK (i : ℕ) : Kind → ℕ
  | .bar => 1
  | .R .. => 2 * i + 4
  | .C .. => 2 * i + 7
  | .aR .. => 1000
  | _ => 0
def lv (g : GSem nD τ sig) (i : ℕ) : ℕ := (kindOf g.2).elim 0 (lvK i)

theorem L_tc (c : Dev nD) (sm : SemLoc sig) : L ((c : Thread nD τ), sm) = Finset.range 40 := if_pos rfl
theorem L_of_ne (g : GSem nD τ sig) (h : g.1.2 ≠ .tc) : L g = ∅ := if_neg h
theorem lv_cell (c : Dev nD) (k : Kind) (i : ℕ) : lv (cell c k) i = lvK i k := by
  show (kindOf (kindSem k)).elim 0 (lvK i) = _; rw [kindOf_sem]; rfl

/-- A debt's index is one the levels know. -/
def Debt.Known (l : Debt) : Prop := debtIx l < 40

theorem debt_lv (c : Dev nD) (l : Debt) : lv (debtCell c l) (debtIx l) = debtLvl l := by
  cases l <;> exact lv_cell _ _ _

theorem owing_pos (c : Dev nD) (g : GSem nD τ sig) (i : ℕ) : ∀ ls : List Debt, 0 < owing c ls g i → ∃ l ∈ ls, g = debtCell c l ∧ i = debtIx l
  | [], h => absurd h (Nat.lt_irrefl 0)
  | l :: ls, h => by
    unfold owing at h
    rw [Pi.add_apply, Finsupp.add_apply] at h
    rcases Nat.add_pos_iff_pos_or_pos.mp h with h | h
    · obtain ⟨l', hl, e⟩ := owing_pos c g i ls h
      exact ⟨l', List.mem_cons_of_mem _ hl, e⟩
    · rw [tallyAt_apply] at h
      split at h
      · next hg => exact ⟨l, List.mem_cons_self, hg.1, hg.2⟩
      · exact absurd h (Nat.lt_irrefl 0)

/-- A device may wait on a cell when everything it owes stands at a higher level. -/
theorem mayWait_owing (c : Dev nD) (k : Kind) (i : ℕ) (ls : List Debt) (hi : i < 40) (h : ∀ l ∈ ls, l.Known ∧ lvK i k < debtLvl l) :
    (levAts L lv : sProp (MT nD τ sig ℕ (Elt F) ℕ UU ℕ)) ⊢ MayWait (c : Thread nD τ) (kindSem k) i (owing c ls) :=
  MayOwe.of_cut (L := L) (lev := lv) (lvK i k)
    (fun p hp => by rw [Finset.mem_singleton.mp hp, L_tc]; exact Finset.mem_range.mpr hi)
    (fun g u hg => by
      obtain ⟨l, hl, rfl, rfl⟩ := owing_pos c g u ls hg
      have e : L (debtCell c l) = Finset.range 40 := by cases l <;> exact L_tc _ _
      rw [e]; exact Finset.mem_range.mpr (h l hl).1)
    (fun p hp => by rw [Finset.mem_singleton.mp hp]; exact le_of_eq (lv_cell c k i))
    (fun g u hg => by
      obtain ⟨l, hl, rfl, rfl⟩ := owing_pos c g u ls hg
      rw [debt_lv]; exact (h l hl).2)

end Cert.KernelIdeal.Tidy
-- ==== Proof.AmProg.lean ====
module

public import proofs.«01_k».proof.Proof.Sched

@[expose] public section

noncomputable section

namespace Cert.KernelIdeal.Tidy

open Idealize.ShloMosaic Idealize.ShloMosaic.TcCoe Idealize.SL.Sem
open Cert.KernelIdeal.Gen

variable {F : FTy → Type} [FloatOps F]

/-- A device's number, as the kernel computes it. -/
abbrev word (c : Dev nD) : BitVec 32 := Scalar.remsi (Scalar.divsi (Dev.word c) 1#32) 32#32

/-- Whether a device's number is another one, as the kernel asks. -/
abbrev neWord (v : BitVec 32) (j : Fin 32) : BitVec 1 := Scalar.cmpi .ne (Scalar.extui (Scalar.cmpi .ne v (BitVec.ofNat 32 j.val))) 0#32

theorem word_val : ∀ c : Dev nD, (word c).toNat = c.val := by decide +kernel
theorem neWord_iff : ∀ (c : Dev nD) (j : Fin 32), neWord (word c) j = 1#1 ↔ j ≠ c := by decide +kernel

theorem word_inb1 (c : Dev nD) : ∀ a, (![(word c).toNat] : Fin 1 → ℕ) a + S1.size a ≤ S32.size a := by rw [word_val]; exact ms_inb c
theorem word_inb3 (c : Dev nD) : ∀ a, (![(word c).toNat, 0, 0] : Fin 3 → ℕ) a + S1x8x128.size a ≤ S32x8x128.size a := by rw [word_val]; exact mb_inb c

theorem msV_wordExact : msV.view.WordExact := (View.wordExact_bits rfl).reshape _ _
theorem mbV_wordExact (p : Fin 32) : (mbV p).view.WordExact := (View.wordExact_bits rfl).reshape _ _

/-- Send the device's maximum to device `j`, when `j` is another device. -/
def sendMax (c : Dev nD) (j : Fin 32) : PR F PUnit :=
  if j ≠ c then
    .op (.enqueueDma msV (.remote (Dev.tc j) (mbV c) (.dma (semM E₀.mss j).sem)) (.dma (semM E₀.mrs c).sem)
      msV_wordExact (mbV_wordExact c) ⟨⟨rfl, Or.inl rfl⟩, trivial⟩) fun _ => .ret ⟨⟩
  else .ret ⟨⟩

/-- Wait for the maximum of device `j` to land and for the one sent there to have left. -/
def waitMax (c : Dev nD) (j : Fin 32) : PR F PUnit :=
  if j ≠ c then
    .op (.waitDma2 (semM E₀.mrs j).sem msV (mbV j) msV_wordExact (mbV_wordExact j)) fun _ =>
    .op (.waitDma2 (semM E₀.mss j).sem (mbV j) msV (mbV_wordExact j) msV_wordExact) fun _ => .ret ⟨⟩
  else .ret ⟨⟩

/-- One program per device of a list, in order. -/
def each (f : Fin 32 → PR F PUnit) : List (Fin 32) → PR F PUnit
  | [] => pure ⟨⟩
  | j :: js => f j >>= fun _ => each f js

/-- The exchange of the maxima: the device's own is stored and sent to all others, stored in the device's own
    place, the others' are awaited, and all are read. -/
def exchange (c : Dev nD) (a : F .f32) {α : Type} (k : F .f32 → PR F α) : PR F α :=
  waitSend E₀ true 15 1 <|
  .op (.load E₀.ms (Rect.unit (s := S1x8x128) ![0, 0, 0] S1x8x128.size inb_S1x8x128_S1x8x128_0_0_0).toLoadRect (View.loadsAt_vmem h_S1x8x128)) fun _ =>
  .op (.store E₀.ms (Rect.unit (s := S1x8x128) ![0, 0, 0] S1x8x128.size inb_S1x8x128_S1x8x128_0_0_0) (k0_pay123 a) Finset.univ (View.stores_vmem_bits_univ h_S1x8x128 rfl) (.inl rfl)) fun _ =>
  each (sendMax c) (List.finRange 32) >>= fun _ =>
  .op (.load E₀.ms (Rect.unit (s := S1x8x128) ![0, 0, 0] S1x8x128.size inb_S1x8x128_S1x8x128_0_0_0).toLoadRect (View.loadsAt_vmem h_S1x8x128)) fun v =>
  .op (.load E₀.mb (Rect.unit (s := S32x8x128) (k0_off131 c) S1x8x128.size (k0_off131_inb c)).toLoadRect (View.loadsAt_vmem h_S1x8x128)) fun _ =>
  .op (.store E₀.mb (Rect.unit (s := S32x8x128) (k0_off131 c) S1x8x128.size (k0_off131_inb c)) (k0_pay124 v) Finset.univ (View.stores_vmem_bits_univ h_S1x8x128 rfl) (.inl rfl)) fun _ =>
  each (waitMax c) (List.finRange 32) >>= fun _ =>
  .op (.load E₀.mb (Rect.unit (s := S32x8x128) ![0, 0, 0] S32x8x128.size inb_S32x8x128_S32x8x128_0_0_0).toLoadRect (View.loadsAt_vmem h_S32x8x128)) fun m =>
  k (k0_pay125 m)

/-- A printed send, under its printed condition and at its printed offsets, is the one above. -/
theorem send_step (c : Dev nD) (j : Fin 32) {α : Type} {b : BitVec 1} {o1 : Fin 1 → ℕ} {o3 : Fin 3 → ℕ} {n : ℕ} {m : Fin 1 → ℕ}
    (i1 : b = 1#1 → ∀ a, o1 a + S1.size a ≤ S32.size a) (i3 : b = 1#1 → ∀ a, o3 a + S1x8x128.size a ≤ S32x8x128.size a)
    (hn : b = 1#1 → n < nD) (im : ∀ a, m a + S1.size a ≤ S32.size a)
    (hb : b = neWord (word c) j) (h1 : o1 = ![(word c).toNat]) (h3 : o3 = ![(word c).toNat, 0, 0]) (en : n = j.val) (em : m = ![j.val])
    {k k' : PR F α} (hk : k = k') :
    (if h : b = 1#1 then
      (Prog.lift (.enqueueDma ((E₀.ms.slice (Rect.unit (s := S1x8x128) ![0, 0, 0] S1x8x128.size inb_S1x8x128_S1x8x128_0_0_0) (fun _ => rfl)).squeeze S8x128 squeezes_S1x8x128_S8x128)
      (.remote (Dev.tc (⟨n, hn h⟩ : Dev nD)) ((E₀.mb.slice (Rect.unit (s := S32x8x128) o3 S1x8x128.size (i3 h)) (fun _ => rfl)).squeeze S8x128 squeezes_S1x8x128_S8x128)
        (.dma ((E₀.mss.slice (Rect.unit (s := S32) m S1.size im)).squeeze S_ squeezes_S1_S_).sem))
      (.dma ((E₀.mrs.slice (Rect.unit (s := S32) o1 S1.size (i1 h))).squeeze S_ squeezes_S1_S_).sem)
      ((View.wordExact_bits rfl).reshape _ _) ((View.wordExact_bits rfl).reshape _ _) ⟨⟨rfl, Or.inl rfl⟩, trivial⟩) >>= fun _ => k : PR F α)
    else k) = (sendMax c j >>= fun _ => k') := by
  rw [word_val] at h1 h3
  subst hb h1 h3 en em hk
  unfold sendMax
  by_cases h : j ≠ c
  · rw [dif_pos ((neWord_iff c j).mpr h), if_pos h]; rfl
  · rw [dif_neg (fun e => h ((neWord_iff c j).mp e)), if_neg h]; rfl

/-- A printed pair of waits, under its printed condition, is the one above. -/
theorem wait_step (c : Dev nD) (j : Fin 32) {α : Type} {b : BitVec 1} {m : Fin 1 → ℕ} {m3 : Fin 3 → ℕ}
    (im : ∀ a, m a + S1.size a ≤ S32.size a) (im3 : ∀ a, m3 a + S1x8x128.size a ≤ S32x8x128.size a)
    (hb : b = neWord (word c) j) (em : m = ![j.val]) (em3 : m3 = ![j.val, 0, 0]) {k k' : PR F α} (hk : k = k') :
    (if h : b = 1#1 then
      (Prog.lift (.waitDma2 ((E₀.mrs.slice (Rect.unit (s := S32) m S1.size im)).squeeze S_ squeezes_S1_S_).sem
        ((E₀.ms.slice (Rect.unit (s := S1x8x128) ![0, 0, 0] S1x8x128.size inb_S1x8x128_S1x8x128_0_0_0) (fun _ => rfl)).squeeze S8x128 squeezes_S1x8x128_S8x128)
        ((E₀.mb.slice (Rect.unit (s := S32x8x128) m3 S1x8x128.size im3) (fun _ => rfl)).squeeze S8x128 squeezes_S1x8x128_S8x128)
        ((View.wordExact_bits rfl).reshape _ _) ((View.wordExact_bits rfl).reshape _ _)) >>= fun _ =>
      Prog.lift (.waitDma2 ((E₀.mss.slice (Rect.unit (s := S32) m S1.size im)).squeeze S_ squeezes_S1_S_).sem
        ((E₀.mb.slice (Rect.unit (s := S32x8x128) m3 S1x8x128.size im3) (fun _ => rfl)).squeeze S8x128 squeezes_S1x8x128_S8x128)
        ((E₀.ms.slice (Rect.unit (s := S1x8x128) ![0, 0, 0] S1x8x128.size inb_S1x8x128_S1x8x128_0_0_0) (fun _ => rfl)).squeeze S8x128 squeezes_S1x8x128_S8x128)
        ((View.wordExact_bits rfl).reshape _ _) ((View.wordExact_bits rfl).reshape _ _)) >>= fun _ => k : PR F α)
    else k) = (waitMax c j >>= fun _ => k') := by
  subst hb em em3 hk
  unfold waitMax
  by_cases h : j ≠ c
  · rw [dif_pos ((neWord_iff c j).mpr h), if_pos h]; rfl
  · rw [dif_neg (fun e => h ((neWord_iff c j).mp e)), if_neg h]; rfl

section parts
variable
  (h0 : (Memref.whole cc0_stg0_0).IsWhole)
  (h1 : (Memref.whole cc0_stg1_0).IsWhole)
  (h2 : (Memref.whole cc0_stg2_0).IsWhole)
  (h3 : (Memref.whole cc0_stg3_0).IsWhole)
  (h4 : (Memref.whole cc0_stg4_0).IsWhole)
  (h5 : (Memref.whole cc0_scratch0).IsWhole)
  (h6 : (Memref.whole cc0_scratch1).IsWhole)
  (h15 : (Memref.whole cc0_scratch10).IsWhole)
  (h16 : (Memref.whole cc0_scratch11).IsWhole)
  (c : Dev nD)

theorem op_bind {α β : Type} {γ : Type} (e : TpuEff nD τ sig (Elt F) Λ₀ .tc γ) (k : γ → PR F α) (f : α → PR F β) :
    ((.op e k : PR F α) >>= f) = .op e (fun x => k x >>= f) := rfl

theorem op_step {α γ : Type} (e : TpuEff nD τ sig (Elt F) Λ₀ .tc γ) {k k' : γ → PR F α} (h : ∀ x, k x = k' x) :
    (Prog.lift e >>= k) = .op e k' := congrArg (Prog.op e) (funext h)

set_option maxRecDepth 100000 in
theorem part105 (a : F .f32) : k0_part105 (Memref.whole cc0_stg0_0) h0 (Memref.whole cc0_stg1_0) h1 (Memref.whole cc0_stg2_0) h2 (Memref.whole cc0_stg3_0) h3 (Memref.whole cc0_stg4_0) h4 (Memref.whole cc0_scratch0) h5 (Memref.whole cc0_scratch1) h6 cc0_scratch2 cc0_scratch3 cc0_scratch4 cc0_scratch5 cc0_scratch6 cc0_scratch7 cc0_scratch8 cc0_scratch9 (Memref.whole cc0_scratch10) h15 (Memref.whole cc0_scratch11) h16 cc0_scratch12 cc0_scratch13 c (word c) a
    = waitSend E₀ true 15 1 (
      .op (.load E₀.ms (Rect.unit (s := S1x8x128) ![0, 0, 0] S1x8x128.size inb_S1x8x128_S1x8x128_0_0_0).toLoadRect (View.loadsAt_vmem h_S1x8x128)) fun _ =>
      .op (.store E₀.ms (Rect.unit (s := S1x8x128) ![0, 0, 0] S1x8x128.size inb_S1x8x128_S1x8x128_0_0_0) (k0_pay123 a) Finset.univ (View.stores_vmem_bits_univ h_S1x8x128 rfl) (.inl rfl)) fun _ =>
      sendMax c 0 >>= fun _ => sendMax c 1 >>= fun _ => sendMax c 2 >>= fun _ => sendMax c 3 >>= fun _ => sendMax c 4 >>= fun _ => sendMax c 5 >>= fun _ => pure (Scalar.extui (Scalar.cmpi .ne (word c) 6#32))) := by
  rw [k0_part105_eq_skeleton]
  unfold k0_part105_skel
  unfold waitSend
  refine op_step _ fun _ => ?_
  refine op_step _ fun _ => ?_
  refine op_step _ fun _ => ?_
  refine send_step c 0 _ _ _ _ rfl rfl rfl rfl rfl ?_
  refine send_step c 1 _ _ _ _ rfl rfl rfl rfl rfl ?_
  refine send_step c 2 _ _ _ _ rfl rfl rfl rfl rfl ?_
  refine send_step c 3 _ _ _ _ rfl rfl rfl rfl rfl ?_
  refine send_step c 4 _ _ _ _ rfl rfl rfl rfl rfl ?_
  refine send_step c 5 _ _ _ _ rfl rfl rfl rfl rfl ?_
  rfl

set_option maxRecDepth 100000 in
theorem part106 (v : BitVec 32) : k0_part106 (F := F) (Memref.whole cc0_stg0_0) h0 (Memref.whole cc0_stg1_0) h1 (Memref.whole cc0_stg2_0) h2 (Memref.whole cc0_stg3_0) h3 (Memref.whole cc0_stg4_0) h4 (Memref.whole cc0_scratch0) h5 (Memref.whole cc0_scratch1) h6 cc0_scratch2 cc0_scratch3 cc0_scratch4 cc0_scratch5 cc0_scratch6 cc0_scratch7 cc0_scratch8 cc0_scratch9 (Memref.whole cc0_scratch10) h15 (Memref.whole cc0_scratch11) h16 cc0_scratch12 cc0_scratch13 c (word c) v
    = (sendMax c 6 >>= fun _ => sendMax c 7 >>= fun _ => sendMax c 8 >>= fun _ => sendMax c 9 >>= fun _ => sendMax c 10 >>= fun _ => sendMax c 11 >>= fun _ => sendMax c 12 >>= fun _ => sendMax c 13 >>= fun _ => sendMax c 14 >>= fun _ => sendMax c 15 >>= fun _ => pure (Scalar.extui (Scalar.cmpi .ne (word c) 16#32))) := by
  rw [k0_part106_eq_skeleton]
  unfold k0_part106_skel
  refine send_step c 6 _ _ _ _ rfl rfl rfl rfl rfl ?_
  refine send_step c 7 _ _ _ _ rfl rfl rfl rfl rfl ?_
  refine send_step c 8 _ _ _ _ rfl rfl rfl rfl rfl ?_
  refine send_step c 9 _ _ _ _ rfl rfl rfl rfl rfl ?_
  refine send_step c 10 _ _ _ _ rfl rfl rfl rfl rfl ?_
  refine send_step c 11 _ _ _ _ rfl rfl rfl rfl rfl ?_
  refine send_step c 12 _ _ _ _ rfl rfl rfl rfl rfl ?_
  refine send_step c 13 _ _ _ _ rfl rfl rfl rfl rfl ?_
  refine send_step c 14 _ _ _ _ rfl rfl rfl rfl rfl ?_
  refine send_step c 15 _ _ _ _ rfl rfl rfl rfl rfl ?_
  rfl

set_option maxRecDepth 100000 in
theorem part107 (v : BitVec 32) : k0_part107 (F := F) (Memref.whole cc0_stg0_0) h0 (Memref.whole cc0_stg1_0) h1 (Memref.whole cc0_stg2_0) h2 (Memref.whole cc0_stg3_0) h3 (Memref.whole cc0_stg4_0) h4 (Memref.whole cc0_scratch0) h5 (Memref.whole cc0_scratch1) h6 cc0_scratch2 cc0_scratch3 cc0_scratch4 cc0_scratch5 cc0_scratch6 cc0_scratch7 cc0_scratch8 cc0_scratch9 (Memref.whole cc0_scratch10) h15 (Memref.whole cc0_scratch11) h16 cc0_scratch12 cc0_scratch13 c (word c) v
    = (sendMax c 16 >>= fun _ => sendMax c 17 >>= fun _ => sendMax c 18 >>= fun _ => sendMax c 19 >>= fun _ => sendMax c 20 >>= fun _ => sendMax c 21 >>= fun _ => sendMax c 22 >>= fun _ => sendMax c 23 >>= fun _ => sendMax c 24 >>= fun _ => sendMax c 25 >>= fun _ => pure (Scalar.extui (Scalar.cmpi .ne (word c) 26#32))) := by
  rw [k0_part107_eq_skeleton]
  unfold k0_part107_skel
  refine send_step c 16 _ _ _ _ rfl rfl rfl rfl rfl ?_
  refine send_step c 17 _ _ _ _ rfl rfl rfl rfl rfl ?_
  refine send_step c 18 _ _ _ _ rfl rfl rfl rfl rfl ?_
  refine send_step c 19 _ _ _ _ rfl rfl rfl rfl rfl ?_
  refine send_step c 20 _ _ _ _ rfl rfl rfl rfl rfl ?_
  refine send_step c 21 _ _ _ _ rfl rfl rfl rfl rfl ?_
  refine send_step c 22 _ _ _ _ rfl rfl rfl rfl rfl ?_
  refine send_step c 23 _ _ _ _ rfl rfl rfl rfl rfl ?_
  refine send_step c 24 _ _ _ _ rfl rfl rfl rfl rfl ?_
  refine send_step c 25 _ _ _ _ rfl rfl rfl rfl rfl ?_
  rfl

set_option maxRecDepth 100000 in
theorem part108 (v : BitVec 32) : k0_part108 (F := F) (Memref.whole cc0_stg0_0) h0 (Memref.whole cc0_stg1_0) h1 (Memref.whole cc0_stg2_0) h2 (Memref.whole cc0_stg3_0) h3 (Memref.whole cc0_stg4_0) h4 (Memref.whole cc0_scratch0) h5 (Memref.whole cc0_scratch1) h6 cc0_scratch2 cc0_scratch3 cc0_scratch4 cc0_scratch5 cc0_scratch6 cc0_scratch7 cc0_scratch8 cc0_scratch9 (Memref.whole cc0_scratch10) h15 (Memref.whole cc0_scratch11) h16 cc0_scratch12 cc0_scratch13 c (word c) v
    = (sendMax c 26 >>= fun _ => sendMax c 27 >>= fun _ => sendMax c 28 >>= fun _ => sendMax c 29 >>= fun _ => sendMax c 30 >>= fun _ => sendMax c 31 >>= fun _ =>
      .op (.load E₀.ms (Rect.unit (s := S1x8x128) ![0, 0, 0] S1x8x128.size inb_S1x8x128_S1x8x128_0_0_0).toLoadRect (View.loadsAt_vmem h_S1x8x128)) fun v =>
      .op (.load E₀.mb (Rect.unit (s := S32x8x128) (k0_off131 c) S1x8x128.size (k0_off131_inb c)).toLoadRect (View.loadsAt_vmem h_S1x8x128)) fun _ =>
      .op (.store E₀.mb (Rect.unit (s := S32x8x128) (k0_off131 c) S1x8x128.size (k0_off131_inb c)) (k0_pay124 v) Finset.univ (View.stores_vmem_bits_univ h_S1x8x128 rfl) (.inl rfl)) fun _ =>
      waitMax c 0 >>= fun _ => waitMax c 1 >>= fun _ => pure ⟨(Scalar.extui (Scalar.cmpi .ne (word c) 2#32)), 0#32⟩) := by
  rw [k0_part108_eq_skeleton]
  unfold k0_part108_skel
  refine send_step c 26 _ _ _ _ rfl rfl rfl rfl rfl ?_
  refine send_step c 27 _ _ _ _ rfl rfl rfl rfl rfl ?_
  refine send_step c 28 _ _ _ _ rfl rfl rfl rfl rfl ?_
  refine send_step c 29 _ _ _ _ rfl rfl rfl rfl rfl ?_
  refine send_step c 30 _ _ _ _ rfl rfl rfl rfl rfl ?_
  refine send_step c 31 _ _ _ _ rfl rfl rfl rfl rfl ?_
  refine op_step _ fun _ => ?_
  refine op_step _ fun _ => ?_
  refine op_step _ fun _ => ?_
  refine wait_step c 0 _ _ rfl rfl rfl ?_
  refine wait_step c 1 _ _ rfl rfl rfl ?_
  rfl

set_option maxRecDepth 100000 in
theorem part109 : k0_part109 (F := F) (Memref.whole cc0_stg0_0) h0 (Memref.whole cc0_stg1_0) h1 (Memref.whole cc0_stg2_0) h2 (Memref.whole cc0_stg3_0) h3 (Memref.whole cc0_stg4_0) h4 (Memref.whole cc0_scratch0) h5 (Memref.whole cc0_scratch1) h6 cc0_scratch2 cc0_scratch3 cc0_scratch4 cc0_scratch5 cc0_scratch6 cc0_scratch7 cc0_scratch8 cc0_scratch9 (Memref.whole cc0_scratch10) h15 (Memref.whole cc0_scratch11) h16 cc0_scratch12 cc0_scratch13 (word c) (Scalar.extui (Scalar.cmpi .ne (word c) 2#32)) 0#32
    = (waitMax c 2 >>= fun _ => waitMax c 3 >>= fun _ => waitMax c 4 >>= fun _ => waitMax c 5 >>= fun _ => waitMax c 6 >>= fun _ => waitMax c 7 >>= fun _ => waitMax c 8 >>= fun _ => waitMax c 9 >>= fun _ => waitMax c 10 >>= fun _ => waitMax c 11 >>= fun _ => pure ⟨(Scalar.extui (Scalar.cmpi .ne (word c) 12#32)), 0#32⟩) := by
  rw [k0_part109_eq_skeleton]
  unfold k0_part109_skel
  refine wait_step c 2 _ _ rfl rfl rfl ?_
  refine wait_step c 3 _ _ rfl rfl rfl ?_
  refine wait_step c 4 _ _ rfl rfl rfl ?_
  refine wait_step c 5 _ _ rfl rfl rfl ?_
  refine wait_step c 6 _ _ rfl rfl rfl ?_
  refine wait_step c 7 _ _ rfl rfl rfl ?_
  refine wait_step c 8 _ _ rfl rfl rfl ?_
  refine wait_step c 9 _ _ rfl rfl rfl ?_
  refine wait_step c 10 _ _ rfl rfl rfl ?_
  refine wait_step c 11 _ _ rfl rfl rfl ?_
  rfl

set_option maxRecDepth 100000 in
theorem part110 : k0_part110 (F := F) (Memref.whole cc0_stg0_0) h0 (Memref.whole cc0_stg1_0) h1 (Memref.whole cc0_stg2_0) h2 (Memref.whole cc0_stg3_0) h3 (Memref.whole cc0_stg4_0) h4 (Memref.whole cc0_scratch0) h5 (Memref.whole cc0_scratch1) h6 cc0_scratch2 cc0_scratch3 cc0_scratch4 cc0_scratch5 cc0_scratch6 cc0_scratch7 cc0_scratch8 cc0_scratch9 (Memref.whole cc0_scratch10) h15 (Memref.whole cc0_scratch11) h16 cc0_scratch12 cc0_scratch13 (word c) (Scalar.extui (Scalar.cmpi .ne (word c) 12#32)) 0#32
    = (waitMax c 12 >>= fun _ => waitMax c 13 >>= fun _ => waitMax c 14 >>= fun _ => waitMax c 15 >>= fun _ => waitMax c 16 >>= fun _ => waitMax c 17 >>= fun _ => waitMax c 18 >>= fun _ => waitMax c 19 >>= fun _ => waitMax c 20 >>= fun _ => waitMax c 21 >>= fun _ => pure ⟨(Scalar.extui (Scalar.cmpi .ne (word c) 22#32)), 0#32⟩) := by
  rw [k0_part110_eq_skeleton]
  unfold k0_part110_skel
  refine wait_step c 12 _ _ rfl rfl rfl ?_
  refine wait_step c 13 _ _ rfl rfl rfl ?_
  refine wait_step c 14 _ _ rfl rfl rfl ?_
  refine wait_step c 15 _ _ rfl rfl rfl ?_
  refine wait_step c 16 _ _ rfl rfl rfl ?_
  refine wait_step c 17 _ _ rfl rfl rfl ?_
  refine wait_step c 18 _ _ rfl rfl rfl ?_
  refine wait_step c 19 _ _ rfl rfl rfl ?_
  refine wait_step c 20 _ _ rfl rfl rfl ?_
  refine wait_step c 21 _ _ rfl rfl rfl ?_
  rfl

set_option maxRecDepth 100000 in
theorem part111 : k0_part111 (F := F) (Memref.whole cc0_stg0_0) h0 (Memref.whole cc0_stg1_0) h1 (Memref.whole cc0_stg2_0) h2 (Memref.whole cc0_stg3_0) h3 (Memref.whole cc0_stg4_0) h4 (Memref.whole cc0_scratch0) h5 (Memref.whole cc0_scratch1) h6 cc0_scratch2 cc0_scratch3 cc0_scratch4 cc0_scratch5 cc0_scratch6 cc0_scratch7 cc0_scratch8 cc0_scratch9 (Memref.whole cc0_scratch10) h15 (Memref.whole cc0_scratch11) h16 cc0_scratch12 cc0_scratch13 (word c) (Scalar.extui (Scalar.cmpi .ne (word c) 22#32)) 0#32
    = (waitMax c 22 >>= fun _ => waitMax c 23 >>= fun _ => waitMax c 24 >>= fun _ => waitMax c 25 >>= fun _ => waitMax c 26 >>= fun _ => waitMax c 27 >>= fun _ => waitMax c 28 >>= fun _ => waitMax c 29 >>= fun _ => waitMax c 30 >>= fun _ => waitMax c 31 >>= fun _ =>
      .op (.load E₀.mb (Rect.unit (s := S32x8x128) ![0, 0, 0] S32x8x128.size inb_S32x8x128_S32x8x128_0_0_0).toLoadRect (View.loadsAt_vmem h_S32x8x128)) fun m => pure m) := by
  rw [k0_part111_eq_skeleton]
  unfold k0_part111_skel
  refine wait_step c 22 _ _ rfl rfl rfl ?_
  refine wait_step c 23 _ _ rfl rfl rfl ?_
  refine wait_step c 24 _ _ rfl rfl rfl ?_
  refine wait_step c 25 _ _ rfl rfl rfl ?_
  refine wait_step c 26 _ _ rfl rfl rfl ?_
  refine wait_step c 27 _ _ rfl rfl rfl ?_
  refine wait_step c 28 _ _ rfl rfl rfl ?_
  refine wait_step c 29 _ _ rfl rfl rfl ?_
  refine wait_step c 30 _ _ rfl rfl rfl ?_
  refine wait_step c 31 _ _ rfl rfl rfl ?_
  refine op_step _ fun _ => ?_
  rfl

theorem each_all (f : Fin 32 → PR F PUnit) : each f (List.finRange 32)
    = (f 0 >>= fun _ => f 1 >>= fun _ => f 2 >>= fun _ => f 3 >>= fun _ => f 4 >>= fun _ => f 5 >>= fun _ => f 6 >>= fun _ => f 7 >>= fun _ => f 8 >>= fun _ => f 9 >>= fun _ => f 10 >>= fun _ => f 11 >>= fun _ => f 12 >>= fun _ => f 13 >>= fun _ => f 14 >>= fun _ => f 15 >>= fun _ => f 16 >>= fun _ => f 17 >>= fun _ => f 18 >>= fun _ => f 19 >>= fun _ => f 20 >>= fun _ => f 21 >>= fun _ => f 22 >>= fun _ => f 23 >>= fun _ => f 24 >>= fun _ => f 25 >>= fun _ => f 26 >>= fun _ => f 27 >>= fun _ => f 28 >>= fun _ => f 29 >>= fun _ => f 30 >>= fun _ => f 31 >>= fun _ => pure ⟨⟩) := rfl

set_option maxHeartbeats 4000000 in
/-- The printed exchange is the one above. -/
theorem exchange_eq (a : F .f32) {α : Type} (k : F .f32 → PR F α) :
    Prog.bind (do
      let v2733 : BitVec 32 ← k0_part105 (Memref.whole cc0_stg0_0) h0 (Memref.whole cc0_stg1_0) h1 (Memref.whole cc0_stg2_0) h2 (Memref.whole cc0_stg3_0) h3 (Memref.whole cc0_stg4_0) h4 (Memref.whole cc0_scratch0) h5 (Memref.whole cc0_scratch1) h6 cc0_scratch2 cc0_scratch3 cc0_scratch4 cc0_scratch5 cc0_scratch6 cc0_scratch7 cc0_scratch8 cc0_scratch9 (Memref.whole cc0_scratch10) h15 (Memref.whole cc0_scratch11) h16 cc0_scratch12 cc0_scratch13 c (word c) a
      let v2763 : BitVec 32 ← k0_part106 (Memref.whole cc0_stg0_0) h0 (Memref.whole cc0_stg1_0) h1 (Memref.whole cc0_stg2_0) h2 (Memref.whole cc0_stg3_0) h3 (Memref.whole cc0_stg4_0) h4 (Memref.whole cc0_scratch0) h5 (Memref.whole cc0_scratch1) h6 cc0_scratch2 cc0_scratch3 cc0_scratch4 cc0_scratch5 cc0_scratch6 cc0_scratch7 cc0_scratch8 cc0_scratch9 (Memref.whole cc0_scratch10) h15 (Memref.whole cc0_scratch11) h16 cc0_scratch12 cc0_scratch13 c (word c) v2733
      let v2793 : BitVec 32 ← k0_part107 (Memref.whole cc0_stg0_0) h0 (Memref.whole cc0_stg1_0) h1 (Memref.whole cc0_stg2_0) h2 (Memref.whole cc0_stg3_0) h3 (Memref.whole cc0_stg4_0) h4 (Memref.whole cc0_scratch0) h5 (Memref.whole cc0_scratch1) h6 cc0_scratch2 cc0_scratch3 cc0_scratch4 cc0_scratch5 cc0_scratch6 cc0_scratch7 cc0_scratch8 cc0_scratch9 (Memref.whole cc0_scratch10) h15 (Memref.whole cc0_scratch11) h16 cc0_scratch12 cc0_scratch13 c (word c) v2763
      let ⟨v2822, c0_i32_3174⟩ : Σ' (v2822 : BitVec 32), BitVec 32 ← k0_part108 (Memref.whole cc0_stg0_0) h0 (Memref.whole cc0_stg1_0) h1 (Memref.whole cc0_stg2_0) h2 (Memref.whole cc0_stg3_0) h3 (Memref.whole cc0_stg4_0) h4 (Memref.whole cc0_scratch0) h5 (Memref.whole cc0_scratch1) h6 cc0_scratch2 cc0_scratch3 cc0_scratch4 cc0_scratch5 cc0_scratch6 cc0_scratch7 cc0_scratch8 cc0_scratch9 (Memref.whole cc0_scratch10) h15 (Memref.whole cc0_scratch11) h16 cc0_scratch12 cc0_scratch13 c (word c) v2793
      let ⟨v2852, c0_i32_3194⟩ : Σ' (v2852 : BitVec 32), BitVec 32 ← k0_part109 (Memref.whole cc0_stg0_0) h0 (Memref.whole cc0_stg1_0) h1 (Memref.whole cc0_stg2_0) h2 (Memref.whole cc0_stg3_0) h3 (Memref.whole cc0_stg4_0) h4 (Memref.whole cc0_scratch0) h5 (Memref.whole cc0_scratch1) h6 cc0_scratch2 cc0_scratch3 cc0_scratch4 cc0_scratch5 cc0_scratch6 cc0_scratch7 cc0_scratch8 cc0_scratch9 (Memref.whole cc0_scratch10) h15 (Memref.whole cc0_scratch11) h16 cc0_scratch12 cc0_scratch13 (word c) v2822 c0_i32_3174
      let ⟨v2882, c0_i32_3214⟩ : Σ' (v2882 : BitVec 32), BitVec 32 ← k0_part110 (Memref.whole cc0_stg0_0) h0 (Memref.whole cc0_stg1_0) h1 (Memref.whole cc0_stg2_0) h2 (Memref.whole cc0_stg3_0) h3 (Memref.whole cc0_stg4_0) h4 (Memref.whole cc0_scratch0) h5 (Memref.whole cc0_scratch1) h6 cc0_scratch2 cc0_scratch3 cc0_scratch4 cc0_scratch5 cc0_scratch6 cc0_scratch7 cc0_scratch8 cc0_scratch9 (Memref.whole cc0_scratch10) h15 (Memref.whole cc0_scratch11) h16 cc0_scratch12 cc0_scratch13 (word c) v2852 c0_i32_3194
      let v2911 : Vec F S32x8x128 .f32 ← k0_part111 (Memref.whole cc0_stg0_0) h0 (Memref.whole cc0_stg1_0) h1 (Memref.whole cc0_stg2_0) h2 (Memref.whole cc0_stg3_0) h3 (Memref.whole cc0_stg4_0) h4 (Memref.whole cc0_scratch0) h5 (Memref.whole cc0_scratch1) h6 cc0_scratch2 cc0_scratch3 cc0_scratch4 cc0_scratch5 cc0_scratch6 cc0_scratch7 cc0_scratch8 cc0_scratch9 (Memref.whole cc0_scratch10) h15 (Memref.whole cc0_scratch11) h16 cc0_scratch12 cc0_scratch13 (word c) v2882 c0_i32_3214
      pure (k0_pay125 v2911)) k = exchange c a k := by
  show (_ >>= k) = _
  unfold exchange
  rw [each_all, each_all]
  simp only [part105, part106, part107, part108, part109, part110, part111, waitSend, bind_assoc, pure_bind, op_bind]

end parts

end Cert.KernelIdeal.Tidy
-- ==== Proof.Ops.lean ====
module

public import proofs.«01_k».proof.Proof.Sched

@[expose] public section

set_option maxRecDepth 100000

noncomputable section

namespace Cert.KernelIdeal.Tidy

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

abbrev 𝒱₀ : Variants := Variants.none

/-! ## Runs of numbers -/

theorem ico_head (Φ : ℕ → sProp (MT nD τ sig ℕ (Elt F) ℕ UU ℕ)) {a b : ℕ} (h : a < b) : bigSep (Finset.Ico a b) Φ = iprop(Φ a ∗ bigSep (Finset.Ico (a + 1) b) Φ) := by
  have e : Finset.Ico a b = insert a (Finset.Ico (a + 1) b) := by ext i; simp only [Finset.mem_insert, Finset.mem_Ico]; omega
  rw [e, bigSep_insert (by simp only [Finset.mem_Ico]; omega)]; rfl

theorem ico_snoc (Φ : ℕ → sProp (MT nD τ sig ℕ (Elt F) ℕ UU ℕ)) {a b : ℕ} (h : a ≤ b) : bigSep (Finset.Ico a (b + 1)) Φ = iprop(Φ b ∗ bigSep (Finset.Ico a b) Φ) := by
  have e : Finset.Ico a (b + 1) = insert b (Finset.Ico a b) := by ext i; simp only [Finset.mem_insert, Finset.mem_Ico]; omega
  rw [e, bigSep_insert (by simp only [Finset.mem_Ico]; omega)]; rfl

theorem range_snoc (Φ : ℕ → sProp (MT nD τ sig ℕ (Elt F) ℕ UU ℕ)) (n : ℕ) : bigSep (Finset.range (n + 1)) Φ = iprop(Φ n ∗ bigSep (Finset.range n) Φ) := by
  rw [Finset.range_add_one, bigSep_insert Finset.notMem_range_self]; rfl

theorem read_range (Φ : ℕ → sProp (MT nD τ sig ℕ (Elt F) ℕ UU ℕ)) {j n : ℕ} (h : j < n) : bigSep (Finset.range n) Φ ⊢ Φ j :=
  bigSep_elim (Finset.mem_range.mpr h)

theorem blt_true {a b : ℕ} (h : a < b) : Nat.blt a b = true := Nat.ble_eq_true_of_le h
theorem blt_false {a b : ℕ} (h : ¬ a < b) : Nat.blt a b = false := by
  cases e : Nat.blt a b
  · rfl
  · exact absurd (Nat.le_of_ble_eq_true e) h

/-- A persistent part of one member of a run can be read off. -/
theorem ico_read (Φ : ℕ → sProp (MT nD τ sig ℕ (Elt F) ℕ UU ℕ)) (P : sProp (MT nD τ sig ℕ (Elt F) ℕ UU ℕ)) [BI.Persistent P] {a b j : ℕ} (hj : a ≤ j ∧ j < b) (h : Φ j ⊢ iprop(P ∗ Φ j)) :
    bigSep (Finset.Ico a b) Φ ⊢ iprop(P ∗ bigSep (Finset.Ico a b) Φ) := by
  have hm : j ∈ Finset.Ico a b := Finset.mem_Ico.mpr hj
  rw [show bigSep (Finset.Ico a b) Φ = iprop(Φ j ∗ bigSep ((Finset.Ico a b).erase j) Φ) from bigSep_erase hm]
  iintro ⟨H, Hr⟩
  icases h $$ H with ⟨HP, H⟩
  isplitl [HP]; · iexact HP
  isplitl [H]; · iexact H
  iexact Hr

/-! ## What is known throughout -/

variable {xs : (c : Dev nD) → Buf (Elt F) ((E₀.x).view.loc (c : Thread nD τ))} {AM : Dev nD → S8x128.Idx → Elt F .f32}

variable {κ : Dev nD → Kind → ℕ} {ι : Key → ℕ}

/-- A landing place's invariant. -/
def placeInv (ι : Key → ℕ) (k : Key) : sProp (MT nD τ sig ℕ (Elt F) ℕ UU ℕ) := Release.slotInv ES (ι k) k (place k)

instance placeInv_persistent (k : Key) : BI.Persistent (placeInv (F := F) ι k) := by unfold placeInv; infer_instance

/-- What a persistent assertion `I` makes known: every cell's invariant, every landing place's, the levels. -/
def Known (xs : (c : Dev nD) → Buf (Elt F) ((E₀.x).view.loc (c : Thread nD τ))) (AM : Dev nD → S8x128.Idx → Elt F .f32)
    (κ : Dev nD → Kind → ℕ) (ι : Key → ℕ) (I : sProp (MT nD τ sig ℕ (Elt F) ℕ UU ℕ)) : Prop :=
  (∀ c k, I ⊢ cellInv ER (Rd xs AM) (κ c k) (cell c k)) ∧ (∀ k, I ⊢ placeInv ι k) ∧ (∀ _ : ℕ, I ⊢ (levAts L lv : sProp (MT nD τ sig ℕ (Elt F) ℕ UU ℕ)))

theorem Known.cells {I : sProp (MT nD τ sig ℕ (Elt F) ℕ UU ℕ)} (h : Known xs AM κ ι I) (c : Dev nD) (k : Kind) : I ⊢ cellInv ER (Rd xs AM) (κ c k) (cell c k) := h.1 c k
theorem Known.slots {I : sProp (MT nD τ sig ℕ (Elt F) ℕ UU ℕ)} (h : Known xs AM κ ι I) (k : Key) : I ⊢ placeInv ι k := h.2.1 k
theorem Known.levs {I : sProp (MT nD τ sig ℕ (Elt F) ℕ UU ℕ)} (h : Known xs AM κ ι I) : I ⊢ (levAts L lv : sProp (MT nD τ sig ℕ (Elt F) ℕ UU ℕ)) := h.2.2 0

/-- Everything on the list stands above the level. -/
def Above (n : ℕ) (ls : List Debt) : Prop := ∀ l ∈ ls, l.Known ∧ n < debtLvl l

/-! ## Places -/

theorem lane_val {j : ℕ} (h : j < 16) : (Fin.ofNat 16 j).val = j := Nat.mod_eq_of_lt h

theorem place_lane (c : Dev nD) (d : Bool) (t : Fin 2) {j : ℕ} (h : j < 16) :
    place (F := F) (lane c d t j) = iprop(anyOf (nx d c) (dstV E₀ d j t) ∗ reached ER (Rcell (nx d c) d t j) (j / 4)) := by
  show iprop(anyOf (nx d c) (dstV E₀ d (Fin.ofNat 16 j).val t) ∗ reached ER (Rcell (nx d c) d t (Fin.ofNat 16 j).val) ((Fin.ofNat 16 j).val / 4)) = _
  rw [lane_val h]

theorem set_nonempty {sp : Space} {s : Shape} {e : EltTy} (v : Memref sig .tc sp s e) (h : 0 < s.numel) : v.view.set.Nonempty :=
  Finset.card_pos.mp (by rw [View.card_set]; exact h)

theorem place_once (k : Key) : iprop(place k ∗ place k) ⊢ (False : sProp (MT nD τ sig ℕ (Elt F) ℕ UU ℕ)) := by
  rcases k with ⟨c, d, t, j⟩ | ⟨p, o⟩ <;> unfold place <;> iintro ⟨⟨Ha, -⟩, ⟨Hb, -⟩⟩
  · iapply (Release.slot_slot_false (ℓ := (dstV E₀ d j.val t).view.loc ((nx d c : Dev nD) : Thread nD τ)) (set_nonempty (dstV E₀ d j.val t) (by decide)))
    isplitl [Ha] <;> iassumption
  · iapply (Release.slot_slot_false (ℓ := (mbV p).view.loc ((o : Dev nD) : Thread nD τ)) (set_nonempty (mbV p) (by decide)))
    isplitl [Ha] <;> iassumption

/-- A place given away. -/
theorem give_place {I : sProp (MT nD τ sig ℕ (Elt F) ℕ UU ℕ)} [BI.Persistent I] (Kn : Known xs AM κ ι I) (k : Key) :
    iprop(I ∗ Release.readerAt ES k 0 ∗ place k) ⊢ (|={Set.univ}=> freed k : sProp (MT nD τ sig ℕ (Elt F) ℕ UU ℕ)) := by
  iintro ⟨#HI, Hr, Hp⟩
  ihave #Hs := Kn.slots k $$ HI
  unfold placeInv
  imod (Release.slot_release ES (Set.mem_univ (ι k)) (place_once k) 0) $$ [Hr Hp] with ⟨-, Hf⟩
  · isplitr; · iexact Hs
    isplitl [Hr] <;> iassumption
  imodintro; iexact Hf

/-- A place taken. -/
theorem take_place {I : sProp (MT nD τ sig ℕ (Elt F) ℕ UU ℕ)} [BI.Persistent I] (Kn : Known xs AM κ ι I) (k : Key) :
    iprop(I ∗ freed k ∗ Release.writeTok ES k 1) ⊢ (|={Set.univ}=> place k : sProp (MT nD τ sig ℕ (Elt F) ℕ UU ℕ)) := by
  iintro ⟨#HI, Hf, Hw⟩
  ihave #Hs := Kn.slots k $$ HI
  unfold placeInv
  iapply (Release.slot_take ES (Set.mem_univ (ι k)) 1)
  isplitr; · iexact Hs
  isplitl [Hf] <;> iassumption

/-! ## The units -/

theorem credit_dst (d : Bool) (j : ℕ) (t : Fin 2) : (dstV E₀ d j t).view.dmaCredit = nHalf := by
  unfold nHalf; cases d <;> rfl

theorem credit_src (d : Bool) (j : ℕ) (t : Fin 2) : (srcV E₀ d j t).view.dmaCredit = nHalf := by
  cases j with
  | zero => unfold nHalf; rfl
  | succ j => exact credit_dst d j t

theorem credit_mb (p : Fin 32) : (mbV p).view.dmaCredit = nMax := by unfold nMax; rfl
theorem credit_ms : msV.view.dmaCredit = nMax := by unfold nMax; rfl

/-! ## One lane: one half of one ring, as its device sees it -/

section lane
variable (xs AM)
variable (c : Dev nD) (d : Bool) (t : Fin 2)

def sendTok (j : ℕ) : sProp (MT nD τ sig ℕ (Elt F) ℕ UU ℕ) :=
  iprop(dutyTok ER (Scell c d t j) (j / 4) 0 ∗ dutyTok ER (Rcell (nx d c) d t j) (j / 4) 0 ∗ Release.writeTok ES (lane c d t j) 1)
def atS (j : ℕ) : sProp (MT nD τ sig ℕ (Elt F) ℕ UU ℕ) := iprop(atPos ER (Scell c d t j) (j / 4) ∅ 0 ∗ reached ER (Scell c d t j) (j / 4))
def atR (j : ℕ) : sProp (MT nD τ sig ℕ (Elt F) ℕ UU ℕ) := iprop(atPos ER (Rcell c d t j) (j / 4) ∅ 0 ∗ reached ER (Rcell c d t j) (j / 4))
def crS (j : ℕ) : sProp (MT nD τ sig ℕ (Elt F) ℕ UU ℕ) := cred (tallyAt (Scell c d t j) j nHalf)
def crR (j : ℕ) : sProp (MT nD τ sig ℕ (Elt F) ℕ UU ℕ) := cred (tallyAt (Rcell c d t j) j nHalf)
def crC (j : ℕ) : sProp (MT nD τ sig ℕ (Elt F) ℕ UU ℕ) := cred (tallyAt (Ccell c d t) j 1)
/-- A slot nobody reads or writes. -/
def idle (j : ℕ) : sProp (MT nD τ sig ℕ (Elt F) ℕ UU ℕ) := anyOf c (slotV (E₀.comm d) (slotIx j) t)
/-- What the device keeps of the slot copy `j` reads: the share it multiplies from. -/
def held : ℕ → sProp (MT nD τ sig ℕ (Elt F) ℕ UU ℕ)
  | 0 => idle c d t 0
  | j + 1 => holds c (dstV E₀ d j t) (PosShare.left fullShare) (xh xs (org d (j + 1) c) t)
def giveTok (j : ℕ) : sProp (MT nD τ sig ℕ (Elt F) ℕ UU ℕ) :=
  iprop(dutyTok ER (Ccell (nx (!d) c) d t) 0 j ∗ Release.readerAt ES (lane (nx (!d) c) d t (j + 3)) 0)
/-- The credits given so far and those to give. -/
def giving (W : ℕ) : sProp (MT nD τ sig ℕ (Elt F) ℕ UU ℕ) :=
  iprop(bigSep (Finset.range (min W (credits d))) (fun i => freed (lane (nx (!d) c) d t (i + 3))) ∗ bigSep (Finset.Ico W (credits d)) (giveTok c d t))
/-- The credits: how many were taken, and what came with them. -/
def purse (K : ℕ) : sProp (MT nD τ sig ℕ (Elt F) ℕ UU ℕ) :=
  iprop((if K < credits d then iprop(∃ T : Finset ℕ, atPos ER (Ccell c d t) 0 T K ∗ bigSep T (credPay c d t)) else atPos ER (Ccell c d t) 1 ∅ 0)
    ∗ bigSep (Finset.Ico K (credits d)) (crC c d t))
/-- What a cleared copy leaves for good: the device's own block's share, and the slots no copy uses again. -/
def done (j : ℕ) : sProp (MT nD τ sig ℕ (Elt F) ℕ UU ℕ) := iprop((if j = 0 then sendPay xs c d t 0 else iprop(emp)) ∗ (if credits d ≤ j then idle c d t j else iprop(emp)))
/-- What the lane has learnt. -/
def got (R K : ℕ) : sProp (MT nD τ sig ℕ (Elt F) ℕ UU ℕ) :=
  iprop(bigSep (Finset.range (K + 3)) (fun j => freed (lane c d t j)) ∗ reached ER (Ccell (nx (!d) c) d t) 0
    ∗ bigSep (Finset.range (R + 1)) fun j => allSpots (org d j c))

instance credPay_persistent (k : ℕ) : BI.Persistent (credPay (F := F) c d t k) := by unfold credPay; infer_instance
instance got_persistent (R K : ℕ) : BI.Persistent (got (F := F) c d t R K) := by unfold got; infer_instance

/-- The lane once `S` copies have been sent, `R` received, `W` cleared and `K` credits taken. -/
def Lane (S R W K : ℕ) : sProp (MT nD τ sig ℕ (Elt F) ℕ UU ℕ) :=
  iprop(bigSep (Finset.Ico S (copies d)) (sendTok c d t)
    ∗ bigSep (Finset.Ico W (W + 4)) (atS c d t) ∗ bigSep (Finset.Ico R (R + 4)) (atR c d t)
    ∗ bigSep (Finset.Ico R (copies d)) (crR c d t) ∗ bigSep (Finset.Ico W S) (crS c d t)
    ∗ bigSep (Finset.Ico W (R + 1)) (held xs c d t)
    ∗ giving c d t W ∗ purse c d t K
    ∗ bigSep (Finset.range W) (done xs c d t) ∗ got c d t R K)

end lane

theorem copies_le (d : Bool) : copies d ≤ 16 := by cases d <;> decide
theorem credits_copies (d : Bool) : credits d + 3 = copies d := by cases d <;> rfl

section ops
variable {I : sProp (MT nD τ sig ℕ (Elt F) ℕ UU ℕ)} [BI.Persistent I] (Kn : Known xs AM κ ι I) (c : Dev nD) (d : Bool) (t : Fin 2)
variable {α : Type} {Q : α → sProp (MT nD τ sig ℕ (Elt F) ℕ UU ℕ)} (k : PR F α) (ls : List Debt)

theorem slotIx_add (j : ℕ) : slotIx (j + 4) = slotIx j := by unfold slotIx; ext; show (j + 4) % 4 = j % 4; omega

theorem Rcell_add (j : ℕ) : Rcell c d t (j + 4) = Rcell c d t j := by
  show cell c (.R d t (slotIx (j + 1 + 4))) = _; rw [slotIx_add]
theorem Scell_add (j : ℕ) : Scell c d t (j + 4) = Scell c d t j := by
  show cell c (.S d t (slotIx (j + 4))) = _; rw [slotIx_add]

theorem atR_next (j : ℕ) : iprop(atPos ER (Rcell c d t j) (j / 4 + 1) ∅ 0 ∗ reached ER (Rcell c d t j) (j / 4 + 1)) = atR (F := F) c d t (j + 4) := by
  unfold atR; rw [Rcell_add, Nat.add_div_right j (by decide : 0 < 4)]
theorem atS_next (j : ℕ) : iprop(atPos ER (Scell c d t j) (j / 4 + 1) ∅ 0 ∗ reached ER (Scell c d t j) (j / 4 + 1)) = atS (F := F) c d t (j + 4) := by
  unfold atS; rw [Scell_add, Nat.add_div_right j (by decide : 0 < 4)]

theorem halves {sp : Space} {s : Shape} {e : EltTy} (v : Memref sig .tc sp s e) (q : PosShare TreeShare) (X : s.Idx → Elt F e) :
    holds c v q X ⊢ iprop(holds c v q.left X ∗ holds c v q.right X) := (pointsTo_share (PosShare.mem_left_op_right q)).1
theorem unhalves {sp : Space} {s : Shape} {e : EltTy} (v : Memref sig .tc sp s e) (q : PosShare TreeShare) (X : s.Idx → Elt F e) :
    iprop(holds c v q.left X ∗ holds c v q.right X) ⊢ holds c v q X := (pointsTo_share (PosShare.mem_left_op_right q)).2

include Kn in
/-- Copy `R` lands: the device has its block. -/
theorem wp_recv {S R W K : ℕ} (hR : R < copies d) (hW : W ≤ R + 1) (hls : Above (2 * R + 4) ls) :
    iprop(I ∗ Lane xs c d t S R W K ∗ Owe c ls)
      ⊢ iprop(((Lane xs c d t S (R + 1) W K ∗ sendPay xs c d t (R + 1) ∗ Owe c ls) -∗ wp frame (wpE (defs₀ (F := F)) 𝒱₀ (c : Thread nD τ) none) Set.univ k Q)
          -∗ wp frame (wpE (defs₀ (F := F)) 𝒱₀ (c : Thread nD τ) none) Set.univ (waitRecv E₀ d R t k) Q) := by
  unfold Lane Owe waitRecv
  rw [ico_head (atR c d t) (show R < R + 4 by omega), ico_head (crR c d t) hR]
  iintro ⟨#HI, ⟨Hst, HaS, ⟨HaR, HaRs⟩, ⟨HcR, HcRs⟩, HcS, Hh, Hg, Hp, Hd, #Hgot⟩, ⟨%W', HO⟩⟩ Hk
  icases (show atR (F := F) c d t R ⊢ iprop(atPos ER (Rcell c d t R) (R / 4) ∅ 0 ∗ reached ER (Rcell c d t R) (R / 4)) from .rfl) $$ HaR with ⟨HaR, -⟩
  ihave #Hcell := Kn.cells c (.R d t (slotIx (R + 1))) $$ HI
  ihave #Hlev := Kn.levs $$ HI
  ihave HM := (mayWait_owing c (.R d t (slotIx (R + 1))) R ls (by have := copies_le d; omega) hls) $$ Hlev
  iapply (Rounds.wp_wait_rest_token 𝒱₀ ER (Rd xs AM) (c : Thread nD τ) none (κ := κ c (.R d t (slotIx (R + 1))))
      (wpE_waitDma2_eq 𝒱₀ (c : Thread nD τ) none Set.univ) (Set.mem_univ _) R (O := owing c ls) (W := W') (R := R / 4) (m := 0) (T := ∅)
      (by rw [Nat.zero_add, credit_dst]; exact (expect_R xs AM c d t R hR).symm)) $$ [HcR HO HM HaR]
  · isplitr; · iexact Hcell
    isplitl [HcR]; · rw [credit_dst]; unfold crR; iexact HcR
    isplitl [HO]; · iexact HO
    isplitl [HM]; · iexact HM
    iexact HaR
  iintro ⟨HO, HaR, #Hr, Hpay⟩
  ihave Hpay := (Entails.of_eq (rest_R xs AM c d t R hR)) $$ Hpay
  unfold recvPay
  icases Hpay with ⟨Hx, #Hsp⟩
  icases (halves c (dstV E₀ d R t) fullShare _) $$ Hx with ⟨Hl, Hr'⟩
  iapply Hk
  isplitr [Hr' HO]
  · isplitl [Hst]; · iexact Hst
    isplitl [HaS]; · iexact HaS
    isplitl [HaR HaRs]
    · rw [show R + 1 + 4 = (R + 4) + 1 from by omega, ico_snoc (atR c d t) (show R + 1 ≤ R + 4 by omega), ← atR_next]
      isplitl [HaR]
      · isplitl [HaR]; · iexact HaR
        iexact Hr
      iexact HaRs
    isplitl [HcRs]; · iexact HcRs
    isplitl [HcS]; · iexact HcS
    isplitl [Hl Hh]
    · rw [ico_snoc (held xs c d t) hW]
      isplitl [Hl]; · unfold held; iexact Hl
      iexact Hh
    isplitl [Hg]; · iexact Hg
    isplitl [Hp]; · iexact Hp
    isplitl [Hd]; · iexact Hd
    unfold got
    icases Hgot with ⟨#H1, #H2, #H3⟩
    isplitr; · iexact H1
    isplitr; · iexact H2
    rw [range_snoc (fun j => allSpots (org d j c)) (R + 1)]
    isplitr; · iexact Hsp
    iexact H3
  isplitl [Hr']; · unfold sendPay srcShare; iexact Hr'
  iexists _; iexact HO

include Kn in
/-- Copy `S` leaves. -/
theorem wp_sendCopy {S R W K : ℕ} (hS : S < copies d) (hWS : W ≤ S) (hSW : S < W + 4) (hSR : S ≤ R) (hK : S < K + 3) :
    iprop(I ∗ Lane xs c d t S R W K ∗ sendPay xs c d t S ∗ Owe c (.copy d t S :: ls))
      ⊢ iprop(((Lane xs c d t (S + 1) R W K ∗ Owe c ls) -∗ wp frame (wpE (defs₀ (F := F)) 𝒱₀ (c : Thread nD τ) none) Set.univ k Q)
          -∗ wp frame (wpE (defs₀ (F := F)) 𝒱₀ (c : Thread nD τ) none) Set.univ (send E₀ d (nx d c) S t k) Q) := by
  have h16 : S < 16 := lt_of_lt_of_le hS (copies_le d)
  unfold Lane Owe send
  rw [ico_head (sendTok c d t) hS]
  iintro ⟨#HI, ⟨⟨Hst, Hsts⟩, HaS, HaR, HcR, HcS, Hh, Hg, Hp, Hd, #Hgot⟩, Hx, ⟨%W', HO⟩⟩ Hk
  unfold sendTok
  icases Hst with ⟨HtS, HtR, HtW⟩
  icases (ico_read (atS c d t) (reached ER (Scell c d t S) (S / 4)) (j := S) ⟨hWS, hSW⟩
    (by unfold atS; iintro ⟨H, #Hr⟩; isplitr; · iexact Hr
        isplitl [H]; · iexact H
        iexact Hr)) $$ HaS with ⟨#HrS, HaS⟩
  ihave #Hfr := (show got (F := F) c d t R K ⊢ freed (lane c d t S) from by
    unfold got; iintro ⟨H, -⟩; iapply (read_range (fun j => freed (lane c d t j)) hK); iexact H) $$ Hgot
  ihave #Hsp := (show got (F := F) c d t R K ⊢ allSpots (org d S c) from by
    unfold got; iintro ⟨-, -, H⟩; iapply (read_range (fun j => allSpots (org d j c)) (Nat.lt_succ_of_le hSR)); iexact H) $$ Hgot
  ihave #Hc1 := Kn.cells c (.S d t (slotIx S)) $$ HI
  ihave #Hc2 := Kn.cells (nx d c) (.R d t (slotIx (S + 1))) $$ HI
  iapply (fupd_wp frame (wpE (defs₀ (F := F)) 𝒱₀ (c : Thread nD τ) none) Set.univ)
  imod (take_place Kn (lane c d t S)) $$ [HtW] with Hpl
  · isplitr; · iexact HI
    isplitr; · iexact Hfr
    iexact HtW
  imodintro
  ihave Hpl := (Entails.of_eq (place_lane c d t h16)) $$ Hpl
  icases Hpl with ⟨Hdst, #HrR⟩
  unfold anyOf Release.slot
  icases Hdst with ⟨%fd, Hdst⟩
  unfold sendPay
  iapply (Rounds.wp_send_pointsTo_with 𝒱₀ ER (Rd xs AM) (c : Thread nD τ) none (κ₁ := κ c (.S d t (slotIx S))) (κ₂ := κ (nx d c) (.R d t (slotIx (S + 1))))
      (r₁ := S / 4) (r₂ := S / 4) (d₁ := 0) (d₂ := 0) (fd := fd) (F := allSpots (org d S c))
      (by rw [duties_S xs AM c d t S hS]; exact Finset.mem_singleton_self _) (by rw [duties_R xs AM (nx d c) d t S hS]; exact Finset.mem_singleton_self _)
      S S nHalf (by exact credit_dst d S t) (amount_cell xs AM c (.S d t (slotIx S)) _ _) (amount_cell xs AM (nx d c) (.R d t (slotIx (S + 1))) _ _)
      (owing c ls) rfl (W := W')
      (by rw [payload_S]; exact .rfl)
      (by
        rw [payload_R]; unfold recvPay holds; rw [org_nx, pointsTo_rep ((nx d c : Dev nD) : Thread nD τ), View.read_write_univ, View.read_rep]))
    $$ [Hx Hdst HO HtS HtR]
  · isplitr; · iexact Hc1
    isplitr; · iexact Hc2
    isplitl [Hx]; · iexact Hx
    isplitl [Hdst]
    · isplitl [Hdst]; · iexact Hdst
      iexact Hsp
    isplitl [HO]; · iexact HO
    isplitl [HtS]; · iexact HtS
    isplitr; · iexact HrS
    isplitl [HtR]; · iexact HtR
    iexact HrR
  iintro ⟨HcS', HO⟩
  iapply Hk
  isplitr [HO]
  · isplitl [Hsts]; · iexact Hsts
    isplitl [HaS]; · iexact HaS
    isplitl [HaR]; · iexact HaR
    isplitl [HcR]; · iexact HcR
    isplitl [HcS HcS']
    · rw [ico_snoc (crS c d t) hWS]
      isplitl [HcS']; · unfold crS; iexact HcS'
      iexact HcS
    isplitl [Hh]; · iexact Hh
    isplitl [Hg]; · iexact Hg
    isplitl [Hp]; · iexact Hp
    isplitl [Hd]; · iexact Hd
    iexact Hgot
  iexists _; iexact HO

theorem credPay_read (T S : Finset ℕ) {kk K : ℕ} (hk : kk ∈ S) (hK : K ≤ kk) :
    iprop(bigSep T (credPay (F := F) c d t) ∗ bigSep (S \ T) (credPay c d t)) ⊢ freed (lane c d t (K + 3)) := by
  have h : credPay (F := F) c d t kk ⊢ freed (lane c d t (K + 3)) := by
    unfold credPay
    exact bigSep_elim (Φ := fun i => freed (lane c d t (i + 3))) (Finset.mem_range.mpr (Nat.lt_succ_of_le hK))
  by_cases hT : kk ∈ T
  · have e : bigSep T (credPay (F := F) c d t) ⊢ credPay c d t kk := bigSep_elim hT
    iintro ⟨H, -⟩
    iapply h; iapply e; iexact H
  · have e : bigSep (S \ T) (credPay (F := F) c d t) ⊢ credPay c d t kk := bigSep_elim (Finset.mem_sdiff.mpr ⟨hk, hT⟩)
    iintro ⟨-, H⟩
    iapply h; iapply e; iexact H

theorem pays_C (T : Finset ℕ) : bigSep T (fun u => (Rd xs AM).payload (Ccell c d t) 0 u) = bigSep T (credPay c d t) := by
  rw [show (fun u => (Rd xs AM).payload (Ccell c d t) 0 u) = credPay c d t from funext fun u => payload_C xs AM c d t 0 u]

include Kn in
/-- Credit `K` is taken: the place copy `K + 3` lands in is free. -/
theorem wp_takeCredit {S R W K : ℕ} (hK : K < credits d) (hls : Above (2 * K + 7) ls) :
    iprop(I ∗ Lane xs c d t S R W K ∗ Owe c ls)
      ⊢ iprop(((Lane xs c d t S R W (K + 1) ∗ Owe c ls) -∗ wp frame (wpE (defs₀ (F := F)) 𝒱₀ (c : Thread nD τ) none) Set.univ k Q)
          -∗ wp frame (wpE (defs₀ (F := F)) 𝒱₀ (c : Thread nD τ) none) Set.univ (waitCredit E₀ d t k) Q) := by
  have h40 : K < 40 := by have := copies_le d; have := credits_copies d; omega
  unfold Lane Owe waitCredit purse
  rw [ico_head (crC c d t) hK, if_pos hK]
  iintro ⟨#HI, ⟨Hst, HaS, HaR, HcR, HcS, Hh, Hg, ⟨⟨%T, Hat, #HT⟩, ⟨Hc, Hcs⟩⟩, Hd, #Hgot⟩, ⟨%W', HO⟩⟩ Hk
  ihave #Hcell := Kn.cells c (.C d t) $$ HI
  ihave #Hlev := Kn.levs $$ HI
  ihave HM := (mayWait_owing c (.C d t) K ls h40 hls) $$ Hlev
  unfold crC got
  icases Hgot with ⟨#H1, #H2, #H3⟩
  by_cases hl : K + 1 < credits d
  · rw [if_pos hl]
    iapply (Rounds.wp_wait 𝒱₀ ER (Rd xs AM) (c : Thread nD τ) none (κ := κ c (.C d t))
        (wpE_semWait_eq 𝒱₀ (c : Thread nD τ) none Set.univ) (Set.mem_univ _) {(kindSem (.C d t), K)} (cr := Finsupp.single K 1) (O := owing c ls) (W := W') (R := 0) (m := K) (T := T)
        (by rw [Util.total_single]; decide) (image_single_subset (kindSem (.C d t)) K 1)) $$ [Hc HO HM Hat]
    · isplitr; · iexact Hcell
      isplitl [Hc]; · iexact Hc
      isplitl [HO]; · iexact HO
      isplitl [HM]; · iexact HM
      iexact Hat
    iintro %S' ⟨%hS, HO, Hat, Hpay⟩
    obtain ⟨hTS, hSd, hcard⟩ := hS
    rw [duties_C] at hSd hcard
    rw [expect_C] at hcard
    obtain ⟨kk, hkk, hKk⟩ : ∃ kk ∈ S', K ≤ kk := by
      by_contra hno
      have hsub : Finset.Ico K (credits d) ⊆ Finset.range (credits d) \ S' := fun i hi => by
        rw [Finset.mem_Ico] at hi
        exact Finset.mem_sdiff.mpr ⟨Finset.mem_range.mpr hi.2, fun hm => hno ⟨i, hm, hi.1⟩⟩
      have hc := Finset.card_le_card hsub
      rw [Nat.card_Ico] at hc
      have h1 : K + 1 + (Finset.range (credits d) \ S').card ≤ credits d := hcard
      omega
    ihave #Hpay := (Entails.of_eq (pays_C (xs := xs) (AM := AM) c d t (S' \ T))) $$ Hpay
    ihave #Hf := (credPay_read c d t T S' hkk hKk) $$ [HT Hpay]
    · isplitr; · iexact HT
      iexact Hpay
    iapply Hk
    isplitr [HO]
    · isplitl [Hst]; · iexact Hst
      isplitl [HaS]; · iexact HaS
      isplitl [HaR]; · iexact HaR
      isplitl [HcR]; · iexact HcR
      isplitl [HcS]; · iexact HcS
      isplitl [Hh]; · iexact Hh
      isplitl [Hg]; · iexact Hg
      isplitl [Hat Hcs]
      · isplitl [Hat]
        · iexists S'
          isplitl [Hat]; · iexact Hat
          rw [show bigSep S' (credPay (F := F) c d t) = iprop(bigSep (S' \ T) (credPay c d t) ∗ bigSep T (credPay c d t)) from by
            conv_lhs => rw [← Finset.sdiff_union_of_subset hTS]
            rw [bigSep_union Finset.sdiff_disjoint]; rfl]
          isplitr; · iexact Hpay
          iexact HT
        iexact Hcs
      isplitl [Hd]; · iexact Hd
      isplitr
      · rw [show K + 1 + 3 = (K + 3) + 1 from by omega, range_snoc (fun j => freed (lane c d t j)) (K + 3)]
        isplitr; · iexact Hf
        iexact H1
      isplitr; · iexact H2
      iexact H3
    iexists _; iexact HO
  · rw [if_neg hl]
    iapply (Rounds.wp_wait_rest_token 𝒱₀ ER (Rd xs AM) (c : Thread nD τ) none (κ := κ c (.C d t))
        (wpE_semWait_eq 𝒱₀ (c : Thread nD τ) none Set.univ) (Set.mem_univ _) K (O := owing c ls) (W := W') (R := 0) (m := K) (T := T)
        (by rw [expect_C]; show K + 1 = credits d; omega)) $$ [Hc HO HM Hat]
    · isplitr; · iexact Hcell
      isplitl [Hc]; · iexact Hc
      isplitl [HO]; · iexact HO
      isplitl [HM]; · iexact HM
      iexact Hat
    iintro ⟨HO, Hat, -, Hpay⟩
    ihave Hpay := (Entails.of_eq (pays_C (xs := xs) (AM := AM) c d t _)) $$ Hpay
    ihave #Hf := (credPay_read c d t T ((Rd xs AM).duties (Ccell c d t) 0) (kk := K) (K := K)
      (by rw [duties_C]; exact Finset.mem_range.mpr hK) le_rfl) $$ [HT Hpay]
    · isplitr; · iexact HT
      iexact Hpay
    iapply Hk
    isplitr [HO]
    · isplitl [Hst]; · iexact Hst
      isplitl [HaS]; · iexact HaS
      isplitl [HaR]; · iexact HaR
      isplitl [HcR]; · iexact HcR
      isplitl [HcS]; · iexact HcS
      isplitl [Hh]; · iexact Hh
      isplitl [Hg]; · iexact Hg
      isplitl [Hat Hcs]
      · isplitl [Hat]; · iexact Hat
        iexact Hcs
      isplitl [Hd]; · iexact Hd
      isplitr
      · rw [show K + 1 + 3 = (K + 3) + 1 from by omega, range_snoc (fun j => freed (lane c d t j)) (K + 3)]
        isplitr; · iexact Hf
        iexact H1
      isplitr; · iexact H2
      iexact H3
    iexists _; iexact HO

/-- The credit a cleared copy owes the neighbour behind, if it owes one. -/
def credDebt (W : ℕ) : List Debt := if W < credits d then [.cred d t W] else []

/-- A slot whose copy has left is whole again. -/
theorem sendPay_idle (W : ℕ) : iprop(sendPay xs c d t W ∗ held xs c d t W)
    ⊢ iprop((if W = 0 then sendPay xs c d t 0 else iprop(emp)) ∗ idle c d t W) := by
  cases W with
  | zero => rw [if_pos rfl]; unfold held; exact .rfl
  | succ j =>
    rw [if_neg (Nat.succ_ne_zero j)]
    unfold held sendPay srcShare
    iintro ⟨Hr, Hl⟩
    isplitr; · iempintro
    unfold idle anyOf Release.slot
    iexists _
    iapply (unhalves c (dstV E₀ d j t) fullShare (xh xs (org d (j + 1) c) t))
    isplitl [Hl]; · iexact Hl
    iexact Hr

include Kn in
/-- Copy `W` has left: its slot is handed back. -/
theorem wp_clear (H : Here) (hnb : H.nb (!d) = nx (!d) c) {S R W K : ℕ} (hW : W < S) (hWc : W < copies d) (hWR : W ≤ R) (hRW : R ≤ W + 3)
    (hls : Above 0 (credDebt d t W ++ ls)) :
    iprop(I ∗ Lane xs c d t S R W K ∗ Owe c (credDebt d t W ++ ls))
      ⊢ iprop(((Lane xs c d t S R (W + 1) K ∗ Owe c ls) -∗ wp frame (wpE (defs₀ (F := F)) 𝒱₀ (c : Thread nD τ) none) Set.univ k Q)
          -∗ wp frame (wpE (defs₀ (F := F)) 𝒱₀ (c : Thread nD τ) none) Set.univ (clearHalf E₀ H d W t k) Q) := by
  have h40 : W < 40 := by have := copies_le d; omega
  unfold Lane Owe clearHalf waitSend
  rw [ico_head (atS c d t) (show W < W + 4 by omega), ico_head (crS c d t) hW, ico_head (held xs c d t) (Nat.lt_succ_of_le hWR)]
  iintro ⟨#HI, ⟨Hst, ⟨HaS, HaSs⟩, HaR, HcR, ⟨HcS, HcSs⟩, ⟨Hh, Hhs⟩, Hg, Hp, Hd, #Hgot⟩, ⟨%W', HO⟩⟩ Hk
  icases (show atS (F := F) c d t W ⊢ iprop(atPos ER (Scell c d t W) (W / 4) ∅ 0 ∗ reached ER (Scell c d t W) (W / 4)) from .rfl) $$ HaS with ⟨HaS, -⟩
  ihave #Hcell := Kn.cells c (.S d t (slotIx W)) $$ HI
  ihave #Hlev := Kn.levs $$ HI
  ihave HM := (mayWait_owing c (.S d t (slotIx W)) W _ h40 hls) $$ Hlev
  iapply (Rounds.wp_wait_rest_token 𝒱₀ ER (Rd xs AM) (c : Thread nD τ) none (κ := κ c (.S d t (slotIx W)))
      (wpE_waitDma2_eq 𝒱₀ (c : Thread nD τ) none Set.univ) (Set.mem_univ _) W (O := owing c _) (W := W') (R := W / 4) (m := 0) (T := ∅)
      (by rw [Nat.zero_add, credit_src]; exact (expect_S xs AM c d t W hWc).symm)) $$ [HcS HO HM HaS]
  · isplitr; · iexact Hcell
    isplitl [HcS]; · rw [credit_src]; unfold crS; iexact HcS
    isplitl [HO]; · iexact HO
    isplitl [HM]; · iexact HM
    iexact HaS
  iintro ⟨HO, HaS, #Hr, Hpay⟩
  ihave Hpay := (Entails.of_eq (rest_S xs AM c d t W hWc)) $$ Hpay
  icases (sendPay_idle (xs := xs) c d t W) $$ [Hpay Hh] with ⟨Hx, Hi⟩
  · isplitl [Hpay]; · iexact Hpay
    iexact Hh
  unfold credDebt giving
  by_cases hc : W < credits d
  · rw [if_pos hc]
    rw [show Nat.blt W (credits d) = true from blt_true hc]
    unfold when giveCredit
    dsimp only [List.cons_append, List.nil_append]
    rw [hnb, ico_head (giveTok c d t) hc, Nat.min_eq_left hc.le, Nat.min_eq_left (show W + 1 ≤ credits d from hc)]
    icases Hg with ⟨#Hgs, ⟨Hg, Hgr⟩⟩
    unfold giveTok
    icases Hg with ⟨HtC, Hrd⟩
    icases (ico_read (atR c d t) (reached ER (Rcell c d t (W + 3)) ((W + 3) / 4)) (j := W + 3) ⟨hRW, by omega⟩
      (by unfold atR; iintro ⟨H, #Hr⟩; isplitr; · iexact Hr
          isplitl [H]; · iexact H
          iexact Hr)) $$ HaR with ⟨#HrR, HaR⟩
    have h16 : W + 3 < 16 := by have := copies_le d; have := credits_copies d; omega
    iapply (fupd_wp frame (wpE (defs₀ (F := F)) 𝒱₀ (c : Thread nD τ) none) Set.univ)
    imod (give_place Kn (lane (nx (!d) c) d t (W + 3))) $$ [Hrd Hi] with #Hfr
    · isplitr; · iexact HI
      isplitl [Hrd]; · iexact Hrd
      rw [place_lane _ d t h16, nx_nx]
      isplitl [Hi]
      · unfold idle dstV
        rw [show W + 3 + 1 = W + 4 from rfl, slotIx_add]
        iexact Hi
      iexact HrR
    imodintro
    ihave #Hc2 := Kn.cells (nx (!d) c) (.C d t) $$ HI
    unfold got
    icases Hgot with ⟨#H1, #H2, #H3⟩
    iapply (Rounds.wp_signal 𝒱₀ ER (Rd xs AM) (c : Thread nD τ) none (dst := ((nx (!d) c : Dev nD) : Thread nD τ)) (κ := κ (nx (!d) c) (.C d t))
      (d := W) (r := 0) (by rw [duties_C]; exact Finset.mem_range.mpr hc) ((amount_cell xs AM (nx (!d) c) (.C d t) 0 W).trans rfl) W (owing c ls) rfl)
      $$ [HO HtC]
    · isplitr; · iexact Hc2
      isplitl [HO]; · iexact HO
      isplitl [HtC]; · iexact HtC
      isplitr
      · rw [payload_C]; unfold credPay
        rw [range_snoc (fun i => freed (lane (nx (!d) c) d t (i + 3))) W]
        isplitr; · iexact Hfr
        iexact Hgs
      iexact H2
    iintro HO
    iapply Hk
    isplitr [HO]
    · isplitl [Hst]; · iexact Hst
      isplitl [HaS HaSs]
      · rw [show W + 1 + 4 = (W + 4) + 1 from by omega, ico_snoc (atS c d t) (show W + 1 ≤ W + 4 by omega)]
        isplitl [HaS]
        · iapply (Entails.of_eq (atS_next (F := F) c d t W))
          isplitl [HaS]; · iexact HaS
          iexact Hr
        iexact HaSs
      isplitl [HaR]; · iexact HaR
      isplitl [HcR]; · iexact HcR
      isplitl [HcSs]; · iexact HcSs
      isplitl [Hhs]; · iexact Hhs
      isplitl [Hgr]
      · isplitr
        · rw [range_snoc (fun i => freed (lane (nx (!d) c) d t (i + 3))) W]
          isplitr; · iexact Hfr
          iexact Hgs
        iexact Hgr
      isplitl [Hp]; · iexact Hp
      isplitl [Hd Hx]
      · rw [range_snoc (done xs c d t) W]
        isplitl [Hx]
        · unfold done
          isplitl [Hx]; · iexact Hx
          rw [if_neg (Nat.not_le.mpr hc)]; iempintro
        iexact Hd
      isplitr; · iexact H1
      isplitr; · iexact H2
      iexact H3
    iexists _; iexact HO
  · rw [if_neg hc]
    rw [show Nat.blt W (credits d) = false from blt_false hc]
    unfold when
    dsimp only [List.nil_append]
    rw [Nat.min_eq_right (Nat.not_lt.mp hc), Nat.min_eq_right (show credits d ≤ W + 1 by omega), Finset.Ico_eq_empty (show ¬ W < credits d from hc),
      Finset.Ico_eq_empty (show ¬ W + 1 < credits d by omega)]
    iapply Hk
    isplitr [HO]
    · isplitl [Hst]; · iexact Hst
      isplitl [HaS HaSs]
      · rw [show W + 1 + 4 = (W + 4) + 1 from by omega, ico_snoc (atS c d t) (show W + 1 ≤ W + 4 by omega)]
        isplitl [HaS]
        · iapply (Entails.of_eq (atS_next (F := F) c d t W))
          isplitl [HaS]; · iexact HaS
          iexact Hr
        iexact HaSs
      isplitl [HaR]; · iexact HaR
      isplitl [HcR]; · iexact HcR
      isplitl [HcSs]; · iexact HcSs
      isplitl [Hhs]; · iexact Hhs
      isplitl [Hg]; · iexact Hg
      isplitl [Hp]; · iexact Hp
      isplitl [Hd Hx Hi]
      · rw [range_snoc (done xs c d t) W]
        isplitl [Hx Hi]
        · unfold done
          isplitl [Hx]; · iexact Hx
          rw [if_pos (Nat.not_lt.mp hc)]; iexact Hi
        iexact Hd
      iexact Hgot
    iexists _; iexact HO

end ops

end Cert.KernelIdeal.Tidy
-- ==== Proof.Slots.lean ====
module

public import proofs.«01_k».proof.Proof.AmProg
public import proofs.«01_k».proof.Proof.Ops
public import Idealize.ShloMosaic.Lib.Pipeline.ValueKit

@[expose] public section

noncomputable section

namespace Cert.KernelIdeal.Tidy

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

/-! ## Which elements the places are -/

/-- The elements of a place of the maxima. -/
def mbSet (p : Fin 32) : Finset S32x8x128.Idx := (mbV p).view.set

/-- The elements of half a slot. -/
def slotSet (d : Bool) (k : Fin 4) (t : Fin 2) : Finset S4x128x4096.Idx :=
  match d with
  | true => (slotV (E₀.comm true) k t).view.set
  | false => (slotV (E₀.comm false) k t).view.set

/-- A place of the maxima is the plane of its number. -/
theorem mem_mb (p : Fin 32) (i : S32x8x128.Idx) : i ∈ mbSet p ↔ (i 0).val = p.val := by
  have e : mbSet p = (Rect.unit (s := S32x8x128) ![p.val, 0, 0] S1x8x128.size (mb_inb p)).set :=
    (View.set_reshape _ squeezes_S1x8x128_S8x128.numel_eq).trans (View.set_slice_whole cc0_scratch11 _)
  rw [e, Rect.mem_set_unit]
  have h1 : (i 1).val < 8 := (i 1).isLt
  have h2 : (i 2).val < 128 := (i 2).isLt
  constructor
  · intro h
    have h0 : p.val ≤ (i 0).val ∧ (i 0).val < p.val + 1 := h 0
    omega
  · intro h a
    fin_cases a
    · exact (show p.val ≤ (i 0).val ∧ (i 0).val < p.val + 1 from ⟨by omega, by omega⟩)
    · exact (show 0 ≤ (i 1).val ∧ (i 1).val < 0 + 8 from ⟨by omega, by omega⟩)
    · exact (show 0 ≤ (i 2).val ∧ (i 2).val < 0 + 128 from ⟨by omega, by omega⟩)

/-- The device's own maximum is its whole buffer. -/
theorem set_ms : msV.view.set = Finset.univ := by
  have e : msV.view.set = (Rect.unit (s := S1x8x128) ![0, 0, 0] S1x8x128.size inb_S1x8x128_S1x8x128_0_0_0).set :=
    (View.set_reshape _ squeezes_S1x8x128_S8x128.numel_eq).trans (View.set_slice_whole cc0_scratch10 _)
  rw [e]
  exact Rect.set_eq_univ_of_whole _ (fun a => by fin_cases a <;> exact ⟨rfl, rfl, rfl⟩)

/-- Half a slot is its rows of its plane. -/
theorem mem_slot (d : Bool) (k : Fin 4) (t : Fin 2) (i : S4x128x4096.Idx) :
    i ∈ slotSet d k t ↔ (i 0).val = k.val ∧ (i 1).val / 64 = t.val := by
  have e : slotSet d k t = (Rect.unit (s := S4x128x4096) ![k.val, 64 * t.val, 0] S1x64x4096.size (slot_inb k t)).set := by
    cases d
    · exact (View.set_reshape _ squeezes_S1x64x4096_S64x4096.numel_eq).trans (View.set_slice_whole cc0_scratch1 _)
    · exact (View.set_reshape _ squeezes_S1x64x4096_S64x4096.numel_eq).trans (View.set_slice_whole cc0_scratch0 _)
  rw [e, Rect.mem_set_unit]
  have h1 : (i 1).val < 128 := (i 1).isLt
  have h2 : (i 2).val < 4096 := (i 2).isLt
  constructor
  · intro h
    have h0 : k.val ≤ (i 0).val ∧ (i 0).val < k.val + 1 := h 0
    have h1 : 64 * t.val ≤ (i 1).val ∧ (i 1).val < 64 * t.val + 64 := h 1
    omega
  · intro h a
    fin_cases a
    · exact (show k.val ≤ (i 0).val ∧ (i 0).val < k.val + 1 from ⟨by omega, by omega⟩)
    · exact (show 64 * t.val ≤ (i 1).val ∧ (i 1).val < 64 * t.val + 64 from ⟨by omega, by omega⟩)
    · exact (show 0 ≤ (i 2).val ∧ (i 2).val < 0 + 4096 from ⟨by omega, by omega⟩)

/-! ## The landing buffer of the maxima, place by place -/

/-- Two places share no element. -/
theorem mb_apart : ∀ p ∈ (Finset.univ : Finset (Fin 32)), ∀ p' ∈ (Finset.univ : Finset (Fin 32)), p ≠ p' →
    Disjoint (mbSet p) (mbSet p') := fun p _ p' _ h =>
  Finset.disjoint_left.mpr fun i hi hi' => h (Fin.ext (((mem_mb p i).mp hi).symm.trans ((mem_mb p' i).mp hi')))

/-- The places are all there is. -/
theorem mb_cover : (Finset.univ : Finset (Fin 32)).biUnion mbSet = Finset.univ :=
  Finset.eq_univ_of_forall fun i => Finset.mem_biUnion.mpr ⟨⟨(i 0).val, (i 0).isLt⟩, Finset.mem_univ _, (mem_mb _ i).mpr rfl⟩

/-- The buffer the maxima land in. -/
abbrev mbLoc (c : Dev nD) : Loc nD τ sig := E₀.mb.view.loc (c : Thread nD τ)

/-- The places of the maxima together are the buffer. -/
theorem mb_split (c : Dev nD) (g : Buf (Elt F) (mbLoc c)) :
    (mbLoc c ↦{fullShare} g : sProp (MT nD τ sig ℕ (Elt F) ℕ UU ℕ)) = bigSep Finset.univ fun p : Fin 32 => mbLoc c ↦[mbSet p]{fullShare} g := by
  refine Eq.trans ?_ (pointsTo_biUnion (ℓ := mbLoc c) (q := fullShare) (f := g) Finset.univ mbSet mb_apart)
  exact congrArg (fun S => (mbLoc c ↦[S]{fullShare} g : sProp (MT nD τ sig ℕ (Elt F) ℕ UU ℕ))) mb_cover.symm

/-- One maximum per plane. -/
def planes (a : Fin 32 → Elt F .f32) : S32x8x128.Idx → Elt F .f32 := fun i => a (i 0)

/-- A place that reads as one maximum is a plane of it. -/
theorem mb_plane (c : Dev nD) (a : Fin 32 → Elt F .f32) (p : Fin 32) :
    (holds c (mbV p) fullShare (fun _ => a p) : sProp (MT nD τ sig ℕ (Elt F) ℕ UU ℕ))
      = (mbLoc c ↦[mbSet p]{fullShare} (planes a : Buf (Elt F) (mbLoc c))) := by
  refine pointsTo_congr (ℓ := mbLoc c) fun i hi => ?_
  obtain ⟨x, -, hx⟩ := Finset.mem_map.mp hi
  have hr := congrFun (View.read_rep (mbV p).view (fun _ => a p : S8x128.Idx → Elt F .f32)) x
  have hp := (mem_mb p i).mp hi
  subst hx
  refine (show _ = a p from hr).trans ?_
  show a p = a _
  exact congrArg a (Fin.ext hp.symm)

end Cert.KernelIdeal.Tidy
-- ==== Proof.Turn.lean ====
module

public import proofs.«01_k».proof.Proof.Ops
public import Idealize.ShloMosaic.Lib.Pipeline.Value

@[expose] public section

set_option maxRecDepth 100000

noncomputable section

namespace Cert.KernelIdeal.Tidy

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

variable {xs : (c : Dev nD) → Buf (Elt F) ((E₀.x).view.loc (c : Thread nD τ))} {AM : Dev nD → S8x128.Idx → Elt F .f32}
variable {κ : Dev nD → Kind → ℕ} {ι : Key → ℕ}

/-! ## The ring's words -/

/-- The words of the two tables. -/
def tabAt (n : ℕ) : BitVec 32 := BitVec.ofNat 32 (ringAt.getD n 0)
def tabPos (n : ℕ) : BitVec 32 := BitVec.ofNat 32 (posOf.getD n 0)

attribute [local instance] k0_chk1.dec k0_chk4.dec

theorem here_chk1 : ∀ c : Dev nD, k0_chk1 (tabPos c.val) := by decide +kernel
theorem dev_chk4 : ∀ o : Dev nD, k0_chk4 (BitVec.ofNat 32 o.val) := by decide +kernel

/-- The words device `c` works with. -/
def here (c : Dev nD) : Here := ⟨c, tabPos c.val, here_chk1 c, fun d => nx d c⟩

/-- The table names the device the block came from. -/
theorem tab_org : ∀ (c : Dev nD) (d : Bool) (s : Fin 17), s.val ≠ 0 → tabAt (tabOff (tabPos c.val) (back d s.val) 0) = BitVec.ofNat 32 (org d s.val c).val := by
  decide +kernel

/-- The rows of the result that half `t` of device `o`'s block makes. -/
def rowOff (o : Dev nD) (t : Fin 2) : Fin 2 → ℕ := ![128 * o.val + 64 * t.val, 0]

theorem row_inb (o : Dev nD) (t : Fin 2) : ∀ a, rowOff o t a + S64x64.size a ≤ S4096x64.size a := by
  revert o t; decide

theorem off6_eq0 (o : Dev nD) : k0_off6 (BitVec.ofNat 32 o.val) 0#32 = rowOff o 0 := by
  have h : ∀ (o : Dev nD) (a : Fin 2), k0_off6 (BitVec.ofNat 32 o.val) 0#32 a = rowOff o 0 a := by decide +kernel
  exact funext (h o)
theorem off6_eq1 (o : Dev nD) : k0_off6 (BitVec.ofNat 32 o.val) 64#32 = rowOff o 1 := by
  have h : ∀ (o : Dev nD) (a : Fin 2), k0_off6 (BitVec.ofNat 32 o.val) 64#32 a = rowOff o 1 a := by decide +kernel
  exact funext (h o)
theorem off4_eq0 (o : Dev nD) : k0_off4 o 0#32 = rowOff o 0 := by
  have h : ∀ (o : Dev nD) (a : Fin 2), k0_off4 o 0#32 a = rowOff o 0 a := by decide +kernel
  exact funext (h o)
theorem off4_eq1 (o : Dev nD) : k0_off4 o 64#32 = rowOff o 1 := by
  have h : ∀ (o : Dev nD) (a : Fin 2), k0_off4 o 64#32 a = rowOff o 1 a := by decide +kernel
  exact funext (h o)

/-! ## The products -/

/-- A whole buffer of device `c`. -/
abbrev pts (c : Dev nD) {sp : Space} {s : Shape} {e : EltTy} (v : Memref sig .tc sp s e) (f : Buf (Elt F) (v.view.loc (c : Thread nD τ))) : sProp (MT nD τ sig ℕ (Elt F) ℕ UU ℕ) :=
  v.view.loc (c : Thread nD τ) ↦{fullShare} f

/-- The result so far with the rows of half `t` of block `o` replaced. -/
def put {c : Dev nD} (f : Buf (Elt F) (E₀.out.view.loc (c : Thread nD τ))) (o : Dev nD) (t : Fin 2) (v : FVec F S64x64 .f32) : Buf (Elt F) (E₀.out.view.loc (c : Thread nD τ)) :=
  (E₀.out.access (Rect.unit (s := S4096x64) (rowOff o t) S64x64.size (row_inb o t))).write (Elt F) f v Finset.univ

/-- The device's columns of `w`, as they are read. -/
def wv {c : Dev nD} (w : Buf (Elt F) (E₀.w.view.loc (c : Thread nD τ))) : Vec F S4096x64 .f32 :=
  E₀.w.view.readAt (Elt F) (Rect.unit (s := S4096x64) ![0, 0] S4096x64.size inb_S4096x64_S4096x64_0_0).toLoadRect w

/-- The result and the largest magnitude, with half `t` of block `o` multiplied in. -/
def gem1 (xs : (c : Dev nD) → Buf (Elt F) ((E₀.x).view.loc (c : Thread nD τ))) {c : Dev nD} (w : Buf (Elt F) (E₀.w.view.loc (c : Thread nD τ))) (o : Dev nD) (t : Fin 2)
    (st : Buf (Elt F) (E₀.out.view.loc (c : Thread nD τ)) × F .f32) : Buf (Elt F) (E₀.out.view.loc (c : Thread nD τ)) × F .f32 :=
  (put st.1 o t (mm (xh xs o t) (wv w)), amax st.2 (mm (xh xs o t) (wv w)))

/-- Both halves. -/
def gem (xs : (c : Dev nD) → Buf (Elt F) ((E₀.x).view.loc (c : Thread nD τ))) {c : Dev nD} (w : Buf (Elt F) (E₀.w.view.loc (c : Thread nD τ))) (o : Dev nD)
    (st : Buf (Elt F) (E₀.out.view.loc (c : Thread nD τ)) × F .f32) : Buf (Elt F) (E₀.out.view.loc (c : Thread nD τ)) × F .f32 :=
  gem1 xs w o 1 (gem1 xs w o 0 st)

section prods
variable (c : Dev nD) (w : Buf (Elt F) (E₀.w.view.loc (c : Thread nD τ)))
variable {α : Type} {Q : α → sProp (MT nD τ sig ℕ (Elt F) ℕ UU ℕ)}

theorem wp_tail (f : Buf (Elt F) (E₀.out.view.loc (c : Thread nD τ))) (x : FVec F S64x4096 .f32) (o : Dev nD) (t : Fin 2) (off : Fin 2 → ℕ)
    (h : ∀ a, off a + S64x64.size a ≤ S4096x64.size a) (hoff : off = rowOff o t) (a : F .f32) (k : F .f32 → PR F α) :
    iprop(pts c E₀.w w ∗ pts c E₀.out f)
      ⊢ iprop(((pts c E₀.w w ∗ pts c E₀.out (put f o t (mm x (wv w)))) -∗ wp frame (wpE (defs₀ (F := F)) 𝒱₀ (c : Thread nD τ) none) Set.univ (k (amax a (mm x (wv w)))) Q)
          -∗ wp frame (wpE (defs₀ (F := F)) 𝒱₀ (c : Thread nD τ) none) Set.univ (gemmTail E₀ x off h a k) Q) := by
  subst hoff
  unfold gemmTail
  iintro ⟨Hw, Ho⟩ Hk
  iapply (wp_load 𝒱₀ (c : Thread nD τ) none Set.univ (S := Finset.univ) (q := fullShare) (f := w) (by exact Finset.subset_univ _)) $$ Hw
  iintro Hw
  iapply (wp_load 𝒱₀ (c : Thread nD τ) none Set.univ (S := Finset.univ) (q := fullShare) (f := f) (by exact Finset.subset_univ _)) $$ Ho
  iintro Ho
  iapply (wp_store 𝒱₀ (c : Thread nD τ) none Set.univ (m := E₀.out) (r := Rect.unit (s := S4096x64) (rowOff o t) S64x64.size (row_inb o t)) (S := Finset.univ) (f := f) (by exact Finset.subset_univ _)) $$ Ho
  iintro Ho
  iapply Hk
  isplitl [Hw]; · iexact Hw
  iexact Ho

theorem slot_value (d : Bool) (i : Fin 4) (t : Fin 2) (X : S64x4096.Idx → Elt F .f32) :
    shapeCast S64x4096 ((E₀.comm d).view.readAt (Elt F) (Rect.unit (s := S4x128x4096) ![i.val, 64 * t.val, 0] S1x64x4096.size (slot_inb i t)).toLoadRect
      ((slotV (E₀.comm d) i t).view.rep X)) shapeCasts_S1x64x4096_S64x4096 = X := by
  have h := View.read_rep (slotV (E₀.comm d) i t).view X
  funext y
  exact congrFun h y

theorem slot_set (d : Bool) (i : Fin 4) (t : Fin 2) :
    ((E₀.comm d).access (Rect.unit (s := S4x128x4096) ![i.val, 64 * t.val, 0] S1x64x4096.size (slot_inb i t))).set ⊆ (slotV (E₀.comm d) i t).view.set :=
  subset_of_eq (View.set_reshape ((E₀.comm d).access (Rect.unit (s := S4x128x4096) ![i.val, 64 * t.val, 0] S1x64x4096.size (slot_inb i t))) squeezes_S1x64x4096_S64x4096.numel_eq).symm

theorem wp_loadSlot (d : Bool) (i : Fin 4) (t : Fin 2) (q : PosShare TreeShare) (X : S64x4096.Idx → Elt F .f32)
    (hl : (E₀.comm d).view.LoadsAt (Rect.unit (s := S4x128x4096) ![i.val, 64 * t.val, 0] S1x64x4096.size (slot_inb i t)).toLoadRect)
    (k : Vec F S1x64x4096 .f32 → PR F α) :
    holds c (slotV (E₀.comm d) i t) q X
      ⊢ iprop((holds c (slotV (E₀.comm d) i t) q X
            -∗ wp frame (wpE (defs₀ (F := F)) 𝒱₀ (c : Thread nD τ) none) Set.univ (k ((E₀.comm d).view.readAt (Elt F) (Rect.unit (s := S4x128x4096) ![i.val, 64 * t.val, 0] S1x64x4096.size (slot_inb i t)).toLoadRect
                ((slotV (E₀.comm d) i t).view.rep X))) Q)
          -∗ wp frame (wpE (defs₀ (F := F)) 𝒱₀ (c : Thread nD τ) none) Set.univ
            (.op (.load (E₀.comm d) (Rect.unit (s := S4x128x4096) ![i.val, 64 * t.val, 0] S1x64x4096.size (slot_inb i t)).toLoadRect hl) k) Q) :=
  wp_load_rect 𝒱₀ (c : Thread nD τ) none Set.univ (m := E₀.comm d) (r := Rect.unit (s := S4x128x4096) ![i.val, 64 * t.val, 0] S1x64x4096.size (slot_inb i t))
    (S := (slotV (E₀.comm d) i t).view.set) (q := q) (f := (slotV (E₀.comm d) i t).view.rep X) (slot_set d i t)

/-- The product of half a block standing in a slot. -/
theorem wp_gemmSlot (d : Bool) (i : Fin 4) (q : PosShare TreeShare) (o : Dev nD) (t : Fin 2) (st : Buf (Elt F) (E₀.out.view.loc (c : Thread nD τ)) × F .f32) (off : Fin 2 → ℕ)
    (h : ∀ a, off a + S64x64.size a ≤ S4096x64.size a) (hoff : off = rowOff o t) (k : F .f32 → PR F α) :
    iprop(holds c (slotV (E₀.comm d) i t) q (xh xs o t) ∗ pts c E₀.w w ∗ pts c E₀.out st.1)
      ⊢ iprop(((holds c (slotV (E₀.comm d) i t) q (xh xs o t) ∗ pts c E₀.w w ∗ pts c E₀.out (gem1 xs w o t st).1)
            -∗ wp frame (wpE (defs₀ (F := F)) 𝒱₀ (c : Thread nD τ) none) Set.univ (k (gem1 xs w o t st).2) Q)
          -∗ wp frame (wpE (defs₀ (F := F)) 𝒱₀ (c : Thread nD τ) none) Set.univ (gemmSlot E₀ d i t off h st.2 k) Q) := by
  unfold gemmSlot
  iintro ⟨Hs, Hw, Ho⟩ Hk
  iapply (wp_loadSlot c d i t q (xh xs o t)) $$ Hs
  iintro Hs
  rw [show shapeCast S64x4096 ((E₀.comm d).view.readAt (Elt F) (Rect.unit (s := S4x128x4096) ![i.val, 64 * t.val, 0] S1x64x4096.size (slot_inb i t)).toLoadRect
      ((slotV (E₀.comm d) i t).view.rep (xh xs o t))) shapeCasts_S1x64x4096_S64x4096 = xh xs o t from slot_value d i t _]
  iapply (wp_tail c w st.1 (xh xs o t) o t off h hoff st.2 k) $$ [Hw Ho]
  · isplitl [Hw]; · iexact Hw
    iexact Ho
  iintro ⟨Hw, Ho⟩
  iapply Hk
  isplitl [Hs]; · iexact Hs
  isplitl [Hw]; · iexact Hw
  iexact Ho

/-- The product of half the device's own block. -/
theorem wp_gemmOwn (q : PosShare TreeShare) (t : Fin 2) (st : Buf (Elt F) (E₀.out.view.loc (c : Thread nD τ)) × F .f32) (off : Fin 2 → ℕ)
    (h : ∀ a, off a + S64x64.size a ≤ S4096x64.size a) (hoff : off = rowOff c t) (k : F .f32 → PR F α) :
    iprop((E₀.x.view.loc (c : Thread nD τ) ↦{q} xs c) ∗ pts c E₀.w w ∗ pts c E₀.out st.1)
      ⊢ iprop((((E₀.x.view.loc (c : Thread nD τ) ↦{q} xs c) ∗ pts c E₀.w w ∗ pts c E₀.out (gem1 xs w c t st).1)
            -∗ wp frame (wpE (defs₀ (F := F)) 𝒱₀ (c : Thread nD τ) none) Set.univ (k (gem1 xs w c t st).2) Q)
          -∗ wp frame (wpE (defs₀ (F := F)) 𝒱₀ (c : Thread nD τ) none) Set.univ (gemmOwn E₀ t off h st.2 k) Q) := by
  unfold gemmOwn
  iintro ⟨Hs, Hw, Ho⟩ Hk
  iapply (wp_load_rect 𝒱₀ (c : Thread nD τ) none Set.univ (m := E₀.x) (r := Rect.unit (s := S128x4096) ![64 * t.val, 0] S64x4096.size (xhalf_inb t)) (S := Finset.univ) (q := q) (f := xs c) (by exact Finset.subset_univ _)) $$ Hs
  iintro Hs
  rw [show shapeCast S64x4096 ((E₀.x.access (Rect.unit (s := S128x4096) ![64 * t.val, 0] S64x4096.size (xhalf_inb t))).read (Elt F) (xs c))
      shapeCasts_S64x4096_S64x4096 = xh xs c t from by
    unfold xh xV
    exact shapeCast_self _ _]
  iapply (wp_tail c w st.1 (xh xs c t) c t off h hoff st.2 k) $$ [Hw Ho]
  · isplitl [Hw]; · iexact Hw
    iexact Ho
  iintro ⟨Hw, Ho⟩
  iapply Hk
  isplitl [Hs]; · iexact Hs
  isplitl [Hw]; · iexact Hw
  iexact Ho

/-- A table's contents are the given words. -/
def IsTab (m : Memref sig .tc .smem S32 .i32) (T : Buf (Elt F) (m.view.loc (c : Thread nD τ))) (tab : ℕ → BitVec 32) : Prop :=
  ∀ (off : Fin 1 → ℕ) (h : ∀ a, off a + S1.size a ≤ S32.size a),
    m.view.readAt (Elt F) (Rect.unit (s := S32) off S1.size h).toLoadRect T (Shape.Idx.first (numel1_S1.symm ▸ Nat.one_pos)) = tab (off 0)

theorem wp_readTab (m : Memref sig .tc .smem S32 .i32) (T : Buf (Elt F) (m.view.loc (c : Thread nD τ))) (tab : ℕ → BitVec 32) (hT : IsTab c m T tab)
    (off : Fin 1 → ℕ) (h : ∀ a, off a + S1.size a ≤ S32.size a) (k : Elt F .i32 → PR F α) :
    (pts c m T) ⊢ iprop((pts c m T -∗ wp frame (wpE (defs₀ (F := F)) 𝒱₀ (c : Thread nD τ) none) Set.univ (k (tab (off 0))) Q)
          -∗ wp frame (wpE (defs₀ (F := F)) 𝒱₀ (c : Thread nD τ) none) Set.univ (readTab m off h k) Q) := by
  unfold readTab
  have e := hT off h
  iintro HT Hk
  iapply (wp_load 𝒱₀ (c : Thread nD τ) none Set.univ (m := m) (r := (Rect.unit (s := S32) off S1.size h).toLoadRect) (S := Finset.univ) (q := fullShare) (f := T) (by exact Finset.subset_univ _)) $$ HT
  iintro HT
  rw [e]
  iapply Hk $$ HT

theorem wp_check (P : Prop) (D : Decidable P) (h : P) (k : P → PR F α) :
    wp frame (wpE (defs₀ (F := F)) 𝒱₀ (c : Thread nD τ) none) Set.univ (k h) Q
      ⊢ wp frame (wpE (defs₀ (F := F)) 𝒱₀ (c : Thread nD τ) none) Set.univ (check P D k) Q := by
  unfold check
  iintro H
  iapply (wp_assume _ _ _ _ h)
  iexact H
end prods

theorem ble_false {a b : ℕ} (h : ¬ a ≤ b) : Nat.ble a b = false := by
  cases e : Nat.ble a b
  · rfl
  · exact absurd (Nat.le_of_ble_eq_true e) h

/-! ## A step -/

/-- A lane at the start of step `s`. -/
def LaneAt (xs : (c : Dev nD) → Buf (Elt F) ((E₀.x).view.loc (c : Thread nD τ))) (c : Dev nD) (d : Bool) (t : Fin 2) (s : ℕ) : sProp (MT nD τ sig ℕ (Elt F) ℕ UU ℕ) :=
  if s ≤ copies d then Lane xs c d t s (s - 1) (s - 2) (s - 3)
  else iprop(Lane xs c d t (s - 1) (s - 1) (s - 2) (s - 4) ∗ sendPay xs c d t (s - 1))

/-- A lane once the copy of step `s` has come in and gone on. -/
def After (xs : (c : Dev nD) → Buf (Elt F) ((E₀.x).view.loc (c : Thread nD τ))) (c : Dev nD) (d : Bool) (t : Fin 2) (s : ℕ) : sProp (MT nD τ sig ℕ (Elt F) ℕ UU ℕ) :=
  if s < copies d then Lane xs c d t (s + 1) s (s - 2) (s - 2)
  else iprop(Lane xs c d t s s (s - 2) (s - 3) ∗ sendPay xs c d t s)

def sendDebt (d : Bool) (t : Fin 2) (s : ℕ) : List Debt := if s < copies d then [.copy d t s] else []

theorem Above.mono {m n : ℕ} {ls : List Debt} (h : Above n ls) (hm : m ≤ n) : Above m ls := fun l hl => ⟨(h l hl).1, lt_of_le_of_lt hm (h l hl).2⟩
theorem Above.tail {n : ℕ} {l ls : List Debt} (h : Above n (l ++ ls)) : Above n ls := fun x hx => h x (List.mem_append_right l hx)

section step
variable {I : sProp (MT nD τ sig ℕ (Elt F) ℕ UU ℕ)} [BI.Persistent I] (Kn : Known xs AM κ ι I) (c : Dev nD)
variable {α : Type} {Q : α → sProp (MT nD τ sig ℕ (Elt F) ℕ UU ℕ)}

include Kn in
theorem wp_half (d : Bool) (t : Fin 2) (k : PR F α) (ls : List Debt) {s : ℕ} (hs : 0 < s) (hsc : s ≤ copies d) (hls : Above (2 * s + 2) (sendDebt d t s ++ ls)) :
    iprop(I ∗ LaneAt xs c d t s ∗ Owe c (sendDebt d t s ++ ls))
      ⊢ iprop(((After xs c d t s ∗ Owe c ls) -∗ wp frame (wpE (defs₀ (F := F)) 𝒱₀ (c : Thread nD τ) none) Set.univ k Q)
          -∗ wp frame (wpE (defs₀ (F := F)) 𝒱₀ (c : Thread nD τ) none) Set.univ (half E₀ (here c) d s t k) Q) := by
  obtain ⟨n, rfl⟩ : ∃ n, s = n + 1 := ⟨s - 1, by omega⟩
  unfold LaneAt After half
  rw [if_pos hsc, Nat.add_sub_cancel]
  iintro ⟨#HI, HL, HO⟩ Hk
  iapply (wp_recv Kn c d t _ (sendDebt d t (n + 1) ++ ls) (S := n + 1) (R := n) (W := n + 1 - 2) (K := n + 1 - 3) (by omega) (by omega) (hls.mono (by omega))) $$ [HL HO]
  · isplitr; · iexact HI
    isplitl [HL]; · iexact HL
    iexact HO
  iintro ⟨HL, Hx, HO⟩
  unfold sendDebt at hls ⊢
  by_cases hc : n + 1 < copies d
  · rw [if_pos hc, show Nat.blt (n + 1) (copies d) = true from blt_true hc]
    rw [if_pos hc] at hls
    rw [if_pos hc]
    unfold when
    dsimp only [List.cons_append, List.nil_append]
    by_cases h3 : 3 ≤ n + 1
    · rw [show Nat.ble 3 (n + 1) = true from Nat.ble_eq_true_of_le h3]
      dsimp only
      iapply (wp_takeCredit Kn c d t _ (.copy d t (n + 1) :: ls) (S := n + 1) (R := n + 1) (W := n + 1 - 2) (K := n + 1 - 3)
        (by have := credits_copies d; omega) (hls.mono (by omega))) $$ [HL HO]
      · isplitr; · iexact HI
        isplitl [HL]; · iexact HL
        iexact HO
      iintro ⟨HL, HO⟩
      iapply (wp_sendCopy Kn c d t k ls (S := n + 1) (R := n + 1) (W := n + 1 - 2) (K := n + 1 - 3 + 1) hc (by omega) (by omega) (by omega) (by omega)) $$ [HL Hx HO]
      · isplitr; · iexact HI
        isplitl [HL]; · iexact HL
        isplitl [Hx]; · iexact Hx
        iexact HO
      rw [show n + 1 - 3 + 1 = n + 1 - 2 from by omega]
      iexact Hk
    · rw [show Nat.ble 3 (n + 1) = false from ble_false h3]
      dsimp only
      rw [show n + 1 - 3 = n + 1 - 2 from by omega]
      iapply (wp_sendCopy Kn c d t k ls (S := n + 1) (R := n + 1) (W := n + 1 - 2) (K := n + 1 - 2) hc (by omega) (by omega) (by omega) (by omega)) $$ [HL Hx HO]
      · isplitr; · iexact HI
        isplitl [HL]; · iexact HL
        isplitl [Hx]; · iexact Hx
        iexact HO
      iexact Hk
  · rw [if_neg hc, show Nat.blt (n + 1) (copies d) = false from blt_false hc]
    rw [if_neg hc]
    unfold when
    dsimp only [List.nil_append]
    iapply Hk
    isplitr [HO]
    · isplitl [HL]; · iexact HL
      iexact Hx
    iexact HO

/-- The block of step `s` can be read. -/
theorem after_read (d : Bool) (t : Fin 2) {s : ℕ} (hs : 0 < s) :
    After xs c d t s ⊢ iprop(∃ q, holds c (slotV (E₀.comm d) (slotIx s) t) q (xh xs (org d s c) t)
      ∗ (holds c (slotV (E₀.comm d) (slotIx s) t) q (xh xs (org d s c) t) -∗ After xs c d t s)) := by
  obtain ⟨n, rfl⟩ : ∃ n, s = n + 1 := ⟨s - 1, by omega⟩
  unfold After
  by_cases hc : n + 1 < copies d
  · rw [if_pos hc]
    unfold Lane
    rw [ico_snoc (held xs c d t) (show n + 1 - 2 ≤ n + 1 by omega)]
    iintro ⟨Hst, HaS, HaR, HcR, HcS, ⟨Hh, Hhs⟩, Hr⟩
    iexists PosShare.left fullShare
    isplitl [Hh]; · unfold held; iexact Hh
    iintro Hh
    isplitl [Hst]; · iexact Hst
    isplitl [HaS]; · iexact HaS
    isplitl [HaR]; · iexact HaR
    isplitl [HcR]; · iexact HcR
    isplitl [HcS]; · iexact HcS
    isplitl [Hh Hhs]
    · isplitl [Hh]; · unfold held; iexact Hh
      iexact Hhs
    iexact Hr
  · rw [if_neg hc]
    iintro ⟨HL, Hx⟩
    iexists PosShare.right fullShare
    isplitl [Hx]; · unfold sendPay srcShare; iexact Hx
    iintro Hx
    isplitl [HL]; · iexact HL
    unfold sendPay srcShare; iexact Hx

variable (w : Buf (Elt F) (E₀.w.view.loc (c : Thread nD τ))) (T : Buf (Elt F) (E₀.r2m.view.loc (c : Thread nD τ))) (hT : IsTab c E₀.r2m T tabAt)

/-- What the products use: the table, the columns of `w`, the result so far. -/
def desk (f : Buf (Elt F) (E₀.out.view.loc (c : Thread nD τ))) : sProp (MT nD τ sig ℕ (Elt F) ℕ UU ℕ) := iprop(pts c E₀.r2m T ∗ pts c E₀.w w ∗ pts c E₀.out f)

include hT in
theorem wp_gemms (d : Bool) {s : ℕ} (hs : 0 < s) (hsc : s < copies d + 1) (st : Buf (Elt F) (E₀.out.view.loc (c : Thread nD τ)) × F .f32) (k : F .f32 → PR F α) :
    iprop(After xs c d 0 s ∗ After xs c d 1 s ∗ desk c w T st.1)
      ⊢ iprop(((After xs c d 0 s ∗ After xs c d 1 s ∗ desk c w T (gem xs w (org d s c) st).1)
            -∗ wp frame (wpE (defs₀ (F := F)) 𝒱₀ (c : Thread nD τ) none) Set.univ (k (gem xs w (org d s c) st).2) Q)
          -∗ wp frame (wpE (defs₀ (F := F)) 𝒱₀ (c : Thread nD τ) none) Set.univ (gemms E₀ (here c) d s hs hsc st.2 k) Q) := by
  have hto : tabAt (tabOff (here c).v4 (back d s) 0) = BitVec.ofNat 32 (org d s c).val :=
    tab_org c d ⟨s, by have := copies_le d; omega⟩ (Nat.pos_iff_ne_zero.mp hs)
  unfold gemms desk
  iintro ⟨H0, H1, HT, Hw, Ho⟩ Hk
  iapply (wp_readTab c E₀.r2m T tabAt hT) $$ HT
  iintro HT
  rw [hto]
  iapply (wp_check c _ _ (dev_chk4 (org d s c)))
  icases (after_read c d 0 hs) $$ H0 with ⟨%q0, Hx, Hb⟩
  iapply (wp_gemmSlot c w d (slotIx s) q0 (org d s c) 0 st _ _ (off6_eq0 (org d s c))) $$ [Hx Hw Ho]
  · isplitl [Hx]; · iexact Hx
    isplitl [Hw]; · iexact Hw
    iexact Ho
  iintro ⟨Hx, Hw, Ho⟩
  ihave H0 := Hb $$ Hx
  icases (after_read c d 1 hs) $$ H1 with ⟨%q1, Hx, Hb⟩
  iapply (wp_gemmSlot c w d (slotIx s) q1 (org d s c) 1 (gem1 xs w (org d s c) 0 st) _ _ (off6_eq1 (org d s c))) $$ [Hx Hw Ho]
  · isplitl [Hx]; · iexact Hx
    isplitl [Hw]; · iexact Hw
    iexact Ho
  iintro ⟨Hx, Hw, Ho⟩
  ihave H1 := Hb $$ Hx
  iapply Hk
  isplitl [H0]; · iexact H0
  isplitl [H1]; · iexact H1
  isplitl [HT]; · iexact HT
  isplitl [Hw]; · iexact Hw
  iexact Ho

include Kn in
theorem wp_clearAt (d : Bool) (t : Fin 2) (k : PR F α) (ls : List Debt) {s : ℕ} (hs : 2 ≤ s) (hsc : s ≤ copies d) (hls : Above 0 (credDebt d t (s - 2) ++ ls)) :
    iprop(I ∗ After xs c d t s ∗ Owe c (credDebt d t (s - 2) ++ ls))
      ⊢ iprop(((LaneAt xs c d t (s + 1) ∗ Owe c ls) -∗ wp frame (wpE (defs₀ (F := F)) 𝒱₀ (c : Thread nD τ) none) Set.univ k Q)
          -∗ wp frame (wpE (defs₀ (F := F)) 𝒱₀ (c : Thread nD τ) none) Set.univ (clearHalf E₀ (here c) d (s - 2) t k) Q) := by
  obtain ⟨n, rfl⟩ : ∃ n, s = n + 2 := ⟨s - 2, by omega⟩
  rw [Nat.add_sub_cancel] at hls ⊢
  unfold After LaneAt
  rw [show n + 2 + 1 - 1 = n + 2 from rfl, show n + 2 + 1 - 2 = n + 1 from rfl, show n + 2 - 2 = n from rfl, show n + 2 + 1 - 3 = n from rfl,
    show n + 2 + 1 - 4 = n + 2 - 3 from by omega]
  by_cases hc : n + 2 < copies d
  · rw [if_pos hc, if_pos (show n + 2 + 1 ≤ copies d from hc)]
    exact wp_clear Kn c d t k ls (here c) rfl (by omega) (by omega) (by omega) (by omega) hls
  · rw [if_neg hc, if_neg (show ¬ n + 2 + 1 ≤ copies d from hc)]
    iintro ⟨#HI, ⟨HL, Hx⟩, HO⟩ Hk
    iapply (wp_clear Kn c d t k ls (here c) rfl (S := n + 2) (R := n + 2) (W := n) (K := n + 2 - 3) (by omega) (by omega) (by omega) (by omega) hls) $$ [HL HO]
    · isplitr; · iexact HI
      isplitl [HL]; · iexact HL
      iexact HO
    iintro ⟨HL, HO⟩
    iapply Hk
    isplitr [HO]
    · isplitl [HL]; · iexact HL
      iexact Hx
    iexact HO

end step

end Cert.KernelIdeal.Tidy
-- ==== Proof.Rings.lean ====
module

public import proofs.«01_k».proof.Proof.Turn

@[expose] public section

set_option maxRecDepth 100000

noncomputable section

namespace Cert.KernelIdeal.Tidy

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

variable {xs : (c : Dev nD) → Buf (Elt F) ((E₀.x).view.loc (c : Thread nD τ))} {AM : Dev nD → S8x128.Idx → Elt F .f32}
variable {κ : Dev nD → Kind → ℕ} {ι : Key → ℕ}

/-! ## What is owed, in program order -/

def clearDebt (s : ℕ) (ls : List Debt) : List Debt :=
  if 2 ≤ s then credDebt true 0 (s - 2) ++ (credDebt true 1 (s - 2) ++ (credDebt false 0 (s - 2) ++ (credDebt false 1 (s - 2) ++ ls))) else ls
def stepDebt (s : ℕ) (ls : List Debt) : List Debt :=
  sendDebt true 0 s ++ (sendDebt true 1 s ++ (sendDebt false 0 s ++ (sendDebt false 1 s ++ clearDebt s ls)))
def restDebt : ℕ → List Debt → List Debt
  | 0, ls => ls
  | n + 1, ls => stepDebt (15 - n) (restDebt n ls)

theorem above_append {n : ℕ} {l ls : List Debt} (h : Above n l) (h' : Above n ls) : Above n (l ++ ls) := fun x hx =>
  (List.mem_append.mp hx).elim (h x) (h' x)
theorem above_send (d : Bool) (t : Fin 2) {s : ℕ} : Above (2 * s + 2) (sendDebt d t s) := fun x hx => by
  unfold sendDebt at hx
  split at hx
  · obtain rfl := List.mem_singleton.mp hx
    exact ⟨show s < 40 by have := copies_le d; omega, show 2 * s + 2 < 2 * s + 4 by omega⟩
  · cases hx
theorem above_cred (d : Bool) (t : Fin 2) {W : ℕ} : Above (2 * W + 6) (credDebt d t W) := fun x hx => by
  unfold credDebt at hx
  split at hx
  · obtain rfl := List.mem_singleton.mp hx
    exact ⟨show W < 40 by have := copies_le d; have := credits_copies d; omega, show 2 * W + 6 < 2 * W + 7 by omega⟩
  · cases hx
theorem above_clear {s : ℕ} {ls : List Debt} (h : Above (2 * s + 2) ls) : Above (2 * s + 2) (clearDebt s ls) := by
  unfold clearDebt
  split
  · have e : 2 * s + 2 ≤ 2 * (s - 2) + 6 := by omega
    exact above_append ((above_cred true 0).mono e) (above_append ((above_cred true 1).mono e)
      (above_append ((above_cred false 0).mono e) (above_append ((above_cred false 1).mono e) h)))
  · exact h
theorem above_step {s : ℕ} {ls : List Debt} (h : Above (2 * s + 2) ls) : Above (2 * s + 2) (stepDebt s ls) :=
  above_append (above_send true 0) (above_append (above_send true 1) (above_append (above_send false 0) (above_append (above_send false 1) (above_clear h))))
theorem above_rest {ls : List Debt} (h : Above 34 ls) : ∀ n, n < 16 → Above (2 * (16 - n) + 2) (restDebt n ls)
  | 0, _ => h
  | n + 1, hn => by
    rw [show 16 - (n + 1) = 15 - n by omega]
    exact above_step ((above_rest h n (by omega)).mono (by omega))

section step
variable {I : sProp (MT nD τ sig ℕ (Elt F) ℕ UU ℕ)} [BI.Persistent I] (Kn : Known xs AM κ ι I) (c : Dev nD)
variable {α : Type} {Q : α → sProp (MT nD τ sig ℕ (Elt F) ℕ UU ℕ)}
variable (w : Buf (Elt F) (E₀.w.view.loc (c : Thread nD τ))) (T : Buf (Elt F) (E₀.r2m.view.loc (c : Thread nD τ))) (hT : IsTab c E₀.r2m T tabAt)

theorem after_one (d : Bool) (t : Fin 2) : After xs c d t 1 = LaneAt xs c d t 2 := by
  unfold After LaneAt
  rw [if_pos (show 1 < copies d by cases d <;> decide), if_pos (show 2 ≤ copies d by cases d <;> decide)]

variable (xs) in
/-- The four lanes. -/
def Four (X : Bool → Fin 2 → sProp (MT nD τ sig ℕ (Elt F) ℕ UU ℕ)) : sProp (MT nD τ sig ℕ (Elt F) ℕ UU ℕ) :=
  iprop(X true 0 ∗ X true 1 ∗ X false 0 ∗ X false 1)

include Kn hT in
theorem wp_step {s : ℕ} (hs : 0 < s) (hs' : s < 16) (st : Buf (Elt F) (E₀.out.view.loc (c : Thread nD τ)) × F .f32) (ls : List Debt) (hls : Above (2 * s + 2) ls)
    (k : F .f32 → PR F α) :
    iprop(I ∗ Four (fun d t => LaneAt xs c d t s) ∗ desk c w T st.1 ∗ Owe c (stepDebt s ls))
      ⊢ iprop(((Four (fun d t => LaneAt xs c d t (s + 1)) ∗ desk c w T (gem xs w (org false s c) (gem xs w (org true s c) st)).1 ∗ Owe c ls)
            -∗ wp frame (wpE (defs₀ (F := F)) 𝒱₀ (c : Thread nD τ) none) Set.univ (k (gem xs w (org false s c) (gem xs w (org true s c) st)).2) Q)
          -∗ wp frame (wpE (defs₀ (F := F)) 𝒱₀ (c : Thread nD τ) none) Set.univ (step E₀ (here c) s hs hs' st.2 k) Q) := by
  have hc := above_clear (s := s) hls
  have h3 := above_append (above_send false 1 (s := s)) hc
  have h2 := above_append (above_send false 0 (s := s)) h3
  have h1 := above_append (above_send true 1 (s := s)) h2
  have h0 := above_append (above_send true 0 (s := s)) h1
  have ct : s ≤ copies true := show s ≤ 16 by omega
  have cf : s ≤ copies false := show s ≤ 15 by omega
  unfold Four step stepDebt
  iintro ⟨#HI, ⟨L0, L1, L2, L3⟩, Hd, HO⟩ Hk
  iapply (wp_half Kn c true 0 _ _ hs ct h0) $$ [L0 HO]
  · isplitr; · iexact HI
    isplitl [L0]; · iexact L0
    iexact HO
  iintro ⟨L0, HO⟩
  iapply (wp_half Kn c true 1 _ _ hs ct h1) $$ [L1 HO]
  · isplitr; · iexact HI
    isplitl [L1]; · iexact L1
    iexact HO
  iintro ⟨L1, HO⟩
  iapply (wp_half Kn c false 0 _ _ hs cf h2) $$ [L2 HO]
  · isplitr; · iexact HI
    isplitl [L2]; · iexact L2
    iexact HO
  iintro ⟨L2, HO⟩
  iapply (wp_half Kn c false 1 _ _ hs cf h3) $$ [L3 HO]
  · isplitr; · iexact HI
    isplitl [L3]; · iexact L3
    iexact HO
  iintro ⟨L3, HO⟩
  iapply (wp_gemms c w T hT true hs (Nat.lt_succ_of_lt hs') st) $$ [L0 L1 Hd]
  · isplitl [L0]; · iexact L0
    isplitl [L1]; · iexact L1
    iexact Hd
  iintro ⟨L0, L1, Hd⟩
  iapply (wp_gemms c w T hT false hs hs' (gem xs w (org true s c) st)) $$ [L2 L3 Hd]
  · isplitl [L2]; · iexact L2
    isplitl [L3]; · iexact L3
    iexact Hd
  iintro ⟨L2, L3, Hd⟩
  unfold clearDebt at hc ⊢
  by_cases h : 2 ≤ s
  · rw [if_pos h] at hc
    rw [if_pos h, show Nat.ble 2 s = true from Nat.ble_eq_true_of_le h]
    unfold when
    dsimp only
    iapply (wp_clearAt Kn c true 0 _ _ h ct (hc.mono (Nat.zero_le _))) $$ [L0 HO]
    · isplitr; · iexact HI
      isplitl [L0]; · iexact L0
      iexact HO
    iintro ⟨L0, HO⟩
    iapply (wp_clearAt Kn c true 1 _ _ h ct (hc.tail.mono (Nat.zero_le _))) $$ [L1 HO]
    · isplitr; · iexact HI
      isplitl [L1]; · iexact L1
      iexact HO
    iintro ⟨L1, HO⟩
    iapply (wp_clearAt Kn c false 0 _ _ h cf (hc.tail.tail.mono (Nat.zero_le _))) $$ [L2 HO]
    · isplitr; · iexact HI
      isplitl [L2]; · iexact L2
      iexact HO
    iintro ⟨L2, HO⟩
    iapply (wp_clearAt Kn c false 1 _ _ h cf (hc.tail.tail.tail.mono (Nat.zero_le _))) $$ [L3 HO]
    · isplitr; · iexact HI
      isplitl [L3]; · iexact L3
      iexact HO
    iintro ⟨L3, HO⟩
    iapply Hk
    isplitl [L0 L1 L2 L3]
    · isplitl [L0]; · iexact L0
      isplitl [L1]; · iexact L1
      isplitl [L2]; · iexact L2
      iexact L3
    isplitl [Hd]; · iexact Hd
    iexact HO
  · obtain rfl : s = 1 := by omega
    rw [if_neg h]
    unfold when
    dsimp only [Nat.ble]
    iapply Hk
    isplitl [L0 L1 L2 L3]
    · isplitl [L0]; · iapply (Entails.of_eq (after_one c true 0)); iexact L0
      isplitl [L1]; · iapply (Entails.of_eq (after_one c true 1)); iexact L1
      isplitl [L2]; · iapply (Entails.of_eq (after_one c false 0)); iexact L2
      iapply (Entails.of_eq (after_one c false 1)); iexact L3
    isplitl [Hd]; · iexact Hd
    iexact HO

variable (xs) in
/-- The products of the last `n` double steps. -/
def run {c : Dev nD} (w : Buf (Elt F) (E₀.w.view.loc (c : Thread nD τ))) : ℕ → Buf (Elt F) (E₀.out.view.loc (c : Thread nD τ)) × F .f32 → Buf (Elt F) (E₀.out.view.loc (c : Thread nD τ)) × F .f32
  | 0, st => st
  | n + 1, st => run w n (gem xs w (org false (15 - n) c) (gem xs w (org true (15 - n) c) st))

include Kn hT in
theorem wp_steps (ls : List Debt) (hls : Above 34 ls) (k : F .f32 → PR F α) : ∀ (n : ℕ) (hn : n < 16) (st : Buf (Elt F) (E₀.out.view.loc (c : Thread nD τ)) × F .f32),
    iprop(I ∗ Four (fun d t => LaneAt xs c d t (16 - n)) ∗ desk c w T st.1 ∗ Owe c (restDebt n ls))
      ⊢ iprop(((Four (fun d t => LaneAt xs c d t 16) ∗ desk c w T (run xs w n st).1 ∗ Owe c ls)
            -∗ wp frame (wpE (defs₀ (F := F)) 𝒱₀ (c : Thread nD τ) none) Set.univ (k (run xs w n st).2) Q)
          -∗ wp frame (wpE (defs₀ (F := F)) 𝒱₀ (c : Thread nD τ) none) Set.univ (steps E₀ (here c) n hn st.2 k) Q)
  | 0, hn, st => by
    unfold steps
    iintro ⟨-, H, Hd, HO⟩ Hk
    iapply Hk
    isplitl [H]; · iexact H
    isplitl [Hd]; · iexact Hd
    iexact HO
  | n + 1, hn, st => by
    unfold steps
    have ih := wp_steps ls hls k n (Nat.lt_of_succ_lt hn) (gem xs w (org false (15 - n) c) (gem xs w (org true (15 - n) c) st))
    have hs := wp_step (Q := Q) Kn c w T hT (s := 15 - n) (by omega) (by omega) st (restDebt n ls) ((above_rest hls n (by omega)).mono (by omega))
      (fun a => steps E₀ (here c) n (Nat.lt_of_succ_lt hn) a k)
    rw [show 15 - n + 1 = 16 - n by omega] at hs
    rw [show 16 - (n + 1) = 15 - n by omega]
    iintro ⟨#HI, H, Hd, HO⟩ Hk
    iapply hs $$ [H Hd HO]
    · isplitr; · iexact HI
      isplitl [H]; · iexact H
      isplitl [Hd]; · iexact Hd
      iexact HO
    iintro ⟨H, Hd, HO⟩
    iapply ih $$ [H Hd HO]
    · isplitr; · iexact HI
      isplitl [H]; · iexact H
      isplitl [Hd]; · iexact Hd
      iexact HO
    iexact Hk

/-- A lane whose last copy is still to be cleared, and a lane all cleared. -/
def LanePen (xs : (c : Dev nD) → Buf (Elt F) ((E₀.x).view.loc (c : Thread nD τ))) (c : Dev nD) (d : Bool) (t : Fin 2) : sProp (MT nD τ sig ℕ (Elt F) ℕ UU ℕ) :=
  iprop(Lane xs c d t (copies d) (copies d) (copies d - 1) (credits d) ∗ sendPay xs c d t (copies d))
def LaneEnd (xs : (c : Dev nD) → Buf (Elt F) ((E₀.x).view.loc (c : Thread nD τ))) (c : Dev nD) (d : Bool) (t : Fin 2) : sProp (MT nD τ sig ℕ (Elt F) ℕ UU ℕ) :=
  iprop(Lane xs c d t (copies d) (copies d) (copies d) (credits d) ∗ sendPay xs c d t (copies d))

theorem pen_true (t : Fin 2) : LaneAt xs c true t 17 = LanePen xs c true t := rfl
theorem pen_false (t : Fin 2) : LaneAt xs c false t 16 = LanePen xs c false t := rfl

include Kn in
theorem wp_clearEnd (d : Bool) (t : Fin 2) (k : PR F α) (ls : List Debt) (hls : Above 0 ls) :
    iprop(I ∗ LanePen xs c d t ∗ Owe c ls)
      ⊢ iprop(((LaneEnd xs c d t ∗ Owe c ls) -∗ wp frame (wpE (defs₀ (F := F)) 𝒱₀ (c : Thread nD τ) none) Set.univ k Q)
          -∗ wp frame (wpE (defs₀ (F := F)) 𝒱₀ (c : Thread nD τ) none) Set.univ (clearHalf E₀ (here c) d (copies d - 1) t k) Q) := by
  have e : credDebt d t (copies d - 1) = [] := by cases d <;> rfl
  have h := wp_clear (Q := Q) Kn c d t k ls (here c) rfl (S := copies d) (R := copies d) (W := copies d - 1) (K := credits d)
    (by have := credits_copies d; omega) (by have := credits_copies d; omega) (by omega) (by omega) (by rw [e]; exact hls)
  rw [e, List.nil_append, show copies d - 1 + 1 = copies d by have := credits_copies d; omega] at h
  unfold LanePen LaneEnd
  iintro ⟨#HI, ⟨HL, Hx⟩, HO⟩ Hk
  iapply h $$ [HL HO]
  · isplitr; · iexact HI
    isplitl [HL]; · iexact HL
    iexact HO
  iintro ⟨HL, HO⟩
  iapply Hk
  isplitr [HO]
  · isplitl [HL]; · iexact HL
    iexact Hx
  iexact HO

include Kn hT in
theorem wp_lastStep (ls : List Debt) (hls : Above 34 ls) (st : Buf (Elt F) (E₀.out.view.loc (c : Thread nD τ)) × F .f32) (k : F .f32 → PR F α) :
    iprop(I ∗ Four (fun d t => LaneAt xs c d t 16) ∗ desk c w T st.1 ∗ Owe c ls)
      ⊢ iprop(((LaneEnd xs c true 0 ∗ LanePen xs c true 1 ∗ LaneEnd xs c false 0 ∗ LaneEnd xs c false 1 ∗ desk c w T (gem xs w (org true 16 c) st).1 ∗ Owe c ls)
            -∗ wp frame (wpE (defs₀ (F := F)) 𝒱₀ (c : Thread nD τ) none) Set.univ (k (gem xs w (org true 16 c) st).2) Q)
          -∗ wp frame (wpE (defs₀ (F := F)) 𝒱₀ (c : Thread nD τ) none) Set.univ (lastStep E₀ (here c) st.2 k) Q) := by
  unfold Four lastStep
  have h0 : Above 0 ls := hls.mono (by omega)
  iintro ⟨#HI, ⟨L0, L1, L2, L3⟩, Hd, HO⟩ Hk
  iapply (wp_half Kn c true 0 _ ls (s := 16) (by decide) (by decide) hls) $$ [L0 HO]
  · isplitr; · iexact HI
    isplitl [L0]; · iexact L0
    iexact HO
  iintro ⟨L0, HO⟩
  iapply (wp_half Kn c true 1 _ ls (s := 16) (by decide) (by decide) hls) $$ [L1 HO]
  · isplitr; · iexact HI
    isplitl [L1]; · iexact L1
    iexact HO
  iintro ⟨L1, HO⟩
  iapply (wp_gemms c w T hT true (s := 16) _ _ st) $$ [L0 L1 Hd]
  · isplitl [L0]; · iexact L0
    isplitl [L1]; · iexact L1
    iexact Hd
  iintro ⟨L0, L1, Hd⟩
  iapply (wp_clearAt Kn c true 0 _ ls (s := 16) (by decide) (by decide) h0) $$ [L0 HO]
  · isplitr; · iexact HI
    isplitl [L0]; · iexact L0
    iexact HO
  iintro ⟨L0, HO⟩
  iapply (wp_clearAt Kn c true 1 _ ls (s := 16) (by decide) (by decide) h0) $$ [L1 HO]
  · isplitr; · iexact HI
    isplitl [L1]; · iexact L1
    iexact HO
  iintro ⟨L1, HO⟩
  ihave L2 := (Entails.of_eq (pen_false c 0)) $$ L2
  ihave L3 := (Entails.of_eq (pen_false c 1)) $$ L3
  ihave L0 := (Entails.of_eq (pen_true c 0)) $$ L0
  ihave L1 := (Entails.of_eq (pen_true c 1)) $$ L1
  iapply (wp_clearEnd Kn c false 0 _ ls h0) $$ [L2 HO]
  · isplitr; · iexact HI
    isplitl [L2]; · iexact L2
    iexact HO
  iintro ⟨L2, HO⟩
  iapply (wp_clearEnd Kn c false 1 _ ls h0) $$ [L3 HO]
  · isplitr; · iexact HI
    isplitl [L3]; · iexact L3
    iexact HO
  iintro ⟨L3, HO⟩
  iapply (wp_clearEnd Kn c true 0 _ ls h0) $$ [L0 HO]
  · isplitr; · iexact HI
    isplitl [L0]; · iexact L0
    iexact HO
  iintro ⟨L0, HO⟩
  iapply Hk
  isplitl [L0]; · iexact L0
  isplitl [L1]; · iexact L1
  isplitl [L2]; · iexact L2
  isplitl [L3]; · iexact L3
  isplitl [Hd]; · iexact Hd
  iexact HO

end step

end Cert.KernelIdeal.Tidy
-- ==== Proof.Am.lean ====
module

public import proofs.«01_k».proof.Proof.Slots
public import proofs.«01_k».proof.Proof.Rings

@[expose] public section

set_option maxRecDepth 100000

noncomputable section

namespace Cert.KernelIdeal.Tidy

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

/-! ## One piece per device -/

/-- One piece per device of a list. -/
def row (Φ : Fin 32 → sProp (MT nD τ sig ℕ (Elt F) ℕ UU ℕ)) : List (Fin 32) → sProp (MT nD τ sig ℕ (Elt F) ℕ UU ℕ)
  | [] => iprop(emp)
  | j :: js => iprop(Φ j ∗ row Φ js)

theorem row_snoc (Φ : Fin 32 → sProp (MT nD τ sig ℕ (Elt F) ℕ UU ℕ)) : ∀ (js : List (Fin 32)) (h : js.Nodup), bigSep js.toFinset Φ = row Φ js
  | [], _ => rfl
  | j :: js, h => by
    rw [List.toFinset_cons, bigSep_insert (by rw [List.mem_toFinset]; exact (List.nodup_cons.mp h).1), row_snoc Φ js (List.nodup_cons.mp h).2]
    rfl

theorem row_all (Φ : Fin 32 → sProp (MT nD τ sig ℕ (Elt F) ℕ UU ℕ)) : bigSep Finset.univ Φ = row Φ (List.finRange 32) := by
  rw [← row_snoc Φ _ (List.nodup_finRange 32)]
  exact congrArg (fun s => bigSep s Φ) (by ext i; simp)

/-- A piece per other device and one for the device itself. -/
def mine (c : Fin 32) (Φ : Fin 32 → sProp (MT nD τ sig ℕ (Elt F) ℕ UU ℕ)) (X : sProp (MT nD τ sig ℕ (Elt F) ℕ UU ℕ)) (j : Fin 32) : sProp (MT nD τ sig ℕ (Elt F) ℕ UU ℕ) :=
  if j ≠ c then Φ j else X

theorem mine_split (c : Fin 32) (Φ : Fin 32 → sProp (MT nD τ sig ℕ (Elt F) ℕ UU ℕ)) (X : sProp (MT nD τ sig ℕ (Elt F) ℕ UU ℕ)) :
    bigSep Finset.univ (mine c Φ X) = iprop(X ∗ bigSep (Finset.univ.erase c) Φ) := by
  rw [bigSep_erase (Finset.mem_univ c)]
  rw [show mine c Φ X c = X from if_neg (fun h => h rfl)]
  rw [show bigSep (Finset.univ.erase c) (mine c Φ X) = bigSep (Finset.univ.erase c) Φ from
    bigSep_congr fun j hj => if_pos (Finset.ne_of_mem_erase hj)]
  rfl

theorem mine_full (c : Fin 32) (Φ : Fin 32 → sProp (MT nD τ sig ℕ (Elt F) ℕ UU ℕ)) :
    bigSep Finset.univ (mine c Φ (Φ c)) = bigSep Finset.univ Φ :=
  bigSep_congr fun j _ => by
    unfold mine
    by_cases h : j ≠ c
    · rw [if_pos h]
    · rw [if_neg h, not_not.mp h]

/-! ## The device's own maximum, in its buffer and in its place -/

/-- The device's maximum's whole buffer, read as one value. -/
theorem ms_whole (c : Dev nD) (a : Elt F .f32) :
    (pts c E₀.ms (fun _ => a) : sProp (MT nD τ sig ℕ (Elt F) ℕ UU ℕ)) = holds c msV fullShare (fun _ => a) := by
  have h : (E₀.ms.view.loc (c : Thread nD τ) ↦[(show Finset S1x8x128.Idx from msV.view.set)]{fullShare} (fun _ => a) : sProp (MT nD τ sig ℕ (Elt F) ℕ UU ℕ))
      = (E₀.ms.view.loc (c : Thread nD τ) ↦[(show Finset S1x8x128.Idx from msV.view.set)]{fullShare} (msV.view.rep (fun _ => a))) := by
    refine pointsTo_congr (ℓ := E₀.ms.view.loc (c : Thread nD τ)) fun i hi => ?_
    obtain ⟨x, -, hx⟩ := Finset.mem_map.mp hi
    have hr := congrFun (View.read_rep msV.view (fun _ => a : S8x128.Idx → Elt F .f32)) x
    subst hx
    exact Eq.symm (show _ = a from hr)
  exact (congrArg (fun S => (E₀.ms.view.loc (c : Thread nD τ) ↦[S]{fullShare} (fun _ => a) : sProp (MT nD τ sig ℕ (Elt F) ℕ UU ℕ))) set_ms.symm).trans h

theorem off131_eq (c : Dev nD) : k0_off131 c = ![c.val, 0, 0] := by
  have h : ∀ (c : Dev nD) (a : Fin 3), k0_off131 c a = (![c.val, 0, 0] : Fin 3 → ℕ) a := by decide +kernel
  exact funext (h c)

section am
variable {xs : (c : Dev nD) → Buf (Elt F) ((E₀.x).view.loc (c : Thread nD τ))} {am : Dev nD → Elt F .f32}

/-- Every device's maximum, as it is sent. -/
abbrev flat (am : Dev nD → Elt F .f32) : Dev nD → S8x128.Idx → Elt F .f32 := fun o _ => am o

variable {κ : Dev nD → Kind → ℕ} {ι : Key → ℕ}
variable {I : sProp (MT nD τ sig ℕ (Elt F) ℕ UU ℕ)} [BI.Persistent I] (Kn : Known xs (flat am) κ ι I) (c : Dev nD)
variable {α : Type} {Q : α → sProp (MT nD τ sig ℕ (Elt F) ℕ UU ℕ)}

/-- What a device needs to send its maximum to `o`. -/
def amTok (c o : Dev nD) : sProp (MT nD τ sig ℕ (Elt F) ℕ UU ℕ) :=
  iprop(dutyTok ER (cell c (.aS o)) 0 0 ∗ dutyTok ER (cell o (.aR c)) 0 0 ∗ Release.writeTok ES (spot c o) 1 ∗ reached ER (cell c (.aS o)) 0)
/-- What a device needs to await the ends of the copies from and to `o`. -/
def amWait (c o : Dev nD) : sProp (MT nD τ sig ℕ (Elt F) ℕ UU ℕ) :=
  iprop(atPos ER (cell c (.aR o)) 0 ∅ 0 ∗ atPos ER (cell c (.aS o)) 0 ∅ 0 ∗ cred (tallyAt (cell c (.aR o)) 0 nMax))
/-- The two cells once both copies are over. -/
def amOver (c o : Dev nD) : sProp (MT nD τ sig ℕ (Elt F) ℕ UU ℕ) :=
  iprop(atPos ER (cell c (.aR o)) 1 ∅ 0 ∗ atPos ER (cell c (.aS o)) 1 ∅ 0)
/-- A share of the device's own maximum. -/
def amPart (am : Dev nD → Elt F .f32) (c o : Dev nD) : sProp (MT nD τ sig ℕ (Elt F) ℕ UU ℕ) := holds c msV (amShare o) (flat am c)
/-- The place of `o`'s maximum, holding it. -/
def amHere (am : Dev nD → Elt F .f32) (c o : Dev nD) : sProp (MT nD τ sig ℕ (Elt F) ℕ UU ℕ) := holds c (mbV o) fullShare (flat am o)
/-- All the places the device's maximum lands in are given away. -/
def mySpots (c : Dev nD) : sProp (MT nD τ sig ℕ (Elt F) ℕ UU ℕ) := bigSep Finset.univ fun o : Dev nD => freed (spot c o)

instance mySpots_persistent (c : Dev nD) : BI.Persistent (mySpots (F := F) c) := by unfold mySpots; infer_instance

/-- The debts of the maxima. -/
def amDebts (c : Dev nD) : List (Fin 32) → List Debt
  | [] => []
  | j :: js => if j ≠ c then .am j :: amDebts c js else amDebts c js

include Kn in
/-- The maximum leaves for every device of a list. -/
theorem wp_sends (k : PUnit → PR F α) : ∀ js : List (Fin 32),
    iprop(I ∗ mySpots c ∗ row (mine c (amTok c) iprop(emp)) js ∗ row (amPart am c) js ∗ Owe c (amDebts c js))
      ⊢ iprop(((row (mine c (fun o => cred (tallyAt (cell c (.aS o)) 0 nMax)) (amPart am c c)) js ∗ Owe c [])
            -∗ wp frame (wpE (defs₀ (F := F)) 𝒱₀ (c : Thread nD τ) none) Set.univ (k ⟨⟩) Q)
          -∗ wp frame (wpE (defs₀ (F := F)) 𝒱₀ (c : Thread nD τ) none) Set.univ (each (sendMax c) js >>= k) Q)
  | [] => by
    iintro ⟨#HI, #Hm, -, -, HO⟩ Hk
    iapply Hk
    isplitr; · iempintro
    iexact HO
  | j :: js => by
    have ih := wp_sends k js
    unfold row amDebts
    by_cases h : j ≠ c
    · rw [if_pos h, show mine c (amTok (F := F) c) iprop(emp) j = amTok c j from if_pos h,
        show mine c (fun o => (cred (tallyAt (cell c (.aS o)) 0 nMax) : sProp (MT nD τ sig ℕ (Elt F) ℕ UU ℕ))) (amPart am c c) j = cred (tallyAt (cell c (.aS j)) 0 nMax) from if_pos h]
      iintro ⟨#HI, #Hm, ⟨Ht, Hts⟩, ⟨Hx, Hxs⟩, HO⟩ Hk
      unfold amTok Owe
      icases Ht with ⟨HtS, HtR, HtW, #HrS⟩
      icases HO with ⟨%W', HO⟩
      ihave #Hfr := (show mySpots (F := F) c ⊢ freed (spot c j) from bigSep_elim (Φ := fun o => freed (spot c o)) (Finset.mem_univ j)) $$ Hm
      ihave #Hc1 := Kn.cells c (.aS j) $$ HI
      ihave #Hc2 := Kn.cells j (.aR c) $$ HI
      iapply (fupd_wp frame (wpE (defs₀ (F := F)) 𝒱₀ (c : Thread nD τ) none) Set.univ)
      imod (take_place Kn (spot c j)) $$ [HtW] with Hpl
      · isplitr; · iexact HI
        isplitr; · iexact Hfr
        iexact HtW
      imodintro
      icases (show place (F := F) (spot c j) ⊢ iprop(anyOf j (mbV c) ∗ reached ER (cell j (.aR c)) 0) from .rfl) $$ Hpl with ⟨Hdst, #HrR⟩
      unfold anyOf Release.slot
      icases Hdst with ⟨%fd, Hdst⟩
      unfold amPart
      rw [show (each (sendMax (F := F) c) (j :: js) >>= k) = .op (.enqueueDma msV (.remote (Dev.tc j) (mbV c) (.dma (semM E₀.mss j).sem)) (.dma (semM E₀.mrs c).sem)
          msV_wordExact (mbV_wordExact c) ⟨⟨rfl, Or.inl rfl⟩, trivial⟩) fun _ => (each (sendMax c) js >>= k) from by
        rw [show each (sendMax (F := F) c) (j :: js) = (sendMax c j >>= fun _ => each (sendMax c) js) from rfl, show sendMax (F := F) c j = _ from if_pos h]; rfl]
      iapply (Rounds.wp_send_pointsTo 𝒱₀ ER (Rd xs (flat am)) (c : Thread nD τ) none (κ₁ := κ c (.aS j)) (κ₂ := κ j (.aR c))
          (r₁ := 0) (r₂ := 0) (d₁ := 0) (d₂ := 0) (fd := fd)
          (by rw [duties_aS xs (flat am) c j h]; exact Finset.mem_singleton_self _) (by rw [duties_aR xs (flat am) j c (Ne.symm h)]; exact Finset.mem_singleton_self _)
          0 0 nMax (by exact credit_mb c) (amount_cell xs (flat am) c (.aS j) _ _) (amount_cell xs (flat am) j (.aR c) _ _)
          (owing c (amDebts c js)) rfl (W := W')
          (by rw [payload_aS])
          (by
            rw [payload_aR]; unfold holds; rw [pointsTo_rep ((j : Dev nD) : Thread nD τ), View.read_write_univ, View.read_rep]))
        $$ [Hx Hdst HO HtS HtR]
      · isplitr; · iexact Hc1
        isplitr; · iexact Hc2
        isplitl [Hx]; · iexact Hx
        isplitl [Hdst]; · iexact Hdst
        isplitl [HO]; · iexact HO
        isplitl [HtS]; · iexact HtS
        isplitr; · iexact HrS
        isplitl [HtR]; · iexact HtR
        iexact HrR
      iintro ⟨HcS, HO⟩
      unfold Owe at ih
      iapply ih $$ [Hts Hxs HO]
      · isplitr; · iexact HI
        isplitr; · iexact Hm
        isplitl [Hts]; · iexact Hts
        isplitl [Hxs]; · unfold amPart; iexact Hxs
        iexists _; iexact HO
      iintro ⟨Hr, HO⟩
      iapply Hk
      isplitl [HcS Hr]
      · isplitl [HcS]; · iexact HcS
        unfold amPart; iexact Hr
      iexact HO
    · obtain rfl : j = c := not_not.mp h
      rw [if_neg h, show mine j (fun o => (cred (tallyAt (cell j (.aS o)) 0 nMax) : sProp (MT nD τ sig ℕ (Elt F) ℕ UU ℕ))) (amPart am j j) j = amPart am j j from if_neg h,
        show (each (sendMax (F := F) j) (j :: js) >>= k) = (each (sendMax j) js >>= k) from by rw [show each (sendMax (F := F) j) (j :: js) = (sendMax j j >>= fun _ => each (sendMax j) js) from rfl, show sendMax (F := F) j j = _ from if_neg h]; rfl]
      iintro ⟨#HI, #Hm, ⟨-, Hts⟩, ⟨Hx, Hxs⟩, HO⟩ Hk
      iapply ih $$ [Hts Hxs HO]
      · isplitr; · iexact HI
        isplitr; · iexact Hm
        isplitl [Hts]; · iexact Hts
        isplitl [Hxs]; · iexact Hxs
        iexact HO
      iintro ⟨Hr, HO⟩
      iapply Hk
      isplitl [Hx Hr]
      · isplitl [Hx]; · iexact Hx
        iexact Hr
      iexact HO

include Kn in
/-- The maxima of a list of devices land, and the device's own have left. -/
theorem wp_waits (k : PUnit → PR F α) : ∀ js : List (Fin 32),
    iprop(I ∗ row (mine c (amWait c) (amHere am c c)) js ∗ row (mine c (fun o => cred (tallyAt (cell c (.aS o)) 0 nMax)) (amPart am c c)) js ∗ Owe c [])
      ⊢ iprop(((row (amHere am c) js ∗ row (amPart am c) js ∗ row (mine c (amOver c) iprop(emp)) js ∗ Owe c [])
            -∗ wp frame (wpE (defs₀ (F := F)) 𝒱₀ (c : Thread nD τ) none) Set.univ (k ⟨⟩) Q)
          -∗ wp frame (wpE (defs₀ (F := F)) 𝒱₀ (c : Thread nD τ) none) Set.univ (each (waitMax c) js >>= k) Q)
  | [] => by
    iintro ⟨#HI, -, -, HO⟩ Hk
    iapply Hk
    isplitr; · iempintro
    isplitr; · iempintro
    isplitr; · iempintro
    iexact HO
  | j :: js => by
    have ih := wp_waits k js
    unfold row
    by_cases h : j ≠ c
    · rw [show mine c (amWait (F := F) c) (amHere am c c) j = amWait c j from if_pos h, show mine c (amOver (F := F) c) iprop(emp) j = amOver c j from if_pos h,
        show mine c (fun o => (cred (tallyAt (cell c (.aS o)) 0 nMax) : sProp (MT nD τ sig ℕ (Elt F) ℕ UU ℕ))) (amPart am c c) j = cred (tallyAt (cell c (.aS j)) 0 nMax) from if_pos h]
      iintro ⟨#HI, ⟨Ha, Has⟩, ⟨HcS, Hcs⟩, HO⟩ Hk
      unfold amWait Owe
      icases Ha with ⟨HaR, HaS, HcR⟩
      icases HO with ⟨%W', HO⟩
      ihave #Hc1 := Kn.cells c (.aR j) $$ HI
      ihave #Hc2 := Kn.cells c (.aS j) $$ HI
      ihave #Hlev := Kn.levs $$ HI
      ihave HM1 := (mayWait_owing c (.aR j) 0 [] (by decide) (fun _ hl => absurd hl List.not_mem_nil)) $$ Hlev
      ihave HM2 := (mayWait_owing c (.aS j) 0 [] (by decide) (fun _ hl => absurd hl List.not_mem_nil)) $$ Hlev
      rw [show (each (waitMax (F := F) c) (j :: js) >>= k) = .op (.waitDma2 (semM E₀.mrs j).sem msV (mbV j) msV_wordExact (mbV_wordExact j)) fun _ =>
          .op (.waitDma2 (semM E₀.mss j).sem (mbV j) msV (mbV_wordExact j) msV_wordExact) fun _ => (each (waitMax c) js >>= k) from by
        rw [show each (waitMax (F := F) c) (j :: js) = (waitMax c j >>= fun _ => each (waitMax c) js) from rfl, show waitMax (F := F) c j = _ from if_pos h]; rfl]
      iapply (Rounds.wp_wait_rest_token 𝒱₀ ER (Rd xs (flat am)) (c : Thread nD τ) none (κ := κ c (.aR j))
          (wpE_waitDma2_eq 𝒱₀ (c : Thread nD τ) none Set.univ) (Set.mem_univ _) 0 (O := owing c []) (W := W') (R := 0) (m := 0) (T := ∅)
          (by rw [Nat.zero_add, credit_mb]; exact (expect_aR xs (flat am) c j h).symm)) $$ [HcR HO HM1 HaR]
      · isplitr; · iexact Hc1
        isplitl [HcR]; · rw [credit_mb]; iexact HcR
        isplitl [HO]; · iexact HO
        isplitl [HM1]; · iexact HM1
        iexact HaR
      iintro ⟨HO, HaR, -, Hpay⟩
      ihave Hx := (Entails.of_eq (rest_aR xs (flat am) c j h)) $$ Hpay
      iapply (Rounds.wp_wait_rest_token 𝒱₀ ER (Rd xs (flat am)) (c : Thread nD τ) none (κ := κ c (.aS j))
          (wpE_waitDma2_eq 𝒱₀ (c : Thread nD τ) none Set.univ) (Set.mem_univ _) 0 (O := owing c []) (R := 0) (m := 0) (T := ∅)
          (by rw [Nat.zero_add, credit_ms]; exact (expect_aS xs (flat am) c j h).symm)) $$ [HcS HO HM2 HaS]
      · isplitr; · iexact Hc2
        isplitl [HcS]; · rw [credit_ms]; iexact HcS
        isplitl [HO]; · iexact HO
        isplitl [HM2]; · iexact HM2
        iexact HaS
      iintro ⟨HO, HaS, -, Hpay⟩
      ihave Hy := (Entails.of_eq (rest_aS xs (flat am) c j h)) $$ Hpay
      unfold Owe at ih
      iapply ih $$ [Has Hcs HO]
      · isplitr; · iexact HI
        isplitl [Has]; · iexact Has
        isplitl [Hcs]; · iexact Hcs
        iexists _; iexact HO
      iintro ⟨H1, H2, H3, HO⟩
      iapply Hk
      isplitl [Hx H1]
      · isplitl [Hx]; · unfold amHere; iexact Hx
        iexact H1
      isplitl [Hy H2]
      · isplitl [Hy]; · unfold amPart; iexact Hy
        iexact H2
      isplitl [HaR HaS H3]
      · isplitl [HaR HaS]
        · unfold amOver
          isplitl [HaR]; · iexact HaR
          iexact HaS
        iexact H3
      iexact HO
    · obtain rfl : j = c := not_not.mp h
      rw [show mine j (amWait (F := F) j) (amHere am j j) j = amHere am j j from if_neg h, show mine j (amOver (F := F) j) iprop(emp) j = iprop(emp) from if_neg h,
        show mine j (fun o => (cred (tallyAt (cell j (.aS o)) 0 nMax) : sProp (MT nD τ sig ℕ (Elt F) ℕ UU ℕ))) (amPart am j j) j = amPart am j j from if_neg h,
        show (each (waitMax (F := F) j) (j :: js) >>= k) = (each (waitMax j) js >>= k) from by rw [show each (waitMax (F := F) j) (j :: js) = (waitMax j j >>= fun _ => each (waitMax j) js) from rfl, show waitMax (F := F) j j = _ from if_neg h]; rfl]
      iintro ⟨#HI, ⟨Hx, Has⟩, ⟨Hy, Hcs⟩, HO⟩ Hk
      iapply ih $$ [Has Hcs HO]
      · isplitr; · iexact HI
        isplitl [Has]; · iexact Has
        isplitl [Hcs]; · iexact Hcs
        iexact HO
      iintro ⟨H1, H2, H3, HO⟩
      iapply Hk
      isplitl [Hx H1]
      · isplitl [Hx]; · iexact Hx
        iexact H1
      isplitl [Hy H2]
      · isplitl [Hy]; · iexact Hy
        iexact H2
      isplitl [H3]
      · isplitr; · iempintro
        iexact H3
      iexact HO

/-- The device's own maximum goes to its own place. -/
theorem wp_own (off : Fin 3 → ℕ) (h : ∀ a, off a + S1x8x128.size a ≤ S32x8x128.size a) (hoff : off = ![c.val, 0, 0]) (v : Vec F S1x8x128 .f32) (hv : v = fun _ => am c)
    {h1 : E₀.mb.view.LoadsAt (Rect.unit (s := S32x8x128) off S1x8x128.size h).toLoadRect}
    {h2 : (E₀.mb.access (Rect.unit (s := S32x8x128) off S1x8x128.size h)).Stores Finset.univ} {h3} (k : PR F α) :
    anyOf c (mbV c) ⊢ iprop((amHere am c c -∗ wp frame (wpE (defs₀ (F := F)) 𝒱₀ (c : Thread nD τ) none) Set.univ k Q)
        -∗ wp frame (wpE (defs₀ (F := F)) 𝒱₀ (c : Thread nD τ) none) Set.univ
          (.op (.load E₀.mb (Rect.unit (s := S32x8x128) off S1x8x128.size h).toLoadRect h1) fun _ =>
            .op (.store E₀.mb (Rect.unit (s := S32x8x128) off S1x8x128.size h) v Finset.univ h2 h3) fun _ => k) Q) := by
  subst hoff hv
  have e : (E₀.mb.access (Rect.unit (s := S32x8x128) ![c.val, 0, 0] S1x8x128.size h)).set = (mbV c).view.set :=
    (View.set_reshape _ squeezes_S1x8x128_S8x128.numel_eq).symm
  iintro H Hk
  icases (show anyOf (F := F) c (mbV c) ⊢ iprop(∃ f, mbLoc c ↦[mbSet c]{fullShare} f) from .rfl) $$ H with ⟨%f, H⟩
  iapply (wp_load_rect 𝒱₀ (c : Thread nD τ) none Set.univ (m := E₀.mb) (r := Rect.unit (s := S32x8x128) ![c.val, 0, 0] S1x8x128.size h) (S := mbSet c) (q := fullShare) (f := f) (by exact subset_of_eq e)) $$ H
  iintro H
  iapply (wp_store 𝒱₀ (c : Thread nD τ) none Set.univ (m := E₀.mb) (r := Rect.unit (s := S32x8x128) ![c.val, 0, 0] S1x8x128.size h) (S := mbSet c) (f := f) (by exact subset_of_eq e)) $$ H
  iintro H
  iapply Hk
  unfold amHere
  rw [mb_plane c am c]
  rw [show (mbLoc c ↦[mbSet c]{fullShare} (planes am : Buf (Elt F) (mbLoc c)) : sProp (MT nD τ sig ℕ (Elt F) ℕ UU ℕ))
      = (mbLoc c ↦[mbSet c]{fullShare} ((E₀.mb.access (Rect.unit (s := S32x8x128) ![c.val, 0, 0] S1x8x128.size h)).write (Elt F) f (fun _ => am c) Finset.univ)) from
    pointsTo_congr (ℓ := mbLoc c) fun i hi => by
      have hp := (mem_mb c i).mp hi
      obtain ⟨x, -, hx⟩ := Finset.mem_map.mp (e ▸ hi : i ∈ (E₀.mb.access (Rect.unit (s := S32x8x128) ![c.val, 0, 0] S1x8x128.size h)).set)
      subst hx
      exact (congrArg am (Fin.ext hp)).trans
        (View.write_emb_of_mem (v := E₀.mb.access (Rect.unit (s := S32x8x128) ![c.val, 0, 0] S1x8x128.size h)) f (fun _ => am c) (Finset.mem_univ x)).symm]
  iexact H

end am

end Cert.KernelIdeal.Tidy
-- ==== Proof.Exch.lean ====
module

public import proofs.«01_k».proof.Proof.Am

@[expose] public section

set_option maxRecDepth 100000

noncomputable section

namespace Cert.KernelIdeal.Tidy

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

/-- The elements of the device's own maximum, and what they hold. -/
def msSet : Finset S1x8x128.Idx := msV.view.set
def msAll (a : S8x128.Idx → Elt F .f32) : S1x8x128.Idx → Elt F .f32 := msV.view.rep a

section exch
variable {xs : (c : Dev nD) → Buf (Elt F) ((E₀.x).view.loc (c : Thread nD τ))} {am : Dev nD → Elt F .f32}
variable {κ : Dev nD → Kind → ℕ} {ι : Key → ℕ}
variable {I : sProp (MT nD τ sig ℕ (Elt F) ℕ UU ℕ)} [BI.Persistent I] (Kn : Known xs (flat am) κ ι I) (c : Dev nD)
variable {α : Type} {Q : α → sProp (MT nD τ sig ℕ (Elt F) ℕ UU ℕ)}

/-- The debts of the maxima stand above all the rings'. -/
theorem amDebts_above (c : Dev nD) : ∀ js : List (Fin 32), Above 34 (amDebts c js)
  | [] => fun _ h => absurd h List.not_mem_nil
  | j :: js => by
    unfold amDebts
    split
    · intro l hl
      rcases List.mem_cons.mp hl with rfl | hl
      · exact ⟨show 0 < 40 by decide, show 34 < 1000 by decide⟩
      · exact amDebts_above c js l hl
    · exact amDebts_above c js

/-- The half of the device's own maximum that is lent out is one share per device. -/
theorem parts_eq (c : Dev nD) : holds c msV (PosShare.right fullShare) (flat am c) = row (amPart am c) (List.finRange 32) := by
  rw [← row_all]
  exact ShareLeaves.pointsTo_leaves (ℓ := msV.view.loc (c : Thread nD τ)) msV.view.set (msV.view.rep (flat am c)) 5 (PosShare.right fullShare)

/-- The device's own maximum is a half to read and a half to lend. -/
theorem ms_halves (c : Dev nD) : (pts c E₀.ms (fun _ => am c) : sProp (MT nD τ sig ℕ (Elt F) ℕ UU ℕ))
    = iprop(holds c msV (PosShare.left fullShare) (flat am c) ∗ row (amPart am c) (List.finRange 32)) := by
  rw [ms_whole c (am c), ← parts_eq]
  exact BI.Entails.antisymm (pointsTo_share (PosShare.mem_left_op_right fullShare)).1 (pointsTo_share (PosShare.mem_left_op_right fullShare)).2

/-- All the maxima together fill their buffer. -/
theorem mb_full (c : Dev nD) : (row (amHere am c) (List.finRange 32) : sProp (MT nD τ sig ℕ (Elt F) ℕ UU ℕ)) = (mbLoc c ↦{fullShare} (planes am : Buf (Elt F) (mbLoc c))) := by
  rw [← row_all, mb_split c]
  exact bigSep_congr fun p _ => mb_plane c am p

include Kn in
/-- The exchange of the maxima. -/
theorem wp_exchange (k : F .f32 → PR F α) :
    iprop(I ∗ LanePen xs c true 1 ∗ mySpots c ∗ Release.writeTok ES (spot c c) 1 ∗ bigSep (Finset.univ.erase c) (amTok c)
        ∗ bigSep (Finset.univ.erase c) (amWait c) ∗ (∃ g, pts c E₀.ms g) ∗ Owe c (amDebts c (List.finRange 32)))
      ⊢ iprop(((LaneEnd xs c true 1 ∗ (∃ g, pts c E₀.ms g) ∗ (∃ g, pts c E₀.mb g) ∗ bigSep (Finset.univ.erase c) (amOver c) ∗ Owe c [])
            -∗ wp frame (wpE (defs₀ (F := F)) 𝒱₀ (c : Thread nD τ) none) Set.univ (k (k0_pay125 (planes am))) Q)
          -∗ wp frame (wpE (defs₀ (F := F)) 𝒱₀ (c : Thread nD τ) none) Set.univ (exchange c (am c) k) Q) := by
  have e1 : ∀ g : Buf (Elt F) (E₀.ms.view.loc (c : Thread nD τ)), (E₀.ms.access (Rect.unit (s := S1x8x128) ![0, 0, 0] S1x8x128.size inb_S1x8x128_S1x8x128_0_0_0)).write (Elt F) g (k0_pay123 (am c)) Finset.univ
      = (fun _ => am c) := fun g =>
    (Memref.write_access_unit_zero_univ (Elt F) cc0_scratch10 (by funext a; fin_cases a <;> rfl) _ g (k0_pay123 (am c))).trans rfl
  have e2 : (E₀.mb.view.readAt (Elt F) (Rect.unit (s := S32x8x128) ![0, 0, 0] S32x8x128.size inb_S32x8x128_S32x8x128_0_0_0).toLoadRect (planes am : Buf (Elt F) (mbLoc c))) = planes am :=
    Memref.readAt_unit_zero (Elt F) cc0_scratch11 (by funext a; fin_cases a <;> rfl) _ (planes am)
  have eset : (E₀.ms.access (Rect.unit (s := S1x8x128) ![0, 0, 0] S1x8x128.size inb_S1x8x128_S1x8x128_0_0_0)).set ⊆ msSet := by
    rw [show msSet = Finset.univ from set_ms]; exact Finset.subset_univ _
  have e3 : k0_pay124 (E₀.ms.view.readAt (Elt F) (Rect.unit (s := S1x8x128) ![0, 0, 0] S1x8x128.size inb_S1x8x128_S1x8x128_0_0_0).toLoadRect (msAll (flat am c))) = fun _ => am c := by
    have hr : msAll (flat am c) = fun _ => am c := by
      funext i
      have hi : i ∈ msSet := by
        rw [show msSet = Finset.univ from set_ms]; exact Finset.mem_univ _
      obtain ⟨x, -, hx⟩ := Finset.mem_map.mp hi
      have hr := congrFun (View.read_rep msV.view (flat am c)) x
      subst hx
      exact (show _ = am c from hr)
    funext i
    exact congrFun hr _
  unfold exchange
  iintro ⟨#HI, HL, #Hm, Hw, Htk, Hwt, ⟨%g, Hms⟩, HO⟩ Hk
  iapply (wp_clearEnd (Q := Q) Kn c true 1 _ (amDebts c (List.finRange 32)) ((amDebts_above c _).mono (by decide))) $$ [HL HO]
  · isplitr; · iexact HI
    isplitl [HL]; · iexact HL
    iexact HO
  iintro ⟨HL, HO⟩
  iapply (wp_load 𝒱₀ (c : Thread nD τ) none Set.univ (m := E₀.ms) (S := Finset.univ) (q := fullShare) (f := g) (by exact Finset.subset_univ _)) $$ Hms
  iintro Hms
  iapply (wp_store 𝒱₀ (c : Thread nD τ) none Set.univ (m := E₀.ms) (r := Rect.unit (s := S1x8x128) ![0, 0, 0] S1x8x128.size inb_S1x8x128_S1x8x128_0_0_0) (S := Finset.univ) (f := g) (by exact Finset.subset_univ _)) $$ Hms
  iintro Hms
  icases (Entails.of_eq ((congrArg (fun f => (pts c E₀.ms f : sProp (MT nD τ sig ℕ (Elt F) ℕ UU ℕ))) (e1 g)).trans (ms_halves c))) $$ Hms with ⟨Hl, Hr⟩
  iapply (wp_sends (Q := Q) Kn c _ (List.finRange 32)) $$ [Htk Hr HO]
  · isplitr; · iexact HI
    isplitr; · iexact Hm
    isplitl [Htk]
    · iapply (Entails.of_eq ((mine_split c (amTok c) iprop(emp)).symm.trans (row_all _)))
      isplitr; · iempintro
      iexact Htk
    isplitl [Hr]; · iexact Hr
    iexact HO
  iintro ⟨Hcs, HO⟩
  ihave Hl := (show (holds c msV (PosShare.left fullShare) (flat am c) : sProp (MT nD τ sig ℕ (Elt F) ℕ UU ℕ)) ⊢ (E₀.ms.view.loc (c : Thread nD τ) ↦[msSet]{PosShare.left fullShare} msAll (flat am c)) from .rfl) $$ Hl
  iapply (wp_load_rect 𝒱₀ (c : Thread nD τ) none Set.univ (m := E₀.ms) (r := Rect.unit (s := S1x8x128) ![0, 0, 0] S1x8x128.size inb_S1x8x128_S1x8x128_0_0_0) (S := msSet) (q := PosShare.left fullShare) (f := msAll (flat am c)) (by exact eset)) $$ Hl
  iintro Hl
  ihave #Hfr := (show mySpots (F := F) c ⊢ freed (spot c c) from bigSep_elim (Φ := fun o => freed (spot c o)) (Finset.mem_univ c)) $$ Hm
  iapply (fupd_wp frame (wpE (defs₀ (F := F)) 𝒱₀ (c : Thread nD τ) none) Set.univ)
  imod (take_place Kn (spot c c)) $$ [Hw] with Hpl
  · isplitr; · iexact HI
    isplitr; · iexact Hfr
    iexact Hw
  imodintro
  icases (show place (F := F) (spot c c) ⊢ iprop(anyOf c (mbV c) ∗ reached ER (cell c (.aR c)) 0) from .rfl) $$ Hpl with ⟨Hown, -⟩
  iapply (wp_own (Q := Q) (am := am) c (k0_off131 c) (k0_off131_inb c) (off131_eq c) _ e3) $$ Hown
  iintro Hown
  iapply (wp_waits (Q := Q) Kn c _ (List.finRange 32)) $$ [Hwt Hown Hcs HO]
  · isplitr; · iexact HI
    isplitl [Hwt Hown]
    · iapply (Entails.of_eq ((mine_split c (amWait c) (amHere am c c)).symm.trans (row_all _)))
      isplitl [Hown]; · iexact Hown
      iexact Hwt
    isplitl [Hcs]; · iexact Hcs
    iexact HO
  iintro ⟨Hh, Hr, Hov, HO⟩
  ihave Hmb := (Entails.of_eq (mb_full c)) $$ Hh
  iapply (wp_load 𝒱₀ (c : Thread nD τ) none Set.univ (m := E₀.mb) (S := Finset.univ) (q := fullShare) (f := (planes am : Buf (Elt F) (mbLoc c))) (by exact Finset.subset_univ _)) $$ Hmb
  iintro Hmb
  rw [e2]
  iapply Hk
  isplitl [HL]; · iexact HL
  isplitl [Hl Hr]
  · iexists (fun _ => am c)
    iapply (Entails.of_eq (ms_halves c).symm)
    isplitl [Hl]; · iexact Hl
    iexact Hr
  isplitl [Hmb]; · iexists _; iexact Hmb
  isplitl [Hov]
  · icases (Entails.of_eq ((row_all _).symm.trans (mine_split c (amOver c) iprop(emp)))) $$ Hov with ⟨-, Hov⟩
    iexact Hov
  iexact HO

end exch

end Cert.KernelIdeal.Tidy
-- ==== Proof.Start.lean ====
module

public import proofs.«01_k».proof.Proof.Rings

@[expose] public section

set_option maxRecDepth 100000

noncomputable section

namespace Cert.KernelIdeal.Tidy

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

variable {xs : (c : Dev nD) → Buf (Elt F) ((E₀.x).view.loc (c : Thread nD τ))} {AM : Dev nD → S8x128.Idx → Elt F .f32}
variable {κ : Dev nD → Kind → ℕ} {ι : Key → ℕ}

/-! ## What a device starts with -/

/-- A lane's own pieces. -/
def LaneStart (c : Dev nD) (d : Bool) (t : Fin 2) : sProp (MT nD τ sig ℕ (Elt F) ℕ UU ℕ) :=
  iprop(bigSep (Finset.Ico 0 (copies d)) (sendTok c d t) ∗ bigSep (Finset.Ico 0 4) (atS c d t) ∗ bigSep (Finset.Ico 0 4) (atR c d t)
    ∗ bigSep (Finset.Ico 0 (copies d)) (crR c d t) ∗ idle c d t 0 ∗ bigSep (Finset.Ico 0 (credits d)) (giveTok c d t)
    ∗ atPos ER (Ccell c d t) 0 ∅ 0 ∗ bigSep (Finset.Ico 0 (credits d)) (crC c d t))

/-- A lane's pieces the neighbours are told of at the entry barrier: its three free slots, and its credit cell. -/
def LaneGate (c : Dev nD) (d : Bool) (t : Fin 2) : sProp (MT nD τ sig ℕ (Elt F) ℕ UU ℕ) :=
  iprop(bigSep (Finset.range 3) (fun k => iprop(Release.readerAt ES (lane (nx (!d) c) d t k) 0 ∗ idle c d t (k + 1))) ∗ reached ER (Ccell c d t) 0)

/-- The places of the maxima at a device. -/
def SpotStart (c : Dev nD) : sProp (MT nD τ sig ℕ (Elt F) ℕ UU ℕ) :=
  bigSep Finset.univ fun p : Fin 32 => iprop(Release.readerAt ES (spot p c) 0 ∗ place (spot p c))

/-- The entry barrier's pieces. -/
def BarStart (c : Dev nD) : sProp (MT nD τ sig ℕ (Elt F) ℕ UU ℕ) :=
  iprop((dutyTok ER (cell (nx true c) .bar) 0 0 ∗ reached ER (cell (nx true c) .bar) 0)
    ∗ (dutyTok ER (cell (nx false c) .bar) 0 1 ∗ reached ER (cell (nx false c) .bar) 0)
    ∗ atPos ER (cell c .bar) 0 ∅ 0 ∗ cred (tallyAt (cell c .bar) 0 2))

section start
variable {I : sProp (MT nD τ sig ℕ (Elt F) ℕ UU ℕ)} [BI.Persistent I] (Kn : Known xs AM κ ι I) (c : Dev nD)
variable {α : Type} {Q : α → sProp (MT nD τ sig ℕ (Elt F) ℕ UU ℕ)}
variable (w : Buf (Elt F) (E₀.w.view.loc (c : Thread nD τ))) (T : Buf (Elt F) (E₀.r2m.view.loc (c : Thread nD τ))) (hT : IsTab c E₀.r2m T tabAt)

include Kn in
theorem open_spots : iprop(I ∗ SpotStart c) ⊢ iprop(|={Set.univ}=> allSpots c) := by
  unfold SpotStart allSpots
  refine BI.Entails.trans ?_ (bigSep_fupd _ _)
  exact bigSep_with_persistent (fun p _ => by
    iintro ⟨#HI, Hr, Hp⟩
    iapply (give_place Kn (spot p c))
    isplitr; · iexact HI
    isplitl [Hr]; · iexact Hr
    iexact Hp)

include Kn in
theorem give_lane (d : Bool) (t : Fin 2) (k : ℕ) (hk : k < 3) :
    iprop(I ∗ bigSep (Finset.Ico 0 4) (atR c d t) ∗ Release.readerAt ES (lane (nx (!d) c) d t k) 0 ∗ idle c d t (k + 1))
      ⊢ iprop(|={Set.univ}=> (freed (lane (nx (!d) c) d t k) ∗ bigSep (Finset.Ico 0 4) (atR c d t))) := by
  iintro ⟨#HI, HaR, Hrd, Hi⟩
  icases (ico_read (atR c d t) (reached ER (Rcell c d t k) (k / 4)) (j := k) ⟨Nat.zero_le _, by omega⟩
    (by unfold atR; iintro ⟨H, #Hr⟩; isplitr; · iexact Hr
        isplitl [H]; · iexact H
        iexact Hr)) $$ HaR with ⟨#HrR, HaR⟩
  imod (give_place Kn (lane (nx (!d) c) d t k)) $$ [Hrd Hi] with #Hfr
  · isplitr; · iexact HI
    isplitl [Hrd]; · iexact Hrd
    rw [place_lane _ d t (show k < 16 by omega), nx_nx]
    isplitl [Hi]; · unfold idle dstV; iexact Hi
    iexact HrR
  imodintro
  isplitr; · iexact Hfr
  iexact HaR

theorem range_three (Φ : ℕ → sProp (MT nD τ sig ℕ (Elt F) ℕ UU ℕ)) : bigSep (Finset.range 3) Φ = iprop(Φ 2 ∗ Φ 1 ∗ Φ 0 ∗ emp) := by
  rw [range_snoc, range_snoc, range_snoc]; rfl

include Kn in
theorem open_gate (d : Bool) (t : Fin 2) : iprop(I ∗ LaneStart c d t ∗ LaneGate c d t)
    ⊢ iprop(|={Set.univ}=> (LaneStart c d t ∗ reached ER (Ccell c d t) 0 ∗ bigSep (Finset.range 3) fun k => freed (lane (nx (!d) c) d t k))) := by
  unfold LaneStart LaneGate
  rw [range_three, range_three]
  iintro ⟨#HI, ⟨H1, H2, HaR, Hr⟩, ⟨⟨R2, I2⟩, ⟨R1, I1⟩, ⟨R0, I0⟩, -⟩, #HC⟩
  imod (give_lane Kn c d t 2 (by decide)) $$ [HaR R2 I2] with ⟨#F2, HaR⟩
  · isplitr; · iexact HI
    isplitl [HaR]; · iexact HaR
    isplitl [R2]; · iexact R2
    iexact I2
  imod (give_lane Kn c d t 1 (by decide)) $$ [HaR R1 I1] with ⟨#F1, HaR⟩
  · isplitr; · iexact HI
    isplitl [HaR]; · iexact HaR
    isplitl [R1]; · iexact R1
    iexact I1
  imod (give_lane Kn c d t 0 (by decide)) $$ [HaR R0 I0] with ⟨#F0, HaR⟩
  · isplitr; · iexact HI
    isplitl [HaR]; · iexact HaR
    isplitl [R0]; · iexact R0
    iexact I0
  imodintro
  isplitl [H1 H2 HaR Hr]
  · isplitl [H1]; · iexact H1
    isplitl [H2]; · iexact H2
    isplitl [HaR]; · iexact HaR
    iexact Hr
  isplitr; · iexact HC
  isplitr; · iexact F2
  isplitr; · iexact F1
  isplitr; · iexact F0
  iempintro

/-- The lane before its first copy. -/
theorem lane_ready (d : Bool) (t : Fin 2) : iprop(LaneStart c d t ∗ allSpots c ∗ reached ER (Ccell (nx (!d) c) d t) 0 ∗ bigSep (Finset.range 3) fun k => freed (lane c d t k))
    ⊢ Lane xs c d t 0 0 0 0 := by
  unfold LaneStart Lane
  iintro ⟨⟨Hst, HaS, HaR, HcR, Hi, Hg, HaC, HcC⟩, #Hsp, #HC, #Hf⟩
  isplitl [Hst]; · iexact Hst
  isplitl [HaS]; · iexact HaS
  isplitl [HaR]; · iexact HaR
  isplitl [HcR]; · iexact HcR
  isplitr; · rw [Finset.Ico_self]; iempintro
  isplitl [Hi]
  · rw [ico_snoc (held xs c d t) (Nat.zero_le 0), Finset.Ico_self]
    isplitl [Hi]; · unfold held; iexact Hi
    iempintro
  isplitl [Hg]
  · unfold giving
    isplitr; · rw [Nat.zero_min]; iempintro
    iexact Hg
  isplitl [HaC HcC]
  · unfold purse
    rw [if_pos (show 0 < credits d by cases d <;> decide)]
    isplitl [HaC]
    · iexists (∅ : Finset ℕ)
      isplitl [HaC]; · iexact HaC
      iempintro
    iexact HcC
  isplitr; · rw [Finset.range_zero]; iempintro
  unfold got
  isplitr; · iexact Hf
  isplitr; · iexact HC
  rw [range_snoc (fun j => allSpots (org d j c)) 0]
  isplitr; · iexact Hsp
  rw [Finset.range_zero]; iempintro

theorem barPay_eq (e : Bool) (c : Dev nD) : barPay (F := F) e c
    = iprop((reached ER (Ccell (nx (!e) c) e 0) 0 ∗ (bigSep (Finset.range 3) fun k => freed (lane c (!e) 0 k)))
      ∗ (reached ER (Ccell (nx (!e) c) e 1) 0 ∗ bigSep (Finset.range 3) fun k => freed (lane c (!e) 1 k))) := by
  unfold barPay; exact bigSep_fin_two _

theorem bar_gives (e : Bool) : iprop((reached ER (Ccell c e 0) 0 ∗ reached ER (Ccell c e 1) 0)
      ∗ (bigSep (Finset.range 3) fun k => freed (lane (nx e c) (!e) 0 k)) ∗ bigSep (Finset.range 3) fun k => freed (lane (nx e c) (!e) 1 k))
    ⊢ barPay (F := F) e (nx e c) := by
  rw [barPay_eq, nx_nx']
  iintro ⟨⟨#H0, #H1⟩, #F0, #F1⟩
  isplitr
  · isplitr; · iexact H0
    iexact F0
  isplitr; · iexact H1
  iexact F1

variable (xs) in
/-- The result and its largest magnitude once every block has been multiplied. -/
def outcome {c : Dev nD} (w : Buf (Elt F) (E₀.w.view.loc (c : Thread nD τ))) (f : Buf (Elt F) (E₀.out.view.loc (c : Thread nD τ))) :
    Buf (Elt F) (E₀.out.view.loc (c : Thread nD τ)) × F .f32 :=
  gem xs w (org true 16 c) (run xs w 15 (gem xs w c (f, Scalar.ofBits .f32 0x00000000#32)))

theorem lane_first (d : Bool) (t : Fin 2) : Lane xs c d t (0 + 1) 0 0 0 = LaneAt xs c d t (16 - 15) := by
  unfold LaneAt
  rw [if_pos (show 16 - 15 ≤ copies d by cases d <;> decide)]

/-- What is owed from the start of the rings. -/
def ringDebt (ls : List Debt) : List Debt :=
  .bar true :: .bar false :: .copy true 0 0 :: .copy true 1 0 :: .copy false 0 0 :: .copy false 1 0 :: restDebt 15 ls

theorem above_first {ls : List Debt} (h : Above 34 ls) : Above 1 (.copy true 0 0 :: .copy true 1 0 :: .copy false 0 0 :: .copy false 1 0 :: restDebt 15 ls) := by
  have hc : ∀ d t, Above 1 [Debt.copy d t 0] := fun d t x hx => by
    obtain rfl := List.mem_singleton.mp hx
    exact ⟨show 0 < 40 by decide, show 1 < 2 * 0 + 4 by decide⟩
  exact above_append (hc true 0) (above_append (hc true 1) (above_append (hc false 0) (above_append (hc false 1) ((above_rest h 15 (by decide)).mono (by decide)))))

include Kn hT in
theorem wp_rings (q : PosShare TreeShare) (f : Buf (Elt F) (E₀.out.view.loc (c : Thread nD τ))) (ls : List Debt) (hls : Above 34 ls) (k : F .f32 → PR F α) :
    iprop(I ∗ Four (LaneStart c) ∗ Four (LaneGate c) ∗ SpotStart c ∗ BarStart c ∗ Four (fun d t => sendPay xs c d t 0)
        ∗ (E₀.x.view.loc (c : Thread nD τ) ↦{q} xs c) ∗ desk c w T f ∗ Owe c (ringDebt ls))
      ⊢ iprop(((LaneEnd xs c true 0 ∗ LanePen xs c true 1 ∗ LaneEnd xs c false 0 ∗ LaneEnd xs c false 1
              ∗ (E₀.x.view.loc (c : Thread nD τ) ↦{q} xs c) ∗ desk c w T (outcome xs w f).1 ∗ atPos ER (cell c .bar) 1 ∅ 0 ∗ Owe c ls)
            -∗ wp frame (wpE (defs₀ (F := F)) 𝒱₀ (c : Thread nD τ) none) Set.univ (k (outcome xs w f).2) Q)
          -∗ wp frame (wpE (defs₀ (F := F)) 𝒱₀ (c : Thread nD τ) none) Set.univ (rings E₀ (here c) k) Q) := by
  unfold Four rings ringDebt BarStart outcome
  iintro ⟨#HI, ⟨L0, L1, L2, L3⟩, ⟨G0, G1, G2, G3⟩, Hsp, ⟨⟨Ht1, #Hb1⟩, ⟨Ht2, #Hb2⟩, HaB, HcB⟩, ⟨X0, X1, X2, X3⟩, Hx, Hd, HO⟩ Hk
  iapply (fupd_wp frame (wpE (defs₀ (F := F)) 𝒱₀ (c : Thread nD τ) none) Set.univ)
  imod (open_spots Kn c) $$ [Hsp] with #Hsp
  · isplitr; · iexact HI
    iexact Hsp
  imod (open_gate Kn c true 0) $$ [L0 G0] with ⟨L0, #C0, #F0⟩
  · isplitr; · iexact HI
    isplitl [L0]; · iexact L0
    iexact G0
  imod (open_gate Kn c true 1) $$ [L1 G1] with ⟨L1, #C1, #F1⟩
  · isplitr; · iexact HI
    isplitl [L1]; · iexact L1
    iexact G1
  imod (open_gate Kn c false 0) $$ [L2 G2] with ⟨L2, #C2, #F2⟩
  · isplitr; · iexact HI
    isplitl [L2]; · iexact L2
    iexact G2
  imod (open_gate Kn c false 1) $$ [L3 G3] with ⟨L3, #C3, #F3⟩
  · isplitr; · iexact HI
    isplitl [L3]; · iexact L3
    iexact G3
  imodintro
  ihave #Hc1 := Kn.cells (nx true c) .bar $$ HI
  ihave #Hc2 := Kn.cells (nx false c) .bar $$ HI
  ihave #Hc := Kn.cells c .bar $$ HI
  ihave #Hlev := Kn.levs $$ HI
  have d0 : (0 : ℕ) ∈ (Rd xs AM).duties (cell (nx true c) .bar) 0 := by rw [duties_bar]; decide
  have d1 : (1 : ℕ) ∈ (Rd xs AM).duties (cell (nx false c) .bar) 0 := by rw [duties_bar]; decide
  have p0 : (Rd xs AM).payload (((nx true c : Dev nD) : Thread nD τ), .reg (sig.barrier 0 rfl)) 0 0 = barPay true (nx true c) := payload_bar xs AM (nx true c) true
  have p1 : (Rd xs AM).payload (((nx false c : Dev nD) : Thread nD τ), .reg (sig.barrier 0 rfl)) 0 1 = barPay false (nx false c) := payload_bar xs AM (nx false c) false
  icases (show ∀ l, Owe (F := F) c l ⊢ iprop(∃ W, owes (c : Thread nD τ) (owing c l) W) from fun _ => .rfl) _ $$ HO with ⟨%W', HO⟩
  iapply (Rounds.wp_signal 𝒱₀ ER (Rd xs AM) (c : Thread nD τ) none (dst := ((nx true c : Dev nD) : Thread nD τ)) (κ := κ (nx true c) .bar)
    (d := 0) (r := 0) d0 ((amount_cell xs AM (nx true c) .bar 0 0).trans rfl) 0
    (owing c (.bar false :: .copy true 0 0 :: .copy true 1 0 :: .copy false 0 0 :: .copy false 1 0 :: restDebt 15 ls)) rfl) $$ [HO Ht1]
  · isplitr; · iexact Hc1
    isplitl [HO]; · iexact HO
    isplitl [Ht1]; · iexact Ht1
    isplitr
    · rw [p0]
      iapply (bar_gives c true)
      isplitr
      · isplitr; · iexact C0
        iexact C1
      isplitr; · iexact F2
      iexact F3
    iexact Hb1
  iintro HO
  iapply (Rounds.wp_signal 𝒱₀ ER (Rd xs AM) (c : Thread nD τ) none (dst := ((nx false c : Dev nD) : Thread nD τ)) (κ := κ (nx false c) .bar)
    (d := 1) (r := 0) d1 ((amount_cell xs AM (nx false c) .bar 0 1).trans rfl) 0
    (owing c (.copy true 0 0 :: .copy true 1 0 :: .copy false 0 0 :: .copy false 1 0 :: restDebt 15 ls)) rfl) $$ [HO Ht2]
  · isplitr; · iexact Hc2
    isplitl [HO]; · iexact HO
    isplitl [Ht2]; · iexact Ht2
    isplitr
    · rw [p1]
      iapply (bar_gives c false)
      isplitr
      · isplitr; · iexact C2
        iexact C3
      isplitr; · iexact F0
      iexact F1
    iexact Hb2
  iintro HO
  ihave HM := (mayWait_owing c .bar 0 _ (by decide) (above_first hls)) $$ Hlev
  iapply (Rounds.wp_wait_rest_token 𝒱₀ ER (Rd xs AM) (c : Thread nD τ) none (κ := κ c .bar)
      (wpE_semWait_eq 𝒱₀ (c : Thread nD τ) none Set.univ) (Set.mem_univ _) 0
      (O := owing c (.copy true 0 0 :: .copy true 1 0 :: .copy false 0 0 :: .copy false 1 0 :: restDebt 15 ls)) (W := W') (R := 0) (m := 0) (T := ∅)
      (by exact (expect_bar xs AM c).symm)) $$ [HcB HO HM HaB]
  · isplitr; · iexact Hc
    isplitl [HcB]; · iexact HcB
    isplitl [HO]; · iexact HO
    isplitl [HM]; · iexact HM
    iexact HaB
  iintro ⟨HO, HaB, -, Hpay⟩
  ihave Hpay := (Entails.of_eq (rest_bar xs AM c)) $$ Hpay
  icases Hpay with ⟨Hp1, Hp2⟩
  icases (Entails.of_eq (barPay_eq true c)) $$ Hp1 with ⟨⟨#D0, #E2⟩, ⟨#D1, #E3⟩⟩
  icases (Entails.of_eq (barPay_eq false c)) $$ Hp2 with ⟨⟨#D2, #E0⟩, ⟨#D3, #E1⟩⟩
  ihave L0 := (lane_ready (xs := xs) c true 0) $$ [L0]
  · isplitl [L0]; · iexact L0
    isplitr; · iexact Hsp
    isplitr; · iexact D0
    iexact E0
  ihave L1 := (lane_ready (xs := xs) c true 1) $$ [L1]
  · isplitl [L1]; · iexact L1
    isplitr; · iexact Hsp
    isplitr; · iexact D1
    iexact E1
  ihave L2 := (lane_ready (xs := xs) c false 0) $$ [L2]
  · isplitl [L2]; · iexact L2
    isplitr; · iexact Hsp
    isplitr; · iexact D2
    iexact E2
  ihave L3 := (lane_ready (xs := xs) c false 1) $$ [L3]
  · isplitl [L3]; · iexact L3
    isplitr; · iexact Hsp
    isplitr; · iexact D3
    iexact E3
  iapply (wp_sendCopy Kn c true 0 _ (.copy true 1 0 :: .copy false 0 0 :: .copy false 1 0 :: restDebt 15 ls) (S := 0) (R := 0) (W := 0) (K := 0)
    (by decide) (by decide) (by decide) (by decide) (by decide)) $$ [L0 X0 HO]
  · isplitr; · iexact HI
    isplitl [L0]; · iexact L0
    isplitl [X0]; · iexact X0
    unfold Owe; iexists _; iexact HO
  iintro ⟨L0, HO⟩
  iapply (wp_sendCopy Kn c true 1 _ (.copy false 0 0 :: .copy false 1 0 :: restDebt 15 ls) (S := 0) (R := 0) (W := 0) (K := 0)
    (by decide) (by decide) (by decide) (by decide) (by decide)) $$ [L1 X1 HO]
  · isplitr; · iexact HI
    isplitl [L1]; · iexact L1
    isplitl [X1]; · iexact X1
    iexact HO
  iintro ⟨L1, HO⟩
  iapply (wp_sendCopy Kn c false 0 _ (.copy false 1 0 :: restDebt 15 ls) (S := 0) (R := 0) (W := 0) (K := 0)
    (by decide) (by decide) (by decide) (by decide) (by decide)) $$ [L2 X2 HO]
  · isplitr; · iexact HI
    isplitl [L2]; · iexact L2
    isplitl [X2]; · iexact X2
    iexact HO
  iintro ⟨L2, HO⟩
  iapply (wp_sendCopy Kn c false 1 _ (restDebt 15 ls) (S := 0) (R := 0) (W := 0) (K := 0)
    (by decide) (by decide) (by decide) (by decide) (by decide)) $$ [L3 X3 HO]
  · isplitr; · iexact HI
    isplitl [L3]; · iexact L3
    isplitl [X3]; · iexact X3
    iexact HO
  iintro ⟨L3, HO⟩
  icases (show desk c w T f ⊢ iprop(pts c E₀.r2m T ∗ pts c E₀.w w ∗ pts c E₀.out f) from .rfl) $$ Hd with ⟨HT, Hw, Ho⟩
  iapply (wp_gemmOwn c w q 0 (f, Scalar.ofBits .f32 0x00000000#32) _ _ (off4_eq0 c)) $$ [Hx Hw Ho]
  · isplitl [Hx]; · iexact Hx
    isplitl [Hw]; · iexact Hw
    iexact Ho
  iintro ⟨Hx, Hw, Ho⟩
  iapply (wp_gemmOwn c w q 1 (gem1 xs w c 0 (f, Scalar.ofBits .f32 0x00000000#32)) _ _ (off4_eq1 c)) $$ [Hx Hw Ho]
  · isplitl [Hx]; · iexact Hx
    isplitl [Hw]; · iexact Hw
    iexact Ho
  iintro ⟨Hx, Hw, Ho⟩
  iapply (wp_steps Kn c w T hT ls hls (fun a => lastStep E₀ (here c) a k) 15 (by decide) (gem xs w c (f, Scalar.ofBits .f32 0x00000000#32)))
    $$ [L0 L1 L2 L3 HT Hw Ho HO]
  · isplitr; · iexact HI
    isplitl [L0 L1 L2 L3]
    · unfold Four
      isplitl [L0]; · iapply (Entails.of_eq (lane_first (xs := xs) c true 0)); iexact L0
      isplitl [L1]; · iapply (Entails.of_eq (lane_first (xs := xs) c true 1)); iexact L1
      isplitl [L2]; · iapply (Entails.of_eq (lane_first (xs := xs) c false 0)); iexact L2
      iapply (Entails.of_eq (lane_first (xs := xs) c false 1)); iexact L3
    isplitl [HT Hw Ho]
    · unfold desk
      isplitl [HT]; · iexact HT
      isplitl [Hw]; · iexact Hw
      iexact Ho
    iexact HO
  iintro ⟨HF, Hd, HO⟩
  iapply (wp_lastStep Kn c w T hT ls hls (run xs w 15 (gem xs w c (f, Scalar.ofBits .f32 0x00000000#32))) k) $$ [HF Hd HO]
  · isplitr; · iexact HI
    isplitl [HF]; · iexact HF
    isplitl [Hd]; · iexact Hd
    iexact HO
  iintro ⟨L0, L1, L2, L3, Hd, HO⟩
  iapply Hk
  isplitl [L0]; · iexact L0
  isplitl [L1]; · iexact L1
  isplitl [L2]; · iexact L2
  isplitl [L3]; · iexact L3
  isplitl [Hx]; · iexact Hx
  isplitl [Hd]; · iexact Hd
  isplitl [HaB]; · iexact HaB
  iexact HO

end start

end Cert.KernelIdeal.Tidy
-- ==== Proof.Close.lean ====
module

public import proofs.«01_k».proof.Proof.Exch
public import proofs.«01_k».proof.Proof.Start

@[expose] public section

set_option maxRecDepth 100000

noncomputable section

namespace Cert.KernelIdeal.Tidy

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

/-! ## What a device has once its rings are over -/

variable {xs : (c : Dev nD) → Buf (Elt F) ((E₀.x).view.loc (c : Thread nD τ))} {AM : Dev nD → S8x128.Idx → Elt F .f32}
variable {κ : Dev nD → Kind → ℕ} {ι : Key → ℕ}

/-- A cell with no round left. -/
def Over (c : Dev nD) (k : Kind) : sProp (MT nD τ sig ℕ (Elt F) ℕ UU ℕ) := iprop(∃ R, ⌜∀ r, R ≤ r → dutiesK c r k = ∅⌝ ∗ atPos ER (cell c k) R ∅ 0)

theorem over_of {c : Dev nD} {k : Kind} (R : ℕ) (h : ∀ r, R ≤ r → dutiesK c r k = ∅) : atPos ER (cell c k) R ∅ 0 ⊢ Over (F := F) c k := by
  unfold Over
  iintro H
  iexists R
  isplitr; · ipureintro; exact h
  iexact H

theorem over_bar (c : Dev nD) : atPos ER (cell c .bar) 1 ∅ 0 ⊢ Over (F := F) c .bar :=
  over_of 1 fun r h => if_neg (by omega)
theorem over_C (c : Dev nD) (d : Bool) (t : Fin 2) : atPos ER (cell c (.C d t)) 1 ∅ 0 ⊢ Over (F := F) c (.C d t) :=
  over_of 1 fun r h => if_neg (by omega)
theorem over_aS (c p : Dev nD) : atPos ER (cell c (.aS p)) 1 ∅ 0 ⊢ Over (F := F) c (.aS p) :=
  over_of 1 fun r h => if_neg (by omega)
theorem over_aR (c p : Dev nD) : atPos ER (cell c (.aR p)) 1 ∅ 0 ⊢ Over (F := F) c (.aR p) :=
  over_of 1 fun r h => if_neg (by omega)
theorem over_aS_own (c : Dev nD) : atPos ER (cell c (.aS c)) 0 ∅ 0 ⊢ Over (F := F) c (.aS c) :=
  over_of 0 fun r h => if_neg (fun h' => h'.2 rfl)
theorem over_aR_own (c : Dev nD) : atPos ER (cell c (.aR c)) 0 ∅ 0 ⊢ Over (F := F) c (.aR c) :=
  over_of 0 fun r h => if_neg (fun h' => h'.2 rfl)

theorem over_S (c : Dev nD) (d : Bool) (t : Fin 2) (j : ℕ) (h : copies d ≤ j) : atS c d t j ⊢ Over (F := F) c (.S d t (slotIx j)) := by
  unfold atS
  iintro ⟨H, -⟩
  iapply (over_of (F := F) (c := c) (k := .S d t (slotIx j)) (j / 4) fun r hr => if_neg (by unfold jS slotIx; dsimp only; omega))
  iexact H
theorem over_R (c : Dev nD) (d : Bool) (t : Fin 2) (j : ℕ) (h : copies d ≤ j) : atR c d t j ⊢ Over (F := F) c (.R d t (slotIx (j + 1))) := by
  unfold atR
  iintro ⟨H, -⟩
  iapply (over_of (F := F) (c := c) (k := .R d t (slotIx (j + 1))) (j / 4) fun r hr => if_neg (by unfold jR slotIx; dsimp only; omega))
  iexact H

theorem fin4 (Φ : Fin 4 → sProp (MT nD τ sig ℕ (Elt F) ℕ UU ℕ)) : bigSep Finset.univ Φ = iprop(Φ 0 ∗ Φ 1 ∗ Φ 2 ∗ Φ 3) := by
  rw [show (Finset.univ : Finset (Fin 4)) = {0, 1, 2, 3} from by decide, bigSep_insert (by decide), bigSep_insert (by decide), bigSep_insert (by decide), bigSep_singleton]
  rfl

/-- Four steps on end visit every slot. -/
theorem turn4 (Ψ : Fin 4 → sProp (MT nD τ sig ℕ (Elt F) ℕ UU ℕ)) : ∀ n : ℕ, bigSep (Finset.Ico n (n + 4)) (fun j => Ψ (slotIx j)) = bigSep Finset.univ Ψ
  | 0 => by
    rw [fin4, show Finset.Ico 0 (0 + 4) = {0, 1, 2, 3} from by decide, bigSep_insert (by decide), bigSep_insert (by decide), bigSep_insert (by decide), bigSep_singleton]
    rfl
  | n + 1 => by
    rw [← turn4 Ψ n, ico_head (fun j => Ψ (slotIx j)) (show n < n + 4 by omega), show n + 1 + 4 = (n + 4) + 1 by omega,
      ico_snoc (fun j => Ψ (slotIx j)) (show n + 1 ≤ n + 4 by omega), slotIx_add]

theorem ico_shift (Φ : ℕ → sProp (MT nD τ sig ℕ (Elt F) ℕ UU ℕ)) (n : ℕ) : ∀ m : ℕ, bigSep (Finset.Ico n (n + m)) (fun j => Φ (j + 1)) = bigSep (Finset.Ico (n + 1) (n + 1 + m)) Φ
  | 0 => by rw [Nat.add_zero, Nat.add_zero, Finset.Ico_self, Finset.Ico_self, bigSep_empty, bigSep_empty]
  | m + 1 => by
    rw [show n + (m + 1) = (n + m) + 1 by omega, show n + 1 + (m + 1) = (n + 1 + m) + 1 by omega, ico_snoc _ (by omega), ico_snoc _ (by omega), ico_shift Φ n m,
      show n + m + 1 = n + 1 + m by omega]

/-- A lane's cells. -/
def laneCells (Φ : Kind → sProp (MT nD τ sig ℕ (Elt F) ℕ UU ℕ)) (d : Bool) (t : Fin 2) : sProp (MT nD τ sig ℕ (Elt F) ℕ UU ℕ) :=
  iprop(bigSep Finset.univ (fun a => Φ (.S d t a)) ∗ bigSep Finset.univ (fun a => Φ (.R d t a)) ∗ Φ (.C d t))

/-- A lane's slots, whatever they hold. -/
def laneSlots (c : Dev nD) (d : Bool) (t : Fin 2) : sProp (MT nD τ sig ℕ (Elt F) ℕ UU ℕ) := bigSep Finset.univ fun k : Fin 4 => anyOf c (slotV (E₀.comm d) k t)

theorem slot_back (c : Dev nD) (d : Bool) (t : Fin 2) : iprop(held xs c d t (copies d) ∗ sendPay xs c d t (copies d)) ⊢ idle (F := F) c d t (copies d) := by
  obtain ⟨n, hn⟩ : ∃ n, copies d = n + 1 := ⟨copies d - 1, by cases d <;> rfl⟩
  rw [hn]
  iintro H
  ihave H := (unhalves (c := c) (dstV E₀ d n t) fullShare (xh xs (org d (n + 1) c) t)) $$ [H]
  · iexact H
  unfold idle anyOf Release.slot
  iexists _
  iexact H

theorem lane_end (c : Dev nD) (d : Bool) (t : Fin 2) : LaneEnd xs c d t
    ⊢ iprop(laneCells (Over (F := F) c) d t ∗ laneSlots c d t ∗ sendPay xs c d t 0 ∗ bigSep (Finset.range (copies d + 1)) fun j => allSpots (org d j c)) := by
  have hS : bigSep (Finset.Ico (copies d) (copies d + 4)) (atS c d t) ⊢ bigSep (Finset.Ico (copies d) (copies d + 4)) fun j => Over (F := F) c (.S d t (slotIx j)) :=
    bigSep_mono fun j hj => over_S c d t j (Finset.mem_Ico.mp hj).1
  have hR : bigSep (Finset.Ico (copies d) (copies d + 4)) (atR c d t) ⊢ bigSep (Finset.Ico (copies d) (copies d + 4)) fun j => Over (F := F) c (.R d t (slotIx (j + 1))) :=
    bigSep_mono fun j hj => over_R c d t j (Finset.mem_Ico.mp hj).1
  have hs : Finset.Ico (credits d) (copies d) ⊆ Finset.range (copies d) := fun j hj => Finset.mem_range.mpr (Finset.mem_Ico.mp hj).2
  have hD : bigSep (Finset.range (copies d)) (fun j => if credits d ≤ j then idle c d t j else iprop(emp))
      ⊢ bigSep (Finset.Ico (credits d) (copies d)) fun j => anyOf (F := F) c (slotV (E₀.comm d) (slotIx j) t) :=
    (BI.bigSep_subset hs).trans (bigSep_mono fun j hj => by rw [if_pos (Finset.mem_Ico.mp hj).1]; exact BI.Entails.refl _)
  have h0 : bigSep (Finset.range (copies d)) (fun j => if j = 0 then sendPay xs c d t 0 else iprop(emp)) ⊢ sendPay xs c d t 0 :=
    read_range (fun j => if j = 0 then sendPay xs c d t 0 else iprop(emp)) (show 0 < copies d by cases d <;> decide)
  unfold LaneEnd Lane laneCells laneSlots purse got
  rw [if_neg (Nat.lt_irrefl _), ico_snoc (held xs c d t) (Nat.le_refl _), ← turn4 (fun a => Over c (.S d t a)) (copies d),
    ← turn4 (fun a => Over c (.R d t a)) (copies d + 1), ← ico_shift (fun j => Over c (.R d t (slotIx j))) (copies d) 4,
    ← turn4 (fun k => anyOf c (slotV (E₀.comm d) k t)) (credits d), show credits d + 4 = copies d + 1 by rw [← credits_copies d],
    ico_snoc (fun j => anyOf c (slotV (E₀.comm d) (slotIx j) t)) (show credits d ≤ copies d by have := credits_copies d; omega)]
  iintro ⟨⟨-, HS, HR, -, -, ⟨Hh, -⟩, -, ⟨HC, -⟩, Hd, ⟨-, -, #Hg⟩⟩, Hp⟩
  ihave HS := hS $$ HS
  ihave HR := hR $$ HR
  unfold done
  icases (Entails.of_eq (bigSep_sep' _ _ _)) $$ Hd with ⟨H0, Hd⟩
  isplitl [HS HR HC]
  · isplitl [HS]; · iexact HS
    isplitl [HR]; · iexact HR
    iapply (over_C c d t); iexact HC
  isplitl [Hh Hp Hd]
  · isplitl [Hh Hp]
    · iapply (show iprop(held xs c d t (copies d) ∗ sendPay xs c d t (copies d)) ⊢ anyOf (F := F) c (slotV (E₀.comm d) (slotIx (copies d)) t) from slot_back (xs := xs) c d t)
      isplitl [Hh]; · iexact Hh
      iexact Hp
    iapply hD
    iexact Hd
  isplitl [H0]
  · iapply h0; iexact H0
  iexact Hg

theorem all_orgs : ∀ c o : Dev nD, (∃ j : Fin 17, org true j.val c = o) ∨ (∃ j : Fin 16, org false j.val c = o) := by decide +kernel

theorem spot_known (c o : Dev nD) : allSpots (F := F) o ⊢ freed (spot c o) := by unfold allSpots; exact bigSep_elim (Finset.mem_univ c)

/-- Every device has given away the place the device's maximum lands in. -/
theorem spots_known (c : Dev nD) : iprop((bigSep (Finset.range (copies true + 1)) fun j => allSpots (F := F) (org true j c)) ∗ bigSep (Finset.range (copies false + 1)) fun j => allSpots (org false j c))
    ⊢ mySpots c := by
  unfold mySpots
  refine bigSep_intro_persistent fun o _ => ?_
  iintro ⟨Ha, Hb⟩
  rcases all_orgs c o with ⟨j, rfl⟩ | ⟨j, rfl⟩
  · ihave H := (read_range (fun j => allSpots (F := F) (org true j c)) (show j.val < copies true + 1 from j.isLt)) $$ Ha
    iapply (spot_known c _) $$ H
  · ihave H := (read_range (fun j => allSpots (F := F) (org false j c)) (show j.val < copies false + 1 from j.isLt)) $$ Hb
    iapply (spot_known c _) $$ H

end Cert.KernelIdeal.Tidy
-- ==== Proof.Bufs.lean ====
module

public import proofs.«01_k».proof.Proof.Exch
public import proofs.«01_k».proof.Proof.Close

@[expose] public section

set_option maxRecDepth 100000

noncomputable section

namespace Cert.KernelIdeal.Tidy

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

/-! ## Buffers in parts, cells closed -/

/-- A buffer's parts, each whatever it holds. -/
theorem parts_out {ℓ : Loc nD τ sig} {T : Type} [Fintype T] [DecidableEq T] (K : T → Finset (Idx ℓ))
    (h : ∀ t ∈ (Finset.univ : Finset T), ∀ t' ∈ (Finset.univ : Finset T), t ≠ t' → Disjoint (K t) (K t')) (hc : Finset.univ.biUnion K = Finset.univ) :
    iprop(∃ g, ℓ ↦{fullShare} g) ⊢ (bigSep Finset.univ fun t => Release.slot ℓ (K t) : sProp (MT nD τ sig ℕ (Elt F) ℕ UU ℕ)) := by
  have e : ∀ g : Buf (Elt F) ℓ, (ℓ ↦{fullShare} g) ⊢ (bigSep Finset.univ fun t => Release.slot ℓ (K t) : sProp (MT nD τ sig ℕ (Elt F) ℕ UU ℕ)) := fun g => by
    have e1 := pointsTo_biUnion (Ix := ℕ) (Name := ℕ) (U := UU) (Lvl := ℕ) (ℓ := ℓ) (q := fullShare) (f := g) Finset.univ K h
    rw [hc] at e1
    rw [e1]
    refine bigSep_mono fun t _ => ?_
    unfold Release.slot
    show (ℓ ↦[K t]{fullShare} g : sProp (MT nD τ sig ℕ (Elt F) ℕ UU ℕ)) ⊢ iprop(∃ f, ℓ ↦[K t]{fullShare} f)
    iintro H
    iexists g
    iexact H
  iintro ⟨%g, H⟩
  iapply (e g) $$ H

/-- The parts make the buffer whole again. -/
theorem parts_in {ℓ : Loc nD τ sig} {T : Type} [Fintype T] [DecidableEq T] (K : T → Finset (Idx ℓ)) (g₀ : Buf (Elt F) ℓ)
    (h : ∀ t ∈ (Finset.univ : Finset T), ∀ t' ∈ (Finset.univ : Finset T), t ≠ t' → Disjoint (K t) (K t')) (hc : Finset.univ.biUnion K = Finset.univ) :
    (bigSep Finset.univ fun t => Release.slot ℓ (K t)) ⊢ (iprop(∃ g, ℓ ↦{fullShare} g) : sProp (MT nD τ sig ℕ (Elt F) ℕ UU ℕ)) := by
  haveI : ∀ _ : T, Nonempty (Buf (Elt F) ℓ) := fun _ => ⟨g₀⟩
  unfold Release.slot
  iintro H
  icases (bigSep_exists_pi (Y := fun _ : T => Buf (Elt F) ℓ) Finset.univ (fun t f => (ℓ ↦[K t]{fullShare} f : sProp (MT nD τ sig ℕ (Elt F) ℕ UU ℕ)))) $$ H with ⟨%y, H⟩
  icases (pointsTo_biUnion_join (Ix := ℕ) (Name := ℕ) (U := UU) (Lvl := ℕ) (ℓ := ℓ) (q := fullShare) Finset.univ K y g₀ h) $$ H with ⟨%g, -, H⟩
  iexists g
  rw [← hc]
  iexact H

/-- The pair of a half and a slot an element lies in. -/
theorem slots_apart (d : Bool) : ∀ p ∈ (Finset.univ : Finset (Fin 2 × Fin 4)), ∀ p' ∈ (Finset.univ : Finset (Fin 2 × Fin 4)), p ≠ p' →
    Disjoint (slotSet d p.2 p.1) (slotSet d p'.2 p'.1) := fun p _ p' _ h =>
  Finset.disjoint_left.mpr fun i hi hi' => h (by
    obtain ⟨a, b⟩ := (mem_slot d p.2 p.1 i).mp hi
    obtain ⟨a', b'⟩ := (mem_slot d p'.2 p'.1 i).mp hi'
    exact Prod.ext (Fin.ext (b.symm.trans b')) (Fin.ext (a.symm.trans a')))

theorem slots_cover (d : Bool) : (Finset.univ : Finset (Fin 2 × Fin 4)).biUnion (fun p => slotSet d p.2 p.1) = Finset.univ :=
  Finset.eq_univ_of_forall fun i => Finset.mem_biUnion.mpr ⟨(⟨(i 1).val / 64, by have h : (i 1).val < 128 := (i 1).isLt; omega⟩, ⟨(i 0).val, (i 0).isLt⟩),
    Finset.mem_univ _, (mem_slot d _ _ i).mpr ⟨rfl, rfl⟩⟩

/-- A ring's buffer, whatever it holds. -/
def commAny (c : Dev nD) (d : Bool) : sProp (MT nD τ sig ℕ (Elt F) ℕ UU ℕ) := iprop(∃ g, pts c (E₀.comm d) g)

theorem lanes_eq (c : Dev nD) (d : Bool) : iprop(laneSlots c d 0 ∗ laneSlots c d 1)
    = (bigSep Finset.univ fun p : Fin 2 × Fin 4 => anyOf c (slotV (E₀.comm d) p.2 p.1) : sProp (MT nD τ sig ℕ (Elt F) ℕ UU ℕ)) := by
  rw [bigSep_univ_prod, bigSep_univ_two]; rfl

theorem comm_out (c : Dev nD) (d : Bool) : commAny c d ⊢ (iprop(laneSlots c d 0 ∗ laneSlots c d 1) : sProp (MT nD τ sig ℕ (Elt F) ℕ UU ℕ)) := by
  rw [lanes_eq]
  cases d
  · exact parts_out (ℓ := (E₀.comm false).view.loc (c : Thread nD τ)) (fun p : Fin 2 × Fin 4 => slotSet false p.2 p.1) (slots_apart false) (slots_cover false)
  · exact parts_out (ℓ := (E₀.comm true).view.loc (c : Thread nD τ)) (fun p : Fin 2 × Fin 4 => slotSet true p.2 p.1) (slots_apart true) (slots_cover true)

theorem comm_in (c : Dev nD) (d : Bool) : (iprop(laneSlots c d 0 ∗ laneSlots c d 1) : sProp (MT nD τ sig ℕ (Elt F) ℕ UU ℕ)) ⊢ commAny c d := by
  rw [lanes_eq]
  cases d
  · exact parts_in (ℓ := (E₀.comm false).view.loc (c : Thread nD τ)) (fun p : Fin 2 × Fin 4 => slotSet false p.2 p.1) (fun _ => (Scalar.ofBits .f32 0x00000000#32 : F .f32)) (slots_apart false) (slots_cover false)
  · exact parts_in (ℓ := (E₀.comm true).view.loc (c : Thread nD τ)) (fun p : Fin 2 × Fin 4 => slotSet true p.2 p.1) (fun _ => (Scalar.ofBits .f32 0x00000000#32 : F .f32)) (slots_apart true) (slots_cover true)

/-- The places of the maxima, whatever they hold. -/
theorem mb_out (c : Dev nD) : iprop(∃ g, pts c E₀.mb g) ⊢ (bigSep Finset.univ fun p : Fin 32 => anyOf c (mbV p) : sProp (MT nD τ sig ℕ (Elt F) ℕ UU ℕ)) :=
  parts_out (ℓ := mbLoc c) mbSet mb_apart mb_cover

section xparts
variable {xs : (c : Dev nD) → Buf (Elt F) ((E₀.x).view.loc (c : Thread nD τ))}

/-- The rows of one half. -/
def xSet (t : Fin 2) : Finset S128x4096.Idx := (xV E₀.x t).view.set

variable (xs) in
/-- What a first copy does not borrow of the device's block. -/
def xRest (c : Dev nD) (d : Bool) (t : Fin 2) : sProp (MT nD τ sig ℕ (Elt F) ℕ UU ℕ) :=
  (E₀.x.view.loc (c : Thread nD τ) ↦[(Finset.univ \ xSet t : Finset S128x4096.Idx)]{srcShare d t 0} xs c)

theorem x_quarter (c : Dev nD) (d : Bool) (t : Fin 2) :
    ((E₀.x.view.loc (c : Thread nD τ) ↦{srcShare d t 0} xs c) : sProp (MT nD τ sig ℕ (Elt F) ℕ UU ℕ)) ⊣⊢ iprop(sendPay xs c d t 0 ∗ xRest xs c d t) := by
  have h := pointsTo_split_subset (Ix := ℕ) (Name := ℕ) (U := UU) (Lvl := ℕ) (ℓ := E₀.x.view.loc (c : Thread nD τ)) (q := srcShare d t 0) (f := xs c) (S := Finset.univ) (I := xSet t) (Finset.subset_univ _)
  have e : (E₀.x.view.loc (c : Thread nD τ) ↦[xSet t]{srcShare d t 0} xs c : sProp (MT nD τ sig ℕ (Elt F) ℕ UU ℕ)) = sendPay xs c d t 0 :=
    pointsTo_rep (c : Thread nD τ) (xV E₀.x t) (xs c) (srcShare d t 0)
  rw [e] at h
  exact h

theorem x_halves (c : Dev nD) (q : PosShare TreeShare) : ((E₀.x.view.loc (c : Thread nD τ) ↦{q} xs c) : sProp (MT nD τ sig ℕ (Elt F) ℕ UU ℕ))
    ⊣⊢ iprop((E₀.x.view.loc (c : Thread nD τ) ↦{q.left} xs c) ∗ (E₀.x.view.loc (c : Thread nD τ) ↦{q.right} xs c)) := pointsTo_share (PosShare.mem_left_op_right q)

theorem xq0 (c : Dev nD) : ((E₀.x.view.loc (c : Thread nD τ) ↦{fullShare.right.left.left} xs c) : sProp (MT nD τ sig ℕ (Elt F) ℕ UU ℕ)) ⊣⊢ iprop(sendPay xs c true 0 0 ∗ xRest xs c true 0) := x_quarter c true 0
theorem xq1 (c : Dev nD) : ((E₀.x.view.loc (c : Thread nD τ) ↦{fullShare.right.left.right} xs c) : sProp (MT nD τ sig ℕ (Elt F) ℕ UU ℕ)) ⊣⊢ iprop(sendPay xs c true 1 0 ∗ xRest xs c true 1) := x_quarter c true 1
theorem xq2 (c : Dev nD) : ((E₀.x.view.loc (c : Thread nD τ) ↦{fullShare.right.right.left} xs c) : sProp (MT nD τ sig ℕ (Elt F) ℕ UU ℕ)) ⊣⊢ iprop(sendPay xs c false 0 0 ∗ xRest xs c false 0) := x_quarter c false 0
theorem xq3 (c : Dev nD) : ((E₀.x.view.loc (c : Thread nD τ) ↦{fullShare.right.right.right} xs c) : sProp (MT nD τ sig ℕ (Elt F) ℕ UU ℕ)) ⊣⊢ iprop(sendPay xs c false 1 0 ∗ xRest xs c false 1) := x_quarter c false 1

theorem x_out (c : Dev nD) : pts c E₀.x (xs c)
    ⊢ iprop((E₀.x.view.loc (c : Thread nD τ) ↦{PosShare.left fullShare} xs c) ∗ Four (sendPay xs c · · 0) ∗ Four (xRest xs c)) := by
  unfold Four
  iintro H
  icases (x_halves (xs := xs) c fullShare).1 $$ H with ⟨Hl, H⟩
  icases (x_halves (xs := xs) c fullShare.right).1 $$ H with ⟨Ha, Hb⟩
  icases (x_halves (xs := xs) c fullShare.right.left).1 $$ Ha with ⟨H0, H1⟩
  icases (x_halves (xs := xs) c fullShare.right.right).1 $$ Hb with ⟨H2, H3⟩
  icases (xq0 (xs := xs) c).1 $$ H0 with ⟨A0, B0⟩
  icases (xq1 (xs := xs) c).1 $$ H1 with ⟨A1, B1⟩
  icases (xq2 (xs := xs) c).1 $$ H2 with ⟨A2, B2⟩
  icases (xq3 (xs := xs) c).1 $$ H3 with ⟨A3, B3⟩
  isplitl [Hl]; · iexact Hl
  isplitl [A0 A1 A2 A3]
  · isplitl [A0]; · iexact A0
    isplitl [A1]; · iexact A1
    isplitl [A2]; · iexact A2
    iexact A3
  isplitl [B0]; · iexact B0
  isplitl [B1]; · iexact B1
  isplitl [B2]; · iexact B2
  iexact B3

theorem x_in (c : Dev nD) : iprop((E₀.x.view.loc (c : Thread nD τ) ↦{PosShare.left fullShare} xs c) ∗ Four (sendPay xs c · · 0) ∗ Four (xRest xs c))
    ⊢ pts c E₀.x (xs c) := by
  unfold Four
  iintro ⟨Hl, ⟨A0, A1, A2, A3⟩, B0, B1, B2, B3⟩
  ihave H0 := (xq0 (xs := xs) c).2 $$ [A0 B0]
  · isplitl [A0]; · iexact A0
    iexact B0
  ihave H1 := (xq1 (xs := xs) c).2 $$ [A1 B1]
  · isplitl [A1]; · iexact A1
    iexact B1
  ihave H2 := (xq2 (xs := xs) c).2 $$ [A2 B2]
  · isplitl [A2]; · iexact A2
    iexact B2
  ihave H3 := (xq3 (xs := xs) c).2 $$ [A3 B3]
  · isplitl [A3]; · iexact A3
    iexact B3
  iapply (x_halves (xs := xs) c fullShare).2
  isplitl [Hl]; · iexact Hl
  iapply (x_halves (xs := xs) c fullShare.right).2
  isplitl [H0 H1]
  · iapply (x_halves (xs := xs) c fullShare.right.left).2
    isplitl [H0]; · iexact H0
    iexact H1
  iapply (x_halves (xs := xs) c fullShare.right.right).2
  isplitl [H2]; · iexact H2
  iexact H3

end xparts

/-! ## The device's own semaphores -/

/-- The semaphores the kernel declares: the rings' per lane, the maxima's per device. -/
abbrev SK : Type := ((Bool × Fin 2) × ((Bool × Fin 4) ⊕ Unit)) ⊕ (Bool × Fin 32)

/-- Which cell each is. -/
def kd : SK → Kind
  | .inl ((d, t), .inl (true, a)) => .S d t a
  | .inl ((d, t), .inl (false, a)) => .R d t a
  | .inl ((d, t), .inr ()) => .C d t
  | .inr (true, p) => .aS p
  | .inr (false, p) => .aR p

theorem kd_inj : Function.Injective kd := by
  rintro (⟨⟨d, t⟩, ⟨b, a⟩ | ⟨⟩⟩ | ⟨b, p⟩) (⟨⟨d', t'⟩, ⟨b', a'⟩ | ⟨⟩⟩ | ⟨b', p'⟩) h <;> (try cases b) <;> (try cases b') <;> simp [kd] at h ⊢ <;> tauto

theorem kd_ne_bar : ∀ s, kd s ≠ .bar := by
  rintro (⟨⟨d, t⟩, ⟨b, a⟩ | ⟨⟩⟩ | ⟨b, p⟩) h <;> (try cases b) <;> simp [kd] at h

theorem bool_two (Φ : Bool → sProp (MT nD τ sig ℕ (Elt F) ℕ UU ℕ)) : bigSep Finset.univ Φ = iprop(Φ true ∗ Φ false) := by
  rw [show (Finset.univ : Finset Bool) = {true, false} from by decide, bigSep_insert (by decide), bigSep_singleton]; rfl

theorem four_eq (X : Bool → Fin 2 → sProp (MT nD τ sig ℕ (Elt F) ℕ UU ℕ)) : bigSep Finset.univ (fun p : Bool × Fin 2 => X p.1 p.2) = Four X := by
  rw [bigSep_univ_prod, bool_two, bigSep_univ_two, bigSep_univ_two]
  unfold Four
  refine BI.Entails.antisymm (P := iprop((X true 0 ∗ X true 1) ∗ (X false 0 ∗ X false 1))) (Q := iprop(X true 0 ∗ X true 1 ∗ X false 0 ∗ X false 1)) (show iprop((X true 0 ∗ X true 1) ∗ (X false 0 ∗ X false 1)) ⊢ iprop(X true 0 ∗ X true 1 ∗ X false 0 ∗ X false 1) from ?_) (show iprop(X true 0 ∗ X true 1 ∗ X false 0 ∗ X false 1) ⊢ iprop((X true 0 ∗ X true 1) ∗ (X false 0 ∗ X false 1)) from ?_)
  · iintro ⟨⟨A, B⟩, C, D⟩
    isplitl [A]; · iexact A
    isplitl [B]; · iexact B
    isplitl [C]; · iexact C
    iexact D
  · iintro ⟨A, B, C, D⟩
    isplitl [A B]
    · isplitl [A]; · iexact A
      iexact B
    isplitl [C]; · iexact C
    iexact D

theorem lane_eq (Φ : Kind → sProp (MT nD τ sig ℕ (Elt F) ℕ UU ℕ)) (d : Bool) (t : Fin 2) :
    bigSep Finset.univ (fun s : (Bool × Fin 4) ⊕ Unit => Φ (kd (.inl ((d, t), s))))
      = iprop((bigSep Finset.univ (fun a => Φ (.S d t a)) ∗ bigSep Finset.univ (fun a => Φ (.R d t a))) ∗ Φ (.C d t)) := by
  rw [bigSep_univ_sum, bigSep_univ_prod, bool_two, show (Finset.univ : Finset Unit) = {()} from rfl, bigSep_singleton]
  rfl

/-- All the device's cells but the barrier's: lane by lane, then the maxima's. -/
theorem own_eq (Φ : Kind → sProp (MT nD τ sig ℕ (Elt F) ℕ UU ℕ)) : bigSep Finset.univ (fun s : SK => Φ (kd s))
    = iprop(Four (fun d t => iprop((bigSep Finset.univ (fun a => Φ (.S d t a)) ∗ bigSep Finset.univ (fun a => Φ (.R d t a))) ∗ Φ (.C d t)))
      ∗ (bigSep Finset.univ (fun p : Fin 32 => Φ (.aS p)) ∗ bigSep Finset.univ fun p : Fin 32 => Φ (.aR p))) := by
  have A : bigSep Finset.univ (fun a : (Bool × Fin 2) × ((Bool × Fin 4) ⊕ Unit) => Φ (kd (.inl a)))
      = Four (fun d t => iprop((bigSep Finset.univ (fun a => Φ (.S d t a)) ∗ bigSep Finset.univ (fun a => Φ (.R d t a))) ∗ Φ (.C d t))) := by
    rw [bigSep_univ_prod, ← four_eq (fun d t => iprop((bigSep Finset.univ (fun a => Φ (.S d t a)) ∗ bigSep Finset.univ (fun a => Φ (.R d t a))) ∗ Φ (.C d t)))]
    exact bigSep_congr fun p _ => lane_eq Φ p.1 p.2
  have B : bigSep Finset.univ (fun b : Bool × Fin 32 => Φ (kd (.inr b)))
      = iprop(bigSep Finset.univ (fun p : Fin 32 => Φ (.aS p)) ∗ bigSep Finset.univ fun p : Fin 32 => Φ (.aR p)) := by
    rw [bigSep_univ_prod, bool_two]; rfl
  exact (bigSep_univ_sum _).trans (congrArg₂ BI.sep A B)

section close
variable {xs : (c : Dev nD) → Buf (Elt F) ((E₀.x).view.loc (c : Thread nD τ))} {AM : Dev nD → S8x128.Idx → Elt F .f32}
variable {κ : Dev nD → Kind → ℕ} {ι : Key → ℕ}
variable {I : sProp (MT nD τ sig ℕ (Elt F) ℕ UU ℕ)} [BI.Persistent I] (Kn : Known xs AM κ ι I) (c : Dev nD)

include Kn in
theorem close_one (k : Kind) : iprop(I ∗ Over c k) ⊢ iprop(|={Set.univ}=> semVal (cell c k) 0) := by
  unfold Over
  iintro ⟨#HI, %R, %h, H⟩
  ihave #Hc := Kn.cells c k $$ HI
  iapply (Rounds.cell_close ER (Rd xs AM) (Set.mem_univ (κ c k)) id (fun r hr => (duties_cell xs AM c k r).trans (h r hr)))
  isplitr; · iexact Hc
  iexact H

include Kn in
theorem close_own : iprop(I ∗ bigSep Finset.univ fun s : SK => Over c (kd s)) ⊢ iprop(|={Set.univ}=> bigSep Finset.univ fun s : SK => semVal (cell c (kd s)) 0) :=
  (bigSep_with_persistent fun s _ => close_one Kn c (kd s)).trans (bigSep_fupd _ _)
end close

end Cert.KernelIdeal.Tidy
-- ==== Proof.Open.lean ====
module

public import proofs.«01_k».proof.Proof.Bufs

public import proofs.«01_k».proof.Proof.AmProg

@[expose] public section

set_option maxRecDepth 100000

noncomputable section

namespace Cert.KernelIdeal.Tidy

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

variable {xs : (c : Dev nD) → Buf (Elt F) ((E₀.x).view.loc (c : Thread nD τ))} {AM : Dev nD → S8x128.Idx → Elt F .f32}
variable {κ : Dev nD → Kind → ℕ} {ι : Key → ℕ}

/-! ## What a device is given, its buffers aside -/

/-- A lane's pieces. -/
def LaneTalk (c : Dev nD) (d : Bool) (t : Fin 2) : sProp (MT nD τ sig ℕ (Elt F) ℕ UU ℕ) :=
  iprop(bigSep (Finset.Ico 0 (copies d)) (sendTok c d t) ∗ bigSep (Finset.Ico 0 4) (atS c d t) ∗ bigSep (Finset.Ico 0 4) (atR c d t)
    ∗ bigSep (Finset.Ico 0 (copies d)) (crR c d t) ∗ bigSep (Finset.Ico 0 (credits d)) (giveTok c d t)
    ∗ (atPos ER (Ccell c d t) 0 ∅ 0 ∗ reached ER (Ccell c d t) 0) ∗ bigSep (Finset.Ico 0 (credits d)) (crC c d t)
    ∗ bigSep (Finset.range 3) (fun k => Release.readerAt ES (lane (nx (!d) c) d t k) 0))

/-- The places of the maxima, their elements aside. -/
def SpotTalk (c : Dev nD) : sProp (MT nD τ sig ℕ (Elt F) ℕ UU ℕ) :=
  bigSep Finset.univ fun p : Fin 32 => iprop(Release.readerAt ES (spot p c) 0 ∗ reached ER (cell c (.aR p)) 0)

/-- All of it. -/
def Talk (c : Dev nD) : sProp (MT nD τ sig ℕ (Elt F) ℕ UU ℕ) :=
  iprop(Four (LaneTalk c) ∗ SpotTalk c ∗ BarStart c ∗ Release.writeTok ES (spot c c) 1 ∗ bigSep (Finset.univ.erase c) (amTok c)
    ∗ bigSep (Finset.univ.erase c) (amWait c) ∗ atPos ER (cell c (.aS c)) 0 ∅ 0 ∗ atPos ER (cell c (.aR c)) 0 ∅ 0)

/-- The scratch buffers, whatever they hold. -/
def Scratch (c : Dev nD) : sProp (MT nD τ sig ℕ (Elt F) ℕ UU ℕ) :=
  iprop(commAny c true ∗ commAny c false ∗ (∃ g, pts c E₀.ms g) ∗ ∃ g, pts c E₀.mb g)

theorem lane_start (c : Dev nD) (d : Bool) (t : Fin 2) : iprop(LaneTalk (F := F) c d t ∗ laneSlots c d t) ⊢ iprop(LaneStart c d t ∗ LaneGate c d t) := by
  have e : laneSlots (F := F) c d t = iprop(idle c d t 0 ∗ idle c d t 1 ∗ idle c d t 2 ∗ idle c d t 3) := by
    unfold laneSlots idle; rw [fin4]; rfl
  rw [e]
  unfold LaneTalk LaneStart LaneGate
  rw [range_three, range_three]
  iintro ⟨⟨H1, H2, H3, H4, H5, ⟨H6, #H6'⟩, H7, R2, R1, R0, -⟩, I0, I1, I2, I3⟩
  isplitl [H1 H2 H3 H4 H5 H6 H7 I0]
  · isplitl [H1]; · iexact H1
    isplitl [H2]; · iexact H2
    isplitl [H3]; · iexact H3
    isplitl [H4]; · iexact H4
    isplitl [I0]; · iexact I0
    isplitl [H5]; · iexact H5
    isplitl [H6]; · iexact H6
    iexact H7
  isplitl [R2 R1 R0 I1 I2 I3]
  · isplitl [R2 I3]
    · isplitl [R2]; · iexact R2
      iexact I3
    isplitl [R1 I2]
    · isplitl [R1]; · iexact R1
      iexact I2
    isplitl [R0 I1]
    · isplitl [R0]; · iexact R0
      iexact I1
    iempintro
  iexact H6'

theorem spot_start (c : Dev nD) : iprop(SpotTalk (F := F) c ∗ bigSep Finset.univ fun p : Fin 32 => anyOf c (mbV p)) ⊢ SpotStart c := by
  unfold SpotTalk SpotStart
  rw [← bigSep_sep']
  refine bigSep_mono fun p _ => ?_
  show iprop((Release.readerAt ES (spot p c) 0 ∗ reached ER (cell c (.aR p)) 0) ∗ anyOf c (mbV p)) ⊢ iprop(Release.readerAt ES (spot p c) 0 ∗ (anyOf c (mbV p) ∗ reached ER (cell c (.aR p)) 0))
  iintro ⟨⟨Hr, #Hc⟩, Ha⟩
  isplitl [Hr]; · iexact Hr
  isplitl [Ha]; · iexact Ha
  iexact Hc

theorem four_sep (X Y : Bool → Fin 2 → sProp (MT nD τ sig ℕ (Elt F) ℕ UU ℕ)) : iprop(Four X ∗ Four Y) ⊢ Four fun d t => iprop(X d t ∗ Y d t) := by
  unfold Four
  iintro ⟨⟨A, B, C, D⟩, A', B', C', D'⟩
  isplitl [A A']
  · isplitl [A]; · iexact A
    iexact A'
  isplitl [B B']
  · isplitl [B]; · iexact B
    iexact B'
  isplitl [C C']
  · isplitl [C]; · iexact C
    iexact C'
  isplitl [D]; · iexact D
  iexact D'

theorem four_unsep (X Y : Bool → Fin 2 → sProp (MT nD τ sig ℕ (Elt F) ℕ UU ℕ)) : (Four fun d t => iprop(X d t ∗ Y d t)) ⊢ iprop(Four X ∗ Four Y) := by
  unfold Four
  iintro ⟨⟨A, A'⟩, ⟨B, B'⟩, ⟨C, C'⟩, D, D'⟩
  isplitl [A B C D]
  · isplitl [A]; · iexact A
    isplitl [B]; · iexact B
    isplitl [C]; · iexact C
    iexact D
  isplitl [A']; · iexact A'
  isplitl [B']; · iexact B'
  isplitl [C']; · iexact C'
  iexact D'

theorem four_mono {X Y : Bool → Fin 2 → sProp (MT nD τ sig ℕ (Elt F) ℕ UU ℕ)} (h : ∀ d t, X d t ⊢ Y d t) : Four X ⊢ Four Y := by
  unfold Four
  iintro ⟨A, B, C, D⟩
  isplitl [A]; · iapply (h true 0) $$ A
  isplitl [B]; · iapply (h true 1) $$ B
  isplitl [C]; · iapply (h false 0) $$ C
  iapply (h false 1) $$ D

/-- The lanes with their slots. -/
theorem lanes_start (c : Dev nD) : iprop(Four (LaneTalk (F := F) c) ∗ commAny c true ∗ commAny c false) ⊢ iprop(Four (LaneStart c) ∗ Four (LaneGate c)) := by
  have h : iprop(Four (LaneTalk (F := F) c) ∗ Four (laneSlots c)) ⊢ iprop(Four (LaneStart c) ∗ Four (LaneGate c)) :=
    (four_sep _ _).trans ((four_mono fun d t => lane_start c d t).trans (four_unsep _ _))
  iintro ⟨HL, H0, H1⟩
  icases (comm_out (F := F) c true) $$ H0 with ⟨A, B⟩
  icases (comm_out (F := F) c false) $$ H1 with ⟨C, D⟩
  iapply h
  isplitl [HL]; · iexact HL
  unfold Four
  isplitl [A]; · iexact A
  isplitl [B]; · iexact B
  isplitl [C]; · iexact C
  iexact D

/-! ## The opening -/

theorem off1_val : ∀ c : Dev nD, tabPos (k0_off1 c 0) = tabPos c.val := by decide +kernel
theorem chk2_at : ∀ c : Dev nD, k0_chk2 (tabAt (k0_off2 (tabPos c.val) 0)) := by decide +kernel
theorem chk3_at : ∀ c : Dev nD, k0_chk3 (tabAt (k0_off3 (tabPos c.val) 0)) := by decide +kernel
theorem dev1_at : ∀ c : Dev nD, k0_dev1 (tabAt (k0_off2 (tabPos c.val) 0)) = (nx true c).val := by decide +kernel
theorem dev2_at : ∀ c : Dev nD, k0_dev2 (tabAt (k0_off3 (tabPos c.val) 0)) = (nx false c).val := by decide +kernel

theorem here_eq (c : Dev nD) (f : Bool → Dev nD) (h : ∀ d, f d = nx d c) : (⟨c, tabPos c.val, here_chk1 c, f⟩ : Here) = here c := by
  obtain rfl : f = fun d => nx d c := funext h
  rfl

section opening
variable (c : Dev nD) (T : Buf (Elt F) (E₀.r2m.view.loc (c : Thread nD τ))) (hT : IsTab c E₀.r2m T tabAt)
variable (M : Buf (Elt F) (E₀.m2r.view.loc (c : Thread nD τ))) (hM : IsTab c E₀.m2r M tabPos)
variable {α : Type} {Q : α → sProp (MT nD τ sig ℕ (Elt F) ℕ UU ℕ)} (k : Here → PR F α)

include hT hM in
theorem wp_opening : iprop(pts c E₀.m2r M ∗ pts c E₀.r2m T)
    ⊢ iprop(((pts c E₀.m2r M ∗ pts c E₀.r2m T) -∗ wp frame (wpE (defs₀ (F := F)) 𝒱₀ (c : Thread nD τ) none) Set.univ (k (here c)) Q)
      -∗ wp frame (wpE (defs₀ (F := F)) 𝒱₀ (c : Thread nD τ) none) Set.univ (opening E₀ k) Q) := by
  have e : ∀ f : Bool → Dev nD, (∀ d, f d = nx d c) → (wp frame (wpE (defs₀ (F := F)) 𝒱₀ (c : Thread nD τ) none) Set.univ (k (here c)) Q
      ⊢ wp frame (wpE (defs₀ (F := F)) 𝒱₀ (c : Thread nD τ) none) Set.univ (k ⟨c, tabPos c.val, here_chk1 c, f⟩) Q) := fun f hf => by
    rw [here_eq c f hf]
  have hf : ∀ d, (fun | true => ⟨_, k0_dev1_lt _ (chk2_at c)⟩ | false => ⟨_, k0_dev2_lt _ (chk3_at c)⟩ : Bool → Dev nD) d = nx d c := fun d => by
    cases d
    · exact Fin.ext (dev2_at c)
    · exact Fin.ext (dev1_at c)
  unfold opening
  iintro ⟨HM, HT⟩ Hk
  rw [wp_deviceId]
  iapply (wp_readTab (Q := Q) c E₀.m2r M tabPos hM _ _ _) $$ HM
  iintro HM
  rw [show tabPos (k0_off1 (c : Thread nD τ).1 0) = tabPos c.val from off1_val c]
  iapply (wp_check (Q := Q) c _ _ (here_chk1 c) _)
  iapply (wp_readTab (Q := Q) c E₀.r2m T tabAt hT _ _ _) $$ HT
  iintro HT
  iapply (wp_check (Q := Q) c _ _ (chk2_at c) _)
  iapply (wp_readTab (Q := Q) c E₀.r2m T tabAt hT _ _ _) $$ HT
  iintro HT
  iapply (wp_check (Q := Q) c _ _ (chk3_at c) _)
  iapply (e (fun | true => ⟨_, k0_dev1_lt _ (chk2_at c)⟩ | false => ⟨_, k0_dev2_lt _ (chk3_at c)⟩) hf)
  iapply Hk
  isplitl [HM]; · iexact HM
  iexact HT

end opening

end Cert.KernelIdeal.Tidy
-- ==== Proof.Deal.lean ====
module

public import proofs.«01_k».proof.Proof.Open
public import proofs.«01_k».proof.Proof.Start
public import proofs.«01_k».proof.Proof.Gen.KernelIdeal.Launch

@[expose] public section

set_option maxRecDepth 100000

noncomputable section

namespace Cert.KernelIdeal.Tidy

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

/-! ## Pieces of all devices at once -/

/-- A piece per device. -/
abbrev All (X : Dev nD → sProp (MT nD τ sig ℕ (Elt F) ℕ UU ℕ)) : sProp (MT nD τ sig ℕ (Elt F) ℕ UU ℕ) := bigSep Finset.univ X

theorem all_sep (A B : Dev nD → sProp (MT nD τ sig ℕ (Elt F) ℕ UU ℕ)) : All (fun c => iprop(A c ∗ B c)) = iprop(All A ∗ All B) := bigSep_sep' _ _ _

theorem all_two {A B A' B' : Dev nD → sProp (MT nD τ sig ℕ (Elt F) ℕ UU ℕ)} (h : All A ⊢ All A') (h' : All B ⊢ All B') :
    All (fun c => iprop(A c ∗ B c)) ⊢ All fun c => iprop(A' c ∗ B' c) := by
  rw [all_sep, all_sep]
  iintro ⟨H, H'⟩
  isplitl [H]; · iapply h $$ H
  iapply h' $$ H'

/-- Pieces are passed along a bijection of the devices. -/
theorem all_turn (e : Dev nD ≃ Dev nD) (X : Dev nD → sProp (MT nD τ sig ℕ (Elt F) ℕ UU ℕ)) : All X = All fun c => X (e c) := bigSep_univ_equiv e X

theorem all_four (X : Dev nD → Bool → Fin 2 → sProp (MT nD τ sig ℕ (Elt F) ℕ UU ℕ)) : All (fun c => Four (X c))
    = iprop(All (fun c => X c true 0) ∗ All (fun c => X c true 1) ∗ All (fun c => X c false 0) ∗ All (fun c => X c false 1)) := by
  unfold Four
  rw [all_sep, all_sep, all_sep]

/-- The lanes' pieces are passed along a bijection per direction. -/
theorem all_four_turn (e : Bool → (Dev nD ≃ Dev nD)) (X : Dev nD → Bool → Fin 2 → sProp (MT nD τ sig ℕ (Elt F) ℕ UU ℕ)) :
    All (fun c => Four (X c)) = All fun c => Four fun d t => X (e d c) d t := by
  rw [all_four, all_four, all_turn (e true) (fun c => X c true 0), all_turn (e true) (fun c => X c true 1), all_turn (e false) (fun c => X c false 0), all_turn (e false) (fun c => X c false 1)]

/-- The pieces of the pairs of devices, the other way round. -/
theorem all_swap (Y : Dev nD → Dev nD → sProp (MT nD τ sig ℕ (Elt F) ℕ UU ℕ)) : All (fun c => bigSep (Finset.univ.erase c) fun o => Y c o) = All fun c => bigSep (Finset.univ.erase c) fun o => Y o c :=
  BI.bigSep_erase_comm Y

/-! ## What all devices owe, as tokens -/

theorem owing_tc (c : Dev nD) (ls : List Debt) (g : GSem nD τ sig) (h : g.1.2 ≠ .tc) : owing c ls g = 0 := by
  refine Finsupp.ext fun i => ?_
  by_contra hne
  obtain ⟨l, -, hg, -⟩ := owing_pos c g i ls (Nat.pos_of_ne_zero hne)
  rw [hg] at h
  cases l <;> exact h rfl

theorem launch_creds (O₀ : Dev nD → CellTallies nD τ sig ℕ) (h : ∀ d (g : GSem nD τ sig), g.1.2 ≠ .tc → O₀ d g = 0) :
    All (fun c => (Pipeline.launchCred O₀ c : sProp (MT nD τ sig ℕ (Elt F) ℕ UU ℕ))) ⊢ All fun c => cred (O₀ c) := by
  have hT : ∀ g : GSem nD τ sig, g.1.2 ≠ .tc → launchCredit (Pipeline.owing O₀) 0 g = 0 := fun g hg =>
    Finsupp.ext fun i => by
      rw [Pipeline.launchCredit_owing]
      exact Finset.sum_eq_zero fun d _ => by rw [h d g hg]; rfl
  have h1 : (cred (launchCredit (Pipeline.owing O₀) 0) : sProp (MT nD τ sig ℕ (Elt F) ℕ UU ℕ)) = All fun c => Pipeline.launchCred O₀ c := by
    rw [cred_cells, bigSep_univ_prod, bigSep_univ_prod]
    refine bigSep_congr fun d _ => ?_
    have hz : bigSep (Finset.univ.erase (Proc.tc : Proc τ)) (fun q => bigSep Finset.univ fun sm : SemLoc sig => (cred (tallyOn ((d, q), sm) (launchCredit (Pipeline.owing O₀) 0 ((d, q), sm))) : sProp (MT nD τ sig ℕ (Elt F) ℕ UU ℕ))) = BI.emp := by
      refine (bigSep_congr fun q hq => ?_).trans (BI.bigSep_emp_const (Finset.univ.erase (Proc.tc : Proc τ)))
      refine (bigSep_congr fun sm _ => ?_).trans (BI.bigSep_emp_const (Finset.univ : Finset (SemLoc sig)))
      rw [hT ((d, q), sm) (Finset.ne_of_mem_erase hq), tallyOn_zero, cred_zero]
      rfl
    rw [bigSep_univ_at _ (Proc.tc : Proc τ), hz]
    exact BI.equiv_iff.mp sep_emp
  have h2 : (cred (launchCredit (Pipeline.owing O₀) 0) : sProp (MT nD τ sig ℕ (Elt F) ℕ UU ℕ)) ⊢ All fun c => cred (O₀ c) := by
    unfold launchCredit
    rw [add_zero, cred_sum, bigSep_univ_prod]
    refine bigSep_mono fun d _ => ?_
    exact (bigSep_elim (Φ := fun q : Proc τ => (cred (Pipeline.owing O₀ (d, q)) : sProp (MT nD τ sig ℕ (Elt F) ℕ UU ℕ))) (Finset.mem_univ (Proc.tc : Proc τ)))
  rw [← h1]
  exact h2

/-! ## A list of debts, sorted -/

/-- A piece per entry of a list. -/
def chain {A : Type} (X : A → sProp (MT nD τ sig ℕ (Elt F) ℕ UU ℕ)) : List A → sProp (MT nD τ sig ℕ (Elt F) ℕ UU ℕ)
  | [] => iprop(emp)
  | a :: l => iprop(X a ∗ chain X l)

theorem chain_append {A : Type} (X : A → sProp (MT nD τ sig ℕ (Elt F) ℕ UU ℕ)) (l' : List A) : ∀ l : List A, chain X (l ++ l') ⊢ iprop(chain X l ∗ chain X l')
  | [] => by
    show chain X l' ⊢ iprop(emp ∗ chain X l')
    iintro H
    isplitr; · iempintro
    iexact H
  | a :: l => by
    show iprop(X a ∗ chain X (l ++ l')) ⊢ iprop((X a ∗ chain X l) ∗ chain X l')
    iintro ⟨Ha, H⟩
    icases (chain_append X l' l) $$ H with ⟨H, H'⟩
    isplitr [H']
    · isplitl [Ha]; · iexact Ha
      iexact H
    iexact H'

theorem chain_perm {A : Type} (X : A → sProp (MT nD τ sig ℕ (Elt F) ℕ UU ℕ)) {l l' : List A} (h : l.Perm l') : chain X l ⊢ chain X l' := by
  induction h with
  | nil => exact .rfl
  | cons a h ih =>
    show iprop(X a ∗ chain X _) ⊢ iprop(X a ∗ chain X _)
    iintro ⟨Ha, H⟩
    isplitl [Ha]; · iexact Ha
    iapply ih $$ H
  | swap a b l =>
    show iprop(X b ∗ X a ∗ chain X l) ⊢ iprop(X a ∗ X b ∗ chain X l)
    iintro ⟨Hb, Ha, H⟩
    isplitl [Ha]; · iexact Ha
    isplitl [Hb]; · iexact Hb
    iexact H
  | trans h1 h2 ih1 ih2 => exact ih1.trans ih2

theorem chain_range {A : Type} (X : A → sProp (MT nD τ sig ℕ (Elt F) ℕ UU ℕ)) (f : ℕ → A) : ∀ n : ℕ, chain X ((List.range n).map f) ⊢ bigSep (Finset.Ico 0 n) fun j => X (f j)
  | 0 => by rw [Finset.Ico_self]; exact .rfl
  | n + 1 => by
    rw [List.range_succ, List.map_append, ico_snoc _ (Nat.zero_le n)]
    iintro H
    icases (chain_append X _ _) $$ H with ⟨H, H'⟩
    icases (show chain X (List.map f [n]) ⊢ iprop(X (f n) ∗ emp) from .rfl) $$ H' with ⟨H', -⟩
    isplitl [H']; · iexact H'
    iapply (chain_range X f n) $$ H

deriving instance DecidableEq for Debt

/-- The debts of one lane, and of the rings. -/
def laneDebts (d : Bool) (t : Fin 2) : List Debt := (List.range (copies d)).map (Debt.copy d t) ++ (List.range (credits d)).map (Debt.cred d t)
def ringDebts : List Debt := .bar true :: .bar false :: (laneDebts true 0 ++ (laneDebts true 1 ++ (laneDebts false 0 ++ laneDebts false 1)))

theorem ring_perm : (ringDebt []).Perm ringDebts := by decide +kernel

theorem step_append (s : ℕ) (l ls : List Debt) : stepDebt s (l ++ ls) = stepDebt s l ++ ls := by
  unfold stepDebt clearDebt
  split_ifs <;> simp only [List.append_assoc]

theorem rest_append (ls : List Debt) : ∀ n, restDebt n ls = restDebt n [] ++ ls
  | 0 => rfl
  | n + 1 => by
    show stepDebt (15 - n) (restDebt n ls) = stepDebt (15 - n) (restDebt n []) ++ ls
    rw [rest_append ls n, step_append]

theorem ring_append (ls : List Debt) : ringDebt ls = ringDebt [] ++ ls := by
  unfold ringDebt
  rw [rest_append ls 15]
  rfl

/-- The token of a debt. -/
abbrev owedTok (c : Dev nD) (l : Debt) : sProp (MT nD τ sig ℕ (Elt F) ℕ UU ℕ) := cred (tallyAt (debtCell c l) (debtIx l) (debtN l))

theorem cred_chain (c : Dev nD) : ∀ ls : List Debt, cred (owing c ls) ⊢ chain (owedTok (F := F) c) ls
  | [] => by
    show cred 0 ⊢ iprop(emp)
    iintro -
    iempintro
  | l :: ls => by
    show cred (owing c ls + tallyAt (debtCell c l) (debtIx l) (debtN l)) ⊢ iprop(owedTok c l ∗ chain (owedTok c) ls)
    iintro H
    icases (cred_add _ _).1 $$ H with ⟨H, H'⟩
    isplitl [H']; · iexact H'
    iapply (cred_chain c ls) $$ H

theorem am_chain (c : Dev nD) (X : Debt → sProp (MT nD τ sig ℕ (Elt F) ℕ UU ℕ)) : ∀ js : List (Fin 32), chain X (amDebts c js) ⊢ row (mine c (fun o => X (.am o)) iprop(emp)) js
  | [] => .rfl
  | j :: js => by
    show chain X (if j ≠ c then .am j :: amDebts c js else amDebts c js) ⊢ iprop((if j ≠ c then X (.am j) else iprop(emp)) ∗ row (mine c (fun o => X (.am o)) iprop(emp)) js)
    by_cases h : j ≠ c
    · rw [if_pos h, if_pos h]
      iintro H
      icases (show chain X (.am j :: amDebts c js) ⊢ iprop(X (.am j) ∗ chain X (amDebts c js)) from .rfl) $$ H with ⟨Ha, H⟩
      isplitl [Ha]; · iexact Ha
      iapply (am_chain c X js) $$ H
    · rw [if_neg h, if_neg h]
      iintro H
      isplitr; · iempintro
      iapply (am_chain c X js) $$ H

/-- The tokens of one lane's debts. -/
def laneOwed (X : Debt → sProp (MT nD τ sig ℕ (Elt F) ℕ UU ℕ)) (d : Bool) (t : Fin 2) : sProp (MT nD τ sig ℕ (Elt F) ℕ UU ℕ) :=
  iprop(bigSep (Finset.Ico 0 (copies d)) (fun j => X (.copy d t j)) ∗ bigSep (Finset.Ico 0 (credits d)) (fun j => X (.cred d t j)))

theorem lane_chain (X : Debt → sProp (MT nD τ sig ℕ (Elt F) ℕ UU ℕ)) (d : Bool) (t : Fin 2) : chain X (laneDebts d t) ⊢ laneOwed X d t := by
  unfold laneDebts laneOwed
  iintro H
  icases (chain_append X _ _) $$ H with ⟨H, H'⟩
  isplitl [H]; · iapply (chain_range X (Debt.copy d t) (copies d)) $$ H
  iapply (chain_range X (Debt.cred d t) (credits d)) $$ H'

/-- The tokens of all the debts of one device. -/
theorem owed_sorted (c : Dev nD) : cred (owing c (ringDebt (amDebts c (List.finRange 32))))
    ⊢ iprop((owedTok (F := F) c (.bar true) ∗ owedTok c (.bar false)) ∗ Four (laneOwed (owedTok c)) ∗ bigSep (Finset.univ.erase c) fun o => owedTok c (.am o)) := by
  have e : row (mine c (fun o => owedTok (F := F) c (.am o)) iprop(emp)) (List.finRange 32) ⊢ iprop(emp ∗ bigSep (Finset.univ.erase c) fun o => owedTok c (.am o)) := by
    rw [← row_all, mine_split]
  iintro H
  ihave H := (cred_chain (F := F) c _) $$ H
  rw [ring_append]
  icases (chain_append (owedTok (F := F) c) _ _) $$ H with ⟨H, H'⟩
  ihave H := (chain_perm (owedTok (F := F) c) ring_perm) $$ H
  icases (show chain (owedTok (F := F) c) ringDebts ⊢ iprop(owedTok c (.bar true) ∗ owedTok c (.bar false) ∗ chain (owedTok c) (laneDebts true 0 ++ (laneDebts true 1 ++ (laneDebts false 0 ++ laneDebts false 1)))) from .rfl) $$ H with ⟨Hb1, Hb0, H⟩
  icases (chain_append (owedTok (F := F) c) _ _) $$ H with ⟨H0, H⟩
  icases (chain_append (owedTok (F := F) c) _ _) $$ H with ⟨H1, H⟩
  icases (chain_append (owedTok (F := F) c) _ _) $$ H with ⟨H2, H3⟩
  isplitl [Hb1 Hb0]
  · isplitl [Hb1]; · iexact Hb1
    iexact Hb0
  isplitr [H']
  · unfold Four
    isplitl [H0]; · iapply (lane_chain (owedTok (F := F) c) true 0) $$ H0
    isplitl [H1]; · iapply (lane_chain (owedTok (F := F) c) true 1) $$ H1
    isplitl [H2]; · iapply (lane_chain (owedTok (F := F) c) false 0) $$ H2
    iapply (lane_chain (owedTok (F := F) c) false 1) $$ H3
  ihave H' := (am_chain c (owedTok (F := F) c) _) $$ H'
  icases e $$ H' with ⟨-, H'⟩
  iexact H'

/-- What a device is owed. -/
def Due (c : Dev nD) : sProp (MT nD τ sig ℕ (Elt F) ℕ UU ℕ) :=
  iprop(cred (tallyAt (cell c .bar) 0 2) ∗ (Four (fun d t => bigSep (Finset.Ico 0 (copies d)) (crR c d t)) ∗ Four (fun d t => bigSep (Finset.Ico 0 (credits d)) (crC c d t)))
    ∗ bigSep (Finset.univ.erase c) fun o => cred (tallyAt (cell c (.aR o)) 0 nMax))

/-- All debts are dues. -/
theorem owed_due : All (fun c => cred (owing c (ringDebt (amDebts c (List.finRange 32))))) ⊢ All (Due (F := F)) := by
  have h1 : All (fun c => cred (owing c (ringDebt (amDebts c (List.finRange 32))))) ⊢ All fun c =>
      iprop((owedTok (F := F) c (.bar true) ∗ owedTok c (.bar false)) ∗ Four (laneOwed (owedTok c)) ∗ bigSep (Finset.univ.erase c) fun o => owedTok c (.am o)) :=
    bigSep_mono fun c _ => owed_sorted c
  have hb : All (fun c => iprop(owedTok (F := F) c (.bar true) ∗ owedTok c (.bar false))) ⊢ All fun c => cred (tallyAt (cell c .bar) 0 2) := by
    rw [all_sep]
    have t1 : All (fun c => owedTok (F := F) c (.bar true)) = All fun c => cred (tallyAt (cell c .bar) 0 1) :=
      (all_turn (turn true) (fun c => cred (tallyAt (cell c .bar) 0 1))).symm
    have t2 : All (fun c => owedTok (F := F) c (.bar false)) = All fun c => cred (tallyAt (cell c .bar) 0 1) :=
      (all_turn (turn false) (fun c => cred (tallyAt (cell c .bar) 0 1))).symm
    rw [t1, t2, ← all_sep]
    refine bigSep_mono fun c _ => ?_
    have e : (tallyAt (cell c .bar) 0 2 : CellTallies nD τ sig ℕ) = tallyAt (cell c .bar) 0 1 + tallyAt (cell c .bar) 0 1 := (tallyAt_add _ _ 1 1).symm
    rw [e]
    exact (cred_add _ _).2
  have hl : All (fun c => Four (laneOwed (owedTok (F := F) c))) ⊢ All fun c => iprop(Four (fun d t => bigSep (Finset.Ico 0 (copies d)) (crR c d t)) ∗ Four (fun d t => bigSep (Finset.Ico 0 (credits d)) (crC c d t))) := by
    have s : All (fun c => Four (laneOwed (owedTok (F := F) c))) ⊢ All fun c =>
        iprop(Four (fun d t => bigSep (Finset.Ico 0 (copies d)) (crR (nx d c) d t)) ∗ Four (fun d t => bigSep (Finset.Ico 0 (credits d)) (crC (nx (!d) c) d t))) :=
      bigSep_mono fun c _ => four_unsep (fun d t => bigSep (Finset.Ico 0 (copies d)) (crR (nx d c) d t)) (fun d t => bigSep (Finset.Ico 0 (credits d)) (crC (nx (!d) c) d t))
    refine s.trans ?_
    rw [all_sep, all_sep, all_four_turn (fun d => turn d) (fun c d t => bigSep (Finset.Ico 0 (copies d)) (crR (F := F) c d t)),
      all_four_turn (fun d => turn (!d)) (fun c d t => bigSep (Finset.Ico 0 (credits d)) (crC (F := F) c d t))]
    exact .rfl
  have ha : All (fun c => bigSep (Finset.univ.erase c) fun o => owedTok (F := F) c (.am o)) ⊢ All fun c => bigSep (Finset.univ.erase c) fun o => cred (tallyAt (cell c (.aR o)) 0 nMax) :=
    Entails.of_eq (all_swap fun c o => owedTok (F := F) c (.am o))
  exact h1.trans (all_two hb (all_two hl ha))

end Cert.KernelIdeal.Tidy
-- ==== Proof.Dealt.lean ====
module

public import proofs.«01_k».proof.Proof.Deal

@[expose] public section

set_option maxRecDepth 100000

noncomputable section

namespace Cert.KernelIdeal.Tidy

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

/-! ## Counting to sixteen -/

theorem ico_of_fin16 (Φ : ℕ → sProp (MT nD τ sig ℕ (Elt F) ℕ UU ℕ)) (n : ℕ) (h : n ≤ 16) : bigSep Finset.univ (fun j : Fin 16 => Φ j.val) ⊢ bigSep (Finset.Ico 0 n) Φ := by
  have e : bigSep Finset.univ (fun j : Fin 16 => Φ j.val) = bigSep (Finset.Ico 0 16) Φ := by
    rw [show Finset.Ico 0 16 = (Finset.univ : Finset (Fin 16)).map Fin.valEmbedding from by decide +kernel, bigSep_map]
    rfl
  rw [e]
  exact BI.bigSep_subset (Finset.Ico_subset_Ico (Nat.le_refl 0) h)

theorem ico_three (Φ : ℕ → sProp (MT nD τ sig ℕ (Elt F) ℕ UU ℕ)) : ∀ n : ℕ, bigSep (Finset.Ico 0 (n + 3)) Φ ⊢ iprop(bigSep (Finset.range 3) Φ ∗ bigSep (Finset.Ico 0 n) fun j => Φ (j + 3))
  | 0 => by
    rw [Finset.Ico_self, bigSep_empty, Finset.range_eq_Ico]
    show bigSep (Finset.Ico 0 3) Φ ⊢ iprop(bigSep (Finset.Ico 0 3) Φ ∗ emp)
    iintro H
    isplitl [H]; · iexact H
    iempintro
  | n + 1 => by
    rw [show n + 1 + 3 = (n + 3) + 1 by omega, ico_snoc Φ (Nat.zero_le _), ico_snoc (fun j => Φ (j + 3)) (Nat.zero_le _)]
    iintro ⟨Hn, H⟩
    icases (ico_three Φ n) $$ H with ⟨H, H'⟩
    isplitl [H]; · iexact H
    isplitl [Hn]; · iexact Hn
    iexact H'

theorem copies_le16 (d : Bool) : copies d ≤ 16 := by cases d <;> decide
theorem credits_le (d : Bool) : credits d ≤ 16 := by cases d <;> decide

theorem univ_sum {A B : Type} [Fintype A] [Fintype B] (Φ : A ⊕ B → sProp (MT nD τ sig ℕ (Elt F) ℕ UU ℕ)) : bigSep Finset.univ Φ = iprop(bigSep Finset.univ (fun a => Φ (.inl a)) ∗ bigSep Finset.univ fun b => Φ (.inr b)) :=
  BI.bigSep_univ_sum Φ

theorem sub_mono {A : Type} [DecidableEq A] {s t : Finset A} (h : t ⊆ s) (Φ : A → sProp (MT nD τ sig ℕ (Elt F) ℕ UU ℕ)) : bigSep s Φ ⊢ bigSep t Φ := BI.bigSep_subset h

theorem four_of (X : Bool → Fin 2 → sProp (MT nD τ sig ℕ (Elt F) ℕ UU ℕ)) : bigSep Finset.univ (fun d : Bool => bigSep Finset.univ fun t : Fin 2 => X d t) = Four X :=
  (bigSep_univ_prod (fun p : Bool × Fin 2 => X p.1 p.2)).symm.trans (four_eq X)

/-! ## The tokens of the schedule -/

/-- The tokens of one device's cells. -/
abbrev TX := Bool ⊕ (((Bool × Fin 2) × (Fin 16 ⊕ (Fin 16 ⊕ Fin 16))) ⊕ (Bool × Fin 32))

/-- A token's cell, round and number. -/
def tkOf : TX → Kind × ℕ × ℕ
  | .inl e => (.bar, 0, if e then 0 else 1)
  | .inr (.inl (p, .inl j)) => (.S p.1 p.2 (slotIx j.val), j.val / 4, 0)
  | .inr (.inl (p, .inr (.inl j))) => (.R p.1 p.2 (slotIx (j.val + 1)), j.val / 4, 0)
  | .inr (.inl (p, .inr (.inr j))) => (.C p.1 p.2, 0, j.val)
  | .inr (.inr (true, p)) => (.aS p, 0, 0)
  | .inr (.inr (false, p)) => (.aR p, 0, 0)

/-- The token of a cell, round and number. -/
def tkBack : Kind × ℕ × ℕ → TX
  | (.bar, _, i) => .inl (i == 0)
  | (.S d t a, r, _) => .inr (.inl ((d, t), .inl (Fin.ofNat 16 (4 * r + a.val))))
  | (.R d t a, r, _) => .inr (.inl ((d, t), .inr (.inl (Fin.ofNat 16 (4 * r + (a.val + 3) % 4)))))
  | (.C d t, _, i) => .inr (.inl ((d, t), .inr (.inr (Fin.ofNat 16 i))))
  | (.aS p, _, _) => .inr (.inr (true, p))
  | (.aR p, _, _) => .inr (.inr (false, p))

theorem back_S : ∀ j : Fin 16, Fin.ofNat 16 (4 * (j.val / 4) + (slotIx j.val).val) = j := by decide +kernel
theorem back_R : ∀ j : Fin 16, Fin.ofNat 16 (4 * (j.val / 4) + ((slotIx (j.val + 1)).val + 3) % 4) = j := by decide +kernel
theorem back_C : ∀ j : Fin 16, Fin.ofNat 16 j.val = j := by decide +kernel

theorem tkBack_tkOf : ∀ x : TX, tkBack (tkOf x) = x
  | .inl true => rfl
  | .inl false => rfl
  | .inr (.inl (p, .inl j)) => congrArg (fun i => (Sum.inr (Sum.inl (p, Sum.inl i)) : TX)) (back_S j)
  | .inr (.inl (p, .inr (.inl j))) => congrArg (fun i => (Sum.inr (Sum.inl (p, Sum.inr (Sum.inl i))) : TX)) (back_R j)
  | .inr (.inl (p, .inr (.inr j))) => congrArg (fun i => (Sum.inr (Sum.inl (p, Sum.inr (Sum.inr i))) : TX)) (back_C j)
  | .inr (.inr (true, p)) => rfl
  | .inr (.inr (false, p)) => rfl

/-- A device's token as the ledger keeps it. -/
def tkAt (y : Dev nD × TX) : GSem nD τ sig × ℕ × ℕ := (cell y.1 (tkOf y.2).1, (tkOf y.2).2.1, (tkOf y.2).2.2)

theorem tkAt_inj : Function.Injective tkAt := fun y y' h => by
  have h1 := congrArg Prod.fst h
  have h2 := congrArg Prod.snd h
  obtain ⟨hc, hk⟩ := cell_inj h1
  have h3 : tkOf y.2 = tkOf y'.2 := Prod.ext hk h2
  have h4 : y.2 = y'.2 := by rw [← tkBack_tkOf y.2, h3, tkBack_tkOf]
  exact Prod.ext hc h4

/-- All tokens. -/
def talkToks : Finset (GSem nD τ sig × ℕ × ℕ) := Finset.univ.map ⟨tkAt, tkAt_inj⟩

/-- The tokens of a lane's cells. -/
def laneTok (c : Dev nD) (d : Bool) (t : Fin 2) : sProp (MT nD τ sig ℕ (Elt F) ℕ UU ℕ) :=
  iprop(bigSep (Finset.Ico 0 (copies d)) (fun j => dutyTok ER (Scell c d t j) (j / 4) 0)
    ∗ bigSep (Finset.Ico 0 (copies d)) (fun j => dutyTok ER (Rcell c d t j) (j / 4) 0)
    ∗ bigSep (Finset.Ico 0 (credits d)) (fun j => dutyTok ER (Ccell c d t) 0 j))

theorem toks_own (c : Dev nD) : bigSep Finset.univ (fun x : TX => dutyTok ER (tkAt (c, x)).1 (tkAt (c, x)).2.1 (tkAt (c, x)).2.2)
    ⊢ iprop((dutyTok ER (cell c .bar) 0 0 ∗ dutyTok ER (cell c .bar) 0 1) ∗ Four (laneTok (F := F) c)
      ∗ bigSep Finset.univ (fun p => dutyTok ER (cell c (.aS p)) 0 0) ∗ bigSep Finset.univ fun p => dutyTok ER (cell c (.aR p)) 0 0) := by
  have hl : ∀ d t, bigSep Finset.univ (fun x : Fin 16 ⊕ (Fin 16 ⊕ Fin 16) => dutyTok ER (tkAt (c, .inr (.inl ((d, t), x)))).1 (tkAt (c, .inr (.inl ((d, t), x)))).2.1 (tkAt (c, .inr (.inl ((d, t), x)))).2.2) ⊢ laneTok (F := F) c d t := fun d t => by
    rw [univ_sum, univ_sum]
    unfold laneTok
    iintro ⟨H1, H2, H3⟩
    isplitl [H1]; · iapply (ico_of_fin16 (F := F) (fun j => dutyTok ER (Scell c d t j) (j / 4) 0) (copies d) (copies_le16 d)); iexact H1
    isplitl [H2]; · iapply (ico_of_fin16 (F := F) (fun j => dutyTok ER (Rcell c d t j) (j / 4) 0) (copies d) (copies_le16 d)); iexact H2
    iapply (ico_of_fin16 (F := F) (fun j => dutyTok ER (Ccell c d t) 0 j) (credits d) (credits_le d)); iexact H3
  have hf : bigSep Finset.univ (fun p : Bool × Fin 2 => bigSep Finset.univ fun x : Fin 16 ⊕ (Fin 16 ⊕ Fin 16) => dutyTok ER (tkAt (c, .inr (.inl (p, x)))).1 (tkAt (c, .inr (.inl (p, x)))).2.1 (tkAt (c, .inr (.inl (p, x)))).2.2) ⊢ Four (laneTok (F := F) c) := by
    have h := (bigSep_mono (s := (Finset.univ : Finset (Bool × Fin 2))) fun p _ => hl p.1 p.2)
    rw [four_eq (laneTok (F := F) c)] at h
    exact h
  rw [univ_sum, univ_sum, bool_two, bigSep_univ_prod, bigSep_univ_prod (fun x : Bool × Fin 32 => _), bool_two]
  iintro ⟨⟨Hb, Hb'⟩, Hl, Ha, Ha'⟩
  isplitl [Hb Hb']
  · isplitl [Hb]; · iexact Hb
    iexact Hb'
  isplitl [Hl]; · iapply hf $$ Hl
  isplitl [Ha]; · iexact Ha
  iexact Ha'

theorem toks_all : bigSep talkToks (fun x => dutyTok ER x.1 x.2.1 x.2.2)
    ⊢ All fun c => iprop((dutyTok ER (cell c .bar) 0 0 ∗ dutyTok ER (cell c .bar) 0 1) ∗ Four (laneTok (F := F) c)
      ∗ bigSep Finset.univ (fun p => dutyTok ER (cell c (.aS p)) 0 0) ∗ bigSep Finset.univ fun p => dutyTok ER (cell c (.aR p)) 0 0) := by
  unfold talkToks
  rw [bigSep_map, bigSep_univ_prod]
  exact bigSep_mono fun c _ => toks_own c

/-! ## The slots -/

theorem lane_key (c : Dev nD) (d : Bool) (t : Fin 2) (j : Fin 16) : (Sum.inl (c, d, t, j) : Key) = lane c d t j.val := by
  unfold lane
  rw [show Fin.ofNat 16 j.val = j from Fin.ext (Nat.mod_eq_of_lt j.isLt)]

/-- A piece per slot: per device the slots it writes. -/
theorem keys_own (Φ : Key → sProp (MT nD τ sig ℕ (Elt F) ℕ UU ℕ)) : bigSep Finset.univ Φ
    ⊢ All fun c => iprop(Four (fun d t => bigSep (Finset.Ico 0 (copies d)) fun j => Φ (lane c d t j)) ∗ bigSep Finset.univ fun o => Φ (spot c o)) := by
  have hl : ∀ c, bigSep Finset.univ (fun x : Bool × Fin 2 × Fin 16 => Φ (.inl (c, x))) ⊢ Four (fun d t => bigSep (Finset.Ico 0 (copies d)) fun j => Φ (lane c d t j)) := fun c => by
    have e : bigSep Finset.univ (fun x : Bool × Fin 2 × Fin 16 => Φ (.inl (c, x))) = Four fun d t => bigSep Finset.univ fun j : Fin 16 => Φ (lane c d t j.val) := by
      rw [bigSep_univ_prod, ← four_of]
      refine bigSep_congr fun d _ => ?_
      rw [bigSep_univ_prod]
      exact bigSep_congr fun t _ => bigSep_congr fun j _ => by rw [lane_key]
    rw [e]
    exact four_mono fun d t => ico_of_fin16 (fun j => Φ (lane c d t j)) (copies d) (copies_le16 d)
  have e : bigSep Finset.univ Φ = iprop(bigSep Finset.univ (fun x : Dev nD × Bool × Fin 2 × Fin 16 => Φ (.inl x)) ∗ bigSep Finset.univ fun x : Dev nD × Dev nD => Φ (.inr x)) :=
    univ_sum (A := Dev nD × Bool × Fin 2 × Fin 16) (B := Dev nD × Dev nD) Φ
  rw [e, bigSep_univ_prod, bigSep_univ_prod (fun x : Dev nD × Dev nD => _), all_sep]
  iintro ⟨H, H'⟩
  isplitl [H]
  · iapply (show All (fun c => bigSep Finset.univ (fun x : Bool × Fin 2 × Fin 16 => Φ (.inl (c, x)))) ⊢ All (fun c => Four (fun d t => bigSep (Finset.Ico 0 (copies d)) fun j => Φ (lane c d t j))) from bigSep_mono fun c _ => hl c)
    iexact H
  iexact H'

/-! ## What every device is dealt -/

/-- The tokens and the slots a device is dealt. -/
def Dealt (c : Dev nD) : sProp (MT nD τ sig ℕ (Elt F) ℕ UU ℕ) :=
  iprop((dutyTok ER (cell (nx true c) .bar) 0 0 ∗ dutyTok ER (cell (nx false c) .bar) 0 1)
    ∗ (Four (fun d t => bigSep (Finset.Ico 0 (copies d)) (sendTok c d t)) ∗ Four (fun d t => bigSep (Finset.Ico 0 (credits d)) (giveTok c d t))
      ∗ Four (fun d t => bigSep (Finset.range 3) fun k => Release.readerAt ES (lane (nx (!d) c) d t k) 0))
    ∗ (bigSep (Finset.univ.erase c) (fun o => iprop(dutyTok ER (cell c (.aS o)) 0 0 ∗ dutyTok ER (cell o (.aR c)) 0 0 ∗ Release.writeTok ES (spot c o) 1))
      ∗ Release.writeTok ES (spot c c) 1 ∗ bigSep Finset.univ fun p => Release.readerAt ES (spot p c) 0))

theorem deal_lanes : iprop(All (fun c => Four (laneTok (F := F) c)) ∗ All (fun c => Four fun d t => bigSep (Finset.Ico 0 (copies d)) fun j => Release.writeTok ES (lane c d t j) 1)
      ∗ All (fun c => Four fun d t => bigSep (Finset.Ico 0 (copies d)) fun j => Release.readerAt ES (lane c d t j) 0))
    ⊢ All fun c => iprop(Four (fun d t => bigSep (Finset.Ico 0 (copies d)) (sendTok (F := F) c d t)) ∗ Four (fun d t => bigSep (Finset.Ico 0 (credits d)) (giveTok c d t))
      ∗ Four (fun d t => bigSep (Finset.range 3) fun k => Release.readerAt ES (lane (nx (!d) c) d t k) 0)) := by
  have h1 : All (fun c => Four (laneTok (F := F) c)) ⊢ iprop(All (fun c => Four fun d t => bigSep (Finset.Ico 0 (copies d)) (fun j => dutyTok ER (Scell c d t j) (j / 4) 0))
      ∗ All (fun c => Four fun d t => bigSep (Finset.Ico 0 (copies d)) (fun j => dutyTok ER (Rcell c d t j) (j / 4) 0))
      ∗ All (fun c => Four fun d t => bigSep (Finset.Ico 0 (credits d)) (fun j => dutyTok ER (Ccell c d t) 0 j))) := by
    rw [← all_sep, ← all_sep]
    refine bigSep_mono fun c _ => ?_
    have e := four_unsep (F := F) (fun d t => bigSep (Finset.Ico 0 (copies d)) (fun j => dutyTok ER (Scell c d t j) (j / 4) 0))
      (fun d t => iprop(bigSep (Finset.Ico 0 (copies d)) (fun j => dutyTok ER (Rcell c d t j) (j / 4) 0) ∗ bigSep (Finset.Ico 0 (credits d)) (fun j => dutyTok ER (Ccell c d t) 0 j)))
    have e' := four_unsep (F := F) (fun d t => bigSep (Finset.Ico 0 (copies d)) (fun j => dutyTok ER (Rcell c d t j) (j / 4) 0))
      (fun d t => bigSep (Finset.Ico 0 (credits d)) (fun j => dutyTok ER (Ccell c d t) 0 j))
    show Four (laneTok (F := F) c) ⊢ iprop(Four (fun d t => bigSep (Finset.Ico 0 (copies d)) (fun j => dutyTok ER (Scell c d t j) (j / 4) 0))
      ∗ Four (fun d t => bigSep (Finset.Ico 0 (copies d)) (fun j => dutyTok ER (Rcell c d t j) (j / 4) 0)) ∗ Four (fun d t => bigSep (Finset.Ico 0 (credits d)) (fun j => dutyTok ER (Ccell c d t) 0 j)))
    iintro H
    icases e $$ [H] with ⟨HS, H⟩
    · iexact H
    icases e' $$ H with ⟨HR, HC⟩
    isplitl [HS]; · iexact HS
    isplitl [HR]; · iexact HR
    iexact HC
  have h2 : All (fun c => Four fun d t => bigSep (Finset.Ico 0 (copies d)) fun j => Release.readerAt ES (lane c d t j) 0)
      ⊢ iprop(All (fun c => Four fun d t => bigSep (Finset.range 3) fun k => Release.readerAt ES (lane (nx (!d) c) d t k) 0)
        ∗ All (fun c => Four fun d t => bigSep (Finset.Ico 0 (credits d)) fun j => (Release.readerAt ES (lane (nx (!d) c) d t (j + 3)) 0 : sProp (MT nD τ sig ℕ (Elt F) ℕ UU ℕ)))) := by
    rw [all_four_turn (fun d => turn (!d)) (fun c d t => bigSep (Finset.Ico 0 (copies d)) fun j => Release.readerAt ES (lane c d t j) 0), ← all_sep]
    refine bigSep_mono fun c _ => ?_
    refine (four_mono fun d t => ?_).trans (four_unsep _ _)
    have e := ico_three (F := F) (fun j => Release.readerAt ES (lane (nx (!d) c) d t j) 0) (credits d)
    rw [credits_copies] at e
    exact e
  have h3 : iprop(All (fun c => Four fun d t => bigSep (Finset.Ico 0 (copies d)) (fun j => dutyTok ER (Scell c d t j) (j / 4) 0))
      ∗ All (fun c => Four fun d t => bigSep (Finset.Ico 0 (copies d)) (fun j => dutyTok ER (Rcell c d t j) (j / 4) 0))
      ∗ All (fun c => Four fun d t => bigSep (Finset.Ico 0 (copies d)) fun j => Release.writeTok ES (lane c d t j) 1))
      ⊢ All fun c => Four fun d t => bigSep (Finset.Ico 0 (copies d)) (sendTok (F := F) c d t) := by
    rw [all_four_turn (fun d => turn d) (fun c d t => bigSep (Finset.Ico 0 (copies d)) (fun j => dutyTok ER (Rcell c d t j) (j / 4) 0)), ← all_sep, ← all_sep]
    refine bigSep_mono fun c _ => ?_
    have e : ∀ d t, iprop(bigSep (Finset.Ico 0 (copies d)) (fun j => dutyTok ER (Scell c d t j) (j / 4) 0)
        ∗ bigSep (Finset.Ico 0 (copies d)) (fun j => dutyTok ER (Rcell (nx d c) d t j) (j / 4) 0) ∗ bigSep (Finset.Ico 0 (copies d)) fun j => Release.writeTok ES (lane c d t j) 1)
        ⊢ bigSep (Finset.Ico 0 (copies d)) (sendTok (F := F) c d t) := fun d t => by
      rw [← bigSep_sep', ← bigSep_sep']
      exact .rfl
    show iprop((Four fun d t => bigSep (Finset.Ico 0 (copies d)) (fun j => dutyTok ER (Scell c d t j) (j / 4) 0))
      ∗ (Four fun d t => bigSep (Finset.Ico 0 (copies d)) (fun j => dutyTok ER (Rcell (nx d c) d t j) (j / 4) 0)) ∗ Four fun d t => bigSep (Finset.Ico 0 (copies d)) fun j => Release.writeTok ES (lane c d t j) 1)
      ⊢ Four fun d t => bigSep (Finset.Ico 0 (copies d)) (sendTok (F := F) c d t)
    iintro ⟨HS, HR, HW⟩
    iapply (four_mono (F := F) e)
    iapply (four_sep (F := F) _ _)
    isplitl [HS]; · iexact HS
    iapply (four_sep (F := F) _ _)
    isplitl [HR]; · iexact HR
    iexact HW
  have h4 : iprop(All (fun c => Four fun d t => bigSep (Finset.Ico 0 (credits d)) (fun j => dutyTok ER (Ccell c d t) 0 j))
      ∗ All (fun c => Four fun d t => bigSep (Finset.Ico 0 (credits d)) fun j => (Release.readerAt ES (lane (nx (!d) c) d t (j + 3)) 0 : sProp (MT nD τ sig ℕ (Elt F) ℕ UU ℕ))))
      ⊢ All fun c => Four fun d t => bigSep (Finset.Ico 0 (credits d)) (giveTok (F := F) c d t) := by
    rw [all_four_turn (fun d => turn (!d)) (fun c d t => bigSep (Finset.Ico 0 (credits d)) (fun j => dutyTok ER (Ccell c d t) 0 j)), ← all_sep]
    refine bigSep_mono fun c _ => ?_
    have e : ∀ d t, iprop(bigSep (Finset.Ico 0 (credits d)) (fun j => dutyTok ER (Ccell (nx (!d) c) d t) 0 j)
        ∗ bigSep (Finset.Ico 0 (credits d)) fun j => Release.readerAt ES (lane (nx (!d) c) d t (j + 3)) 0)
        ⊢ bigSep (Finset.Ico 0 (credits d)) (giveTok (F := F) c d t) := fun d t => by
      rw [← bigSep_sep']
      exact .rfl
    show iprop((Four fun d t => bigSep (Finset.Ico 0 (credits d)) (fun j => dutyTok ER (Ccell (nx (!d) c) d t) 0 j))
      ∗ Four fun d t => bigSep (Finset.Ico 0 (credits d)) fun j => Release.readerAt ES (lane (nx (!d) c) d t (j + 3)) 0)
      ⊢ Four fun d t => bigSep (Finset.Ico 0 (credits d)) (giveTok (F := F) c d t)
    iintro ⟨HC, HR⟩
    iapply (four_mono (F := F) e)
    iapply (four_sep (F := F) _ _)
    isplitl [HC]; · iexact HC
    iexact HR
  rw [all_sep, all_sep]
  iintro ⟨HT, HW, HR⟩
  icases h1 $$ HT with ⟨HtS, HtR, HtC⟩
  icases h2 $$ HR with ⟨HR3, HR⟩
  isplitl [HtS HtR HW]
  · iapply h3
    isplitl [HtS]; · iexact HtS
    isplitl [HtR]; · iexact HtR
    iexact HW
  isplitl [HtC HR]
  · iapply h4
    isplitl [HtC]; · iexact HtC
    iexact HR
  iexact HR3

theorem deal_spots : iprop(All (fun c => bigSep Finset.univ (fun p => (dutyTok ER (cell c (.aS p)) 0 0 : sProp (MT nD τ sig ℕ (Elt F) ℕ UU ℕ)))) ∗ All (fun c => bigSep Finset.univ fun p => dutyTok ER (cell c (.aR p)) 0 0)
      ∗ All (fun c => bigSep Finset.univ fun o => Release.writeTok ES (spot c o) 1) ∗ All (fun c => bigSep Finset.univ fun o => Release.readerAt ES (spot c o) 0))
    ⊢ All fun c => iprop(bigSep (Finset.univ.erase c) (fun o => iprop(dutyTok ER (cell c (.aS o)) 0 0 ∗ dutyTok ER (cell o (.aR c)) 0 0 ∗ Release.writeTok ES (spot c o) 1))
      ∗ Release.writeTok ES (spot c c) 1 ∗ bigSep Finset.univ fun p => Release.readerAt ES (spot p c) 0) := by
  have hR : All (fun c => bigSep Finset.univ fun p => (dutyTok ER (cell c (.aR p)) 0 0 : sProp (MT nD τ sig ℕ (Elt F) ℕ UU ℕ))) = All fun c => bigSep Finset.univ fun o : Dev nD => dutyTok ER (cell o (.aR c)) 0 0 :=
    bigSep_univ_comm fun (c : Dev nD) (p : Dev nD) => (dutyTok ER (cell c (.aR p)) 0 0 : sProp (MT nD τ sig ℕ (Elt F) ℕ UU ℕ))
  have hr : All (fun c => bigSep Finset.univ fun o : Dev nD => (Release.readerAt ES (spot c o) 0 : sProp (MT nD τ sig ℕ (Elt F) ℕ UU ℕ))) = All fun c => bigSep Finset.univ fun p : Dev nD => Release.readerAt ES (spot p c) 0 :=
    bigSep_univ_comm fun (c : Dev nD) (p : Dev nD) => (Release.readerAt ES (spot c p) 0 : sProp (MT nD τ sig ℕ (Elt F) ℕ UU ℕ))
  rw [hR, hr, ← all_sep, ← all_sep, ← all_sep]
  refine bigSep_mono fun c _ => ?_
  have hs : (Finset.univ.erase c : Finset (Dev nD)) ⊆ Finset.univ := Finset.subset_univ _
  show iprop(bigSep Finset.univ (fun p : Dev nD => dutyTok ER (cell c (.aS p)) 0 0) ∗ bigSep Finset.univ (fun o : Dev nD => dutyTok ER (cell o (.aR c)) 0 0)
    ∗ bigSep Finset.univ (fun o : Dev nD => Release.writeTok ES (spot c o) 1) ∗ bigSep Finset.univ fun p : Dev nD => Release.readerAt ES (spot p c) 0) ⊢ _
  rw [bigSep_sep', bigSep_sep']
  iintro ⟨HS, HR, HW, Hr⟩
  icases (Entails.of_eq (bigSep_univ_at (fun o : Dev nD => (Release.writeTok ES (spot c o) 1 : sProp (MT nD τ sig ℕ (Elt F) ℕ UU ℕ))) c)) $$ HW with ⟨Hw, HW⟩
  isplitl [HS HR HW]
  · isplitl [HS]; · iapply (sub_mono (F := F) hs _) $$ HS
    isplitl [HR]; · iapply (sub_mono (F := F) hs _) $$ HR
    iexact HW
  isplitl [Hw]; · iexact Hw
  iexact Hr

/-- The launch's tokens and slots, dealt. -/
theorem deal : iprop(bigSep talkToks (fun x => (dutyTok ER x.1 x.2.1 x.2.2 : sProp (MT nD τ sig ℕ (Elt F) ℕ UU ℕ))) ∗ bigSep Finset.univ (fun k => Release.readerAt ES k 0)
      ∗ bigSep (Finset.univ ×ˢ Finset.range 1) (fun x : Key × ℕ => Release.writeTok ES x.1 (x.2 + 1)))
    ⊢ All (Dealt (F := F)) := by
  have hw : bigSep (Finset.univ ×ˢ Finset.range 1) (fun x : Key × ℕ => (Release.writeTok ES x.1 (x.2 + 1) : sProp (MT nD τ sig ℕ (Elt F) ℕ UU ℕ))) = bigSep Finset.univ fun k => Release.writeTok ES k 1 := by
    rw [Finset.range_one, Finset.product_singleton, bigSep_map]
    rfl
  have hb : iprop(All (fun c => (dutyTok ER (cell c .bar) 0 0 : sProp (MT nD τ sig ℕ (Elt F) ℕ UU ℕ))) ∗ All fun c => dutyTok ER (cell c .bar) 0 1)
      ⊢ All fun c => iprop(dutyTok ER (cell (nx true c) .bar) 0 0 ∗ dutyTok ER (cell (nx false c) .bar) 0 1) := by
    rw [all_sep, all_turn (turn true) (fun c => dutyTok ER (cell c .bar) 0 0), all_turn (turn false) (fun c => dutyTok ER (cell c .bar) 0 1)]
    exact .rfl
  have hD : iprop(All (fun c => iprop(dutyTok ER (cell (nx true c) .bar) 0 0 ∗ dutyTok ER (cell (nx false c) .bar) 0 1))
      ∗ All (fun c => iprop(Four (fun d t => bigSep (Finset.Ico 0 (copies d)) (sendTok (F := F) c d t)) ∗ Four (fun d t => bigSep (Finset.Ico 0 (credits d)) (giveTok c d t))
      ∗ Four (fun d t => bigSep (Finset.range 3) fun k => Release.readerAt ES (lane (nx (!d) c) d t k) 0)))
      ∗ All fun c => iprop(bigSep (Finset.univ.erase c) (fun o => iprop(dutyTok ER (cell c (.aS o)) 0 0 ∗ dutyTok ER (cell o (.aR c)) 0 0 ∗ Release.writeTok ES (spot c o) 1))
      ∗ Release.writeTok ES (spot c c) 1 ∗ bigSep Finset.univ fun p => Release.readerAt ES (spot p c) 0)) ⊢ All (Dealt (F := F)) := by
    rw [← all_sep, ← all_sep]
    exact .rfl
  have ht := toks_all (F := F)
  rw [all_sep, all_sep, all_sep, all_sep] at ht
  have hr := keys_own (F := F) fun k => Release.readerAt ES k 0
  have hv := keys_own (F := F) fun k => Release.writeTok ES k 1
  rw [all_sep] at hr hv
  rw [hw]
  iintro ⟨HT, HR, HW⟩
  icases ht $$ HT with ⟨Hb, Hl, HS, Hv⟩
  icases hr $$ HR with ⟨HR, Hr⟩
  icases hv $$ HW with ⟨HW, Hw⟩
  iapply hD
  isplitl [Hb]; · iapply hb $$ Hb
  isplitl [Hl HR HW]
  · iapply (deal_lanes (F := F))
    isplitl [Hl]; · iexact Hl
    isplitl [HW]; · iexact HW
    iexact HR
  iapply (deal_spots (F := F))
  isplitl [HS]; · iexact HS
  isplitl [Hv]; · iexact Hv
  isplitl [Hw]; · iexact Hw
  iexact Hr

end Cert.KernelIdeal.Tidy
-- ==== Proof.Value.lean ====
module

public import proofs.«01_k».proof.Proof.Exch
public import proofs.«01_k».proof.Proof.Start

@[expose] public section

set_option maxRecDepth 100000

noncomputable section

namespace Cert.KernelIdeal.Tidy

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

/-! ## The result does not depend on what stood in its buffer -/

theorem bk_lt (o : Dev nD) (t : Fin 2) : 2 * o.val + t.val < 64 := by have := o.isLt; have := t.isLt; have h : nD = 32 := rfl; omega
/-- The strip of rows half `t` of block `o` makes. -/
def bk (o : Dev nD) (t : Fin 2) : Fin 64 := ⟨2 * o.val + t.val, bk_lt o t⟩
theorem strip_lt (i : S4096x64.Idx) : (i 0).val / 64 < 64 := by have h : (i 0).val < 4096 := (i 0).isLt; omega
/-- The strip an element lies in. -/
def strip (i : S4096x64.Idx) : Fin 64 := ⟨(i 0).val / 64, strip_lt i⟩

section value
variable {xs : (c : Dev nD) → Buf (Elt F) ((E₀.x).view.loc (c : Thread nD τ))} {c : Dev nD}
variable (w : Buf (Elt F) (E₀.w.view.loc (c : Thread nD τ)))

/-- Two results agree on the strips. -/
def Same (S : Finset (Fin 64)) (f g : Buf (Elt F) (E₀.out.view.loc (c : Thread nD τ))) : Prop := ∀ i : S4096x64.Idx, strip i ∈ S → f i = g i

theorem out_set (o : Dev nD) (t : Fin 2) (i : S4096x64.Idx) (h : strip i = bk o t) :
    i ∈ (E₀.out.access (Rect.unit (s := S4096x64) (rowOff o t) S64x64.size (row_inb o t))).setOn Finset.univ := by
  have e : (E₀.out.access (Rect.unit (s := S4096x64) (rowOff o t) S64x64.size (row_inb o t))).setOn Finset.univ
      = (Rect.unit (s := S4096x64) (rowOff o t) S64x64.size (row_inb o t)).set := View.set_slice_whole cc0_stg4_0 _
  rw [e, Rect.mem_set_unit]
  have h0 : (i 0).val / 64 = 2 * o.val + t.val := congrArg Fin.val h
  have h1 : (i 1).val < 64 := (i 1).isLt
  intro a
  fin_cases a
  · show 128 * o.val + 64 * t.val ≤ (i 0).val ∧ (i 0).val < 128 * o.val + 64 * t.val + 64
    omega
  · exact ⟨Nat.zero_le _, by show (i 1).val < 0 + 64; omega⟩

theorem put_same {S : Finset (Fin 64)} {f g : Buf (Elt F) (E₀.out.view.loc (c : Thread nD τ))} (h : Same S f g) (o : Dev nD) (t : Fin 2) (v : FVec F S64x64 .f32) :
    Same (insert (bk o t) S) (put f o t v) (put g o t v) := by
  intro i hi
  by_cases hm : i ∈ (E₀.out.access (Rect.unit (s := S4096x64) (rowOff o t) S64x64.size (row_inb o t))).setOn Finset.univ
  · obtain ⟨x, hx, rfl⟩ := Finset.mem_map.mp hm
    have a := View.write_emb_of_mem (Val := Elt F) (v := E₀.out.access (Rect.unit (s := S4096x64) (rowOff o t) S64x64.size (row_inb o t))) f v hx
    have b := View.write_emb_of_mem (Val := Elt F) (v := E₀.out.access (Rect.unit (s := S4096x64) (rowOff o t) S64x64.size (row_inb o t))) g v hx
    exact a.trans b.symm
  · refine (View.write_of_not_mem f v _ hm).trans (Eq.trans ?_ (View.write_of_not_mem g v _ hm).symm)
    refine h i ?_
    rcases Finset.mem_insert.mp hi with hi | hi
    · exact absurd (out_set o t i hi) hm
    · exact hi

/-- Both strips of a block more. -/
def bks (o : Dev nD) (S : Finset (Fin 64)) : Finset (Fin 64) := insert (bk o 1) (insert (bk o 0) S)

theorem gem_same {S : Finset (Fin 64)} {st st' : Buf (Elt F) (E₀.out.view.loc (c : Thread nD τ)) × F .f32} (h : Same S st.1 st'.1) (o : Dev nD) :
    Same (bks o S) (gem xs w o st).1 (gem xs w o st').1 := put_same (put_same h o 0 _) o 1 _

theorem gem_snd {st st' : Buf (Elt F) (E₀.out.view.loc (c : Thread nD τ)) × F .f32} (h : st.2 = st'.2) (o : Dev nD) :
    (gem xs w o st).2 = (gem xs w o st').2 := by
  show amax (amax st.2 _) _ = amax (amax st'.2 _) _
  rw [h]

/-- The strips made after the steps left. -/
def runBks (c : Dev nD) : ℕ → Finset (Fin 64) → Finset (Fin 64)
  | 0, S => S
  | n + 1, S => runBks c n (bks (org false (15 - n) c) (bks (org true (15 - n) c) S))

theorem run_same : ∀ (n : ℕ) {S : Finset (Fin 64)} {st st' : Buf (Elt F) (E₀.out.view.loc (c : Thread nD τ)) × F .f32}, Same S st.1 st'.1 →
    Same (runBks c n S) (run xs w n st).1 (run xs w n st').1
  | 0, _, _, _, h => h
  | n + 1, _, _, _, h => run_same n (gem_same w (gem_same w h _) _)

theorem run_snd : ∀ (n : ℕ) {st st' : Buf (Elt F) (E₀.out.view.loc (c : Thread nD τ)) × F .f32}, st.2 = st'.2 → (run xs w n st).2 = (run xs w n st').2
  | 0, _, _, h => h
  | n + 1, _, _, h => run_snd n (gem_snd w (gem_snd w h _) _)

theorem all_bks : ∀ c : Dev nD, bks (org true 16 c) (runBks c 15 (bks c ∅)) = Finset.univ := by decide +kernel

/-- The result and the largest magnitude, whatever stood in the buffer. -/
theorem outcome_any (f g : Buf (Elt F) (E₀.out.view.loc (c : Thread nD τ))) : outcome xs w f = outcome xs w g := by
  have h0 : Same (S := bks c ∅) (gem xs w c (f, (Scalar.ofBits .f32 0x00000000#32 : F .f32))).1 (gem xs w c (g, (Scalar.ofBits .f32 0x00000000#32 : F .f32))).1 :=
    gem_same w (S := ∅) (fun _ h => absurd h (Finset.notMem_empty _)) c
  have h2 : (gem xs w c (f, (Scalar.ofBits .f32 0x00000000#32 : F .f32))).2 = (gem xs w c (g, (Scalar.ofBits .f32 0x00000000#32 : F .f32))).2 := gem_snd w rfl c
  have e1 := gem_same (xs := xs) w (run_same (xs := xs) w 15 h0) (org true 16 c)
  have e2 := gem_snd (xs := xs) w (run_snd (xs := xs) w 15 h2) (org true 16 c)
  rw [all_bks] at e1
  have e3 : (outcome xs w f).1 = (outcome xs w g).1 := funext fun i => e1 i (Finset.mem_univ _)
  exact Prod.ext e3 e2

variable (xs) in
/-- The result and the largest magnitude. -/
def total : Buf (Elt F) (E₀.out.view.loc (c : Thread nD τ)) × F .f32 := outcome xs w (fun _ => (Scalar.ofBits .f32 0x00000000#32 : F .f32))

theorem outcome_total (f : Buf (Elt F) (E₀.out.view.loc (c : Thread nD τ))) : outcome xs w f = total xs w := outcome_any w f _

end value

end Cert.KernelIdeal.Tidy
-- ==== Proof.BodyEq.lean ====
module

public import proofs.«01_k».proof.Proof.Prog

@[expose] public section

noncomputable section

namespace Cert.KernelIdeal.Tidy

open Idealize.ShloMosaic Idealize.ShloMosaic.TcCoe Idealize.SL.Sem
open Cert.KernelIdeal.Gen

variable {F : FTy → Type} [FloatOps F]

/-- The buffers and semaphores as the body's arguments name them. -/
abbrev envOf (arg0 : Memref sig .tc .vmem S128x4096 .f32) (harg0 : arg0.IsWhole) (arg1 : Memref sig .tc .vmem S4096x64 .f32) (harg1 : arg1.IsWhole) (arg2 : Memref sig .tc .smem S32 .i32) (harg2 : arg2.IsWhole) (arg3 : Memref sig .tc .smem S32 .i32) (harg3 : arg3.IsWhole) (arg4 : Memref sig .tc .vmem S4096x64 .f32) (harg4 : arg4.IsWhole) (arg5 : Memref sig .tc .vmem S4x128x4096 .f32) (harg5 : arg5.IsWhole) (arg6 : Memref sig .tc .vmem S4x128x4096 .f32) (harg6 : arg6.IsWhole) (arg7 : DmaSems sig S4x2) (arg8 : DmaSems sig S4x2) (arg9 : DmaSems sig S4x2) (arg10 : DmaSems sig S4x2) (arg11 : Sems sig S_) (arg12 : Sems sig S_) (arg13 : Sems sig S_) (arg14 : Sems sig S_) (arg15 : Memref sig .tc .vmem S1x8x128 .f32) (harg15 : arg15.IsWhole) (arg16 : Memref sig .tc .vmem S32x8x128 .f32) (harg16 : arg16.IsWhole) (arg17 : DmaSems sig S32) (arg18 : DmaSems sig S32) : Env :=
  ⟨arg0, arg1, arg2, arg3, arg4, fun | true => arg5 | false => arg6, fun | true => arg7 | false => arg9,
    fun | true => arg8 | false => arg10, fun | true => ![arg11, arg12] | false => ![arg13, arg14], arg15, arg16, arg17, arg18⟩

set_option maxRecDepth 1000000 in
set_option maxHeartbeats 40000000 in
/-- The printed body, up to the exchange of maxima, is the structured program; the exchange and the
    scaling follow as printed. -/
theorem body_eq (arg0 : Memref sig .tc .vmem S128x4096 .f32) (harg0 : arg0.IsWhole) (arg1 : Memref sig .tc .vmem S4096x64 .f32) (harg1 : arg1.IsWhole) (arg2 : Memref sig .tc .smem S32 .i32) (harg2 : arg2.IsWhole) (arg3 : Memref sig .tc .smem S32 .i32) (harg3 : arg3.IsWhole) (arg4 : Memref sig .tc .vmem S4096x64 .f32) (harg4 : arg4.IsWhole) (arg5 : Memref sig .tc .vmem S4x128x4096 .f32) (harg5 : arg5.IsWhole) (arg6 : Memref sig .tc .vmem S4x128x4096 .f32) (harg6 : arg6.IsWhole) (arg7 : DmaSems sig S4x2) (arg8 : DmaSems sig S4x2) (arg9 : DmaSems sig S4x2) (arg10 : DmaSems sig S4x2) (arg11 : Sems sig S_) (arg12 : Sems sig S_) (arg13 : Sems sig S_) (arg14 : Sems sig S_) (arg15 : Memref sig .tc .vmem S1x8x128 .f32) (harg15 : arg15.IsWhole) (arg16 : Memref sig .tc .vmem S32x8x128 .f32) (harg16 : arg16.IsWhole) (arg17 : DmaSems sig S32) (arg18 : DmaSems sig S32) : cc0_body_skel (F := F) arg0 harg0 arg1 harg1 arg2 harg2 arg3 harg3 arg4 harg4 arg5 harg5 arg6 harg6 arg7 arg8 arg9 arg10 arg11 arg12 arg13 arg14 arg15 harg15 arg16 harg16 arg17 arg18 = opening (envOf arg0 harg0 arg1 harg1 arg2 harg2 arg3 harg3 arg4 harg4 arg5 harg5 arg6 harg6 arg7 arg8 arg9 arg10 arg11 arg12 arg13 arg14 arg15 harg15 arg16 harg16 arg17 arg18) fun H => rings (envOf arg0 harg0 arg1 harg1 arg2 harg2 arg3 harg3 arg4 harg4 arg5 harg5 arg6 harg6 arg7 arg8 arg9 arg10 arg11 arg12 arg13 arg14 arg15 harg15 arg16 harg16 arg17 arg18) H fun v2673 =>
  let d0 := H.d0
  let v2 : BitVec 32 := Scalar.remsi (Scalar.divsi (Dev.word H.d0) 1#32) 32#32
  Prog.bind (do
    let v2733 : BitVec 32 ← k0_part105 arg0 harg0 arg1 harg1 arg2 harg2 arg3 harg3 arg4 harg4 arg5 harg5 arg6 harg6 arg7 arg8 arg9 arg10 arg11 arg12 arg13 arg14 arg15 harg15 arg16 harg16 arg17 arg18 d0 v2 v2673
    let v2763 : BitVec 32 ← k0_part106 arg0 harg0 arg1 harg1 arg2 harg2 arg3 harg3 arg4 harg4 arg5 harg5 arg6 harg6 arg7 arg8 arg9 arg10 arg11 arg12 arg13 arg14 arg15 harg15 arg16 harg16 arg17 arg18 d0 v2 v2733
    let v2793 : BitVec 32 ← k0_part107 arg0 harg0 arg1 harg1 arg2 harg2 arg3 harg3 arg4 harg4 arg5 harg5 arg6 harg6 arg7 arg8 arg9 arg10 arg11 arg12 arg13 arg14 arg15 harg15 arg16 harg16 arg17 arg18 d0 v2 v2763
    let ⟨v2822, c0_i32_3174⟩ : Σ' (v2822 : BitVec 32), BitVec 32 ← k0_part108 arg0 harg0 arg1 harg1 arg2 harg2 arg3 harg3 arg4 harg4 arg5 harg5 arg6 harg6 arg7 arg8 arg9 arg10 arg11 arg12 arg13 arg14 arg15 harg15 arg16 harg16 arg17 arg18 d0 v2 v2793
    let ⟨v2852, c0_i32_3194⟩ : Σ' (v2852 : BitVec 32), BitVec 32 ← k0_part109 arg0 harg0 arg1 harg1 arg2 harg2 arg3 harg3 arg4 harg4 arg5 harg5 arg6 harg6 arg7 arg8 arg9 arg10 arg11 arg12 arg13 arg14 arg15 harg15 arg16 harg16 arg17 arg18 v2 v2822 c0_i32_3174
    let ⟨v2882, c0_i32_3214⟩ : Σ' (v2882 : BitVec 32), BitVec 32 ← k0_part110 arg0 harg0 arg1 harg1 arg2 harg2 arg3 harg3 arg4 harg4 arg5 harg5 arg6 harg6 arg7 arg8 arg9 arg10 arg11 arg12 arg13 arg14 arg15 harg15 arg16 harg16 arg17 arg18 v2 v2852 c0_i32_3194
    let v2911 : Vec F S32x8x128 .f32 ← k0_part111 arg0 harg0 arg1 harg1 arg2 harg2 arg3 harg3 arg4 harg4 arg5 harg5 arg6 harg6 arg7 arg8 arg9 arg10 arg11 arg12 arg13 arg14 arg15 harg15 arg16 harg16 arg17 arg18 v2 v2882 c0_i32_3214
    pure (k0_pay125 v2911)) (fun v2916 => do
    let v2917 : Vec F S4096x64 .f32 ← Prog.lift (.load arg4 (Rect.unit (s := S4096x64) ![0, 0] S4096x64.size inb_S4096x64_S4096x64_0_0).toLoadRect (View.loadsAt_vmem h_S4096x64))
    let v2929 : Vec F S4096x64 .f32 ← Prog.lift (.load arg4 (Rect.unit (s := S4096x64) ![0, 0] S4096x64.size inb_S4096x64_S4096x64_0_0).toLoadRect (View.loadsAt_vmem h_S4096x64))
    Prog.lift (.store arg4 (Rect.unit (s := S4096x64) ![0, 0] S4096x64.size inb_S4096x64_S4096x64_0_0) (k0_pay1 v2916 v2917) Finset.univ (View.stores_vmem_bits_univ h_S4096x64 rfl) (.inl rfl))
    pure ⟨⟩) := rfl

end Cert.KernelIdeal.Tidy
-- ==== Proof.Body.lean ====
module

public import proofs.«01_k».proof.Proof.Open
public import proofs.«01_k».proof.Proof.Value
public import proofs.«01_k».proof.Proof.BodyEq
public import proofs.«01_k».proof.Proof.BodyEq

@[expose] public section

set_option maxRecDepth 100000

noncomputable section

namespace Cert.KernelIdeal.Tidy

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

/-! ## The body as a program of parts -/

/-- The scaling of the output by the global maximum. -/
def scaleBy (m : F .f32) : PR F PUnit :=
  .op (.load E₀.out (Rect.unit (s := S4096x64) ![0, 0] S4096x64.size inb_S4096x64_S4096x64_0_0).toLoadRect (View.loadsAt_vmem h_S4096x64)) fun v =>
  .op (.load E₀.out (Rect.unit (s := S4096x64) ![0, 0] S4096x64.size inb_S4096x64_S4096x64_0_0).toLoadRect (View.loadsAt_vmem h_S4096x64)) fun _ =>
  .op (.store E₀.out (Rect.unit (s := S4096x64) ![0, 0] S4096x64.size inb_S4096x64_S4096x64_0_0) (k0_pay1 m v) Finset.univ (View.stores_vmem_bits_univ h_S4096x64 rfl) (.inl rfl)) fun _ =>
  .ret ⟨⟩

/-- The printed body: the opening, the rings, the exchange of the maxima, the scaling. -/
theorem body_prog (h0 h1 h2 h3 h4 h5 h6 h15 h16) :
    cc0_body (F := F) (Memref.whole cc0_stg0_0) h0 (Memref.whole cc0_stg1_0) h1 (Memref.whole cc0_stg2_0) h2 (Memref.whole cc0_stg3_0) h3 (Memref.whole cc0_stg4_0) h4 (Memref.whole cc0_scratch0) h5 (Memref.whole cc0_scratch1) h6 cc0_scratch2 cc0_scratch3 cc0_scratch4 cc0_scratch5 cc0_scratch6 cc0_scratch7 cc0_scratch8 cc0_scratch9 (Memref.whole cc0_scratch10) h15 (Memref.whole cc0_scratch11) h16 cc0_scratch12 cc0_scratch13
      = opening E₀ fun H => rings E₀ H fun a => exchange H.d0 a scaleBy := by
  rw [cc0_body_eq_skeleton, body_eq]
  refine congrArg (opening E₀) (funext fun H => congrArg (rings E₀ H) (funext fun a => ?_))
  exact exchange_eq h0 h1 h2 h3 h4 h5 h6 h15 h16 H.d0 a scaleBy

section scale
variable (c : Dev nD) {Q : PUnit → sProp (MT nD τ sig ℕ (Elt F) ℕ UU ℕ)}

/-- The output scaled. -/
def scaled (m : F .f32) (f : Buf (Elt F) (E₀.out.view.loc (c : Thread nD τ))) : Buf (Elt F) (E₀.out.view.loc (c : Thread nD τ)) :=
  k0_pay1 (F := F) m f

theorem scale_eq (m : F .f32) (f : Buf (Elt F) (E₀.out.view.loc (c : Thread nD τ))) :
    (pts c E₀.out (View.write (Elt F) (E₀.out.access (Rect.unit (s := S4096x64) ![0, 0] S4096x64.size inb_S4096x64_S4096x64_0_0)) f
      (k0_pay1 m (View.read (Elt F) (E₀.out.access (Rect.unit (s := S4096x64) ![0, 0] S4096x64.size inb_S4096x64_S4096x64_0_0)) f)) Finset.univ) : sProp (MT nD τ sig ℕ (Elt F) ℕ UU ℕ))
      = pts c E₀.out (scaled c m f) := by
  have z : ∀ i : Fin 2, (![0, 0] : Fin 2 → ℕ) i = 0 := by decide
  have e1 : View.read (Elt F) (E₀.out.access (Rect.unit (s := S4096x64) ![0, 0] S4096x64.size inb_S4096x64_S4096x64_0_0)) f = f :=
    Memref.read_access_unit_zero (Elt F) cc0_stg4_0 (funext z) _ f
  have e2 : ∀ v : Vec F S4096x64 .f32, View.write (Elt F) (E₀.out.access (Rect.unit (s := S4096x64) ![0, 0] S4096x64.size inb_S4096x64_S4096x64_0_0)) f v Finset.univ = v :=
    fun v => Memref.write_access_unit_zero_univ (Elt F) cc0_stg4_0 (funext z) _ f v
  rw [e1, e2]
  rfl

theorem wp_scale (m : F .f32) (f : Buf (Elt F) (E₀.out.view.loc (c : Thread nD τ))) :
    pts c E₀.out f ⊢ iprop((pts c E₀.out (scaled c m f) -∗ Q ⟨⟩)
      -∗ wp frame (wpE (defs₀ (F := F)) 𝒱₀ (c : Thread nD τ) none) Set.univ (scaleBy m) Q) := by
  unfold scaleBy
  iintro H Hk
  iapply (wp_load_rect 𝒱₀ (c : Thread nD τ) none Set.univ (m := E₀.out) (r := Rect.unit (s := S4096x64) ![0, 0] S4096x64.size inb_S4096x64_S4096x64_0_0) (S := Finset.univ) (q := fullShare) (f := f) (by exact Finset.subset_univ _)) $$ H
  iintro H
  iapply (wp_load_rect 𝒱₀ (c : Thread nD τ) none Set.univ (m := E₀.out) (r := Rect.unit (s := S4096x64) ![0, 0] S4096x64.size inb_S4096x64_S4096x64_0_0) (S := Finset.univ) (q := fullShare) (f := f) (by exact Finset.subset_univ _)) $$ H
  iintro H
  iapply (wp_store 𝒱₀ (c : Thread nD τ) none Set.univ (m := E₀.out) (r := Rect.unit (s := S4096x64) ![0, 0] S4096x64.size inb_S4096x64_S4096x64_0_0) (S := Finset.univ) (f := f) (by exact Finset.subset_univ _)) $$ H
  iintro H
  rw [wp_ret]
  imodintro
  iapply Hk
  iapply (Entails.of_eq (scale_eq c m f))
  iexact H

end scale

section whole
variable {xs : (c : Dev nD) → Buf (Elt F) ((E₀.x).view.loc (c : Thread nD τ))} (ws : (c : Dev nD) → Buf (Elt F) ((E₀.w).view.loc (c : Thread nD τ)))
variable {κ : Dev nD → Kind → ℕ} {ι : Key → ℕ}

variable (xs) in
/-- Every device's largest magnitude. -/
def maxOf (c : Dev nD) : F .f32 := (total xs (ws c)).2

variable (xs) in
/-- What a device's output buffer ends with. -/
def ends (c : Dev nD) : Buf (Elt F) (E₀.out.view.loc (c : Thread nD τ)) := scaled c (k0_pay125 (planes (maxOf xs ws))) (total xs (ws c)).1

variable {I : sProp (MT nD τ sig ℕ (Elt F) ℕ UU ℕ)} [BI.Persistent I] (Kn : Known xs (flat (maxOf xs ws)) κ ι I) (c : Dev nD)
variable (T : Buf (Elt F) (E₀.r2m.view.loc (c : Thread nD τ))) (hT : IsTab c E₀.r2m T tabAt)
variable (M : Buf (Elt F) (E₀.m2r.view.loc (c : Thread nD τ))) (hM : IsTab c E₀.m2r M tabPos)
variable {Q : PUnit → sProp (MT nD τ sig ℕ (Elt F) ℕ UU ℕ)}

/-- The maxima's cells at the end. -/
theorem max_over (c : Dev nD) : iprop(bigSep (Finset.univ.erase c) (amOver (F := F) c) ∗ atPos ER (cell c (.aS c)) 0 ∅ 0 ∗ atPos ER (cell c (.aR c)) 0 ∅ 0)
    ⊢ iprop(bigSep Finset.univ (fun p : Fin 32 => Over (F := F) c (.aS p)) ∗ bigSep Finset.univ fun p : Fin 32 => Over (F := F) c (.aR p)) := by
  have h : bigSep (Finset.univ.erase c) (amOver (F := F) c) ⊢ iprop(bigSep (Finset.univ.erase c) (fun p : Fin 32 => Over (F := F) c (.aS p)) ∗ bigSep (Finset.univ.erase c) fun p : Fin 32 => Over (F := F) c (.aR p)) := by
    rw [← bigSep_sep']
    refine bigSep_mono fun p _ => ?_
    show amOver (F := F) c p ⊢ iprop(Over c (.aS p) ∗ Over c (.aR p))
    unfold amOver
    iintro ⟨Hr, Hs⟩
    isplitl [Hs]
    · iapply (over_aS (F := F) c p); iexact Hs
    iapply (over_aR (F := F) c p); iexact Hr
  rw [bigSep_univ_at (fun p : Fin 32 => Over (F := F) c (.aS p)) c, bigSep_univ_at (fun p : Fin 32 => Over (F := F) c (.aR p)) c]
  show _ ⊢ iprop((Over c (.aS c) ∗ bigSep (Finset.univ.erase c) fun p : Fin 32 => Over (F := F) c (.aS p)) ∗ (Over c (.aR c) ∗ bigSep (Finset.univ.erase c) fun p : Fin 32 => Over (F := F) c (.aR p)))
  iintro ⟨H, Hs, Hr⟩
  icases h $$ H with ⟨HS, HR⟩
  isplitl [HS Hs]
  · isplitl [Hs]
    · iapply (over_aS_own (F := F) c); iexact Hs
    iexact HS
  isplitl [Hr]
  · iapply (over_aR_own (F := F) c); iexact Hr
  iexact HR

/-- A lane's cells are closed together. -/
theorem lane_cells (Φ : Kind → sProp (MT nD τ sig ℕ (Elt F) ℕ UU ℕ)) (d : Bool) (t : Fin 2) : laneCells Φ d t
    ⊢ iprop((bigSep Finset.univ (fun a => Φ (.S d t a)) ∗ bigSep Finset.univ (fun a => Φ (.R d t a))) ∗ Φ (.C d t)) := by
  unfold laneCells
  iintro ⟨A, B, C⟩
  isplitr [C]
  · isplitl [A]; · iexact A
    iexact B
  iexact C

/-- All the ended lanes. -/
theorem lanes_end (c : Dev nD) : iprop(LaneEnd xs c true 0 ∗ LaneEnd xs c true 1 ∗ LaneEnd xs c false 0 ∗ LaneEnd xs c false 1)
    ⊢ iprop((Four fun d t => iprop((bigSep Finset.univ (fun a => Over (F := F) c (.S d t a)) ∗ bigSep Finset.univ (fun a => Over (F := F) c (.R d t a))) ∗ Over (F := F) c (.C d t)))
      ∗ commAny c true ∗ commAny c false ∗ Four (sendPay xs c · · 0)) := by
  iintro ⟨A, B, C, D⟩
  icases (lane_end (xs := xs) c true 0) $$ A with ⟨A1, A2, A3, -⟩
  icases (lane_end (xs := xs) c true 1) $$ B with ⟨B1, B2, B3, -⟩
  icases (lane_end (xs := xs) c false 0) $$ C with ⟨C1, C2, C3, -⟩
  icases (lane_end (xs := xs) c false 1) $$ D with ⟨D1, D2, D3, -⟩
  isplitl [A1 B1 C1 D1]
  · unfold Four
    isplitl [A1]; · iapply (lane_cells (Over (F := F) c) true 0); iexact A1
    isplitl [B1]; · iapply (lane_cells (Over (F := F) c) true 1); iexact B1
    isplitl [C1]; · iapply (lane_cells (Over (F := F) c) false 0); iexact C1
    iapply (lane_cells (Over (F := F) c) false 1); iexact D1
  isplitl [A2 B2]
  · iapply (comm_in (F := F) c true)
    isplitl [A2]; · iexact A2
    iexact B2
  isplitl [C2 D2]
  · iapply (comm_in (F := F) c false)
    isplitl [C2]; · iexact C2
    iexact D2
  unfold Four
  isplitl [A3]; · iexact A3
  isplitl [B3]; · iexact B3
  isplitl [C3]; · iexact C3
  iexact D3

/-- Two ended lanes know all the places of a device's maximum. -/
theorem lanes_spots (c : Dev nD) : iprop(LaneEnd xs c true 0 ∗ LaneEnd xs c false 0) ⊢ mySpots c := by
  iintro ⟨A, C⟩
  icases (lane_end (xs := xs) c true 0) $$ A with ⟨-, -, -, #A⟩
  icases (lane_end (xs := xs) c false 0) $$ C with ⟨-, -, -, #C⟩
  iapply (spots_known (F := F) c)
  isplitr; · iexact A
  iexact C

/-- What the body takes. -/
def bodyPre (c : Dev nD) (T : Buf (Elt F) (E₀.r2m.view.loc (c : Thread nD τ))) (M : Buf (Elt F) (E₀.m2r.view.loc (c : Thread nD τ))) (f : Buf (Elt F) (E₀.out.view.loc (c : Thread nD τ))) : sProp (MT nD τ sig ℕ (Elt F) ℕ UU ℕ) :=
  iprop(Talk c ∗ Scratch c ∗ pts c E₀.x (xs c) ∗ pts c E₀.w (ws c) ∗ pts c E₀.r2m T ∗ pts c E₀.m2r M ∗ pts c E₀.out f
    ∗ Owe c (ringDebt (amDebts c (List.finRange 32))))

/-- What the body leaves. -/
def bodyPost (c : Dev nD) (T : Buf (Elt F) (E₀.r2m.view.loc (c : Thread nD τ))) (M : Buf (Elt F) (E₀.m2r.view.loc (c : Thread nD τ))) : sProp (MT nD τ sig ℕ (Elt F) ℕ UU ℕ) :=
  iprop((bigSep Finset.univ fun s : SK => semVal (cell c (kd s)) 0) ∗ semVal (cell c .bar) 0 ∗ Scratch c ∗ pts c E₀.x (xs c) ∗ pts c E₀.w (ws c) ∗ pts c E₀.r2m T ∗ pts c E₀.m2r M
    ∗ pts c E₀.out (ends xs ws c) ∗ Owe c [])

include Kn hT hM in
/-- The body of one device. -/
theorem wp_body (f : Buf (Elt F) (E₀.out.view.loc (c : Thread nD τ))) :
    iprop(I ∗ bodyPre (xs := xs) ws c T M f)
      ⊢ iprop((bodyPost (xs := xs) ws c T M -∗ Q ⟨⟩)
        -∗ wp frame (wpE (defs₀ (F := F)) 𝒱₀ (c : Thread nD τ) none) Set.univ (opening E₀ fun H => rings E₀ H fun a => exchange H.d0 a scaleBy) Q) := by
  unfold bodyPre Talk Scratch
  iintro ⟨#HI, ⟨HL, Hsp, HB, Hws, Ham, Haw, HaS, HaR⟩, ⟨Hc1, Hc0, Hms, Hmb⟩, Hx, Hw, HT, HM, Ho, HO⟩ Hk
  iapply (wp_opening (Q := Q) c T hT M hM _) $$ [HT HM]
  · isplitl [HM]; · iexact HM
    iexact HT
  iintro ⟨HM, HT⟩
  icases (x_out (xs := xs) c) $$ Hx with ⟨Hx, Hxs, Hxr⟩
  icases (lanes_start (F := F) c) $$ [HL Hc1 Hc0] with ⟨HL, HG⟩
  · isplitl [HL]; · iexact HL
    isplitl [Hc1]; · iexact Hc1
    iexact Hc0
  ihave Hmb := (mb_out (F := F) c) $$ Hmb
  ihave Hsp := (spot_start (F := F) c) $$ [Hsp Hmb]
  · isplitl [Hsp]; · iexact Hsp
    iexact Hmb
  have hr := wp_rings (Q := Q) Kn c (ws c) T hT (PosShare.left fullShare) f (amDebts c (List.finRange 32)) (amDebts_above c _) (fun a => exchange c a scaleBy)
  rw [outcome_total] at hr
  iapply hr $$ [HL HG Hsp HB Hxs Hx HT Hw Ho HO]
  · isplitr; · iexact HI
    isplitl [HL]; · iexact HL
    isplitl [HG]; · iexact HG
    isplitl [Hsp]; · iexact Hsp
    isplitl [HB]; · iexact HB
    isplitl [Hxs]; · iexact Hxs
    isplitl [Hx]; · iexact Hx
    isplitl [HT Hw Ho]
    · unfold desk
      isplitl [HT]; · iexact HT
      isplitl [Hw]; · iexact Hw
      iexact Ho
    iexact HO
  iintro ⟨A, B, C, D, Hx, Hd, Hbar, HO⟩
  icases (show desk c (ws c) T (total xs (ws c)).1 ⊢ iprop(pts c E₀.r2m T ∗ pts c E₀.w (ws c) ∗ pts c E₀.out (total xs (ws c)).1) from .rfl) $$ Hd with ⟨HT, Hw, Ho⟩
  ihave #Hmy := (lanes_spots (xs := xs) c) $$ [A C]
  · isplitl [A]; · iexact A
    iexact C
  have he := wp_exchange (Q := Q) Kn c scaleBy
  iapply (show _ from he) $$ [B Hws Ham Haw Hms HO]
  · isplitr; · iexact HI
    isplitl [B]; · iexact B
    isplitr; · iexact Hmy
    isplitl [Hws]; · iexact Hws
    isplitl [Ham]; · iexact Ham
    isplitl [Haw]; · iexact Haw
    isplitl [Hms]; · iexact Hms
    iexact HO
  iintro ⟨B, Hms, Hmb, Hao, HO⟩
  iapply (fupd_wp frame (wpE (defs₀ (F := F)) 𝒱₀ (c : Thread nD τ) none) Set.univ)
  icases (lanes_end (xs := xs) c) $$ [A B C D] with ⟨HF, Hc1, Hc0, Hxs⟩
  · isplitl [A]; · iexact A
    isplitl [B]; · iexact B
    isplitl [C]; · iexact C
    iexact D
  imod (close_one Kn c .bar) $$ [Hbar] with Hbar
  · isplitr; · iexact HI
    iapply (over_bar (F := F) c); iexact Hbar
  imod (close_own Kn c) $$ [HF Hao HaS HaR] with Hown
  · isplitr; · iexact HI
    rw [own_eq (Over (F := F) c)]
    isplitl [HF]; · iexact HF
    iapply (max_over (F := F) c)
    isplitl [Hao]; · iexact Hao
    isplitl [HaS]; · iexact HaS
    iexact HaR
  imodintro
  iapply (wp_scale (Q := Q) c _ (total xs (ws c)).1) $$ Ho
  iintro Ho
  iapply Hk
  unfold bodyPost Scratch
  isplitl [Hown]; · iexact Hown
  isplitl [Hbar]; · iexact Hbar
  isplitl [Hc1 Hc0 Hms Hmb]
  · isplitl [Hc1]; · iexact Hc1
    isplitl [Hc0]; · iexact Hc0
    isplitl [Hms]; · iexact Hms
    iexact Hmb
  isplitl [Hx Hxs Hxr]
  · iapply (x_in (xs := xs) c)
    isplitl [Hx]; · iexact Hx
    isplitl [Hxs]; · iexact Hxs
    iexact Hxr
  isplitl [Hw]; · iexact Hw
  isplitl [HT]; · iexact HT
  isplitl [HM]; · iexact HM
  isplitl [Ho]; · iexact Ho
  iexact HO

end whole

end Cert.KernelIdeal.Tidy
-- ==== Proof.Seed.lean ====
module

public import proofs.«01_k».proof.Proof.Dealt
public import proofs.«01_k».proof.Proof.Body

@[expose] public section

set_option maxRecDepth 100000

noncomputable section

namespace Cert.KernelIdeal.Tidy

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

variable (xs : (c : Dev nD) → Buf (Elt F) ((E₀.x).view.loc (c : Thread nD τ))) (AM : Dev nD → S8x128.Idx → Elt F .f32)

/-- A cell at its first round. -/
abbrev began (c : Dev nD) (k : Kind) : sProp (MT nD τ sig ℕ (Elt F) ℕ UU ℕ) := reached ER (cell c k) 0

/-! ## The records every device may consult -/

/-- Every cell's and every place's invariant, every barrier at its first round, the levels. -/
def Recs (κ : GSem nD τ sig → ℕ) (ι : Key → ℕ) : sProp (MT nD τ sig ℕ (Elt F) ℕ UU ℕ) :=
  iprop((All (fun c => cellInv ER (Rd xs AM) (κ (cell c .bar)) (cell c .bar)) ∗ All fun c => bigSep Finset.univ fun s : SK => cellInv ER (Rd xs AM) (κ (cell c (kd s))) (cell c (kd s)))
    ∗ bigSep Finset.univ (placeInv ι) ∗ All (fun c => reached ER (cell c .bar) 0) ∗ levAts L lv)

instance recs_persistent (κ : GSem nD τ sig → ℕ) (ι : Key → ℕ) : BI.Persistent (Recs (F := F) xs AM κ ι) := by unfold Recs placeInv; infer_instance

theorem kd_onto : ∀ k : Kind, k = .bar ∨ ∃ s, kd s = k
  | .bar => .inl rfl
  | .S d t a => .inr ⟨.inl ((d, t), .inl (true, a)), rfl⟩
  | .R d t a => .inr ⟨.inl ((d, t), .inl (false, a)), rfl⟩
  | .C d t => .inr ⟨.inl ((d, t), .inr ()), rfl⟩
  | .aS p => .inr ⟨.inr (true, p), rfl⟩
  | .aR p => .inr ⟨.inr (false, p), rfl⟩

/-- The records are all that is asked of them. -/
theorem recs_known (κ : GSem nD τ sig → ℕ) (ι : Key → ℕ) : Known xs AM (fun c k => κ (cell c k)) ι (Recs (F := F) xs AM κ ι) := by
  refine ⟨fun c k => ?_, fun k => ?_, fun _ => ?_⟩
  · have h1 : All (fun c => cellInv ER (Rd xs AM) (κ (cell c .bar)) (cell c .bar)) ⊢ cellInv ER (Rd xs AM) (κ (cell c .bar)) (cell c .bar) :=
      bigSep_elim (Φ := fun c => cellInv ER (Rd xs AM) (κ (cell c .bar)) (cell c .bar)) (Finset.mem_univ c)
    have h2 : ∀ s, All (fun c => bigSep Finset.univ fun s : SK => cellInv ER (Rd xs AM) (κ (cell c (kd s))) (cell c (kd s))) ⊢ cellInv ER (Rd xs AM) (κ (cell c (kd s))) (cell c (kd s)) := fun s =>
      (bigSep_elim (Φ := fun c => bigSep Finset.univ fun s : SK => cellInv ER (Rd xs AM) (κ (cell c (kd s))) (cell c (kd s))) (Finset.mem_univ c)).trans
        (bigSep_elim (Φ := fun s : SK => cellInv ER (Rd xs AM) (κ (cell c (kd s))) (cell c (kd s))) (Finset.mem_univ s))
    unfold Recs
    rcases kd_onto k with rfl | ⟨s, rfl⟩
    · iintro ⟨⟨H, -⟩, -⟩
      iapply h1 $$ H
    · iintro ⟨⟨-, H⟩, -⟩
      iapply (h2 s) $$ H
  · have h : bigSep Finset.univ (placeInv ι) ⊢ placeInv (F := F) ι k := bigSep_elim (Φ := placeInv (F := F) ι) (Finset.mem_univ k)
    unfold Recs
    iintro ⟨-, H, -⟩
    iapply h $$ H
  · unfold Recs
    iintro ⟨-, -, -, H⟩
    iexact H

/-- What a device is dealt at the launch. -/
def Seed (c : Dev nD) : sProp (MT nD τ sig ℕ (Elt F) ℕ UU ℕ) :=
  iprop(Due c ∗ Dealt c ∗ atPos ER (cell c .bar) 0 ∅ 0 ∗ bigSep Finset.univ fun s : SK => openTok ER (cell c (kd s)))

/-- The semaphores as the launch lists them. -/
def osem (s : SK) : SemLoc sig := kindSem (kd s)

/-- The device's cells are taken into use. -/
theorem open_own (κ : GSem nD τ sig → ℕ) (ι : Key → ℕ) (c : Dev nD) :
    iprop(Recs xs AM κ ι ∗ bigSep Finset.univ (fun s : SK => openTok ER (cell c (kd s))) ∗ bigSep Finset.univ fun s : SK => semVal (cell c (kd s)) 0)
      ⊢ iprop(|={Set.univ}=> bigSep Finset.univ fun s : SK => iprop(atPos ER (cell c (kd s)) 0 ∅ 0 ∗ began (F := F) c (kd s))) := by
  have h : ∀ s : SK, iprop(Recs xs AM κ ι ∗ (openTok ER (cell c (kd s)) ∗ semVal (cell c (kd s)) 0)) ⊢ iprop(|={Set.univ}=> (atPos ER (cell c (kd s)) 0 ∅ 0 ∗ reached ER (cell c (kd s)) 0)) := fun s => by
    have hk := (recs_known (F := F) xs AM κ ι).cells c (kd s)
    iintro ⟨#HR, Ho, Hv⟩
    ihave #Hc := hk $$ HR
    iapply (Rounds.cell_open ER (Rd xs AM) (g := cell c (kd s)) (Set.mem_univ (κ (cell c (kd s)))))
    isplitr; · iexact Hc
    isplitl [Ho]; · iexact Ho
    iexact Hv
  have h' : iprop(Recs xs AM κ ι ∗ bigSep Finset.univ fun s : SK => iprop(openTok ER (cell c (kd s)) ∗ semVal (cell c (kd s)) 0))
      ⊢ bigSep Finset.univ fun s : SK => iprop(|={Set.univ}=> (atPos ER (cell c (kd s)) 0 ∅ 0 ∗ reached ER (cell c (kd s)) 0)) :=
    bigSep_with_persistent (R := Recs (F := F) xs AM κ ι) (Φ := fun s : SK => iprop(openTok ER (cell c (kd s)) ∗ semVal (cell c (kd s)) 0)) fun s _ => h s
  iintro ⟨#HR, Ho, Hv⟩
  iapply (show (bigSep Finset.univ fun s : SK => iprop(|={Set.univ}=> (atPos ER (cell c (kd s)) 0 ∅ 0 ∗ reached ER (cell c (kd s)) 0)))
    ⊢ iprop(|={Set.univ}=> bigSep Finset.univ fun s : SK => iprop(atPos ER (cell c (kd s)) 0 ∅ 0 ∗ began (F := F) c (kd s))) from bigSep_fupd _ _)
  iapply h'
  isplitr; · iexact HR
  rw [bigSep_sep']
  isplitl [Ho]; · iexact Ho
  iexact Hv

/-- The first four turns visit every slot's cell. -/
theorem first_S (c : Dev nD) (d : Bool) (t : Fin 2) : bigSep Finset.univ (fun a => iprop(atPos ER (cell c (.S d t a)) 0 ∅ 0 ∗ began (F := F) c (.S d t a))) ⊢ bigSep (Finset.Ico 0 4) (atS c d t) := by
  rw [← turn4 _ 0]
  refine bigSep_mono fun j hj => ?_
  have hj4 : j / 4 = 0 := Nat.div_eq_of_lt (Finset.mem_Ico.mp hj).2
  unfold atS
  rw [hj4]
  exact BI.Entails.refl _
theorem first_R (c : Dev nD) (d : Bool) (t : Fin 2) : bigSep Finset.univ (fun a => iprop(atPos ER (cell c (.R d t a)) 0 ∅ 0 ∗ began (F := F) c (.R d t a))) ⊢ bigSep (Finset.Ico 0 4) (atR c d t) := by
  rw [← turn4 _ (0 + 1), ← ico_shift (fun j => iprop(atPos ER (cell c (.R d t (slotIx j))) 0 ∅ 0 ∗ began (F := F) c (.R d t (slotIx j)))) 0 4]
  refine bigSep_mono fun j hj => ?_
  have hj4 : j / 4 = 0 := Nat.div_eq_of_lt (Finset.mem_Ico.mp hj).2
  unfold atR
  rw [hj4]
  exact BI.Entails.refl _

theorem bar_reached (κ : GSem nD τ sig → ℕ) (ι : Key → ℕ) (c : Dev nD) : Recs xs AM κ ι ⊢ began (F := F) c .bar := by
  have h : All (fun c => reached ER (cell c .bar) 0) ⊢ began (F := F) c .bar := bigSep_elim (Φ := fun c => began (F := F) c .bar) (Finset.mem_univ c)
  unfold Recs
  iintro ⟨-, -, H, -⟩
  iapply h $$ H

/-- A lane's pieces put together. -/
theorem lanes_talk (c : Dev nD) :
    iprop(Four (fun d t => bigSep (Finset.Ico 0 (copies d)) (sendTok c d t)) ∗ Four (fun d t => bigSep (Finset.Ico 0 (credits d)) (giveTok c d t))
      ∗ Four (fun d t => bigSep (Finset.range 3) fun k => Release.readerAt ES (lane (nx (!d) c) d t k) 0)
      ∗ Four (fun d t => bigSep (Finset.Ico 0 (copies d)) (crR c d t)) ∗ Four (fun d t => bigSep (Finset.Ico 0 (credits d)) (crC c d t))
      ∗ Four (fun d t => iprop((bigSep Finset.univ (fun a => iprop(atPos ER (cell c (.S d t a)) 0 ∅ 0 ∗ reached ER (cell c (.S d t a)) 0)) ∗ bigSep Finset.univ (fun a => iprop(atPos ER (cell c (.R d t a)) 0 ∅ 0 ∗ reached ER (cell c (.R d t a)) 0))) ∗ (atPos ER (cell c (.C d t)) 0 ∅ 0 ∗ reached ER (cell c (.C d t)) 0))))
      ⊢ Four (LaneTalk (F := F) c) := by
  have h : ∀ d t, iprop(bigSep (Finset.Ico 0 (copies d)) (sendTok c d t) ∗ bigSep (Finset.Ico 0 (credits d)) (giveTok c d t)
      ∗ (bigSep (Finset.range 3) fun k => Release.readerAt ES (lane (nx (!d) c) d t k) 0)
      ∗ bigSep (Finset.Ico 0 (copies d)) (crR c d t) ∗ bigSep (Finset.Ico 0 (credits d)) (crC c d t)
      ∗ ((bigSep Finset.univ (fun a => iprop(atPos ER (cell c (.S d t a)) 0 ∅ 0 ∗ reached ER (cell c (.S d t a)) 0)) ∗ bigSep Finset.univ (fun a => iprop(atPos ER (cell c (.R d t a)) 0 ∅ 0 ∗ reached ER (cell c (.R d t a)) 0))) ∗ (atPos ER (cell c (.C d t)) 0 ∅ 0 ∗ reached ER (cell c (.C d t)) 0)))
      ⊢ LaneTalk (F := F) c d t := fun d t => by
    unfold LaneTalk
    iintro ⟨H1, H2, H3, H4, H5, ⟨HS, HR⟩, HC⟩
    isplitl [H1]; · iexact H1
    isplitl [HS]; · iapply (first_S (F := F) c d t) $$ HS
    isplitl [HR]; · iapply (first_R (F := F) c d t) $$ HR
    isplitl [H4]; · iexact H4
    isplitl [H2]; · iexact H2
    isplitl [HC]; · iexact HC
    isplitl [H5]; · iexact H5
    iexact H3
  iintro ⟨H1, H2, H3, H4, H5, H6⟩
  iapply (four_mono h)
  iapply (four_sep (F := F) _ _)
  isplitl [H1]; · iexact H1
  iapply (four_sep (F := F) _ _)
  isplitl [H2]; · iexact H2
  iapply (four_sep (F := F) _ _)
  isplitl [H3]; · iexact H3
  iapply (four_sep (F := F) _ _)
  isplitl [H4]; · iexact H4
  iapply (four_sep (F := F) _ _)
  isplitl [H5]; · iexact H5
  iexact H6

/-- The exchange's pieces put together. -/
theorem spots_talk (c : Dev nD) :
    iprop(bigSep (Finset.univ.erase c) (fun o => iprop(dutyTok ER (cell c (.aS o)) 0 0 ∗ dutyTok ER (cell o (.aR c)) 0 0 ∗ Release.writeTok ES (spot c o) 1))
      ∗ (bigSep Finset.univ fun p => Release.readerAt ES (spot p c) 0) ∗ bigSep (Finset.univ.erase c) (fun o => cred (tallyAt (cell c (.aR o)) 0 nMax))
      ∗ bigSep Finset.univ (fun p : Fin 32 => iprop(atPos ER (cell c (.aS p)) 0 ∅ 0 ∗ reached ER (cell c (.aS p)) 0)) ∗ bigSep Finset.univ fun p : Fin 32 => iprop(atPos ER (cell c (.aR p)) 0 ∅ 0 ∗ reached ER (cell c (.aR p)) 0))
      ⊢ iprop(SpotTalk (F := F) c ∗ bigSep (Finset.univ.erase c) (amTok c) ∗ bigSep (Finset.univ.erase c) (amWait c) ∗ atPos ER (cell c (.aS c)) 0 ∅ 0 ∗ atPos ER (cell c (.aR c)) 0 ∅ 0) := by
  have hs : (Finset.univ.erase c : Finset (Dev nD)) ⊆ Finset.univ := Finset.subset_univ _
  have hT : iprop(bigSep (Finset.univ.erase c) (fun o => iprop(dutyTok ER (cell c (.aS o)) 0 0 ∗ dutyTok ER (cell o (.aR c)) 0 0 ∗ Release.writeTok ES (spot c o) 1))
      ∗ bigSep (Finset.univ.erase c) fun o => reached ER (cell c (.aS o)) 0) ⊢ bigSep (Finset.univ.erase c) (amTok (F := F) c) := by
    rw [← bigSep_sep']
    refine bigSep_mono fun o _ => ?_
    show iprop((dutyTok ER (cell c (.aS o)) 0 0 ∗ dutyTok ER (cell o (.aR c)) 0 0 ∗ Release.writeTok ES (spot c o) 1) ∗ reached ER (cell c (.aS o)) 0)
      ⊢ iprop(dutyTok ER (cell c (.aS o)) 0 0 ∗ dutyTok ER (cell o (.aR c)) 0 0 ∗ Release.writeTok ES (spot c o) 1 ∗ reached ER (cell c (.aS o)) 0)
    iintro ⟨⟨A, B, C⟩, D⟩
    isplitl [A]; · iexact A
    isplitl [B]; · iexact B
    isplitl [C]; · iexact C
    iexact D
  have hW : iprop(bigSep (Finset.univ.erase c) (fun o : Fin 32 => atPos ER (cell c (.aR o)) 0 ∅ 0) ∗ bigSep (Finset.univ.erase c) (fun o : Fin 32 => atPos ER (cell c (.aS o)) 0 ∅ 0)
      ∗ bigSep (Finset.univ.erase c) (fun o => cred (tallyAt (cell c (.aR o)) 0 nMax))) ⊢ bigSep (Finset.univ.erase c) (amWait (F := F) c) := by
    rw [← bigSep_sep', ← bigSep_sep']
    exact .rfl
  have hR : iprop((bigSep Finset.univ fun p : Fin 32 => Release.readerAt ES (spot p c) 0) ∗ bigSep Finset.univ fun p : Fin 32 => reached ER (cell c (.aR p)) 0) ⊢ SpotTalk (F := F) c := by
    rw [← bigSep_sep']
    exact .rfl
  have sS := Entails.of_eq (bigSep_sep' (Finset.univ : Finset (Fin 32)) (fun o => (atPos ER (cell c (.aS o)) 0 ∅ 0 : sProp (MT nD τ sig ℕ (Elt F) ℕ UU ℕ))) (fun o => reached ER (cell c (.aS o)) 0))
  have sR := Entails.of_eq (bigSep_sep' (Finset.univ : Finset (Fin 32)) (fun o => (atPos ER (cell c (.aR o)) 0 ∅ 0 : sProp (MT nD τ sig ℕ (Elt F) ℕ UU ℕ))) (fun o => reached ER (cell c (.aR o)) 0))
  have pS := (Entails.of_eq (bigSep_univ_at (fun o : Fin 32 => (atPos ER (cell c (.aS o)) 0 ∅ 0 : sProp (MT nD τ sig ℕ (Elt F) ℕ UU ℕ))) c))
  have pR := (Entails.of_eq (bigSep_univ_at (fun o : Fin 32 => (atPos ER (cell c (.aR o)) 0 ∅ 0 : sProp (MT nD τ sig ℕ (Elt F) ℕ UU ℕ))) c))
  have rS := sub_mono (F := F) hs (fun o : Fin 32 => reached ER (cell c (.aS o)) 0)
  iintro ⟨HT, Hr, Hc, HS, HR⟩
  icases sS $$ HS with ⟨HS, HSr⟩
  icases sR $$ HR with ⟨HR, HRr⟩
  icases pS $$ HS with ⟨HSc, HS⟩
  icases pR $$ HR with ⟨HRc, HR⟩
  isplitl [Hr HRr]
  · iapply hR
    isplitl [Hr]; · iexact Hr
    iexact HRr
  isplitl [HT HSr]
  · iapply hT
    isplitl [HT]; · iexact HT
    iapply rS $$ HSr
  isplitl [HR HS Hc]
  · iapply hW
    isplitl [HR]; · iexact HR
    isplitl [HS]; · iexact HS
    iexact Hc
  isplitl [HSc]; · iexact HSc
  iexact HRc

/-- A device's deal and its own semaphores at zero are all it starts from. -/
theorem seed_open (κ : GSem nD τ sig → ℕ) (ι : Key → ℕ) (c : Dev nD) :
    iprop(Recs xs AM κ ι ∗ Seed c ∗ bigSep Finset.univ fun s : SK => semVal (cell c (kd s)) 0) ⊢ iprop(|={Set.univ}=> Talk (F := F) c) := by
  have hb1 := bar_reached (F := F) xs AM κ ι (nx true c)
  have hb2 := bar_reached (F := F) xs AM κ ι (nx false c)
  have ho := Entails.of_eq (own_eq (fun k => iprop(atPos ER (cell c k) 0 ∅ 0 ∗ began (F := F) c k)))
  unfold Seed Due Dealt
  iintro ⟨#HR, ⟨⟨Hcb, ⟨HcR, HcC⟩, Hca⟩, ⟨⟨Hb1, Hb2⟩, ⟨HT1, HT2, HT3⟩, ⟨HM1, HM2, HM3⟩⟩, Hb, Ho⟩, Hv⟩
  imod (open_own (F := F) xs AM κ ι c) $$ [Ho Hv] with Hcells
  · isplitr; · iexact HR
    isplitl [Ho]; · iexact Ho
    iexact Hv
  imodintro
  icases ho $$ Hcells with ⟨HF, HaS, HaR⟩
  ihave HL := (lanes_talk (F := F) c) $$ [HT1 HT2 HT3 HcR HcC HF]
  · isplitl [HT1]; · iexact HT1
    isplitl [HT2]; · iexact HT2
    isplitl [HT3]; · iexact HT3
    isplitl [HcR]; · iexact HcR
    isplitl [HcC]; · iexact HcC
    iexact HF
  icases (spots_talk (F := F) c) $$ [HM1 HM3 Hca HaS HaR] with ⟨HST, HaT, HaW, HoS, HoR⟩
  · isplitl [HM1]; · iexact HM1
    isplitl [HM3]; · iexact HM3
    isplitl [Hca]; · iexact Hca
    isplitl [HaS]; · iexact HaS
    iexact HaR
  unfold Talk BarStart
  isplitl [HL]; · iexact HL
  isplitl [HST]; · iexact HST
  isplitl [Hb1 Hb2 Hb Hcb]
  · isplitl [Hb1]
    · isplitl [Hb1]; · iexact Hb1
      iapply hb1 $$ HR
    isplitl [Hb2]
    · isplitl [Hb2]; · iexact Hb2
      iapply hb2 $$ HR
    isplitl [Hb]; · iexact Hb
    iexact Hcb
  isplitl [HM2]; · iexact HM2
  isplitl [HaT]; · iexact HaT
  isplitl [HaW]; · iexact HaW
  isplitl [HoS]; · iexact HoS
  iexact HoR

/-! ## The launch's invariants -/

def bars : Finset (GSem nD τ sig) := Finset.univ.map ⟨fun c => cell c .bar, fun _ _ h => (cell_inj h).1⟩
def owns : Finset (GSem nD τ sig) := Finset.univ.map ⟨fun y : Dev nD × SK => cell y.1 (kd y.2), fun _ _ h => Prod.ext (cell_inj h).1 (kd_inj (cell_inj h).2)⟩

theorem bars_owns : Disjoint bars owns := by
  rw [Finset.disjoint_left]
  rintro g h₁ h₂
  obtain ⟨c, -, rfl⟩ := Finset.mem_map.mp h₁
  obtain ⟨ck, -, h⟩ := Finset.mem_map.mp h₂
  exact kd_ne_bar ck.2 (cell_inj h).2

/-- From the launch's resources and the barriers' counters: the records and every device's seed. -/
theorem sow : iprop(levAts L lv ∗ All (fun c => semVal (cell c .bar) 0) ∗ All (Due (F := F))
      ∗ BI.own (ER (launchOf bars owns talkToks)) ∗ BI.own (ES (Release.initSlots Finset.univ 1)))
    ⊢ iprop(|={Set.univ}=> ∃ κ ι, Recs xs AM κ ι ∗ All (Seed (F := F))) := by
  have hv : All (fun c => (semVal (cell c .bar) 0 : sProp (MT nD τ sig ℕ (Elt F) ℕ UU ℕ))) ⊢ bigSep bars (fun g => semVal g 0) := Entails.of_eq (by unfold bars; rw [bigSep_map]; rfl)
  have hm : ∀ Φ : GSem nD τ sig → sProp (MT nD τ sig ℕ (Elt F) ℕ UU ℕ), bigSep bars Φ ⊢ All fun c => Φ (cell c .bar) := fun Φ => Entails.of_eq (by unfold bars; rw [bigSep_map]; rfl)
  have ho : ∀ Φ : GSem nD τ sig → sProp (MT nD τ sig ℕ (Elt F) ℕ UU ℕ), bigSep owns Φ ⊢ All fun c => bigSep Finset.univ fun s : SK => Φ (cell c (kd s)) := fun Φ => Entails.of_eq (by unfold owns; rw [bigSep_map, bigSep_univ_prod]; rfl)
  have hu : ∀ Φ : GSem nD τ sig → sProp (MT nD τ sig ℕ (Elt F) ℕ UU ℕ), bigSep (bars ∪ owns) Φ ⊢ iprop(bigSep bars Φ ∗ bigSep owns Φ) := fun Φ => Entails.of_eq (bigSep_union bars_owns)
  have hS : iprop(All (Due (F := F)) ∗ All (Dealt (F := F)) ∗ All (fun c => atPos ER (cell c .bar) 0 ∅ 0) ∗ All fun c => bigSep Finset.univ fun s : SK => openTok ER (cell c (kd s))) ⊢ All (Seed (F := F)) := by
    rw [← all_sep, ← all_sep, ← all_sep]
    exact .rfl
  iintro ⟨#HL, Hv, HD, HX, HS⟩
  imod (Rounds.fund_launch ER (Rd xs AM) bars_owns (fun g _ h => h) talkToks) $$ [Hv HX] with ⟨%κ, -, #Hinv, #Hr, Hat, Hopen, Htok⟩
  · isplitl [Hv]; · iapply hv $$ Hv
    iexact HX
  imod (Release.slots_init ES (Finset.univ : Finset Key) 1 (place (F := F))) $$ HS with ⟨%ι, -, #Hpl, Hrd, Hwr⟩
  imodintro
  iexists κ
  iexists ι
  isplitr
  · unfold Recs
    icases (hu (fun g => cellInv ER (Rd xs AM) (κ g) g)) $$ Hinv with ⟨#H1, #H2⟩
    isplitr
    · isplitr; · iapply (hm fun g => cellInv ER (Rd xs AM) (κ g) g); iexact H1
      iapply (ho fun g => cellInv ER (Rd xs AM) (κ g) g); iexact H2
    isplitr; · iexact Hpl
    isplitr; · iapply (hm fun g => reached ER g 0); iexact Hr
    iexact HL
  iapply hS
  isplitl [HD]; · iexact HD
  isplitl [Htok Hrd Hwr]
  · iapply (deal (F := F))
    isplitl [Htok]; · iexact Htok
    isplitl [Hrd]; · iexact Hrd
    iexact Hwr
  isplitl [Hat]; · iapply (hm fun g => atPos ER g 0 ∅ 0); iexact Hat
  iapply (ho fun g => openTok ER g); iexact Hopen

end Cert.KernelIdeal.Tidy
-- ==== Proof.Point.lean ====
module

public import proofs.«01_k».proof.Proof.Seed
public import proofs.«01_k».proof.Proof.Gen.KernelIdeal.Frame

@[expose] public section

set_option maxRecDepth 100000

noncomputable section

namespace Cert.KernelIdeal.Tidy

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

open Idealize.ShloMosaic.Pipeline (Dat BodyObligation)

variable (m : (ℓ : Loc nD τ sig) → Buf (Elt F) ℓ)

/-! ## What the windows hold -/

/-- The device's rows of `x`. -/
def xOf (c : Dev nD) : Buf (Elt F) (E₀.x.view.loc (c : Thread nD τ)) := iblk m c 0 t0_0
/-- The device's columns of `w`. -/
def wOf (c : Dev nD) : Buf (Elt F) (E₀.w.view.loc (c : Thread nD τ)) := iblk m c 1 t0_0
/-- The table from ring places to devices. -/
def rOf (c : Dev nD) : Buf (Elt F) (E₀.r2m.view.loc (c : Thread nD τ)) := iblk m c 2 t0_0
/-- The table from devices to ring places. -/
def pOf (c : Dev nD) : Buf (Elt F) (E₀.m2r.view.loc (c : Thread nD τ)) := iblk m c 3 t0_0

/-- Every device's largest magnitude, spread over a row. -/
abbrev topOf (c : Dev nD) := flat (maxOf (xOf m) (wOf m)) c

/-- What the device's output ends with. -/
def oOf (c : Dev nD) : Buf (Elt F) (E₀.out.view.loc (c : Thread nD τ)) := ends (xOf m) (wOf m) c

theorem V_main_c (c : Dev nD) : V m c main_c = fun i => lit0 (S32.rowMajor i) := by
  show StableHlo.after hostOps0 _ _ = _
  rw [StableHlo.after_cons, StableHlo.after_cons, StableHlo.after_nil, StableHlo.nullary_result_ne _ _ _ _ (by decide), StableHlo.nullary_result]; rfl

theorem V_main_c_0 (c : Dev nD) : V m c main_c_0 = fun i => lit1 (S32.rowMajor i) := by
  show StableHlo.after hostOps0 _ _ = _
  rw [StableHlo.after_cons, StableHlo.after_cons, StableHlo.after_nil, StableHlo.nullary_result]; rfl

theorem lit0_at : ∀ n : Fin 32, lit0 n = tabAt n.val := by decide +kernel
theorem lit1_at : ∀ n : Fin 32, lit1 n = tabPos n.val := by decide +kernel

theorem major32 : ∀ x : S32.Idx, (S32.rowMajor x).val = (x 0).val := by decide +kernel
theorem emb2 : ∀ x : S32.Idx, ((cfg0.win 2).blk t0_0).view.emb x = x := by decide +kernel
theorem emb3 : ∀ x : S32.Idx, ((cfg0.win 3).blk t0_0).view.emb x = x := by decide +kernel

theorem one_at (off : Fin 1 → ℕ) (h : ∀ a, off a + S1.size a ≤ S32.size a) (p : 0 < S1.numel) :
    (((Rect.unit (s := S32) off S1.size h).toLoadRect.idx (Shape.Idx.first p)) 0).val = off 0 := by
  rfl

theorem r_tab (c : Dev nD) : IsTab c E₀.r2m (rOf m c) tabAt := by
  intro off h
  have e : ∀ x : S32.Idx, rOf m c x = lit0 (S32.rowMajor x) := fun x => by
    unfold rOf iblk
    rw [show V m c (Pipeline.arrRef spec0 2) = _ from V_main_c m c]
    exact congrArg (fun y => lit0 (S32.rowMajor y)) (emb2 x)
  refine (e _).trans ((lit0_at _).trans (congrArg tabAt ?_))
  rw [major32]
  exact one_at off h _

theorem p_tab (c : Dev nD) : IsTab c E₀.m2r (pOf m c) tabPos := by
  intro off h
  have e : ∀ x : S32.Idx, pOf m c x = lit1 (S32.rowMajor x) := fun x => by
    unfold pOf iblk
    rw [show V m c (Pipeline.arrRef spec0 3) = _ from V_main_c_0 m c]
    exact congrArg (fun y => lit1 (S32.rowMajor y)) (emb3 x)
  refine (e _).trans ((lit1_at _).trans (congrArg tabPos ?_))
  rw [major32]
  exact one_at off h _

/-! ## The region's data -/

/-- What is owed when the body starts. -/
def owed₀ (c : Dev nD) : CellTallies nD τ sig ℕ := owing c (ringDebt (amDebts c (List.finRange 32)))

/-- What the device keeps from the launch, with every record it may consult. -/
def Kept (c : Dev nD) : sProp (MT nD τ sig ℕ (Elt F) ℕ UU ℕ) := iprop(∃ κ ι, Recs (xOf m) (topOf m) κ ι ∗ Seed (F := F) c)
/-- The same once its cells are in use. -/
def Ready (c : Dev nD) : sProp (MT nD τ sig ℕ (Elt F) ℕ UU ℕ) := iprop(∃ κ ι, Recs (xOf m) (topOf m) κ ι ∗ Talk (F := F) c)
/-- What it keeps afterwards. -/
def Left (c : Dev nD) : sProp (MT nD τ sig ℕ (Elt F) ℕ UU ℕ) := semVal (cell c .bar) 0

/-- The proof data of the region. -/
def dat0 (c : Dev nD) : Dat τ (Elt F) ℕ ℕ UU ℕ cfg0 c where
  A w := V m c (Pipeline.arrRef spec0 w)
  after := fun | 0 => iblk m c 0 | 1 => iblk m c 1 | 2 => iblk m c 2 | 3 => iblk m c 3 | 4 => fun _ => oOf m c | ⟨_ + 5, h⟩ => absurd h (Nat.not_lt.2 (Nat.le_add_left _ _))
  Φ t := if t.val = 0 then iprop(Ready m c ∗ Scratch c ∗ ∃ r, prngReg c r)
    else iprop(Left c ∗ (bigSep Finset.univ fun s : SK => semVal (cell c (kd s)) 0) ∗ Scratch c ∗ ∃ r, prngReg c r)
  q _ := fullShare
  owed t := if t.val = 0 then owed₀ c else 0

theorem owed_first (c : Dev nD) : (dat0 m c).owed t0_0.castSucc = owed₀ c := by
  show (if (t0_0.castSucc : Fin (cfg0.N + 1)).val = 0 then owed₀ c else 0) = _; exact if_pos rfl
theorem owed_last (c : Dev nD) : (dat0 m c).owed t0_0.succ = 0 := by
  show (if (t0_0.succ : Fin (cfg0.N + 1)).val = 0 then owed₀ c else 0) = _; exact if_neg (by decide)

theorem owesAt_elim (c : Dev nD) : ((dat0 m c).owesAt 0 t0_0.castSucc : sProp (MT nD τ sig ℕ (Elt F) ℕ UU ℕ)) ⊢ Owe c (ringDebt (amDebts c (List.finRange 32))) := by
  unfold Dat.owesAt Pipeline.owesWithin Owe; rw [owed_first]
  iintro ⟨%W, -, HO⟩; iexists W; iexact HO

theorem owesAt_intro (c : Dev nD) : Owe (F := F) c [] ⊢ ((dat0 m c).owesAt 0 t0_0.succ : sProp (MT nD τ sig ℕ (Elt F) ℕ UU ℕ)) := by
  unfold Dat.owesAt Pipeline.owesWithin Dat.bound Owe; rw [owed_last, show (dat0 m c).recorded t0_0.succ = Set.univ from rfl]
  iintro ⟨%W, HO⟩; iexists W; isplitr; · ipureintro; exact fun _ _ => Or.inl trivial
  iexact HO

/-! ## The staging buffers -/

theorem before_0 (c : Dev nD) (t : Fin cfg0.N) (d) : (dat0 m c).before 0 t d = iblk m c 0 t :=
  ((dat0 m c).before_in_eq_fetched 0 rfl (fun _ => rfl) (fun _ _ _ => rfl) (fun _ => rfl) t d).trans rfl
theorem before_1 (c : Dev nD) (t : Fin cfg0.N) (d) : (dat0 m c).before 1 t d = iblk m c 1 t :=
  ((dat0 m c).before_in_eq_fetched 1 rfl (fun _ => rfl) (fun _ _ _ => rfl) (fun _ => rfl) t d).trans rfl
theorem before_2 (c : Dev nD) (t : Fin cfg0.N) (d) : (dat0 m c).before 2 t d = iblk m c 2 t :=
  ((dat0 m c).before_in_eq_fetched 2 rfl (fun _ => rfl) (fun _ _ _ => rfl) (fun _ => rfl) t d).trans rfl
theorem before_3 (c : Dev nD) (t : Fin cfg0.N) (d) : (dat0 m c).before 3 t d = iblk m c 3 t :=
  ((dat0 m c).before_in_eq_fetched 3 rfl (fun _ => rfl) (fun _ _ _ => rfl) (fun _ => rfl) t d).trans rfl

theorem stage_0 (c : Dev nD) (f : Buf (Elt F) (E₀.x.view.loc (c : Thread nD τ))) :
    (Idealize.ShloMosaic.owns (c : Thread nD τ) ((cfg0.win 0).stage (cfg0.slots t0_0 0)) fullShare f : sProp (MT nD τ sig ℕ (Elt F) ℕ UU ℕ)) = pts c E₀.x f := owns_whole (c : Thread nD τ) cc0_stg0_0 fullShare f
theorem stage_1 (c : Dev nD) (f : Buf (Elt F) (E₀.w.view.loc (c : Thread nD τ))) :
    (Idealize.ShloMosaic.owns (c : Thread nD τ) ((cfg0.win 1).stage (cfg0.slots t0_0 1)) fullShare f : sProp (MT nD τ sig ℕ (Elt F) ℕ UU ℕ)) = pts c E₀.w f := owns_whole (c : Thread nD τ) cc0_stg1_0 fullShare f
theorem stage_2 (c : Dev nD) (f : Buf (Elt F) (E₀.r2m.view.loc (c : Thread nD τ))) :
    (Idealize.ShloMosaic.owns (c : Thread nD τ) ((cfg0.win 2).stage (cfg0.slots t0_0 2)) fullShare f : sProp (MT nD τ sig ℕ (Elt F) ℕ UU ℕ)) = pts c E₀.r2m f := owns_whole (c : Thread nD τ) cc0_stg2_0 fullShare f
theorem stage_3 (c : Dev nD) (f : Buf (Elt F) (E₀.m2r.view.loc (c : Thread nD τ))) :
    (Idealize.ShloMosaic.owns (c : Thread nD τ) ((cfg0.win 3).stage (cfg0.slots t0_0 3)) fullShare f : sProp (MT nD τ sig ℕ (Elt F) ℕ UU ℕ)) = pts c E₀.m2r f := owns_whole (c : Thread nD τ) cc0_stg3_0 fullShare f
theorem stage_4 (c : Dev nD) (f : Buf (Elt F) (E₀.out.view.loc (c : Thread nD τ))) :
    (Idealize.ShloMosaic.owns (c : Thread nD τ) ((cfg0.win 4).stage (cfg0.slots t0_0 4)) fullShare f : sProp (MT nD τ sig ℕ (Elt F) ℕ UU ℕ)) = pts c E₀.out f := owns_whole (c : Thread nD τ) cc0_stg4_0 fullShare f

/-- The body the region calls. -/
theorem call_eq : defs₀ (F := F) .tc cfg0.body (cfg0.bodyArgs t0_0 (cfg0.slots t0_0)) = opening E₀ fun H => rings E₀ H fun a => exchange H.d0 a scaleBy := by
  have h : defs₀ (F := F) .tc cfg0.body (cfg0.bodyArgs t0_0 (cfg0.slots t0_0)) = bodyAt0 t0_0 := by
    unfold defs₀; rw [Defs.onTc_tc]
  rw [h]
  exact body_prog (F := F) _ _ _ _ _ _ _ _ _

theorem found_0 (c : Dev nD) (d) : (Idealize.ShloMosaic.owns (c : Thread nD τ) ((cfg0.win 0).stage (cfg0.slots t0_0 0)) fullShare ((dat0 m c).before 0 t0_0 d) : sProp (MT nD τ sig ℕ (Elt F) ℕ UU ℕ)) ⊢ pts c E₀.x (xOf m c) := by
  rw [before_0]; exact Entails.of_eq (stage_0 (F := F) c (xOf m c))
theorem found_1 (c : Dev nD) (d) : (Idealize.ShloMosaic.owns (c : Thread nD τ) ((cfg0.win 1).stage (cfg0.slots t0_0 1)) fullShare ((dat0 m c).before 1 t0_0 d) : sProp (MT nD τ sig ℕ (Elt F) ℕ UU ℕ)) ⊢ pts c E₀.w (wOf m c) := by
  rw [before_1]; exact Entails.of_eq (stage_1 (F := F) c (wOf m c))
theorem found_2 (c : Dev nD) (d) : (Idealize.ShloMosaic.owns (c : Thread nD τ) ((cfg0.win 2).stage (cfg0.slots t0_0 2)) fullShare ((dat0 m c).before 2 t0_0 d) : sProp (MT nD τ sig ℕ (Elt F) ℕ UU ℕ)) ⊢ pts c E₀.r2m (rOf m c) := by
  rw [before_2]; exact Entails.of_eq (stage_2 (F := F) c (rOf m c))
theorem found_3 (c : Dev nD) (d) : (Idealize.ShloMosaic.owns (c : Thread nD τ) ((cfg0.win 3).stage (cfg0.slots t0_0 3)) fullShare ((dat0 m c).before 3 t0_0 d) : sProp (MT nD τ sig ℕ (Elt F) ℕ UU ℕ)) ⊢ pts c E₀.m2r (pOf m c) := by
  rw [before_3]; exact Entails.of_eq (stage_3 (F := F) c (pOf m c))

/-- The staging buffers as the region hands them over. -/
theorem staged_in (c : Dev nD) :
    iprop((∃ d, Idealize.ShloMosaic.owns (c : Thread nD τ) ((cfg0.win 0).stage (cfg0.slots t0_0 0)) fullShare ((dat0 m c).before 0 t0_0 d))
      ∗ (∃ d, Idealize.ShloMosaic.owns (c : Thread nD τ) ((cfg0.win 1).stage (cfg0.slots t0_0 1)) fullShare ((dat0 m c).before 1 t0_0 d))
      ∗ (∃ d, Idealize.ShloMosaic.owns (c : Thread nD τ) ((cfg0.win 2).stage (cfg0.slots t0_0 2)) fullShare ((dat0 m c).before 2 t0_0 d))
      ∗ (∃ d, Idealize.ShloMosaic.owns (c : Thread nD τ) ((cfg0.win 3).stage (cfg0.slots t0_0 3)) fullShare ((dat0 m c).before 3 t0_0 d))
      ∗ (∃ d, Idealize.ShloMosaic.owns (c : Thread nD τ) ((cfg0.win 4).stage (cfg0.slots t0_0 4)) fullShare ((dat0 m c).before 4 t0_0 d)))
    ⊢ (iprop(pts c E₀.x (xOf m c) ∗ pts c E₀.w (wOf m c) ∗ pts c E₀.r2m (rOf m c) ∗ pts c E₀.m2r (pOf m c) ∗ ∃ f, pts c E₀.out f) : sProp (MT nD τ sig ℕ (Elt F) ℕ UU ℕ)) := by
  iintro ⟨⟨%d0, H0⟩, ⟨%d1, H1⟩, ⟨%d2, H2⟩, ⟨%d3, H3⟩, ⟨%d4, H4⟩⟩
  isplitl [H0]; · iapply (found_0 m c d0) $$ H0
  isplitl [H1]; · iapply (found_1 m c d1) $$ H1
  isplitl [H2]; · iapply (found_2 m c d2) $$ H2
  isplitl [H3]; · iapply (found_3 m c d3) $$ H3
  iexists ((dat0 m c).before 4 t0_0 d4)
  iapply (Entails.of_eq (stage_4 (F := F) c ((dat0 m c).before 4 t0_0 d4))) $$ H4

/-- The staging buffers as the region takes them back. -/
theorem staged_out (c : Dev nD) :
    (iprop(pts c E₀.x (xOf m c) ∗ pts c E₀.w (wOf m c) ∗ pts c E₀.r2m (rOf m c) ∗ pts c E₀.m2r (pOf m c) ∗ pts c E₀.out (oOf m c)) : sProp (MT nD τ sig ℕ (Elt F) ℕ UU ℕ))
    ⊢ iprop(Idealize.ShloMosaic.owns (c : Thread nD τ) ((cfg0.win 0).stage (cfg0.slots t0_0 0)) fullShare ((dat0 m c).after 0 t0_0)
      ∗ Idealize.ShloMosaic.owns (c : Thread nD τ) ((cfg0.win 1).stage (cfg0.slots t0_0 1)) fullShare ((dat0 m c).after 1 t0_0)
      ∗ Idealize.ShloMosaic.owns (c : Thread nD τ) ((cfg0.win 2).stage (cfg0.slots t0_0 2)) fullShare ((dat0 m c).after 2 t0_0)
      ∗ Idealize.ShloMosaic.owns (c : Thread nD τ) ((cfg0.win 3).stage (cfg0.slots t0_0 3)) fullShare ((dat0 m c).after 3 t0_0)
      ∗ Idealize.ShloMosaic.owns (c : Thread nD τ) ((cfg0.win 4).stage (cfg0.slots t0_0 4)) fullShare ((dat0 m c).after 4 t0_0)) := by
  iintro ⟨H0, H1, H2, H3, H4⟩
  isplitl [H0]; · iapply (Entails.of_eq (stage_0 (F := F) c (xOf m c)).symm) $$ H0
  isplitl [H1]; · iapply (Entails.of_eq (stage_1 (F := F) c (wOf m c)).symm) $$ H1
  isplitl [H2]; · iapply (Entails.of_eq (stage_2 (F := F) c (rOf m c)).symm) $$ H2
  isplitl [H3]; · iapply (Entails.of_eq (stage_3 (F := F) c (pOf m c)).symm) $$ H3
  iapply (Entails.of_eq (stage_4 (F := F) c (oOf m c)).symm) $$ H4

/-- The body obligation. -/
theorem body0 (c : Dev nD) : BodyObligation (dat0 m c) defs₀ 𝒱₀ 0 Set.univ := fun t => by
  obtain rfl := fin_N0 t
  rw [bigSep_W0, bigSep_W0, call_eq]
  dsimp only
  rw [show (dat0 m c).Φ t0_0.castSucc = iprop(Ready m c ∗ Scratch c ∗ ∃ r, prngReg c r) from rfl,
    show (dat0 m c).Φ t0_0.succ = iprop(Left c ∗ (bigSep Finset.univ fun s : SK => semVal (cell c (kd s)) 0) ∗ Scratch c ∗ ∃ r, prngReg c r) from rfl]
  iintro ⟨HΦ, HO, HW⟩
  icases (show _ ⊢ iprop(pts c E₀.x (xOf m c) ∗ pts c E₀.w (wOf m c) ∗ pts c E₀.r2m (rOf m c) ∗ pts c E₀.m2r (pOf m c) ∗ ∃ f, pts c E₀.out f) from staged_in m c) $$ HW with ⟨H0, H1, H2, H3, ⟨%f, H4⟩⟩
  icases (show iprop(Ready m c ∗ Scratch c ∗ ∃ r, prngReg c r) ⊢ iprop((∃ κ ι, Recs (xOf m) (topOf m) κ ι ∗ Talk (F := F) c) ∗ Scratch c ∗ ∃ r, prngReg c r) from BI.Entails.refl _) $$ HΦ with ⟨⟨%κ, %ι, #HR, HT⟩, Hsc, Hreg⟩
  ihave HO := (owesAt_elim m c) $$ HO
  iapply (wp_body (wOf m) (recs_known (F := F) (xOf m) (topOf m) κ ι) c (rOf m c) (r_tab m c) (pOf m c) (p_tab m c) f) $$ [HT Hsc H0 H1 H2 H3 H4 HO]
  · isplitr; · iexact HR
    unfold bodyPre
    isplitl [HT]; · iexact HT
    isplitl [Hsc]; · iexact Hsc
    isplitl [H0]; · iexact H0
    isplitl [H1]; · iexact H1
    isplitl [H2]; · iexact H2
    isplitl [H3]; · iexact H3
    isplitl [H4]; · iexact H4
    iexact HO
  unfold bodyPost
  iintro ⟨Hown, Hbar, Hsc, H0, H1, H2, H3, H4, HO⟩
  isplitr [H0 H1 H2 H3 H4 HO]
  · unfold Left
    isplitl [Hbar]; · iexact Hbar
    isplitl [Hown]; · iexact Hown
    isplitl [Hsc]; · iexact Hsc
    iexact Hreg
  isplitl [HO]; · iapply (owesAt_intro m c); iexact HO
  iapply (staged_out m c)
  isplitl [H0]; · iexact H0
  isplitl [H1]; · iexact H1
  isplitl [H2]; · iexact H2
  isplitl [H3]; · iexact H3
  iexact H4

end Cert.KernelIdeal.Tidy
-- ==== Proof.Run.lean ====
module

public import proofs.«01_k».proof.Proof.Point
public import Idealize.ShloMosaic.Lib.Pipeline.RegionTalk
public import Idealize.ShloMosaic.Lib.Quiescent

@[expose] public section

set_option maxRecDepth 100000

noncomputable section

namespace Cert.KernelIdeal.Tidy

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

open Idealize.ShloMosaic.Pipeline (Dat BodyObligation)

variable (m : (ℓ : Loc nD τ sig) → Buf (Elt F) ℓ) (ρ : Dev nD → PrngReg)

abbrev adm : (p : Fin 1) → (pcfgs (F := F) p).Adm := fun p => (cfgs p).toPCfg_adm

def pdats : (p : Fin 1) → (c : Dev nD) → Dat τ (Elt F) ℕ ℕ UU ℕ (Pipeline.pin (pcfgs (F := F)) adm p) c
  | 0 => dat0 m
  | ⟨_ + 1, h⟩ => absurd h (Nat.not_lt.2 (Nat.le_add_left _ _))

/-! ## The arrays -/

/-- The arrays at the launch. -/
def V₀ (c : Dev nD) : Valuation τ sig (Elt F) := fun b => m (c, b)
/-- The arrays when the region is entered. -/
def V₁ (c : Dev nD) : Valuation τ sig (Elt F) := StableHlo.after hostOps0 (V₀ m c)
/-- The arrays when it is left. -/
def V₂ (c : Dev nD) : Valuation τ sig (Elt F) := Function.update (V₁ m c) (Proc.devRef .tc main_v1) ((dat0 m c).arrAt 4 cfg0.N)

theorem V₂_v1 (c : Dev nD) : V₂ m c (Proc.devRef .tc main_v1) = (dat0 m c).arrAt 4 cfg0.N := Function.update_self ..
theorem V₂_ne (c : Dev nD) (b : DevRef τ sig) (h : b ≠ Proc.devRef .tc main_v1) : V₂ m c b = V₁ m c b := Function.update_of_ne h ..

theorem held_arrs (c : Dev nD) (W : Valuation τ sig (Elt F)) :
    (StableHlo.held (c.tc : Thread nD τ) (Pipeline.arrRefs (τ := τ) spec0) W : sProp (MT nD τ sig ℕ (Elt F) ℕ UU ℕ))
      = iprop(((c : Thread nD τ).loc main_arg0 ↦{fullShare} W (Proc.devRef .tc main_arg0)) ∗ ((c : Thread nD τ).loc main_arg1 ↦{fullShare} W (Proc.devRef .tc main_arg1))
        ∗ ((c : Thread nD τ).loc main_c ↦{fullShare} W (Proc.devRef .tc main_c)) ∗ ((c : Thread nD τ).loc main_c_0 ↦{fullShare} W (Proc.devRef .tc main_c_0))
        ∗ ((c : Thread nD τ).loc main_v1 ↦{fullShare} W (Proc.devRef .tc main_v1))) := by
  unfold StableHlo.held Pipeline.arrRefs
  rw [bigSep_map, BI.bigSep_eq_bigSepL_of_eq [main_arg0, main_arg1, main_c, main_c_0, main_v1] (by decide) (by decide)]; rfl

theorem uc_arrs : Pipeline.ucRefs τ sig = Pipeline.arrRefs (τ := τ) spec0 := by decide

/-! ## The region -/

theorem ownSemFacts : Pipeline.OwnSemFacts spec0 osem where
  isScoped := by decide +kernel
  inj := fun _ _ h => kd_inj (kindSem_inj h)
  disj := by decide +kernel

theorem stage_lv (c : Dev nD) : ∀ (w : Fin 5) (s : Fin (spec0 w).nbuf), lv ((c : Thread nD τ), .dma ((spec0 w).sem s)) 0 = 0 := fun w s => by
  show (kindOf (.dma ((spec0 w).sem s))).elim 0 (lvK 0) = 0
  have h : ¬ ∃ k, kindSem k = .dma ((spec0 w).sem s) := by
    rintro ⟨k, hk⟩
    rcases kd_onto k with rfl | ⟨k', rfl⟩
    · exact absurd hk (by revert s; revert w; decide +kernel)
    · exact ownSemFacts.disj k' w s hk
  unfold kindOf
  rw [dif_neg h]; rfl

theorem ring_above : Above 0 (ringDebt []) := by unfold Above Debt.Known; decide +kernel

theorem cutD (c : Dev nD) (t : Fin (cfg0.N + 1)) (g : GSem nD τ sig) (i : ℕ) (h : 0 < (dat0 m c).owed t g i) : i ∈ L g ∧ (0 : ℕ) < lv g i := by
  have e : (dat0 m c).owed t = if t.val = 0 then owed₀ c else 0 := rfl
  rw [e] at h
  split at h
  · obtain ⟨l, hl, rfl, rfl⟩ := owing_pos c g i _ h
    have hA : Above 0 (ringDebt (amDebts c (List.finRange 32))) := by
      rw [ring_append]
      exact above_append ring_above ((amDebts_above c _).mono (by decide))
    obtain ⟨hk, hv⟩ := hA l hl
    refine ⟨?_, by rw [debt_lv]; exact hv⟩
    have : L (debtCell c l) = Finset.range 40 := by cases l <;> exact L_tc _ _
    rw [this]; exact Finset.mem_range.mpr hk
  · exact absurd h (Nat.lt_irrefl 0)

theorem scratch_eq (c : Dev nD) : (Pipeline.scopedRest (Ix := ℕ) (Name := ℕ) (U := UU) (Lvl := ℕ) (Val := Elt F) spec0 c : sProp (MT nD τ sig ℕ (Elt F) ℕ UU ℕ)) = Scratch c :=
  (scopedRest0_eq c).trans rfl

theorem own_sems (c : Dev nD) : (Pipeline.ownSems0 osem c : sProp (MT nD τ sig ℕ (Elt F) ℕ UU ℕ)) = bigSep Finset.univ fun s : SK => semVal (cell c (kd s)) 0 := by
  unfold Pipeline.ownSems0 osem; rfl

theorem hopen (c : Dev nD) : iprop(Kept m c ∗ Pipeline.ownSems0 osem c ∗ levAts L lv) ⊢ (|={Set.univ}=> Ready m c : sProp (MT nD τ sig ℕ (Elt F) ℕ UU ℕ)) := by
  rw [own_sems]
  unfold Kept Ready
  iintro ⟨⟨%κ, %ι, #HR, HS⟩, Ho, -⟩
  imod (seed_open (F := F) (xOf m) (topOf m) κ ι c) $$ [HS Ho] with HT
  · isplitr; · iexact HR
    isplitl [HS]; · iexact HS
    iexact Ho
  imodintro
  iexists κ, ι
  isplitr; · iexact HR
  iexact HT

theorem held_none (c : Dev nD) (W : Valuation τ sig (Elt F)) : (StableHlo.held (c.tc : Thread nD τ) (∅ : Finset (DevRef τ sig)) W : sProp (MT nD τ sig ℕ (Elt F) ℕ UU ℕ)) = BI.emp := by
  unfold StableHlo.held; exact BI.bigSep_empty

theorem hin (c : Dev nD) : iprop(Pipeline.scopedRest (Pipeline.pin (pcfgs (F := F)) adm 0).spec c ∗ (∃ r, prngReg c r) ∗ StableHlo.held (c.tc : Thread nD τ) (∅ : Finset (DevRef τ sig)) (V₁ m c) ∗ Ready m c)
    ⊢ ((pdats m 0 c).Φ 0 : sProp (MT nD τ sig ℕ (Elt F) ℕ UU ℕ)) := by
  rw [show ((pdats m 0 c).Φ 0 : sProp (MT nD τ sig ℕ (Elt F) ℕ UU ℕ)) = iprop(Ready m c ∗ Scratch c ∗ ∃ r, prngReg c r) from rfl,
    show (Pipeline.scopedRest (Pipeline.pin (pcfgs (F := F)) adm 0).spec c : sProp (MT nD τ sig ℕ (Elt F) ℕ UU ℕ)) = Scratch c from scratch_eq c]
  iintro ⟨Hs, Hp, -, HX⟩
  isplitl [HX]; · iexact HX
  isplitl [Hs]; · iexact Hs
  iexact Hp

theorem hout (c : Dev nD) : ((pdats m 0 c).Φ (Fin.last (Pipeline.pin (pcfgs (F := F)) adm 0).N) : sProp (MT nD τ sig ℕ (Elt F) ℕ UU ℕ))
    ⊢ iprop(Pipeline.scopedRest (Pipeline.pin (pcfgs (F := F)) adm 0).spec c ∗ (∃ r, prngReg c r) ∗ StableHlo.held (c.tc : Thread nD τ) (∅ : Finset (DevRef τ sig)) (V₂ m c) ∗ Pipeline.ownSems0 osem c ∗ Left c) := by
  rw [show ((pdats m 0 c).Φ (Fin.last _) : sProp (MT nD τ sig ℕ (Elt F) ℕ UU ℕ)) = iprop(Left c ∗ (bigSep Finset.univ fun s : SK => semVal (cell c (kd s)) 0) ∗ Scratch c ∗ ∃ r, prngReg c r) from rfl,
    show (Pipeline.scopedRest (Pipeline.pin (pcfgs (F := F)) adm 0).spec c : sProp (MT nD τ sig ℕ (Elt F) ℕ UU ℕ)) = Scratch c from scratch_eq c, held_none, own_sems]
  iintro ⟨Hb, Ho, Hs, Hp⟩
  isplitl [Hs]; · iexact Hs
  isplitl [Hp]; · iexact Hp
  isplitr; · iempintro
  isplitl [Ho]; · iexact Ho
  iexact Hb

theorem arr_in (c : Dev nD) : ∀ w : Fin 5, (dat0 m c).arrAt w 0 = V₁ m c (Proc.devRef .tc (Pipeline.arrRef spec0 w)) := fun _ => rfl

theorem arr_out (c : Dev nD) : ∀ w : Fin 5, (dat0 m c).arrAt w cfg0.N = V₂ m c (Proc.devRef .tc (Pipeline.arrRef spec0 w))
  | 0 => ((dat0 m c).arrAt_in 0 rfl _).trans (V₂_ne m c (Proc.devRef .tc main_arg0) (by decide)).symm
  | 1 => ((dat0 m c).arrAt_in 1 rfl _).trans (V₂_ne m c (Proc.devRef .tc main_arg1) (by decide)).symm
  | 2 => ((dat0 m c).arrAt_in 2 rfl _).trans (V₂_ne m c (Proc.devRef .tc main_c) (by decide)).symm
  | 3 => ((dat0 m c).arrAt_in 3 rfl _).trans (V₂_ne m c (Proc.devRef .tc main_c_0) (by decide)).symm
  | 4 => (V₂_v1 m c).symm
  | ⟨_ + 5, h⟩ => absurd h (Nat.not_lt.2 (Nat.le_add_left _ _))

theorem owed_in (c : Dev nD) : (pdats m 0 c).owed 0 = 0 + owed₀ c := by
  rw [zero_add]
  show (if ((0 : Fin (cfg0.N + 1)).val = 0) then owed₀ c else 0) = owed₀ c; exact if_pos rfl
theorem owed_out (c : Dev nD) : (pdats m 0 c).owed (Fin.last _) = 0 := by
  show (if (Fin.last cfg0.N).val = 0 then owed₀ c else 0) = 0; exact if_neg (by decide)

set_option backward.isDefEq.respectTransparency.types false in
/-- The kernel's region. -/
def reg0 : Pipeline.RegionSeg (pcfgs (F := F)) adm (pdats m) 0 defs₀ 𝒱₀ L lv 0 :=
  Pipeline.RegionSeg.ofTalk (pcfgs (F := F)) adm (pdats m) 0 defs₀ 𝒱₀ L lv 0 osem ownSemFacts
    ∅ ∅ (Finset.Subset.refl _) launch0.toP rfl (fun c => (body0 m c).loose)
    (fun _ => 0) owed₀ (owed_in m) (owed_out m) (fun _ => rfl) (fun c w => by unfold Dat.share; split <;> rfl)
    (V₁ m) (V₂ m) (fun _ b hb => absurd hb (by rw [Finset.sdiff_self]; exact Finset.notMem_empty b))
    (Kept m) Left (Ready m) Left (hopen m) (hin m) (hout m)
    (fun c => by iintro H; imodintro; iexact H)
    (fun _ => 0)
    ⟨fun c w s => by rw [L_tc]; decide, fun c w s => Nat.le_of_eq (stage_lv c w s), fun c t g i h => cutD m c t g i h⟩
    (fun _ => iprop(emp))
    (arr_in m) (arr_out m)

theorem reg0_pre (c : Dev nD) : iprop(StableHlo.held (c.tc : Thread nD τ) (Pipeline.ucRefs τ sig) (V₁ m c) ∗ (∃ r, prngReg c r) ∗ Kept m c ∗ ∃ W, owes (c : Thread nD τ) (owed₀ c) W) ⊢ (reg0 m).pre c := by
  show _ ⊢ iprop(StableHlo.held (c.tc : Thread nD τ) (Pipeline.arrRefs (τ := τ) spec0) (V₁ m c) ∗ (∃ r, prngReg c r)
    ∗ (StableHlo.held (c.tc : Thread nD τ) ∅ (V₁ m c) ∗ emp) ∗ Kept m c ∗ ∃ Wd, owes (c : Thread nD τ) (0 + owed₀ c) Wd)
  rw [uc_arrs, held_none, zero_add]
  iintro ⟨Hh, Hp, HK, HO⟩
  isplitl [Hh]; · iexact Hh
  isplitl [Hp]; · iexact Hp
  isplitr
  · isplitl <;> iempintro
  isplitl [HK]; · iexact HK
  iexact HO

theorem reg0_post (c : Dev nD) : (reg0 m).post c
    ⊢ iprop((StableHlo.held (c.tc : Thread nD τ) (Pipeline.arrRefs (τ := τ) spec0) (V₂ m c) ∗ Left c) ∗ ∃ W, owes (c : Thread nD τ) (0 : CellTallies nD τ sig ℕ) W) := by
  show iprop(StableHlo.held (c.tc : Thread nD τ) (Pipeline.arrRefs (τ := τ) spec0) (V₂ m c) ∗ (∃ r, prngReg c r)
    ∗ (StableHlo.held (c.tc : Thread nD τ) ∅ (V₂ m c) ∗ emp) ∗ Left c ∗ ∃ Wd, owes (c : Thread nD τ) (0 : CellTallies nD τ sig ℕ) Wd) ⊢ _
  iintro ⟨Hh, -, -, Hb, HO⟩
  isplitr [HO]
  · isplitl [Hh]; · iexact Hh
    iexact Hb
  iexact HO

/-! ## The launch -/

/-- The two tables are written before the region. -/
def seg0 : Pipeline.HostSeg (Name := ℕ) (U := UU) (pcfgs (F := F)) defs₀ 𝒱₀ L lv :=
  Pipeline.HostSeg.ofOps _ _ _ _ _ (Pipeline.ucRefs τ sig) hostOps0
    (fun op h => Pipeline.sub_ucRefs op (List.forall_iff_forall_mem.mp hostOps0_sub op h)) (List.forall_iff_forall_mem.mp hostOps0_fresh)
    (V₀ m) (fun c => iprop((∃ r, prngReg c r) ∗ Kept m c ∗ ∃ W, owes (c : Thread nD τ) (owed₀ c) W))

/-- The program in order. -/
def segs : List (Pipeline.Seg (pcfgs (F := F)) adm (pdats m) 0 defs₀ 𝒱₀ L lv) := [.host (seg0 m), .region (reg0 m)]

theorem main_eq (c : Dev nD) : main (F := F) c = Pipeline.Seg.run (segs m) :=
  main_segs adm (pdats m) 0 𝒱₀ L lv (seg0 m) (reg0 m) rfl c

theorem inj_cells : Function.Injective (Pipeline.cellOf (nD := nD) (τ := τ) (Pipeline.pin (pcfgs (F := F)) adm)) := cellOf_inj

/-- The launch's ghost state. -/
def u₀ : UU :=
  (initOf (Pipeline.cells (Pipeline.pin (pcfgs (F := F)) adm) inj_cells) (Pipeline.launchToks (Pipeline.pin (pcfgs (F := F)) adm) inj_cells),
    (launchOf bars owns talkToks, Release.initSlots Finset.univ 1))

/-- A resource all of it on device `c₀`. -/
def onDev (c₀ : Dev nD) (X : sProp (MT nD τ sig ℕ (Elt F) ℕ UU ℕ)) (c : Dev nD) : sProp (MT nD τ sig ℕ (Elt F) ℕ UU ℕ) := if c = c₀ then X else iprop(emp)
theorem bigSep_onDev (c₀ : Dev nD) (X : sProp (MT nD τ sig ℕ (Elt F) ℕ UU ℕ)) : bigSep Finset.univ (onDev c₀ X) = X := by
  rw [bigSep_univ_at _ c₀, bigSep_congr (s := Finset.univ.erase c₀) (Ψ := fun _ => (BI.emp : sProp (MT nD τ sig ℕ (Elt F) ℕ UU ℕ)))
      fun c hc => by unfold onDev; rw [if_neg (Finset.ne_of_mem_erase hc)]; rfl, BI.bigSep_emp_const]
  unfold onDev; rw [if_pos rfl]
  exact BI.equiv_iff.mp sep_emp

/-- The protocol's launch state. -/
def grain : sProp (MT nD τ sig ℕ (Elt F) ℕ UU ℕ) :=
  iprop(BI.own (ER (launchOf bars owns talkToks)) ∗ BI.own (ES (Release.initSlots Finset.univ 1)))

abbrev G : Dev nD → sProp (MT nD τ sig ℕ (Elt F) ℕ UU ℕ) := onDev 0 grain

theorem fund : (ownU (u₀ (F := F)) : sProp (MT nD τ sig ℕ (Elt F) ℕ UU ℕ))
    ⊢ |={Set.univ}=> iprop(BI.own (EP (initOf (Pipeline.cells (Pipeline.pin (pcfgs (F := F)) adm) inj_cells) (Pipeline.launchToks (Pipeline.pin (pcfgs (F := F)) adm) inj_cells))) ∗ bigSep Finset.univ (G (F := F))) := by
  unfold u₀ G
  rw [bigSep_onDev]
  iintro Hu
  ihave H := (ownU_pair _ _) $$ Hu
  icases H with ⟨HP, HX⟩
  imodintro
  isplitl [HP]; · iexact HP
  unfold grain
  iapply (own_pair_emb _ _ _) $$ HX

theorem unscoped_eq : ∀ sm : SemLoc sig, sm.isScoped .tc = false → sm = kindSem .bar := by decide +kernel

theorem unscopedSems (c : Dev nD) : (unscopedSems0 c : sProp (MT nD τ sig ℕ (Elt F) ℕ UU ℕ)) = semVal (cell c .bar) 0 := by
  unfold unscopedSems0
  rw [show (Finset.univ.filter fun sm : SemLoc sig => ¬ sm.isScoped .tc) = {kindSem .bar} from by decide +kernel, BI.bigSep_singleton]

abbrev T₀ (c : Dev nD) : sProp (MT nD τ sig ℕ (Elt F) ℕ UU ℕ) :=
  iprop(StableHlo.held (c.tc : Thread nD τ) (Pipeline.ucRefs τ sig) (V₀ m c) ∗ (∃ r, prngReg c r) ∗ Kept m c ∗ ∃ W, owes (c : Thread nD τ) (owed₀ c) W)
abbrev Tₙ (c : Dev nD) : sProp (MT nD τ sig ℕ (Elt F) ℕ UU ℕ) :=
  iprop(StableHlo.held (c.tc : Thread nD τ) (Pipeline.arrRefs (τ := τ) spec0) (V₂ m c) ∗ Left c)

/-- What of a device's launch holdings is not the protocol's. -/
def rest (c : Dev nD) : sProp (MT nD τ sig ℕ (Elt F) ℕ UU ℕ) :=
  iprop(StableHlo.held (c.tc : Thread nD τ) (Pipeline.ucRefs τ sig) (V₀ m c) ∗ (∃ r, prngReg c r) ∗ ∃ W, owes (c : Thread nD τ) (owed₀ c) W)

theorem init :
    iprop((bigSep Finset.univ fun c : Dev nD => iprop(unscopedBufs c (fun b => m ((c.tc : Thread nD τ).loc b)) ∗ unscopedSems0 c
          ∗ owes (c.tc : Thread nD τ) (owed₀ c) ∅ ∗ Pipeline.launchCred owed₀ c ∗ prngReg c (ρ c) ∗ G c)) ∗ levAts L lv)
      ⊢ (|={Set.univ}=> bigSep Finset.univ (T₀ m) : sProp (MT nD τ sig ℕ (Elt F) ℕ UU ℕ)) := by
  have hcore (c : Dev nD) : iprop(unscopedBufs c (fun b => m ((c.tc : Thread nD τ).loc b)) ∗ unscopedSems0 c
        ∗ owes (c.tc : Thread nD τ) (owed₀ c) ∅ ∗ Pipeline.launchCred owed₀ c ∗ prngReg c (ρ c) ∗ G c)
      ⊢ (iprop(rest m c ∗ semVal (cell c .bar) 0 ∗ Pipeline.launchCred owed₀ c ∗ G c) : sProp (MT nD τ sig ℕ (Elt F) ℕ UU ℕ)) := by
    rw [show (unscopedBufs c (fun b => m ((c.tc : Thread nD τ).loc b)) : sProp (MT nD τ sig ℕ (Elt F) ℕ UU ℕ)) = StableHlo.held (c.tc : Thread nD τ) (Pipeline.ucRefs τ sig) (V₀ m c) from Pipeline.unscopedBufs_held c (V₀ m c),
      unscopedSems]
    unfold rest
    iintro ⟨Hh, Hus, HO, Hcr, Hp, HG⟩
    isplitl [Hh HO Hp]
    · isplitl [Hh]; · iexact Hh
      isplitl [Hp]; · iexists (ρ c); iexact Hp
      iexists ∅; iexact HO
    isplitl [Hus]; · iexact Hus
    isplitl [Hcr]; · iexact Hcr
    iexact HG
  have h1 : (bigSep Finset.univ fun c : Dev nD => iprop(unscopedBufs c (fun b => m ((c.tc : Thread nD τ).loc b)) ∗ unscopedSems0 c
          ∗ owes (c.tc : Thread nD τ) (owed₀ c) ∅ ∗ Pipeline.launchCred owed₀ c ∗ prngReg c (ρ c) ∗ G c))
      ⊢ (iprop(All (rest m) ∗ All (fun c => semVal (cell c .bar) 0) ∗ All (fun c => Pipeline.launchCred owed₀ c) ∗ All (G (F := F))) : sProp (MT nD τ sig ℕ (Elt F) ℕ UU ℕ)) := by
    rw [← all_sep, ← all_sep, ← all_sep]
    exact bigSep_mono fun c _ => hcore c
  have h2 : All (fun c => (Pipeline.launchCred owed₀ c : sProp (MT nD τ sig ℕ (Elt F) ℕ UU ℕ))) ⊢ All (Due (F := F)) :=
    (launch_creds owed₀ fun d g h => owing_tc d _ g h).trans owed_due
  have h3 : All (G (F := F)) ⊢ grain := Entails.of_eq (bigSep_onDev 0 grain)
  have h4 (κ : GSem nD τ sig → ℕ) (ι : Key → ℕ) : iprop(Recs (xOf m) (topOf m) κ ι ∗ bigSep Finset.univ fun c => iprop(Seed (F := F) c ∗ rest m c)) ⊢ bigSep Finset.univ (T₀ m) :=
    bigSep_with_persistent (R := Recs (xOf m) (topOf m) κ ι) (Φ := fun c => iprop(Seed (F := F) c ∗ rest m c)) fun c _ => by
      unfold rest T₀ Kept
      iintro ⟨#HR, HS, Hh, Hp, HO⟩
      isplitl [Hh]; · iexact Hh
      isplitl [Hp]; · iexact Hp
      isplitr [HO]
      · iexists κ, ι
        isplitr; · iexact HR
        iexact HS
      iexact HO
  have h5 : iprop(All (Seed (F := F)) ∗ All (rest m)) ⊢ bigSep Finset.univ fun c => iprop(Seed (F := F) c ∗ rest m c) := by
    rw [← all_sep]
  iintro ⟨H, HL⟩
  icases h1 $$ H with ⟨HB, Hv, Hc, HG⟩
  ihave Hc := h2 $$ Hc
  ihave HG := h3 $$ HG
  icases (show grain (F := F) ⊢ iprop(BI.own (ER (launchOf bars owns talkToks)) ∗ BI.own (ES (Release.initSlots Finset.univ 1))) from BI.Entails.refl _) $$ HG with ⟨HG1, HG2⟩
  imod (sow (F := F) (xOf m) (topOf m)) $$ [HL Hv Hc HG1 HG2] with ⟨%κ, %ι, #HR, HS⟩
  · isplitl [HL]; · iexact HL
    isplitl [Hv]; · iexact Hv
    isplitl [Hc]; · iexact Hc
    isplitl [HG1]; · iexact HG1
    iexact HG2
  imodintro
  iapply (h4 κ ι)
  isplitr; · iexact HR
  iapply h5
  isplitl [HS]; · iexact HS
  iexact HB

set_option backward.isDefEq.respectTransparency.types false in
/-- Every execution of the program ends, faults nowhere, leaves the arguments as they were, the result at the named
    contents, and every semaphore at zero. -/
theorem run_main : θ_run defs (onTc (τ := τ) (main (F := F))) ⟨m, fun _ => 0, ρ⟩
    (fun r => (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_v1) = (dat0 m c).arrAt 4 cfg0.N) ∧ r.2.sem = fun _ => 0) :=
  Pipeline.θ_run_regions_kit_sems (pcfgs (F := F)) adm (pdats m) 0 inj_cells EP defs₀ 𝒱₀ L lv m ρ main (segs m)
    (fun c Q => by rw [main_eq m c])
    (by simp only [segs, Pipeline.Seg.pipes_host, Pipeline.Seg.pipes_region, Pipeline.Seg.pipes_nil]; decide)
    (O₀ := owed₀) (hL := L_of_ne) (G := G) (u₀ := u₀)
    (hu₀ := fund)
    (T₀ := T₀ m) (Tₙ := Tₙ m)
    (hch := ⟨fun c => .rfl, fun c => reg0_pre m c, fun c => reg0_post m c⟩)
    (hinit := init m ρ)
    (QY := fun c s => (s.mem ((c.tc : Thread nD τ).loc main_arg0) = V₂ m c (Proc.devRef .tc main_arg0)
        ∧ s.mem ((c.tc : Thread nD τ).loc main_arg1) = V₂ m c (Proc.devRef .tc main_arg1)
        ∧ s.mem ((c.tc : Thread nD τ).loc main_v1) = V₂ m c (Proc.devRef .tc main_v1))
      ∧ s.sem (cell c .bar) = 0)
    (hfin := fun c s' => by
      dsimp only [Tₙ]; rw [held_arrs]; unfold Left
      iintro ⟨⟨⟨H0, H1, -, -, H4⟩, Hb0⟩, HSI⟩
      icombine HSI H0 gives %h0
      icombine HSI H1 gives %h1
      icombine HSI H4 gives %h4
      icombine HSI Hb0 gives %hb
      imodintro
      isplitr
      · ipureintro
        exact ⟨⟨Buf.eq_of_forall_mem_univ h0, Buf.eq_of_forall_mem_univ h1, Buf.eq_of_forall_mem_univ h4⟩, by simpa using hb⟩
      iexact HSI)
    (hQ := fun s h hs => ⟨fun c => by
        obtain ⟨⟨h0, h1, h4⟩, -⟩ := h c
        rw [V₂_ne m c _ (by decide)] at h0 h1
        rw [V₂_v1] at h4
        exact ⟨h0.trans (V_main_arg0 m c), h1.trans (V_main_arg1 m c), h4⟩,
      sem_eq_zero hs fun c sm hsm => by
        obtain rfl := unscoped_eq sm hsm
        exact (h c).2⟩)

end Cert.KernelIdeal.Tidy
-- ==== Proof.Same.lean ====
module

public import proofs.«01_k».proof.Kernel
public import proofs.«01_k».proof.KernelIdeal
public import proofs.«01_k».proof.Proof.Gen.Kernel.Skeleton
public import proofs.«01_k».proof.Proof.Gen.KernelIdeal.Skeleton
public import proofs.«01_k».proof.Proof.Run

@[expose] public section

set_option maxRecDepth 1000000
set_option maxHeartbeats 0

noncomputable section

namespace Cert.Same

open Idealize.ShloMosaic Idealize.ShloMosaic.TcCoe
open Idealize.SL Idealize.SL.Sem

variable {F : FTy → Type} [FloatOps F]

/-- The two printed kernels run the same body. -/
theorem defs0_same : Cert.Kernel.defs₀ (F := F) = Cert.KernelIdeal.defs₀ := by
  unfold Cert.Kernel.defs₀ Cert.KernelIdeal.defs₀
  refine congrArg Defs.onTc ?_
  funext l a
  match l, a with
  | 0, (t, s) => rfl
  | ⟨_ + 1, h⟩, _ => exact absurd h (Nat.not_lt.2 (Nat.le_add_left _ _))

/-- They have the same procedures. -/
theorem defs_same : Cert.Kernel.defs (F := F) = Cert.KernelIdeal.defs :=
  congrArg (fun d => Pipeline.defs (Cert.KernelIdeal.pcfgs (F := F)) d) (defs0_same (F := F))

/-- They have the same host program. -/
theorem main_same : Cert.Kernel.main (F := F) = Cert.KernelIdeal.main := rfl

/-- What is proved of the one's run holds of the other's: no fault, the arguments unchanged, every semaphore at zero. -/
theorem run_kernel (m : (ℓ : Loc Cert.Kernel.nD Cert.Kernel.τ Cert.Kernel.sig) → Buf (Elt F) ℓ) (g : Dev Cert.Kernel.nD → PrngReg) :
    θ_run (Cert.Kernel.defs (F := F)) (onTc (τ := Cert.Kernel.τ) (Cert.Kernel.main (F := F))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0) := by
  rw [defs_same, main_same]
  exact (θ_run (Cert.KernelIdeal.defs (F := F)) _ _).mono (fun _ h => ⟨fun c => ⟨(h.1 c).1, (h.1 c).2.1⟩, h.2⟩) (Cert.KernelIdeal.Tidy.run_main (F := F) m g)

end Cert.Same

end
-- ==== Proof.Largest.lean ====
module

public import Idealize.ShloMosaic.Lib.Pipeline.Value
public import Idealize.ShloMosaic.Lib.ValueIdx
public import Idealize.ShloMosaic.Lib.MatmulPlain
public import Idealize.ShloMosaic.PureOps.Reduce
public import Idealize.ShloMosaic.PureOps.Ideal.Laws

@[expose] public section

noncomputable section

namespace Cert.Value

open Idealize.ShloMosaic Idealize.ShloMosaic.ValueIdx

/-! ## Largest magnitudes and scaling on extended reals -/

/-- A magnitude. -/
def mag (y : EReal) : EReal := max y (-y)

/-- No magnitude is negative. -/
theorem mag_nonneg (y : EReal) : 0 ≤ mag y := by
  unfold mag
  rcases le_total 0 y with h | h
  · exact h.trans (le_max_left _ _)
  · exact le_trans (by simpa using EReal.neg_le_neg_iff.mpr h) (le_max_right _ _)

/-- The float pattern of minus infinity is the least extended real. -/
theorem bits_bot : (FloatOps.ofBits .f32 0xFF800000#32 : Ideal .f32) = (⊥ : EReal) := by
  show Ideal.ofBits .f32 0xFF800000#32 = ⊥
  simp [Ideal.ofBits, Ideal.ieee]

/-- A maximum over every axis is at most `b` when every element is. -/
theorem reduce_le {s t : Shape} {axes : List (Fin s.rank)} (ht : ∀ b, t.size b = 1) (src : FVec Ideal s .f32) (h : s.Reduces axes t)
    (hφ : FKind.Formats .f32) (hacc : (0xFF800000#32 : BitVec 32) = FKind.maximumf.neutral .f32 hφ) (j : t.Idx) (b : EReal) :
    multiReduction .maximumf axes t src 0xFF800000#32 h hφ hacc j ≤ b ↔ ∀ i, src i ≤ b := by
  rw [multiReduction_maximumf_eq_fold, Finset.filter_true_of_mem fun i _ => funext fun b => Fin.ext (by
    have := (h.drop i b).isLt; have := (j b).isLt; have := ht b; omega)]
  refine (Finset.fold_max_le (c := b) (b := FloatOps.ofBits (F := Ideal) .f32 0xFF800000#32) (f := src) (s := Finset.univ)).trans ?_
  rw [bits_bot]
  simp

/-- Laying the elements out anew does not change which bound they have. -/
theorem cast_le {s t : Shape} (x : s.Idx → EReal) (h : s.ShapeCasts t) (b : EReal) : (∀ j, shapeCast t x h j ≤ b) ↔ ∀ i, x i ≤ b :=
  (Shape.reshapeEquiv h).forall_congr_left.trans (by simp [shapeCast])

/-- A value scaled by `s`, held within the format's range, and scaled back. -/
def quant (s y : EReal) : EReal :=
  min (Ideal.ofBits .f32 0x43E00000#32) (max (Ideal.ofBits .f32 0xC3E00000#32) (Ideal.div y s)) * s

end Cert.Value

end
-- ==== Proof.Blocks.lean ====
module

public import proofs.«01_k».proof.Proof.Body
public import proofs.«01_k».proof.Proof.Largest

@[expose] public section

set_option maxRecDepth 100000

noncomputable section

namespace Cert.KernelIdeal.Tidy

open Idealize.ShloMosaic Idealize.ShloMosaic.TcCoe
open Idealize.SL Idealize.SL.Sem
open Cert.KernelIdeal.Gen Cert.Value

/-! ## What a device's blocks come to on extended reals -/

variable {xs : (c : Dev nD) → Buf (Elt Ideal) ((E₀.x).view.loc (c : Thread nD τ))} {c : Dev nD}
variable (w : Buf (Elt Ideal) (E₀.w.view.loc (c : Thread nD τ)))

theorem dev_lt (i : S4096x64.Idx) : (i 0).val / 128 < nD := by have h : (i 0).val < 4096 := (i 0).isLt; have e : nD = 32 := rfl; omega
theorem in_lt (i : S4096x64.Idx) : (i 0).val % 128 < 128 := Nat.mod_lt _ (by decide)

variable (xs) in
/-- An element of a device's rows of `x`. -/
def xat (o : Dev nD) (r : Fin 128) (k : Fin 4096) : EReal := xs o (ValueIdx.ix2 r k : S128x4096.Idx)
/-- An element of the device's columns of `w`. -/
def wat (k : Fin 4096) (l : Fin 64) : EReal := w (ValueIdx.ix2 k l : S4096x64.Idx)

variable (xs) in
/-- The product of all rows of `x` with the device's columns of `w`. -/
def prod (i : S4096x64.Idx) : EReal :=
  ∑ k : Fin 4096, xat xs ⟨(i 0).val / 128, dev_lt i⟩ ⟨(i 0).val % 128, in_lt i⟩ k * wat w k (i 1)

theorem wv_eq : (wv w : S4096x64.Idx → EReal) = w := by
  have z : ∀ i : Fin 2, (![0, 0] : Fin 2 → ℕ) i = 0 := by decide
  exact Memref.read_access_unit_zero (Elt Ideal) cc0_stg1_0 (funext z) _ w

theorem xh_lt (t : Fin 2) (r : Fin 64) : 64 * t.val + r.val < 128 := by have := t.isLt; have := r.isLt; omega

theorem xh_eq (o : Dev nD) (t : Fin 2) (r : Fin 64) (k : Fin 4096) :
    (xh xs o t (ValueIdx.ix2 r k) : EReal) = xat xs o ⟨64 * t.val + r.val, xh_lt t r⟩ k := by
  show xs o _ = xs o _
  refine congrArg (xs o) (funext fun a => Fin.ext ?_)
  fin_cases a
  · show 64 * t.val + 1 * r.val = _; rw [Nat.one_mul]
  · show 0 + 1 * k.val = _; rw [Nat.one_mul, Nat.zero_add]

/-- A product of half a block, element by element. -/
theorem mm_eq (x : FVec Ideal S64x4096 .f32) (v : Vec Ideal S4096x64 .f32) (r : Fin 64) (l : Fin 64) :
    (mm x v (ValueIdx.ix2 r l) : EReal) = ∑ k : Fin 4096, (x (ValueIdx.ix2 r k) : EReal) * (v (ValueIdx.ix2 k l) : EReal) := by
  unfold mm
  rw [shapeCast_self]
  refine (Ideal.matmul_plain_apply (M := 64) (K := 4096) (N := 64) none x v (constant S64x64 .f32 0x00000000#32) r l).trans ?_
  show Ideal.ofBits .f32 0x00000000#32 + _ = _
  rw [Ideal.ofBits_zero_f32, zero_add]

/-- The largest magnitude so far is at most `b` when the earlier one and every new element's are. -/
theorem amax_le (a : EReal) (v : FVec Ideal S64x64 .f32) (b : EReal) : (amax (F := Ideal) a v : EReal) ≤ b ↔ a ≤ b ∧ ∀ p, mag (v p) ≤ b := by
  unfold amax
  refine (max_le_iff (a := a)).trans (and_congr Iff.rfl ?_)
  unfold extractAt shapeCast
  refine (reduce_le (fun b => by fin_cases b; rfl) _ _ _ _ _ b).trans ?_
  exact cast_le (fun p => mag (v p)) shapeCasts_S64x64_S1x64x64 b

/-- Where row `r`, column `l` of half `t` of block `o` lands. -/
def land (o : Dev nD) (t : Fin 2) (p : S64x64.Idx) : S4096x64.Idx :=
  (E₀.out.access (Rect.unit (s := S4096x64) (rowOff o t) S64x64.size (row_inb o t))).emb p

theorem land_0 (o : Dev nD) (t : Fin 2) (p : S64x64.Idx) : (land o t p 0).val = 128 * o.val + 64 * t.val + (p 0).val := by
  show 128 * o.val + 64 * t.val + 1 * (p 0).val = _; rw [Nat.one_mul]
theorem land_1 (o : Dev nD) (t : Fin 2) (p : S64x64.Idx) : (land o t p 1).val = (p 1).val := by
  show 0 + 1 * (p 1).val = _; rw [Nat.one_mul, Nat.zero_add]

theorem strip_land (o : Dev nD) (t : Fin 2) (p : S64x64.Idx) : strip (land o t p) = bk o t := by
  refine Fin.ext ?_
  show (land o t p 0).val / 64 = 2 * o.val + t.val
  rw [land_0]
  have h : (p 0).val < 64 := (p 0).isLt
  omega

theorem land_onto (o : Dev nD) (t : Fin 2) (i : S4096x64.Idx) (h : strip i = bk o t) : ∃ p, land o t p = i := by
  obtain ⟨p, -, hp⟩ := Finset.mem_map.mp (out_set o t i h)
  exact ⟨p, hp⟩

/-- The half block's product is the whole product's rows there. -/
theorem mm_land (o : Dev nD) (t : Fin 2) (p : S64x64.Idx) : (mm (xh xs o t) (wv w) p : EReal) = prod xs w (land o t p) := by
  refine ((congrArg (mm (xh xs o t) (wv w)) (ValueIdx.eq_ix2 p)).trans (mm_eq _ _ (p 0) (p 1))).trans ?_
  rw [wv_eq]
  unfold prod
  refine Finset.sum_congr rfl fun k _ => ?_
  have h0 := land_0 o t p
  have h1 := land_1 o t p
  have hp : (p 0).val < 64 := (p 0).isLt
  have ht := t.isLt
  have eo : (⟨(land o t p 0).val / 128, dev_lt _⟩ : Dev nD) = o := Fin.ext (by show (land o t p 0).val / 128 = o.val; omega)
  have e0 : (⟨(land o t p 0).val % 128, in_lt _⟩ : Fin 128) = ⟨64 * t.val + (p 0).val, xh_lt t (p 0)⟩ := Fin.ext (by show (land o t p 0).val % 128 = 64 * t.val + (p 0).val; omega)
  have e1 : land o t p 1 = p 1 := Fin.ext h1
  rw [eo, e0, e1]
  exact congrArg (· * wat w k (p 1)) (xh_eq o t (p 0) k)

variable (xs) in
/-- The strips made so far hold the product's rows, and the largest magnitude is theirs. -/
def Good (S : Finset (Fin 64)) (st : Buf (Elt Ideal) (E₀.out.view.loc (c : Thread nD τ)) × Ideal .f32) : Prop :=
  (∀ i : S4096x64.Idx, strip i ∈ S → (st.1 i : EReal) = prod xs w i)
    ∧ ∀ b : EReal, (st.2 : EReal) ≤ b ↔ 0 ≤ b ∧ ∀ i : S4096x64.Idx, strip i ∈ S → mag (prod xs w i) ≤ b

theorem good_gem1 {S : Finset (Fin 64)} {st : Buf (Elt Ideal) (E₀.out.view.loc (c : Thread nD τ)) × Ideal .f32} (h : Good xs w S st) (o : Dev nD) (t : Fin 2) :
    Good xs w (insert (bk o t) S) (gem1 xs w o t st) := by
  refine ⟨fun i hi => ?_, fun b => ?_⟩
  · by_cases he : strip i = bk o t
    · obtain ⟨p, rfl⟩ := land_onto o t i he
      rw [← mm_land w o t p]
      exact View.write_emb_of_mem (Val := Elt Ideal) (v := E₀.out.access (Rect.unit (s := S4096x64) (rowOff o t) S64x64.size (row_inb o t))) st.1 _ (Finset.mem_univ p)
    · refine Eq.trans ?_ (h.1 i ((Finset.mem_insert.mp hi).resolve_left he))
      refine View.write_of_not_mem (Val := Elt Ideal) (v := E₀.out.access (Rect.unit (s := S4096x64) (rowOff o t) S64x64.size (row_inb o t))) st.1 _ _ fun hm => he ?_
      obtain ⟨p, -, hp⟩ := Finset.mem_map.mp hm
      rw [← hp]
      exact strip_land o t p
  · refine (amax_le st.2 _ b).trans ?_
    rw [h.2 b, and_assoc]
    refine and_congr Iff.rfl ⟨fun ⟨h1, h2⟩ i hi => ?_, fun h1 => ⟨fun i hi => h1 i (Finset.mem_insert_of_mem hi), fun p => ?_⟩⟩
    · rcases Finset.mem_insert.mp hi with he | hi
      · obtain ⟨p, rfl⟩ := land_onto o t i he
        rw [← mm_land w o t p]
        exact h2 p
      · exact h1 i hi
    · rw [mm_land w o t p]
      exact h1 _ (Finset.mem_insert.mpr (Or.inl (strip_land o t p)))

theorem good_gem {S : Finset (Fin 64)} {st : Buf (Elt Ideal) (E₀.out.view.loc (c : Thread nD τ)) × Ideal .f32} (h : Good xs w S st) (o : Dev nD) :
    Good xs w (bks o S) (gem xs w o st) := good_gem1 w (good_gem1 w h o 0) o 1

theorem good_run : ∀ (n : ℕ) {S : Finset (Fin 64)} {st : Buf (Elt Ideal) (E₀.out.view.loc (c : Thread nD τ)) × Ideal .f32}, Good xs w S st →
    Good xs w (runBks c n S) (run xs w n st)
  | 0, _, _, h => h
  | n + 1, _, _, h => good_run n (good_gem w (good_gem w h _) _)

/-- The device's output before scaling is the product, and its maximum the largest magnitude in it. -/
theorem good_total : Good xs w Finset.univ (total xs w) := by
  have h0 : Good xs w ∅ ((fun _ => (Scalar.ofBits .f32 0x00000000#32 : Ideal .f32) : Buf (Elt Ideal) (E₀.out.view.loc (c : Thread nD τ))), (Scalar.ofBits .f32 0x00000000#32 : Ideal .f32)) := by
    refine ⟨fun _ h => absurd h (Finset.notMem_empty _), fun b => ?_⟩
    show Ideal.ofBits .f32 0x00000000#32 ≤ b ↔ _
    rw [Ideal.ofBits_zero_f32]
    exact ⟨fun h => ⟨h, fun _ hi => absurd hi (Finset.notMem_empty _)⟩, fun h => h.1⟩
  have h1 := good_gem w (good_run w 15 (good_gem w h0 c)) (org true 16 c)
  rw [all_bks] at h1
  exact h1

theorem total_fst : ((total xs w).1 : S4096x64.Idx → EReal) = prod xs w := funext fun i => (good_total w).1 i (Finset.mem_univ _)

theorem total_snd_le (b : EReal) : ((total xs w).2 : EReal) ≤ b ↔ 0 ≤ b ∧ ∀ i, mag (prod xs w i) ≤ b :=
  ((good_total w).2 b).trans (and_congr Iff.rfl (forall_congr' fun i => ⟨fun h => h (Finset.mem_univ _), fun h _ => h⟩))

/-- Every device's columns. -/
abbrev Cols := (c : Dev nD) → Buf (Elt Ideal) (E₀.w.view.loc (c : Thread nD τ))

/-- The devices' common scale: at any bound, the largest magnitude is at most it when every element's is. -/
theorem pay_scale (ws : Cols) : ∃ M : EReal, (k0_pay125 (F := Ideal) (planes (maxOf xs ws)) : EReal) = Ideal.div M (Ideal.ofBits .f32 0x43E00000#32)
    ∧ ∀ b : EReal, M ≤ b ↔ ∀ (c : Dev nD) (i : S4096x64.Idx), mag (prod xs (ws c) i) ≤ b := by
  refine ⟨_, rfl, fun b => ?_⟩
  unfold extractAt shapeCast
  refine (reduce_le (fun b => by fin_cases b; rfl) _ _ _ _ _ b).trans ?_
  refine (cast_le (planes (maxOf xs ws)) shapeCasts_S32x8x128_S1x32x8x128 b).trans ⟨fun h c i => ?_, fun h p => ?_⟩
  · exact ((total_snd_le (ws c) b).mp (h (fun a => match a with | ⟨0, _⟩ => c | ⟨1, _⟩ => (⟨0, by decide⟩ : Fin 8) | ⟨2, _⟩ => (⟨0, by decide⟩ : Fin 128)))).2 i
  · exact (total_snd_le (ws (p 0)) b).mpr ⟨(mag_nonneg _).trans (h (p 0) (fun a => match a with | ⟨0, _⟩ => (⟨0, by decide⟩ : Fin 4096) | ⟨1, _⟩ => (⟨0, by decide⟩ : Fin 64))), fun i => h (p 0) i⟩

/-- What a device ends with, element by element. -/
theorem ends_eq (ws : Cols) (c : Dev nD) (i : S4096x64.Idx) :
    (ends xs ws c i : EReal) = quant (k0_pay125 (F := Ideal) (planes (maxOf xs ws))) (prod xs (ws c) i) := by
  unfold ends scaled k0_pay1
  rw [total_fst, shapeCast_self]
  rfl

end Cert.KernelIdeal.Tidy

end
-- ==== Proof.Whole.lean ====
module

public import proofs.«01_k».proof.Proof.Gen.ReferenceIdeal.Value
public import proofs.«01_k».proof.Proof.Largest

@[expose] public section

set_option maxRecDepth 100000

noncomputable section

namespace Cert.ReferenceIdeal.Whole

open Idealize.ShloMosaic Idealize.ShloMosaic.TcCoe
open Idealize.SL Idealize.SL.Sem
open Cert.ReferenceIdeal.Gen Cert.Value

/-! ## What the reference comes to on extended reals -/

variable (m : (ℓ : Loc nD τ sig) → Buf (Elt Ideal) ℓ) (c : Dev nD)

/-- An element of `x`. -/
def xat (r : Fin 4096) (k : Fin 4096) : EReal := m ((c : Thread nD τ).loc main_arg0) (ValueIdx.ix2 r k : S4096x4096.Idx)
/-- An element of `w`. -/
def wat (k : Fin 4096) (l : Fin 2048) : EReal := m ((c : Thread nD τ).loc main_arg1) (ValueIdx.ix2 k l : S4096x2048.Idx)
/-- The product. -/
def prod (i : S4096x2048.Idx) : EReal := ∑ k : Fin 4096, xat m c (i 0) k * wat m c k (i 1)

/-- The region's input is the product. -/
theorem V_main_v0 : (V m c main_v0 : S4096x2048.Idx → EReal) = prod m c := by
  have e : V m c main_v0 = Host.dotGeneral (F := Ideal) (φ₁ := .f32) (φ₂ := .f32) dot_S4096x4096_S4096x2048_S4096x2048_1_0_0_1_n_n none (m ((c : Thread nD τ).loc main_arg0)) (m ((c : Thread nD τ).loc main_arg1)) := by
    show StableHlo.after hostOps0 _ _ = _
    rw [StableHlo.after_cons, StableHlo.after_nil, StableHlo.binary_result]
  refine e.trans (funext fun i => ?_)
  refine (congrArg (Host.dotGeneral (F := Ideal) (φ₁ := .f32) (φ₂ := .f32) dot_S4096x4096_S4096x2048_S4096x2048_1_0_0_1_n_n none _ _) (ValueIdx.eq_ix2 i)).trans ?_
  refine (Ideal.matmul_plain_apply (M := 4096) (K := 4096) (N := 2048) (φ₁ := .f32) (φ₂ := .f32) none (m ((c : Thread nD τ).loc main_arg0)) (m ((c : Thread nD τ).loc main_arg1)) (fun _ => (0 : EReal)) (i 0) (i 1)).trans ?_
  exact zero_add _

theorem read_in (f : Buf (Elt Ideal) ((c : Thread nD τ).loc main_v0)) : (win0_0.blk t0_0).view.read (Elt Ideal) f = f :=
  Memref.read_access_unit_zero (Elt Ideal) main_v0
    (show (fun a => (win0_0.index t0_0) a * main_v0.ty.shape.size a) = fun _ => 0 from
      funext fun a => by fin_cases a <;> decide) (fun a => by fin_cases a <;> decide) f

theorem read_out (f : Buf (Elt Ideal) ((c : Thread nD τ).loc main_v1)) : (win0_1.blk t0_0).view.read (Elt Ideal) f = f :=
  Memref.read_access_unit_zero (Elt Ideal) main_v1
    (show (fun a => (win0_1.index t0_0) a * main_v1.ty.shape.size a) = fun _ => 0 from
      funext fun a => by fin_cases a <;> decide) (fun a => by fin_cases a <;> decide) f

theorem iblk_in : (iblk m c 0 t0_0 : S4096x2048.Idx → EReal) = prod m c := (read_in c _).trans (V_main_v0 m c)

theorem emb_self (i : S4096x2048.Idx) : r0_0.emb i = i := funext fun a => Fin.ext (by
  fin_cases a
  · show 0 + 1 * (i 0).val = (i 0).val; omega
  · show 0 + 1 * (i 1).val = (i 1).val; omega)

theorem out_self (x : Vec Ideal S4096x2048 .f32) : out0_1 x = k0_pay1 x := by
  have hx : View.ld x r0_0 = x := funext fun i => congrArg x (emb_self i)
  unfold out0_1
  rw [hx]
  funext i
  have h := View.canon_cons_emb (Val := Elt Ideal) (e := .f32) r0_0 (k0_pay1 x) [] i
  rw [emb_self] at h
  exact h

theorem arr_out : (dats m 0 c).arrAt 1 cfg0.N = k0_pay1 (F := Ideal) (prod m c) := by
  have hw := Value.blocks1 m c t0_0 (by decide)
  rw [Value.flushed1] at hw
  refine (read_out c _).symm.trans (hw.trans ?_)
  refine Eq.trans (b := out0_1 (iblk m c 0 t0_0)) (funext fun _ => rfl) ?_
  rw [out_self, iblk_in]

/-- Every value of the reference's result, from the largest magnitude in the product. -/
theorem pay_eq (y : S4096x2048.Idx → EReal) : ∃ M : EReal, (∀ b : EReal, M ≤ b ↔ ∀ i, mag (y i) ≤ b)
    ∧ ∀ i, (k0_pay1 (F := Ideal) y i : EReal) = quant (Ideal.div M (Ideal.ofBits .f32 0x43E00000#32)) (y i) := by
  refine ⟨shapeCast S1x1x1 (multiReduction (F := Ideal) .maximumf [1, 2] S1 (shapeCast S1x4096x2048 (absf (F := Ideal) (φ := .f32) (shapeCast S4096x2048 y shapeCasts_S4096x2048_S4096x2048)) shapeCasts_S4096x2048_S1x4096x2048) 0xFF800000#32 reduces_S1x4096x2048_S1 (.inl rfl) rfl) shapeCasts_S1_S1x1x1 (fun a => ⟨![0, 0, 0] a, inpos_S1x1x1_p0_0_0 a⟩), fun b => ?_, fun i => ?_⟩
  · rw [shapeCast_self]
    refine (reduce_le (fun b => by fin_cases b; rfl) _ _ _ _ _ b).trans ?_
    exact cast_le (fun i => mag (y i)) shapeCasts_S4096x2048_S1x4096x2048 b
  · unfold k0_pay1
    rw [shapeCast_self]
    rfl

end Cert.ReferenceIdeal.Whole

end
-- ==== Proof.Equal.lean ====
module

public import proofs.«01_k».proof.Proof.Run
public import proofs.«01_k».proof.Proof.Blocks
public import proofs.«01_k».proof.Proof.Whole
public import Idealize.ShloMosaic.Lib.Layout

@[expose] public section

set_option maxRecDepth 100000

noncomputable section

namespace Cert.KernelIdeal.Tidy

open Idealize.ShloMosaic Idealize.ShloMosaic.TcCoe
open Idealize.SL Idealize.SL.Sem
open Cert.KernelIdeal.Gen Cert.Value

variable (m : (ℓ : Loc nD τ sig) → Buf (Elt Ideal) ℓ) (c : Dev nD)

/-! ## The kernel's arrays -/

theorem read_x (f : Buf (Elt Ideal) ((c : Thread nD τ).loc main_arg0)) : (win0_0.blk t0_0).view.read (Elt Ideal) f = f :=
  Memref.read_access_unit_zero (Elt Ideal) main_arg0
    (show (fun a => (win0_0.index t0_0) a * main_arg0.ty.shape.size a) = fun _ => 0 from
      funext fun a => by fin_cases a <;> decide) (fun a => by fin_cases a <;> decide) f

theorem read_w (f : Buf (Elt Ideal) ((c : Thread nD τ).loc main_arg1)) : (win0_1.blk t0_0).view.read (Elt Ideal) f = f :=
  Memref.read_access_unit_zero (Elt Ideal) main_arg1
    (show (fun a => (win0_1.index t0_0) a * main_arg1.ty.shape.size a) = fun _ => 0 from
      funext fun a => by fin_cases a <;> decide) (fun a => by fin_cases a <;> decide) f

theorem read_o (f : Buf (Elt Ideal) ((c : Thread nD τ).loc main_v1)) : (win0_4.blk t0_0).view.read (Elt Ideal) f = f :=
  Memref.read_access_unit_zero (Elt Ideal) main_v1
    (show (fun a => (win0_4.index t0_0) a * main_v1.ty.shape.size a) = fun _ => 0 from
      funext fun a => by fin_cases a <;> decide) (fun a => by fin_cases a <;> decide) f

theorem xOf_eq : (xOf m c : S128x4096.Idx → EReal) = m ((c : Thread nD τ).loc main_arg0) := (read_x c _).trans (V_main_arg0 m c)
theorem wOf_eq : (wOf m c : S4096x64.Idx → EReal) = m ((c : Thread nD τ).loc main_arg1) := (read_w c _).trans (V_main_arg1 m c)

theorem arr_final : (dat0 m c).arrAt 4 cfg0.N = oOf m c := by
  have hw : ((cfg0.win 4).blk t0_0).view.read (Elt Ideal) ((dat0 m c).arrAt 4 cfg0.N) = (dat0 m c).flushed 4 t0_0 := by
    rw [show cfg0.N = t0_0.val + 1 from rfl, (dat0 m c).arrAt_succ (4 : Fin 5) t0_0, flush0_4, if_pos rfl]
    exact View.read_write_univ _ _
  refine (read_o c _).symm.trans (hw.trans ?_)
  show (cfg0.win 4).cut _ ((dat0 m c).after 4 t0_0) = _
  exact funext fun _ => rfl

/-! ## The kernel's blocks in the reference's arrays -/

variable (m' : (ℓ : Loc Cert.ReferenceIdeal.nD Cert.ReferenceIdeal.τ Cert.ReferenceIdeal.sig) → Buf (Elt Ideal) ℓ)

/-- The reference's one device. -/
abbrev d₀ : Dev Cert.ReferenceIdeal.nD := 0

theorem rows_tile : Layout.Tiles ⟨2, ![128, 4096]⟩ ⟨2, ![4096, 4096]⟩ 0 32 := by decide
theorem cols_tile : Layout.Tiles ⟨2, ![4096, 64]⟩ ⟨2, ![4096, 2048]⟩ 1 32 := by decide

/-- Each device starts with its rows of the reference's `x` and its columns of the reference's `w`. -/
def Starts : Prop := ∀ c : Dev nD,
  m ((c.tc : Thread nD τ).loc main_arg0) = Layout.block ⟨2, ![128, 4096]⟩ ⟨2, ![4096, 4096]⟩ 0 32 c (m' ((d₀.tc : Thread Cert.ReferenceIdeal.nD Cert.ReferenceIdeal.τ).loc Cert.ReferenceIdeal.main_arg0))
  ∧ m ((c.tc : Thread nD τ).loc main_arg1) = Layout.block ⟨2, ![4096, 64]⟩ ⟨2, ![4096, 2048]⟩ 1 32 c (m' ((d₀.tc : Thread Cert.ReferenceIdeal.nD Cert.ReferenceIdeal.τ).loc Cert.ReferenceIdeal.main_arg1))

variable {m m'}

theorem row_lt (o : Dev nD) (r : Fin 128) : 128 * o.val + r.val < 4096 := by have h : o.val < 32 := o.isLt; have := r.isLt; omega
theorem col_lt (c : Dev nD) (l : Fin 64) : 64 * c.val + l.val < 2048 := by have h : c.val < 32 := c.isLt; have := l.isLt; omega

theorem xat_whole (h : Starts m m') (o : Dev nD) (r : Fin 128) (k : Fin 4096) :
    xat (xOf m) o r k = ReferenceIdeal.Whole.xat m' d₀ ⟨128 * o.val + r.val, row_lt o r⟩ k := by
  unfold xat ReferenceIdeal.Whole.xat
  refine (congrFun (xOf_eq m o) _).trans ((congrFun (h o).1 _).trans ?_)
  refine congrArg (m' _) (funext fun a => Fin.ext ?_)
  fin_cases a
  · show o.val * 128 + r.val = 128 * o.val + r.val; omega
  · rfl

theorem wat_whole (h : Starts m m') (c : Dev nD) (k : Fin 4096) (l : Fin 64) :
    wat (wOf m c) k l = ReferenceIdeal.Whole.wat m' d₀ k ⟨64 * c.val + l.val, col_lt c l⟩ := by
  unfold wat ReferenceIdeal.Whole.wat
  refine (congrFun (wOf_eq m c) _).trans ((congrFun (h c).2 _).trans ?_)
  refine congrArg (m' _) (funext fun a => Fin.ext ?_)
  fin_cases a
  · rfl
  · show c.val * 64 + l.val = 64 * c.val + l.val; omega

/-- A device's product is its columns of the whole product. -/
theorem prod_whole (h : Starts m m') (c : Dev nD) (i : S4096x64.Idx) :
    prod (xOf m) (wOf m c) i = ReferenceIdeal.Whole.prod m' d₀ (cols_tile.idx c i) := by
  unfold prod ReferenceIdeal.Whole.prod
  refine Finset.sum_congr rfl fun k _ => ?_
  refine congrArg₂ (· * ·) ((xat_whole h _ _ k).trans (congrArg (fun r => ReferenceIdeal.Whole.xat m' d₀ r k) (Fin.ext ?_)))
    ((wat_whole h c k (i 1)).trans (congrArg (fun l => ReferenceIdeal.Whole.wat m' d₀ k l) (Fin.ext ?_)))
  · show 128 * ((i 0).val / 128) + (i 0).val % 128 = (i 0).val
    exact Nat.div_add_mod _ _
  · show 64 * c.val + (i 1).val = c.val * 64 + (i 1).val
    omega

/-- Every element of the whole product is in some device's columns. -/
theorem cols_onto (j : Cert.ReferenceIdeal.S4096x2048.Idx) : ∃ (c : Dev nD) (i : S4096x64.Idx), cols_tile.idx c i = j := by
  have h1 : (j 1).val < 2048 := (j 1).isLt
  have hc : (j 1).val / 64 < nD := by have e : nD = 32 := rfl; omega
  refine ⟨⟨(j 1).val / 64, hc⟩, (ValueIdx.ix2 (j 0) (⟨(j 1).val % 64, Nat.mod_lt _ (by decide)⟩ : Fin 64) : S4096x64.Idx), funext fun a => Fin.ext ?_⟩
  fin_cases a
  · rfl
  · show (j 1).val / 64 * 64 + (j 1).val % 64 = (j 1).val
    omega

/-- What each device ends with is its columns of what the reference ends with. -/
theorem ends_whole (h : Starts m m') (c : Dev nD) (i : S4096x64.Idx) :
    (oOf m c i : EReal) = (ReferenceIdeal.Gen.dats m' 0 d₀).arrAt 1 Cert.ReferenceIdeal.cfg0.N (cols_tile.idx c i) := by
  obtain ⟨M, hs, hM⟩ := pay_scale (xs := xOf m) (wOf m)
  obtain ⟨M', hM', hv⟩ := ReferenceIdeal.Whole.pay_eq (ReferenceIdeal.Whole.prod m' d₀)
  have e : M = M' := eq_of_forall_ge_iff fun b => by
    rw [hM b, hM' b]
    constructor
    · intro hb j
      obtain ⟨c, i, rfl⟩ := cols_onto j
      rw [← prod_whole h]
      exact hb c i
    · intro hb c i
      rw [prod_whole h]
      exact hb _
  rw [ReferenceIdeal.Whole.arr_out m' d₀]
  refine (ends_eq (xs := xOf m) (wOf m) c i).trans (Eq.trans ?_ (hv _).symm)
  rw [hs, e, prod_whole h]

end Cert.KernelIdeal.Tidy

end
-- ==== Proof.lean ====
/- The proof of the claims about Kernel, KernelIdeal and ReferenceIdeal. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Same
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The kernel runs on any machine memory, faults nowhere, leaves its arguments as they were and every semaphore at zero. -/
theorem frame_kernel : Cert.quiescent_Kernel (hKernel := Cert.Kernel.Gen.facts) := fun m g _ => Cert.Same.run_kernel m g

/-- So does the kernel on real numbers. -/
theorem frame_kernelIdeal : Cert.quiescent_KernelIdeal (hKernelIdeal := Cert.KernelIdeal.Gen.facts) := fun m g _ =>
  (θ_run (Cert.KernelIdeal.defs (F := Ideal)) _ _).mono (fun _ h => ⟨fun c => ⟨(h.1 c).1, (h.1 c).2.1⟩, h.2⟩) (Cert.KernelIdeal.Tidy.run_main (F := Ideal) m g)

/-- So does the reference. -/
theorem frame_reference : Cert.quiescent_ReferenceIdeal (hReferenceIdeal := Cert.ReferenceIdeal.Gen.facts) := fun m ρ _ => Cert.ReferenceIdeal.Gen.frame m ρ

/-- On real numbers each device's output is its columns of the reference's result. -/
theorem equal : Cert.algebraic_KernelIdeal_ReferenceIdeal (hKernelIdeal := Cert.KernelIdeal.Gen.facts) (hReferenceIdeal := Cert.ReferenceIdeal.Gen.facts) := fun m g m' g' _ hb =>
  ⟨(Cert.ReferenceIdeal.Gen.dats m' 0 Cert.KernelIdeal.Tidy.d₀).arrAt 1 Cert.ReferenceIdeal.cfg0.N,
    (θ_run (Cert.KernelIdeal.defs (F := Ideal)) _ _).mono (fun _ h c => ⟨(h.1 c).2.2.trans ((Cert.KernelIdeal.Tidy.arr_final m c).trans (funext fun i => Cert.KernelIdeal.Tidy.ends_whole hb c i)), (h.1 c).1, (h.1 c).2.1⟩)
      (Cert.KernelIdeal.Tidy.run_main (F := Ideal) m g),
    (θ_run (Cert.ReferenceIdeal.defs (F := Ideal)) _ _).mono (fun _ h => h Cert.KernelIdeal.Tidy.d₀) (Cert.ReferenceIdeal.Value.run_blocks m' g')⟩

/-- Everything claimed. -/
theorem claim : Cert.Claim :=
  ⟨Cert.Kernel.Gen.facts, Cert.KernelIdeal.Gen.facts, Cert.ReferenceIdeal.Gen.facts, frame_kernel, frame_kernelIdeal, frame_reference, trivial, equal⟩

end Cert.Proof

end
